-- ==== Defs.lean ====
def Pre_Kernel [hPre_experts_exist : Cert.Pre_experts_exist.Facts] (m : (ℓ : Loc Cert.Kernel.nD Cert.Kernel.τ Cert.Kernel.sig) → Buf (Elt Bits) ℓ) : Prop :=
  ∀ c : Dev Cert.Kernel.nD,
    (Cert.Pre_experts_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_experts_exist : Cert.Pre_experts_exist.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_experts_exist : Cert.Pre_experts_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Kvq (m : (ℓ : Loc Cert.Kvq.nD Cert.Kvq.τ Cert.Kvq.sig) → Buf (Elt Bits) ℓ) : Prop :=
  True

def Pre_KvqIdeal (m : (ℓ : Loc Cert.KvqIdeal.nD Cert.KvqIdeal.τ Cert.KvqIdeal.sig) → Buf (Elt Ideal) ℓ) : Prop :=
  True

def Pre_KvqReferenceIdeal (m : (ℓ : Loc Cert.KvqReferenceIdeal.nD Cert.KvqReferenceIdeal.τ Cert.KvqReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_router_finite [hPre_router_finite : Cert.Pre_router_finite.Facts] (m : (ℓ : Loc Cert.RouterIdeal.nD Cert.RouterIdeal.τ Cert.RouterIdeal.sig) → Buf (Elt Ideal) ℓ) : Prop :=
  ∀ c : Dev Cert.RouterIdeal.nD,
    (Cert.Pre_router_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_router_finite [hPre_router_finite : Cert.Pre_router_finite.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_router_finite.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1)) (m ((c.tc : Thread Cert.RouterReferenceIdeal.nD Cert.RouterReferenceIdeal.τ).loc Cert.RouterReferenceIdeal.main_arg2)) (m ((c.tc : Thread Cert.RouterReferenceIdeal.nD Cert.RouterReferenceIdeal.τ).loc Cert.RouterReferenceIdeal.main_arg3)) (m ((c.tc : Thread Cert.RouterReferenceIdeal.nD Cert.RouterReferenceIdeal.τ).loc Cert.RouterReferenceIdeal.main_arg4))) = (fun _ => 1#1)

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetIdeal_logits_bounded [hPre_logits_bounded : Cert.Pre_logits_bounded.Facts] (m : (ℓ : Loc Cert.ForgetIdeal.nD Cert.ForgetIdeal.τ Cert.ForgetIdeal.sig) → Buf (Elt Ideal) ℓ) : Prop :=
  ∀ c : Dev Cert.ForgetIdeal.nD,
    (Cert.Pre_logits_bounded.fn (F := Ideal) (m ((c.tc : Thread Cert.ForgetIdeal.nD Cert.ForgetIdeal.τ).loc Cert.ForgetIdeal.main_arg0)) (m ((c.tc : Thread Cert.ForgetIdeal.nD Cert.ForgetIdeal.τ).loc Cert.ForgetIdeal.main_arg1)) (m ((c.tc : Thread Cert.ForgetIdeal.nD Cert.ForgetIdeal.τ).loc Cert.ForgetIdeal.main_arg2))) = (fun _ => 1#1)

def Pre_ForgetReferenceIdeal (m : (ℓ : Loc Cert.ForgetReferenceIdeal.nD Cert.ForgetReferenceIdeal.τ Cert.ForgetReferenceIdeal.sig) → Buf (Elt Ideal) ℓ) : Prop :=
  True

def Pre_ForgetReferenceIdeal_logits_bounded [hPre_logits_bounded : Cert.Pre_logits_bounded.Facts] (m : (ℓ : Loc Cert.ForgetReferenceIdeal.nD Cert.ForgetReferenceIdeal.τ Cert.ForgetReferenceIdeal.sig) → Buf (Elt Ideal) ℓ) : Prop :=
  ∀ c : Dev Cert.ForgetReferenceIdeal.nD,
    (Cert.Pre_logits_bounded.fn (F := Ideal) (m ((c.tc : Thread Cert.ForgetReferenceIdeal.nD Cert.ForgetReferenceIdeal.τ).loc Cert.ForgetReferenceIdeal.main_arg0)) (m ((c.tc : Thread Cert.ForgetReferenceIdeal.nD Cert.ForgetReferenceIdeal.τ).loc Cert.ForgetReferenceIdeal.main_arg1)) (m ((c.tc : Thread Cert.ForgetReferenceIdeal.nD Cert.ForgetReferenceIdeal.τ).loc Cert.ForgetReferenceIdeal.main_arg2))) = (fun _ => 1#1)

def quiescent_Kernel [hKernel : Cert.Kernel.Facts] [hPre_experts_exist : Cert.Pre_experts_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_experts_exist : Cert.Pre_experts_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2))
      ∧ r.2.sem = fun _ => 0)

def quiescent_Kvq [hKvq : Cert.Kvq.Facts] : Prop :=
  ∀ (m : (ℓ : Loc Cert.Kvq.nD Cert.Kvq.τ Cert.Kvq.sig) → Buf (Elt Bits) ℓ) (g : Dev Cert.Kvq.nD → PrngReg), Pre_Kvq m →
    θ_run (Cert.Kvq.defs (F := Bits)) (onTc (τ := Cert.Kvq.τ) (Cert.Kvq.main (F := Bits))) ⟨m, fun _ => 0, g⟩ (fun r => (∀ c : Dev Cert.Kvq.nD,
      r.2.mem ((c.tc : Thread Cert.Kvq.nD Cert.Kvq.τ).loc Cert.Kvq.main_arg0) = m ((c.tc : Thread Cert.Kvq.nD Cert.Kvq.τ).loc Cert.Kvq.main_arg0)
      ∧ r.2.mem ((c.tc : Thread Cert.Kvq.nD Cert.Kvq.τ).loc Cert.Kvq.main_arg1) = m ((c.tc : Thread Cert.Kvq.nD Cert.Kvq.τ).loc Cert.Kvq.main_arg1)
      ∧ r.2.mem ((c.tc : Thread Cert.Kvq.nD Cert.Kvq.τ).loc Cert.Kvq.main_arg2) = m ((c.tc : Thread Cert.Kvq.nD Cert.Kvq.τ).loc Cert.Kvq.main_arg2)
      ∧ r.2.mem ((c.tc : Thread Cert.Kvq.nD Cert.Kvq.τ).loc Cert.Kvq.main_arg3) = m ((c.tc : Thread Cert.Kvq.nD Cert.Kvq.τ).loc Cert.Kvq.main_arg3)
      ∧ r.2.mem ((c.tc : Thread Cert.Kvq.nD Cert.Kvq.τ).loc Cert.Kvq.main_arg4) = m ((c.tc : Thread Cert.Kvq.nD Cert.Kvq.τ).loc Cert.Kvq.main_arg4)
      ∧ r.2.mem ((c.tc : Thread Cert.Kvq.nD Cert.Kvq.τ).loc Cert.Kvq.main_arg5) = m ((c.tc : Thread Cert.Kvq.nD Cert.Kvq.τ).loc Cert.Kvq.main_arg5)
      ∧ r.2.mem ((c.tc : Thread Cert.Kvq.nD Cert.Kvq.τ).loc Cert.Kvq.main_arg6) = m ((c.tc : Thread Cert.Kvq.nD Cert.Kvq.τ).loc Cert.Kvq.main_arg6))
      ∧ r.2.sem = fun _ => 0)

def quiescent_KvqIdeal [hKvqIdeal : Cert.KvqIdeal.Facts] : Prop :=
  ∀ (m : (ℓ : Loc Cert.KvqIdeal.nD Cert.KvqIdeal.τ Cert.KvqIdeal.sig) → Buf (Elt Ideal) ℓ) (g : Dev Cert.KvqIdeal.nD → PrngReg), Pre_KvqIdeal m →
    θ_run (Cert.KvqIdeal.defs (F := Ideal)) (onTc (τ := Cert.KvqIdeal.τ) (Cert.KvqIdeal.main (F := Ideal))) ⟨m, fun _ => 0, g⟩ (fun r => (∀ c : Dev Cert.KvqIdeal.nD,
      r.2.mem ((c.tc : Thread Cert.KvqIdeal.nD Cert.KvqIdeal.τ).loc Cert.KvqIdeal.main_arg0) = m ((c.tc : Thread Cert.KvqIdeal.nD Cert.KvqIdeal.τ).loc Cert.KvqIdeal.main_arg0)
      ∧ r.2.mem ((c.tc : Thread Cert.KvqIdeal.nD Cert.KvqIdeal.τ).loc Cert.KvqIdeal.main_arg1) = m ((c.tc : Thread Cert.KvqIdeal.nD Cert.KvqIdeal.τ).loc Cert.KvqIdeal.main_arg1)
      ∧ r.2.mem ((c.tc : Thread Cert.KvqIdeal.nD Cert.KvqIdeal.τ).loc Cert.KvqIdeal.main_arg2) = m ((c.tc : Thread Cert.KvqIdeal.nD Cert.KvqIdeal.τ).loc Cert.KvqIdeal.main_arg2)
      ∧ r.2.mem ((c.tc : Thread Cert.KvqIdeal.nD Cert.KvqIdeal.τ).loc Cert.KvqIdeal.main_arg3) = m ((c.tc : Thread Cert.KvqIdeal.nD Cert.KvqIdeal.τ).loc Cert.KvqIdeal.main_arg3)
      ∧ r.2.mem ((c.tc : Thread Cert.KvqIdeal.nD Cert.KvqIdeal.τ).loc Cert.KvqIdeal.main_arg4) = m ((c.tc : Thread Cert.KvqIdeal.nD Cert.KvqIdeal.τ).loc Cert.KvqIdeal.main_arg4)
      ∧ r.2.mem ((c.tc : Thread Cert.KvqIdeal.nD Cert.KvqIdeal.τ).loc Cert.KvqIdeal.main_arg5) = m ((c.tc : Thread Cert.KvqIdeal.nD Cert.KvqIdeal.τ).loc Cert.KvqIdeal.main_arg5)
      ∧ r.2.mem ((c.tc : Thread Cert.KvqIdeal.nD Cert.KvqIdeal.τ).loc Cert.KvqIdeal.main_arg6) = m ((c.tc : Thread Cert.KvqIdeal.nD Cert.KvqIdeal.τ).loc Cert.KvqIdeal.main_arg6))
      ∧ r.2.sem = fun _ => 0)

def quiescent_KvqReferenceIdeal [hKvqReferenceIdeal : Cert.KvqReferenceIdeal.Facts] : Prop :=
  ∀ (m : (ℓ : Loc Cert.KvqReferenceIdeal.nD Cert.KvqReferenceIdeal.τ Cert.KvqReferenceIdeal.sig) → Buf (Elt Ideal) ℓ) (g : Dev Cert.KvqReferenceIdeal.nD → PrngReg), Pre_KvqReferenceIdeal m →
    θ_run (Cert.KvqReferenceIdeal.defs (F := Ideal)) (onTc (τ := Cert.KvqReferenceIdeal.τ) (Cert.KvqReferenceIdeal.main (F := Ideal))) ⟨m, fun _ => 0, g⟩ (fun r => (∀ c : Dev Cert.KvqReferenceIdeal.nD,
      r.2.mem ((c.tc : Thread Cert.KvqReferenceIdeal.nD Cert.KvqReferenceIdeal.τ).loc Cert.KvqReferenceIdeal.main_arg0) = m ((c.tc : Thread Cert.KvqReferenceIdeal.nD Cert.KvqReferenceIdeal.τ).loc Cert.KvqReferenceIdeal.main_arg0)
      ∧ r.2.mem ((c.tc : Thread Cert.KvqReferenceIdeal.nD Cert.KvqReferenceIdeal.τ).loc Cert.KvqReferenceIdeal.main_arg1) = m ((c.tc : Thread Cert.KvqReferenceIdeal.nD Cert.KvqReferenceIdeal.τ).loc Cert.KvqReferenceIdeal.main_arg1)
      ∧ r.2.mem ((c.tc : Thread Cert.KvqReferenceIdeal.nD Cert.KvqReferenceIdeal.τ).loc Cert.KvqReferenceIdeal.main_arg2) = m ((c.tc : Thread Cert.KvqReferenceIdeal.nD Cert.KvqReferenceIdeal.τ).loc Cert.KvqReferenceIdeal.main_arg2)
      ∧ r.2.mem ((c.tc : Thread Cert.KvqReferenceIdeal.nD Cert.KvqReferenceIdeal.τ).loc Cert.KvqReferenceIdeal.main_arg3) = m ((c.tc : Thread Cert.KvqReferenceIdeal.nD Cert.KvqReferenceIdeal.τ).loc Cert.KvqReferenceIdeal.main_arg3)
      ∧ r.2.mem ((c.tc : Thread Cert.KvqReferenceIdeal.nD Cert.KvqReferenceIdeal.τ).loc Cert.KvqReferenceIdeal.main_arg4) = m ((c.tc : Thread Cert.KvqReferenceIdeal.nD Cert.KvqReferenceIdeal.τ).loc Cert.KvqReferenceIdeal.main_arg4)
      ∧ r.2.mem ((c.tc : Thread Cert.KvqReferenceIdeal.nD Cert.KvqReferenceIdeal.τ).loc Cert.KvqReferenceIdeal.main_arg5) = m ((c.tc : Thread Cert.KvqReferenceIdeal.nD Cert.KvqReferenceIdeal.τ).loc Cert.KvqReferenceIdeal.main_arg5)
      ∧ r.2.mem ((c.tc : Thread Cert.KvqReferenceIdeal.nD Cert.KvqReferenceIdeal.τ).loc Cert.KvqReferenceIdeal.main_arg6) = m ((c.tc : Thread Cert.KvqReferenceIdeal.nD Cert.KvqReferenceIdeal.τ).loc Cert.KvqReferenceIdeal.main_arg6))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ r.2.sem = fun _ => 0)

def quiescent_RouterIdeal_pre_router_finite [hRouterIdeal : Cert.RouterIdeal.Facts] [hPre_router_finite : Cert.Pre_router_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_router_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4))
      ∧ r.2.sem = fun _ => 0)

def quiescent_RouterReferenceIdeal_pre_router_finite [hRouterReferenceIdeal : Cert.RouterReferenceIdeal.Facts] [hPre_router_finite : Cert.Pre_router_finite.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_router_finite m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1)
      ∧ r.2.mem ((c.tc : Thread Cert.Forget.nD Cert.Forget.τ).loc Cert.Forget.main_arg2) = m ((c.tc : Thread Cert.Forget.nD Cert.Forget.τ).loc Cert.Forget.main_arg2))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2))
      ∧ r.2.sem = fun _ => 0)

def quiescent_ForgetIdeal_pre_logits_bounded [hForgetIdeal : Cert.ForgetIdeal.Facts] [hPre_logits_bounded : Cert.Pre_logits_bounded.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal_logits_bounded m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2))
      ∧ r.2.sem = fun _ => 0)

def quiescent_ForgetReferenceIdeal [hForgetReferenceIdeal : Cert.ForgetReferenceIdeal.Facts] : Prop :=
  ∀ (m : (ℓ : Loc Cert.ForgetReferenceIdeal.nD Cert.ForgetReferenceIdeal.τ Cert.ForgetReferenceIdeal.sig) → Buf (Elt Ideal) ℓ) (g : Dev Cert.ForgetReferenceIdeal.nD → PrngReg), Pre_ForgetReferenceIdeal m →
    θ_run (Cert.ForgetReferenceIdeal.defs (F := Ideal)) (onTc (τ := Cert.ForgetReferenceIdeal.τ) (Cert.ForgetReferenceIdeal.main (F := Ideal))) ⟨m, fun _ => 0, g⟩ (fun r => (∀ c : Dev Cert.ForgetReferenceIdeal.nD,
      r.2.mem ((c.tc : Thread Cert.ForgetReferenceIdeal.nD Cert.ForgetReferenceIdeal.τ).loc Cert.ForgetReferenceIdeal.main_arg0) = m ((c.tc : Thread Cert.ForgetReferenceIdeal.nD Cert.ForgetReferenceIdeal.τ).loc Cert.ForgetReferenceIdeal.main_arg0)
      ∧ r.2.mem ((c.tc : Thread Cert.ForgetReferenceIdeal.nD Cert.ForgetReferenceIdeal.τ).loc Cert.ForgetReferenceIdeal.main_arg1) = m ((c.tc : Thread Cert.ForgetReferenceIdeal.nD Cert.ForgetReferenceIdeal.τ).loc Cert.ForgetReferenceIdeal.main_arg1)
      ∧ r.2.mem ((c.tc : Thread Cert.ForgetReferenceIdeal.nD Cert.ForgetReferenceIdeal.τ).loc Cert.ForgetReferenceIdeal.main_arg2) = m ((c.tc : Thread Cert.ForgetReferenceIdeal.nD Cert.ForgetReferenceIdeal.τ).loc Cert.ForgetReferenceIdeal.main_arg2))
      ∧ r.2.sem = fun _ => 0)

def quiescent_ForgetReferenceIdeal_pre_logits_bounded [hForgetReferenceIdeal : Cert.ForgetReferenceIdeal.Facts] [hPre_logits_bounded : Cert.Pre_logits_bounded.Facts] : Prop :=
  ∀ (m : (ℓ : Loc Cert.ForgetReferenceIdeal.nD Cert.ForgetReferenceIdeal.τ Cert.ForgetReferenceIdeal.sig) → Buf (Elt Ideal) ℓ) (g : Dev Cert.ForgetReferenceIdeal.nD → PrngReg), Pre_ForgetReferenceIdeal_logits_bounded m →
    θ_run (Cert.ForgetReferenceIdeal.defs (F := Ideal)) (onTc (τ := Cert.ForgetReferenceIdeal.τ) (Cert.ForgetReferenceIdeal.main (F := Ideal))) ⟨m, fun _ => 0, g⟩ (fun r => (∀ c : Dev Cert.ForgetReferenceIdeal.nD,
      r.2.mem ((c.tc : Thread Cert.ForgetReferenceIdeal.nD Cert.ForgetReferenceIdeal.τ).loc Cert.ForgetReferenceIdeal.main_arg0) = m ((c.tc : Thread Cert.ForgetReferenceIdeal.nD Cert.ForgetReferenceIdeal.τ).loc Cert.ForgetReferenceIdeal.main_arg0)
      ∧ r.2.mem ((c.tc : Thread Cert.ForgetReferenceIdeal.nD Cert.ForgetReferenceIdeal.τ).loc Cert.ForgetReferenceIdeal.main_arg1) = m ((c.tc : Thread Cert.ForgetReferenceIdeal.nD Cert.ForgetReferenceIdeal.τ).loc Cert.ForgetReferenceIdeal.main_arg1)
      ∧ r.2.mem ((c.tc : Thread Cert.ForgetReferenceIdeal.nD Cert.ForgetReferenceIdeal.τ).loc Cert.ForgetReferenceIdeal.main_arg2) = m ((c.tc : Thread Cert.ForgetReferenceIdeal.nD Cert.ForgetReferenceIdeal.τ).loc Cert.ForgetReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)) →
    ∃ (v0 : (c : Dev Cert.DenseIdeal.nD) → Buf (Elt Ideal) ((c.tc : Thread Cert.DenseIdeal.nD Cert.DenseIdeal.τ).loc Cert.DenseIdeal.main_v8)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v8) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v19) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v2) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v13)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v13) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v13) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2))

def preserves_Kvq_KvqIdeal : Prop :=
  True

def algebraic_KvqIdeal_KvqReferenceIdeal [hKvqIdeal : Cert.KvqIdeal.Facts] [hKvqReferenceIdeal : Cert.KvqReferenceIdeal.Facts] : Prop :=
  ∀ (m : (ℓ : Loc Cert.KvqIdeal.nD Cert.KvqIdeal.τ Cert.KvqIdeal.sig) → Buf (Elt Ideal) ℓ) (g : Dev Cert.KvqIdeal.nD → PrngReg)
    (m' : (ℓ : Loc Cert.KvqReferenceIdeal.nD Cert.KvqReferenceIdeal.τ Cert.KvqReferenceIdeal.sig) → Buf (Elt Ideal) ℓ) (g' : Dev Cert.KvqReferenceIdeal.nD → PrngReg), Pre_KvqIdeal m →
    (∀ c : Dev Cert.KvqIdeal.nD,
      m' ((c.tc : Thread Cert.KvqReferenceIdeal.nD Cert.KvqReferenceIdeal.τ).loc Cert.KvqReferenceIdeal.main_arg0) = m ((c.tc : Thread Cert.KvqIdeal.nD Cert.KvqIdeal.τ).loc Cert.KvqIdeal.main_arg0)
      ∧ m' ((c.tc : Thread Cert.KvqReferenceIdeal.nD Cert.KvqReferenceIdeal.τ).loc Cert.KvqReferenceIdeal.main_arg1) = m ((c.tc : Thread Cert.KvqIdeal.nD Cert.KvqIdeal.τ).loc Cert.KvqIdeal.main_arg1)
      ∧ m' ((c.tc : Thread Cert.KvqReferenceIdeal.nD Cert.KvqReferenceIdeal.τ).loc Cert.KvqReferenceIdeal.main_arg2) = m ((c.tc : Thread Cert.KvqIdeal.nD Cert.KvqIdeal.τ).loc Cert.KvqIdeal.main_arg2)
      ∧ m' ((c.tc : Thread Cert.KvqReferenceIdeal.nD Cert.KvqReferenceIdeal.τ).loc Cert.KvqReferenceIdeal.main_arg3) = m ((c.tc : Thread Cert.KvqIdeal.nD Cert.KvqIdeal.τ).loc Cert.KvqIdeal.main_arg3)
      ∧ m' ((c.tc : Thread Cert.KvqReferenceIdeal.nD Cert.KvqReferenceIdeal.τ).loc Cert.KvqReferenceIdeal.main_arg4) = m ((c.tc : Thread Cert.KvqIdeal.nD Cert.KvqIdeal.τ).loc Cert.KvqIdeal.main_arg4)
      ∧ m' ((c.tc : Thread Cert.KvqReferenceIdeal.nD Cert.KvqReferenceIdeal.τ).loc Cert.KvqReferenceIdeal.main_arg5) = m ((c.tc : Thread Cert.KvqIdeal.nD Cert.KvqIdeal.τ).loc Cert.KvqIdeal.main_arg5)
      ∧ m' ((c.tc : Thread Cert.KvqReferenceIdeal.nD Cert.KvqReferenceIdeal.τ).loc Cert.KvqReferenceIdeal.main_arg6) = m ((c.tc : Thread Cert.KvqIdeal.nD Cert.KvqIdeal.τ).loc Cert.KvqIdeal.main_arg6)) →
    ∃ (v0 : (c : Dev Cert.KvqIdeal.nD) → Buf (Elt Ideal) ((c.tc : Thread Cert.KvqIdeal.nD Cert.KvqIdeal.τ).loc Cert.KvqIdeal.main_v53_0)) (v1 : (c : Dev Cert.KvqIdeal.nD) → Buf (Elt Ideal) ((c.tc : Thread Cert.KvqIdeal.nD Cert.KvqIdeal.τ).loc Cert.KvqIdeal.main_v53_1)) (v2 : (c : Dev Cert.KvqIdeal.nD) → Buf (Elt Ideal) ((c.tc : Thread Cert.KvqIdeal.nD Cert.KvqIdeal.τ).loc Cert.KvqIdeal.main_v53_2)),
      θ_run (Cert.KvqIdeal.defs (F := Ideal)) (onTc (τ := Cert.KvqIdeal.τ) (Cert.KvqIdeal.main (F := Ideal))) ⟨m, fun _ => 0, g⟩ (fun r => ∀ c : Dev Cert.KvqIdeal.nD,
          r.2.mem ((c.tc : Thread Cert.KvqIdeal.nD Cert.KvqIdeal.τ).loc Cert.KvqIdeal.main_v53_0) = v0 c
          ∧ r.2.mem ((c.tc : Thread Cert.KvqIdeal.nD Cert.KvqIdeal.τ).loc Cert.KvqIdeal.main_v53_1) = v1 c
          ∧ r.2.mem ((c.tc : Thread Cert.KvqIdeal.nD Cert.KvqIdeal.τ).loc Cert.KvqIdeal.main_v53_2) = v2 c
          ∧ r.2.mem ((c.tc : Thread Cert.KvqIdeal.nD Cert.KvqIdeal.τ).loc Cert.KvqIdeal.main_arg0) = m ((c.tc : Thread Cert.KvqIdeal.nD Cert.KvqIdeal.τ).loc Cert.KvqIdeal.main_arg0)
          ∧ r.2.mem ((c.tc : Thread Cert.KvqIdeal.nD Cert.KvqIdeal.τ).loc Cert.KvqIdeal.main_arg1) = m ((c.tc : Thread Cert.KvqIdeal.nD Cert.KvqIdeal.τ).loc Cert.KvqIdeal.main_arg1)
          ∧ r.2.mem ((c.tc : Thread Cert.KvqIdeal.nD Cert.KvqIdeal.τ).loc Cert.KvqIdeal.main_arg2) = m ((c.tc : Thread Cert.KvqIdeal.nD Cert.KvqIdeal.τ).loc Cert.KvqIdeal.main_arg2)
          ∧ r.2.mem ((c.tc : Thread Cert.KvqIdeal.nD Cert.KvqIdeal.τ).loc Cert.KvqIdeal.main_arg3) = m ((c.tc : Thread Cert.KvqIdeal.nD Cert.KvqIdeal.τ).loc Cert.KvqIdeal.main_arg3)
          ∧ r.2.mem ((c.tc : Thread Cert.KvqIdeal.nD Cert.KvqIdeal.τ).loc Cert.KvqIdeal.main_arg4) = m ((c.tc : Thread Cert.KvqIdeal.nD Cert.KvqIdeal.τ).loc Cert.KvqIdeal.main_arg4)
          ∧ r.2.mem ((c.tc : Thread Cert.KvqIdeal.nD Cert.KvqIdeal.τ).loc Cert.KvqIdeal.main_arg5) = m ((c.tc : Thread Cert.KvqIdeal.nD Cert.KvqIdeal.τ).loc Cert.KvqIdeal.main_arg5)
          ∧ r.2.mem ((c.tc : Thread Cert.KvqIdeal.nD Cert.KvqIdeal.τ).loc Cert.KvqIdeal.main_arg6) = m ((c.tc : Thread Cert.KvqIdeal.nD Cert.KvqIdeal.τ).loc Cert.KvqIdeal.main_arg6))
      ∧ θ_run (Cert.KvqReferenceIdeal.defs (F := Ideal)) (onTc (τ := Cert.KvqReferenceIdeal.τ) (Cert.KvqReferenceIdeal.main (F := Ideal))) ⟨m', fun _ => 0, g'⟩ (fun r => ∀ c : Dev Cert.KvqReferenceIdeal.nD,
          r.2.mem ((c.tc : Thread Cert.KvqReferenceIdeal.nD Cert.KvqReferenceIdeal.τ).loc Cert.KvqReferenceIdeal.main_v63) = v0 c
          ∧ r.2.mem ((c.tc : Thread Cert.KvqReferenceIdeal.nD Cert.KvqReferenceIdeal.τ).loc Cert.KvqReferenceIdeal.main_v33) = v1 c
          ∧ r.2.mem ((c.tc : Thread Cert.KvqReferenceIdeal.nD Cert.KvqReferenceIdeal.τ).loc Cert.KvqReferenceIdeal.main_v64) = v2 c
          ∧ r.2.mem ((c.tc : Thread Cert.KvqReferenceIdeal.nD Cert.KvqReferenceIdeal.τ).loc Cert.KvqReferenceIdeal.main_arg0) = m' ((c.tc : Thread Cert.KvqReferenceIdeal.nD Cert.KvqReferenceIdeal.τ).loc Cert.KvqReferenceIdeal.main_arg0)
          ∧ r.2.mem ((c.tc : Thread Cert.KvqReferenceIdeal.nD Cert.KvqReferenceIdeal.τ).loc Cert.KvqReferenceIdeal.main_arg1) = m' ((c.tc : Thread Cert.KvqReferenceIdeal.nD Cert.KvqReferenceIdeal.τ).loc Cert.KvqReferenceIdeal.main_arg1)
          ∧ r.2.mem ((c.tc : Thread Cert.KvqReferenceIdeal.nD Cert.KvqReferenceIdeal.τ).loc Cert.KvqReferenceIdeal.main_arg2) = m' ((c.tc : Thread Cert.KvqReferenceIdeal.nD Cert.KvqReferenceIdeal.τ).loc Cert.KvqReferenceIdeal.main_arg2)
          ∧ r.2.mem ((c.tc : Thread Cert.KvqReferenceIdeal.nD Cert.KvqReferenceIdeal.τ).loc Cert.KvqReferenceIdeal.main_arg3) = m' ((c.tc : Thread Cert.KvqReferenceIdeal.nD Cert.KvqReferenceIdeal.τ).loc Cert.KvqReferenceIdeal.main_arg3)
          ∧ r.2.mem ((c.tc : Thread Cert.KvqReferenceIdeal.nD Cert.KvqReferenceIdeal.τ).loc Cert.KvqReferenceIdeal.main_arg4) = m' ((c.tc : Thread Cert.KvqReferenceIdeal.nD Cert.KvqReferenceIdeal.τ).loc Cert.KvqReferenceIdeal.main_arg4)
          ∧ r.2.mem ((c.tc : Thread Cert.KvqReferenceIdeal.nD Cert.KvqReferenceIdeal.τ).loc Cert.KvqReferenceIdeal.main_arg5) = m' ((c.tc : Thread Cert.KvqReferenceIdeal.nD Cert.KvqReferenceIdeal.τ).loc Cert.KvqReferenceIdeal.main_arg5)
          ∧ r.2.mem ((c.tc : Thread Cert.KvqReferenceIdeal.nD Cert.KvqReferenceIdeal.τ).loc Cert.KvqReferenceIdeal.main_arg6) = m' ((c.tc : Thread Cert.KvqReferenceIdeal.nD Cert.KvqReferenceIdeal.τ).loc Cert.KvqReferenceIdeal.main_arg6))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v22)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v22) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v12) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3))

def preserves_Router_RouterIdeal : Prop :=
  True

def algebraic_RouterIdeal_RouterReferenceIdeal_pre_router_finite [hRouterIdeal : Cert.RouterIdeal.Facts] [hRouterReferenceIdeal : Cert.RouterReferenceIdeal.Facts] [hPre_router_finite : Cert.Pre_router_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_router_finite m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)
      ∧ m' ((c.tc : Thread Cert.RouterReferenceIdeal.nD Cert.RouterReferenceIdeal.τ).loc Cert.RouterReferenceIdeal.main_arg3) = m ((c.tc : Thread Cert.RouterIdeal.nD Cert.RouterIdeal.τ).loc Cert.RouterIdeal.main_arg3)
      ∧ m' ((c.tc : Thread Cert.RouterReferenceIdeal.nD Cert.RouterReferenceIdeal.τ).loc Cert.RouterReferenceIdeal.main_arg4) = m ((c.tc : Thread Cert.RouterIdeal.nD Cert.RouterIdeal.τ).loc Cert.RouterIdeal.main_arg4)) →
    ∃ (v0 : (c : Dev Cert.RouterIdeal.nD) → Buf (Elt Ideal) ((c.tc : Thread Cert.RouterIdeal.nD Cert.RouterIdeal.τ).loc Cert.RouterIdeal.main_v4_0)) (v1 : (c : Dev Cert.RouterIdeal.nD) → Buf (Elt Ideal) ((c.tc : Thread Cert.RouterIdeal.nD Cert.RouterIdeal.τ).loc Cert.RouterIdeal.main_v4_1)) (v2 : (c : Dev Cert.RouterIdeal.nD) → Buf (Elt Ideal) ((c.tc : Thread Cert.RouterIdeal.nD Cert.RouterIdeal.τ).loc Cert.RouterIdeal.main_v4_2)) (v3 : (c : Dev Cert.RouterIdeal.nD) → Buf (Elt Ideal) ((c.tc : Thread Cert.RouterIdeal.nD Cert.RouterIdeal.τ).loc Cert.RouterIdeal.main_v4_3)) (v4 : (c : Dev Cert.RouterIdeal.nD) → Buf (Elt Ideal) ((c.tc : Thread Cert.RouterIdeal.nD Cert.RouterIdeal.τ).loc Cert.RouterIdeal.main_v4_4)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v4_0) = v0 c
          ∧ r.2.mem ((c.tc : Thread Cert.RouterIdeal.nD Cert.RouterIdeal.τ).loc Cert.RouterIdeal.main_v4_1) = v1 c
          ∧ r.2.mem ((c.tc : Thread Cert.RouterIdeal.nD Cert.RouterIdeal.τ).loc Cert.RouterIdeal.main_v4_2) = v2 c
          ∧ r.2.mem ((c.tc : Thread Cert.RouterIdeal.nD Cert.RouterIdeal.τ).loc Cert.RouterIdeal.main_v4_3) = v3 c
          ∧ r.2.mem ((c.tc : Thread Cert.RouterIdeal.nD Cert.RouterIdeal.τ).loc Cert.RouterIdeal.main_v4_4) = v4 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v2) = v0 c
          ∧ r.2.mem ((c.tc : Thread Cert.RouterReferenceIdeal.nD Cert.RouterReferenceIdeal.τ).loc Cert.RouterReferenceIdeal.main_v29) = v1 c
          ∧ r.2.mem ((c.tc : Thread Cert.RouterReferenceIdeal.nD Cert.RouterReferenceIdeal.τ).loc Cert.RouterReferenceIdeal.main_v28) = v2 c
          ∧ r.2.mem ((c.tc : Thread Cert.RouterReferenceIdeal.nD Cert.RouterReferenceIdeal.τ).loc Cert.RouterReferenceIdeal.main_v31) = v3 c
          ∧ r.2.mem ((c.tc : Thread Cert.RouterReferenceIdeal.nD Cert.RouterReferenceIdeal.τ).loc Cert.RouterReferenceIdeal.main_v33) = v4 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2)
          ∧ r.2.mem ((c.tc : Thread Cert.RouterReferenceIdeal.nD Cert.RouterReferenceIdeal.τ).loc Cert.RouterReferenceIdeal.main_arg3) = m' ((c.tc : Thread Cert.RouterReferenceIdeal.nD Cert.RouterReferenceIdeal.τ).loc Cert.RouterReferenceIdeal.main_arg3)
          ∧ r.2.mem ((c.tc : Thread Cert.RouterReferenceIdeal.nD Cert.RouterReferenceIdeal.τ).loc Cert.RouterReferenceIdeal.main_arg4) = m' ((c.tc : Thread Cert.RouterReferenceIdeal.nD Cert.RouterReferenceIdeal.τ).loc Cert.RouterReferenceIdeal.main_arg4))

def preserves_Forget_ForgetIdeal : Prop :=
  True

def algebraic_ForgetIdeal_ForgetReferenceIdeal_pre_logits_bounded [hForgetIdeal : Cert.ForgetIdeal.Facts] [hForgetReferenceIdeal : Cert.ForgetReferenceIdeal.Facts] [hPre_logits_bounded : Cert.Pre_logits_bounded.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetReferenceIdeal.nD Cert.ForgetReferenceIdeal.τ Cert.ForgetReferenceIdeal.sig) → Buf (Elt Ideal) ℓ) (g' : Dev Cert.ForgetReferenceIdeal.nD → PrngReg), Pre_ForgetIdeal_logits_bounded m →
    (∀ c : Dev Cert.ForgetIdeal.nD,
      m' ((c.tc : Thread Cert.ForgetReferenceIdeal.nD Cert.ForgetReferenceIdeal.τ).loc Cert.ForgetReferenceIdeal.main_arg0) = m ((c.tc : Thread Cert.ForgetIdeal.nD Cert.ForgetIdeal.τ).loc Cert.ForgetIdeal.main_arg0)
      ∧ m' ((c.tc : Thread Cert.ForgetReferenceIdeal.nD Cert.ForgetReferenceIdeal.τ).loc Cert.ForgetReferenceIdeal.main_arg1) = m ((c.tc : Thread Cert.ForgetIdeal.nD Cert.ForgetIdeal.τ).loc Cert.ForgetIdeal.main_arg1)
      ∧ m' ((c.tc : Thread Cert.ForgetReferenceIdeal.nD Cert.ForgetReferenceIdeal.τ).loc Cert.ForgetReferenceIdeal.main_arg2) = m ((c.tc : Thread Cert.ForgetIdeal.nD Cert.ForgetIdeal.τ).loc Cert.ForgetIdeal.main_arg2)) →
    ∃ (v0 : (c : Dev Cert.ForgetIdeal.nD) → Buf (Elt Ideal) ((c.tc : Thread Cert.ForgetIdeal.nD Cert.ForgetIdeal.τ).loc Cert.ForgetIdeal.main_v22_0)) (v1 : (c : Dev Cert.ForgetIdeal.nD) → Buf (Elt Ideal) ((c.tc : Thread Cert.ForgetIdeal.nD Cert.ForgetIdeal.τ).loc Cert.ForgetIdeal.main_v22_1)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v22_0) = v0 c
          ∧ r.2.mem ((c.tc : Thread Cert.ForgetIdeal.nD Cert.ForgetIdeal.τ).loc Cert.ForgetIdeal.main_v22_1) = v1 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
          ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2))
      ∧ θ_run (Cert.ForgetReferenceIdeal.defs (F := Ideal)) (onTc (τ := Cert.ForgetReferenceIdeal.τ) (Cert.ForgetReferenceIdeal.main (F := Ideal))) ⟨m', fun _ => 0, g'⟩ (fun r => ∀ c : Dev Cert.ForgetReferenceIdeal.nD,
          r.2.mem ((c.tc : Thread Cert.ForgetReferenceIdeal.nD Cert.ForgetReferenceIdeal.τ).loc Cert.ForgetReferenceIdeal.main_v11) = v0 c
          ∧ r.2.mem ((c.tc : Thread Cert.ForgetReferenceIdeal.nD Cert.ForgetReferenceIdeal.τ).loc Cert.ForgetReferenceIdeal.main_v13) = v1 c
          ∧ r.2.mem ((c.tc : Thread Cert.ForgetReferenceIdeal.nD Cert.ForgetReferenceIdeal.τ).loc Cert.ForgetReferenceIdeal.main_arg0) = m' ((c.tc : Thread Cert.ForgetReferenceIdeal.nD Cert.ForgetReferenceIdeal.τ).loc Cert.ForgetReferenceIdeal.main_arg0)
          ∧ r.2.mem ((c.tc : Thread Cert.ForgetReferenceIdeal.nD Cert.ForgetReferenceIdeal.τ).loc Cert.ForgetReferenceIdeal.main_arg1) = m' ((c.tc : Thread Cert.ForgetReferenceIdeal.nD Cert.ForgetReferenceIdeal.τ).loc Cert.ForgetReferenceIdeal.main_arg1)
          ∧ r.2.mem ((c.tc : Thread Cert.ForgetReferenceIdeal.nD Cert.ForgetReferenceIdeal.τ).loc Cert.ForgetReferenceIdeal.main_arg2) = m' ((c.tc : Thread Cert.ForgetReferenceIdeal.nD Cert.ForgetReferenceIdeal.τ).loc Cert.ForgetReferenceIdeal.main_arg2))

def Claim : Prop :=
  ∃ (hKernel : Cert.Kernel.Facts) (hKernelIdeal : Cert.KernelIdeal.Facts) (hReferenceIdeal : Cert.ReferenceIdeal.Facts) (hDense : Cert.Dense.Facts) (hDenseIdeal : Cert.DenseIdeal.Facts) (hDenseReferenceIdeal : Cert.DenseReferenceIdeal.Facts) (hOutProj : Cert.OutProj.Facts) (hOutProjIdeal : Cert.OutProjIdeal.Facts) (hOutProjReferenceIdeal : Cert.OutProjReferenceIdeal.Facts) (hQkv : Cert.Qkv.Facts) (hQkvIdeal : Cert.QkvIdeal.Facts) (hQkvReferenceIdeal : Cert.QkvReferenceIdeal.Facts) (hKvq : Cert.Kvq.Facts) (hKvqIdeal : Cert.KvqIdeal.Facts) (hKvqReferenceIdeal : Cert.KvqReferenceIdeal.Facts) (hCombine : Cert.Combine.Facts) (hCombineIdeal : Cert.CombineIdeal.Facts) (hCombineReferenceIdeal : Cert.CombineReferenceIdeal.Facts) (hRouter : Cert.Router.Facts) (hRouterIdeal : Cert.RouterIdeal.Facts) (hRouterReferenceIdeal : Cert.RouterReferenceIdeal.Facts) (hForget : Cert.Forget.Facts) (hForgetIdeal : Cert.ForgetIdeal.Facts) (hForgetReferenceIdeal : Cert.ForgetReferenceIdeal.Facts) (hPre_experts_exist : Cert.Pre_experts_exist.Facts) (hPre_router_finite : Cert.Pre_router_finite.Facts) (hPre_logits_bounded : Cert.Pre_logits_bounded.Facts),
    quiescent_Kernel (hKernel := hKernel) (hPre_experts_exist := hPre_experts_exist)
    ∧ quiescent_KernelIdeal (hKernelIdeal := hKernelIdeal) (hPre_experts_exist := hPre_experts_exist)
    ∧ quiescent_ReferenceIdeal (hReferenceIdeal := hReferenceIdeal) (hPre_experts_exist := hPre_experts_exist)
    ∧ quiescent_Dense (hDense := hDense)
    ∧ quiescent_DenseIdeal (hDenseIdeal := hDenseIdeal)
    ∧ quiescent_DenseReferenceIdeal (hDenseReferenceIdeal := hDenseReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Kvq (hKvq := hKvq)
    ∧ quiescent_KvqIdeal (hKvqIdeal := hKvqIdeal)
    ∧ quiescent_KvqReferenceIdeal (hKvqReferenceIdeal := hKvqReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ quiescent_Router (hRouter := hRouter)
    ∧ quiescent_RouterIdeal (hRouterIdeal := hRouterIdeal)
    ∧ quiescent_RouterIdeal_pre_router_finite (hRouterIdeal := hRouterIdeal) (hPre_router_finite := hPre_router_finite)
    ∧ quiescent_RouterReferenceIdeal (hRouterReferenceIdeal := hRouterReferenceIdeal)
    ∧ quiescent_RouterReferenceIdeal_pre_router_finite (hRouterReferenceIdeal := hRouterReferenceIdeal) (hPre_router_finite := hPre_router_finite)
    ∧ quiescent_Forget (hForget := hForget)
    ∧ quiescent_ForgetIdeal (hForgetIdeal := hForgetIdeal)
    ∧ quiescent_ForgetIdeal_pre_logits_bounded (hForgetIdeal := hForgetIdeal) (hPre_logits_bounded := hPre_logits_bounded)
    ∧ quiescent_ForgetReferenceIdeal (hForgetReferenceIdeal := hForgetReferenceIdeal)
    ∧ quiescent_ForgetReferenceIdeal_pre_logits_bounded (hForgetReferenceIdeal := hForgetReferenceIdeal) (hPre_logits_bounded := hPre_logits_bounded)
    ∧ preserves_Kernel_KernelIdeal
    ∧ algebraic_KernelIdeal_ReferenceIdeal (hKernelIdeal := hKernelIdeal) (hReferenceIdeal := hReferenceIdeal) (hPre_experts_exist := hPre_experts_exist)
    ∧ preserves_Dense_DenseIdeal
    ∧ algebraic_DenseIdeal_DenseReferenceIdeal (hDenseIdeal := hDenseIdeal) (hDenseReferenceIdeal := hDenseReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Qkv_QkvIdeal
    ∧ algebraic_QkvIdeal_QkvReferenceIdeal (hQkvIdeal := hQkvIdeal) (hQkvReferenceIdeal := hQkvReferenceIdeal)
    ∧ preserves_Kvq_KvqIdeal
    ∧ algebraic_KvqIdeal_KvqReferenceIdeal (hKvqIdeal := hKvqIdeal) (hKvqReferenceIdeal := hKvqReferenceIdeal)
    ∧ preserves_Combine_CombineIdeal
    ∧ algebraic_CombineIdeal_CombineReferenceIdeal (hCombineIdeal := hCombineIdeal) (hCombineReferenceIdeal := hCombineReferenceIdeal)
    ∧ preserves_Router_RouterIdeal
    ∧ algebraic_RouterIdeal_RouterReferenceIdeal_pre_router_finite (hRouterIdeal := hRouterIdeal) (hRouterReferenceIdeal := hRouterReferenceIdeal) (hPre_router_finite := hPre_router_finite)
    ∧ preserves_Forget_ForgetIdeal
    ∧ algebraic_ForgetIdeal_ForgetReferenceIdeal_pre_logits_bounded (hForgetIdeal := hForgetIdeal) (hForgetReferenceIdeal := hForgetReferenceIdeal) (hPre_logits_bounded := hPre_logits_bounded)
-- ==== Pre_experts_exist.lean ====
abbrev S136 : Shape := ⟨1, ![136]⟩
abbrev S1 : Shape := ⟨1, ![1]⟩
abbrev S69632x1024 : Shape := ⟨2, ![69632, 1024]⟩
abbrev S8x1024x2816 : Shape := ⟨3, ![8, 1024, 2816]⟩
abbrev S8x2816x512 : Shape := ⟨3, ![8, 2816, 512]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : IVec S136 32) (main_arg1 : IVec S1 32) (main_arg2 : FVec F S69632x1024 .bf16) (main_arg3 : FVec F S8x1024x2816 .bf16) (main_arg4 : FVec F S8x1024x2816 .bf16) (main_arg5 : FVec F S8x2816x512 .bf16) (main_arg6 : FVec F S8x2816x512 .bf16) : IVec S_ 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  main_v5
-- ==== Pre_logits_bounded.lean ====
abbrev S32768x128 : Shape := ⟨2, ![32768, 128]⟩
abbrev S16x128 : Shape := ⟨2, ![16, 128]⟩
abbrev S16 : Shape := ⟨1, ![16]⟩
abbrev S32768x16 : Shape := ⟨2, ![32768, 16]⟩
abbrev S1x16 : Shape := ⟨2, ![1, 16]⟩
abbrev S_ : Shape := ⟨0, ![]⟩
abbrev S16x16 : Shape := ⟨2, ![16, 16]⟩

class Facts : Prop where
  slices_S32768x128_S32768x16_0_0 : S32768x128.Slices ![0, 0] S32768x16
  bcast_S16_S1x16_1 : S16.BroadcastsInDim S1x16 (![1] : Fin 1 → Fin S1x16.rank)
  bcast_S1x16_S32768x16_0_1 : S1x16.BroadcastsInDim S32768x16 (![0, 1] : Fin 2 → Fin S32768x16.rank)
  bcast_S_S32768x16 : S_.BroadcastsInDim S32768x16 (![] : Fin 0 → Fin S32768x16.rank)
  reducesTo_S32768x16_S_d0_1 : S32768x16.ReducesTo [0, 1] S_
  h_S_ : 0 < S_.numel
  slices_S16x128_S16x16_0_0 : S16x128.Slices ![0, 0] S16x16
  bcast_S1x16_S16x16_0_1 : S1x16.BroadcastsInDim S16x16 (![0, 1] : Fin 2 → Fin S16x16.rank)
  bcast_S_S16x16 : S_.BroadcastsInDim S16x16 (![] : Fin 0 → Fin S16x16.rank)
  reducesTo_S16x16_S_d0_1 : S16x16.ReducesTo [0, 1] S_

variable [Facts]

def fn {F : FTy → Type} [FloatOps F] (main_arg0 : FVec F S32768x128 .f32) (main_arg1 : FVec F S16x128 .f32) (main_arg2 : FVec F S16 .f32) : IVec S_ 1 :=
  let main_v0 : FVec F S32768x16 .f32 := (extractStridedSlice S32768x16 ![0, 0] · slices_S32768x128_S32768x16_0_0) main_arg0
  let main_v1 : FVec F S1x16 .f32 := broadcastInDim S1x16 ![1] bcast_S16_S1x16_1 main_arg2
  let main_v2 : FVec F S32768x16 .f32 := broadcastInDim S32768x16 ![0, 1] bcast_S1x16_S32768x16_0_1 main_v1
  let main_v3 : FVec F S32768x16 .f32 := addf main_v0 main_v2
  let main_cst : FVec F S_ .f32 := constant S_ .f32 0xFF800000#32
  let main_v4 : FVec F S32768x16 .f32 := broadcastInDim S32768x16 ![] bcast_S_S32768x16 main_cst
  let main_v5 : IVec S32768x16 1 := cmpf .ogt main_v3 main_v4
  let main_c : IVec S_ 1 := constantI S_ 1 1#1
  let main_v6 : IVec S_ 1 := (fun x v => Host.reduce IntOp.andi x v reducesTo_S32768x16_S_d0_1 h_S_) main_v5 main_c
  let main_v7 : FVec F S16x16 .f32 := (extractStridedSlice S16x16 ![0, 0] · slices_S16x128_S16x16_0_0) main_arg1
  let main_v8 : FVec F S1x16 .f32 := broadcastInDim S1x16 ![1] bcast_S16_S1x16_1 main_arg2
  let main_v9 : FVec F S16x16 .f32 := broadcastInDim S16x16 ![0, 1] bcast_S1x16_S16x16_0_1 main_v8
  let main_v10 : FVec F S16x16 .f32 := addf main_v7 main_v9
  let main_cst_0 : FVec F S_ .f32 := constant S_ .f32 0xFF800000#32
  let main_v11 : FVec F S16x16 .f32 := broadcastInDim S16x16 ![] bcast_S_S16x16 main_cst_0
  let main_v12 : IVec S16x16 1 := cmpf .ogt main_v10 main_v11
  let main_c_1 : IVec S_ 1 := constantI S_ 1 1#1
  let main_v13 : IVec S_ 1 := (fun x v => Host.reduce IntOp.andi x v reducesTo_S16x16_S_d0_1 h_S_) main_v12 main_c_1
  let main_v14 : IVec S_ 1 := andi main_v6 main_v13
  main_v14
-- ==== Pre_router_finite.lean ====
abbrev S32768x1024 : Shape := ⟨2, ![32768, 1024]⟩
abbrev S1024x1024 : Shape := ⟨2, ![1024, 1024]⟩
abbrev S1x1024 : Shape := ⟨2, ![1, 1024]⟩
abbrev S1024x8 : Shape := ⟨2, ![1024, 8]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S32768x1024 .bf16) (main_arg1 : FVec F S1024x1024 .f32) (main_arg2 : FVec F S32768x1024 .f32) (main_arg3 : FVec F S1x1024 .f32) (main_arg4 : FVec F S1024x8 .f32) : IVec S_ 1 :=
  let main_v0 : FVec F S1x1024 .f32 := Host.absf main_arg3
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x8 .f32 := Host.absf main_arg4
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S136 : Shape := ⟨1, ![136]⟩
abbrev S1 : Shape := ⟨1, ![1]⟩
abbrev S69632x1024 : Shape := ⟨2, ![69632, 1024]⟩
abbrev S8x1024x2816 : Shape := ⟨3, ![8, 1024, 2816]⟩
abbrev S8x2816x512 : Shape := ⟨3, ![8, 2816, 512]⟩
abbrev S512x1024 : Shape := ⟨2, ![512, 1024]⟩
abbrev S1x1024x2816 : Shape := ⟨3, ![1, 1024, 2816]⟩
abbrev S1x2816x512 : Shape := ⟨3, ![1, 2816, 512]⟩
abbrev S1x1024x256 : Shape := ⟨3, ![1, 1024, 256]⟩
abbrev S1024x256 : Shape := ⟨2, ![1024, 256]⟩
abbrev S512x256 : Shape := ⟨2, ![512, 256]⟩
abbrev S1x256x512 : Shape := ⟨3, ![1, 256, 512]⟩
abbrev S256x512 : Shape := ⟨2, ![256, 512]⟩
abbrev S512x512 : Shape := ⟨2, ![512, 512]⟩

abbrev nBuf : Space → Nat
  | .hbm => 6
  | .vmem => 12
  | .smem => 2
  | _ => 0

abbrev bufTy : (tb : Table) → Fin (tcTables nBuf tb) → BufTy
  | .hbm, ⟨0, _⟩ => ⟨S69632x1024, .bf16⟩
  | .hbm, ⟨1, _⟩ => ⟨S8x1024x2816, .bf16⟩
  | .hbm, ⟨2, _⟩ => ⟨S8x1024x2816, .bf16⟩
  | .hbm, ⟨3, _⟩ => ⟨S8x2816x512, .bf16⟩
  | .hbm, ⟨4, _⟩ => ⟨S8x2816x512, .bf16⟩
  | .hbm, ⟨5, _⟩ => ⟨S69632x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x512, .bf16⟩
  | .local _ .vmem, ⟨7, _⟩ => ⟨S1x2816x512, .bf16⟩
  | .local _ .vmem, ⟨8, _⟩ => ⟨S1x2816x512, .bf16⟩
  | .local _ .vmem, ⟨9, _⟩ => ⟨S1x2816x512, .bf16⟩
  | .local _ .vmem, ⟨10, _⟩ => ⟨S512x1024, .bf16⟩
  | .local _ .vmem, ⟨11, _⟩ => ⟨S512x1024, .bf16⟩
  | .local _ .smem, ⟨0, _⟩ => ⟨S136, .i32⟩
  | .local _ .smem, ⟨1, _⟩ => ⟨S1, .i32⟩
  | _, _ => ⟨S69632x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2816x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S136 : Shape := ⟨1, ![136]⟩
abbrev S1 : Shape := ⟨1, ![1]⟩
abbrev S69632x1024 : Shape := ⟨2, ![69632, 1024]⟩
abbrev S8x1024x2816 : Shape := ⟨3, ![8, 1024, 2816]⟩
abbrev S8x2816x512 : Shape := ⟨3, ![8, 2816, 512]⟩
abbrev S8x2816x1024 : Shape := ⟨3, ![8, 2816, 1024]⟩
abbrev S_ : Shape := ⟨0, ![]⟩
abbrev S136x512 : Shape := ⟨2, ![136, 512]⟩
abbrev S69632 : Shape := ⟨1, ![69632]⟩
abbrev S69632x1 : Shape := ⟨2, ![69632, 1]⟩
abbrev S1x8 : Shape := ⟨2, ![1, 8]⟩
abbrev S69632x8 : Shape := ⟨2, ![69632, 8]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S69632x2816 : Shape := ⟨2, ![69632, 2816]⟩

abbrev nBuf : Space → Nat
  | .hbm => 215
  | .vmem => 0
  | .smem => 0
  | _ => 0

abbrev hbmTy0_0 (i : Nat) : BufTy := match i % 128 with
  | 0 => ⟨S136, .i32⟩
  | 1 => ⟨S1, .i32⟩
  | 2 => ⟨S69632x1024, .bf16⟩
  | 3 => ⟨S8x1024x2816, .bf16⟩
  | 4 => ⟨S8x1024x2816, .bf16⟩
  | 5 => ⟨S8x2816x512, .bf16⟩
  | 6 => ⟨S8x2816x512, .bf16⟩
  | 7 => ⟨S69632x1024, .f32⟩
  | 8 => ⟨S8x1024x2816, .f32⟩
  | 9 => ⟨S8x1024x2816, .f32⟩
  | 10 => ⟨S8x2816x1024, .bf16⟩
  | 11 => ⟨S8x2816x1024, .f32⟩
  | 12 => ⟨S136, .i32⟩
  | 13 => ⟨S_, .i32⟩
  | 14 => ⟨S136, .i32⟩
  | 15 => ⟨S136, .i1⟩
  | 16 => ⟨S_, .i32⟩
  | 17 => ⟨S_, .i32⟩
  | 18 => ⟨S136, .i32⟩
  | 19 => ⟨S136, .i32⟩
  | 20 => ⟨S136x512, .i32⟩
  | 21 => ⟨S69632, .i32⟩
  | 22 => ⟨S69632x1, .i32⟩
  | 23 => ⟨S1x8, .i32⟩
  | 24 => ⟨S69632x8, .i32⟩
  | 25 => ⟨S69632x8, .i32⟩
  | 26 => ⟨S69632x8, .i1⟩
  | 27 => ⟨S69632x8, .f32⟩
  | 28 => ⟨S_, .f32⟩
  | 29 => ⟨S69632x1024, .f32⟩
  | 30 => ⟨S69632x1, .f32⟩
  | 31 => ⟨S1x1024x2816, .f32⟩
  | 32 => ⟨S1024x2816, .f32⟩
  | 33 => ⟨S1x1024x2816, .f32⟩
  | 34 => ⟨S1024x2816, .f32⟩
  | 35 => ⟨S1x2816x1024, .f32⟩
  | 36 => ⟨S2816x1024, .f32⟩
  | 37 => ⟨S69632x2816, .f32⟩
  | 38 => ⟨S69632x2816, .f32⟩
  | 39 => ⟨S69632x2816, .f32⟩
  | 40 => ⟨S_, .f32⟩
  | 41 => ⟨S69632x2816, .f32⟩
  | 42 => ⟨S69632x2816, .f32⟩
  | 43 => ⟨S_, .f32⟩
  | 44 => ⟨S69632x2816, .f32⟩
  | 45 => ⟨S69632x2816, .f32⟩
  | 46 => ⟨S69632x2816, .f32⟩
  | 47 => ⟨S69632x2816, .f32⟩
  | 48 => ⟨S69632x2816, .f32⟩
  | 49 => ⟨S69632x1024, .f32⟩
  | 50 => ⟨S69632x1024, .f32⟩
  | 51 => ⟨S69632x1024, .f32⟩
  | 52 => ⟨S69632x1024, .f32⟩
  | 53 => ⟨S69632x1, .f32⟩
  | 54 => ⟨S1x1024x2816, .f32⟩
  | 55 => ⟨S1024x2816, .f32⟩
  | 56 => ⟨S1x1024x2816, .f32⟩
  | 57 => ⟨S1024x2816, .f32⟩
  | 58 => ⟨S1x2816x1024, .f32⟩
  | 59 => ⟨S2816x1024, .f32⟩
  | 60 => ⟨S69632x2816, .f32⟩
  | 61 => ⟨S69632x2816, .f32⟩
  | 62 => ⟨S69632x2816, .f32⟩
  | 63 => ⟨S_, .f32⟩
  | 64 => ⟨S69632x2816, .f32⟩
  | 65 => ⟨S69632x2816, .f32⟩
  | 66 => ⟨S_, .f32⟩
  | 67 => ⟨S69632x2816, .f32⟩
  | 68 => ⟨S69632x2816, .f32⟩
  | 69 => ⟨S69632x2816, .f32⟩
  | 70 => ⟨S69632x2816, .f32⟩
  | 71 => ⟨S69632x2816, .f32⟩
  | 72 => ⟨S69632x1024, .f32⟩
  | 73 => ⟨S69632x1024, .f32⟩
  | 74 => ⟨S69632x1024, .f32⟩
  | 75 => ⟨S69632x1024, .f32⟩
  | 76 => ⟨S69632x1, .f32⟩
  | 77 => ⟨S1x1024x2816, .f32⟩
  | 78 => ⟨S1024x2816, .f32⟩
  | 79 => ⟨S1x1024x2816, .f32⟩
  | 80 => ⟨S1024x2816, .f32⟩
  | 81 => ⟨S1x2816x1024, .f32⟩
  | 82 => ⟨S2816x1024, .f32⟩
  | 83 => ⟨S69632x2816, .f32⟩
  | 84 => ⟨S69632x2816, .f32⟩
  | 85 => ⟨S69632x2816, .f32⟩
  | 86 => ⟨S_, .f32⟩
  | 87 => ⟨S69632x2816, .f32⟩
  | 88 => ⟨S69632x2816, .f32⟩
  | 89 => ⟨S_, .f32⟩
  | 90 => ⟨S69632x2816, .f32⟩
  | 91 => ⟨S69632x2816, .f32⟩
  | 92 => ⟨S69632x2816, .f32⟩
  | 93 => ⟨S69632x2816, .f32⟩
  | 94 => ⟨S69632x2816, .f32⟩
  | 95 => ⟨S69632x1024, .f32⟩
  | 96 => ⟨S69632x1024, .f32⟩
  | 97 => ⟨S69632x1024, .f32⟩
  | 98 => ⟨S69632x1024, .f32⟩
  | 99 => ⟨S69632x1, .f32⟩
  | 100 => ⟨S1x1024x2816, .f32⟩
  | 101 => ⟨S1024x2816, .f32⟩
  | 102 => ⟨S1x1024x2816, .f32⟩
  | 103 => ⟨S1024x2816, .f32⟩
  | 104 => ⟨S1x2816x1024, .f32⟩
  | 105 => ⟨S2816x1024, .f32⟩
  | 106 => ⟨S69632x2816, .f32⟩
  | 107 => ⟨S69632x2816, .f32⟩
  | 108 => ⟨S69632x2816, .f32⟩
  | 109 => ⟨S_, .f32⟩
  | 110 => ⟨S69632x2816, .f32⟩
  | 111 => ⟨S69632x2816, .f32⟩
  | 112 => ⟨S_, .f32⟩
  | 113 => ⟨S69632x2816, .f32⟩
  | 114 => ⟨S69632x2816, .f32⟩
  | 115 => ⟨S69632x2816, .f32⟩
  | 116 => ⟨S69632x2816, .f32⟩
  | 117 => ⟨S69632x2816, .f32⟩
  | 118 => ⟨S69632x1024, .f32⟩
  | 119 => ⟨S69632x1024, .f32⟩
  | 120 => ⟨S69632x1024, .f32⟩
  | 121 => ⟨S69632x1024, .f32⟩
  | 122 => ⟨S69632x1, .f32⟩
  | 123 => ⟨S1x1024x2816, .f32⟩
  | 124 => ⟨S1024x2816, .f32⟩
  | 125 => ⟨S1x1024x2816, .f32⟩
  | 126 => ⟨S1024x2816, .f32⟩
  | 127 => ⟨S1x2816x1024, .f32⟩
  | _ => ⟨S136, .i32⟩

abbrev hbmTy0_1 (i : Nat) : BufTy := match i % 128 with
  | 0 => ⟨S2816x1024, .f32⟩
  | 1 => ⟨S69632x2816, .f32⟩
  | 2 => ⟨S69632x2816, .f32⟩
  | 3 => ⟨S69632x2816, .f32⟩
  | 4 => ⟨S_, .f32⟩
  | 5 => ⟨S69632x2816, .f32⟩
  | 6 => ⟨S69632x2816, .f32⟩
  | 7 => ⟨S_, .f32⟩
  | 8 => ⟨S69632x2816, .f32⟩
  | 9 => ⟨S69632x2816, .f32⟩
  | 10 => ⟨S69632x2816, .f32⟩
  | 11 => ⟨S69632x2816, .f32⟩
  | 12 => ⟨S69632x2816, .f32⟩
  | 13 => ⟨S69632x1024, .f32⟩
  | 14 => ⟨S69632x1024, .f32⟩
  | 15 => ⟨S69632x1024, .f32⟩
  | 16 => ⟨S69632x1024, .f32⟩
  | 17 => ⟨S69632x1, .f32⟩
  | 18 => ⟨S1x1024x2816, .f32⟩
  | 19 => ⟨S1024x2816, .f32⟩
  | 20 => ⟨S1x1024x2816, .f32⟩
  | 21 => ⟨S1024x2816, .f32⟩
  | 22 => ⟨S1x2816x1024, .f32⟩
  | 23 => ⟨S2816x1024, .f32⟩
  | 24 => ⟨S69632x2816, .f32⟩
  | 25 => ⟨S69632x2816, .f32⟩
  | 26 => ⟨S69632x2816, .f32⟩
  | 27 => ⟨S_, .f32⟩
  | 28 => ⟨S69632x2816, .f32⟩
  | 29 => ⟨S69632x2816, .f32⟩
  | 30 => ⟨S_, .f32⟩
  | 31 => ⟨S69632x2816, .f32⟩
  | 32 => ⟨S69632x2816, .f32⟩
  | 33 => ⟨S69632x2816, .f32⟩
  | 34 => ⟨S69632x2816, .f32⟩
  | 35 => ⟨S69632x2816, .f32⟩
  | 36 => ⟨S69632x1024, .f32⟩
  | 37 => ⟨S69632x1024, .f32⟩
  | 38 => ⟨S69632x1024, .f32⟩
  | 39 => ⟨S69632x1024, .f32⟩
  | 40 => ⟨S69632x1, .f32⟩
  | 41 => ⟨S1x1024x2816, .f32⟩
  | 42 => ⟨S1024x2816, .f32⟩
  | 43 => ⟨S1x1024x2816, .f32⟩
  | 44 => ⟨S1024x2816, .f32⟩
  | 45 => ⟨S1x2816x1024, .f32⟩
  | 46 => ⟨S2816x1024, .f32⟩
  | 47 => ⟨S69632x2816, .f32⟩
  | 48 => ⟨S69632x2816, .f32⟩
  | 49 => ⟨S69632x2816, .f32⟩
  | 50 => ⟨S_, .f32⟩
  | 51 => ⟨S69632x2816, .f32⟩
  | 52 => ⟨S69632x2816, .f32⟩
  | 53 => ⟨S_, .f32⟩
  | 54 => ⟨S69632x2816, .f32⟩
  | 55 => ⟨S69632x2816, .f32⟩
  | 56 => ⟨S69632x2816, .f32⟩
  | 57 => ⟨S69632x2816, .f32⟩
  | 58 => ⟨S69632x2816, .f32⟩
  | 59 => ⟨S69632x1024, .f32⟩
  | 60 => ⟨S69632x1024, .f32⟩
  | 61 => ⟨S69632x1024, .f32⟩
  | 62 => ⟨S69632x1024, .f32⟩
  | 63 => ⟨S69632x1, .f32⟩
  | 64 => ⟨S1x1024x2816, .f32⟩
  | 65 => ⟨S1024x2816, .f32⟩
  | 66 => ⟨S1x1024x2816, .f32⟩
  | 67 => ⟨S1024x2816, .f32⟩
  | 68 => ⟨S1x2816x1024, .f32⟩
  | 69 => ⟨S2816x1024, .f32⟩
  | 70 => ⟨S69632x2816, .f32⟩
  | 71 => ⟨S69632x2816, .f32⟩
  | 72 => ⟨S69632x2816, .f32⟩
  | 73 => ⟨S_, .f32⟩
  | 74 => ⟨S69632x2816, .f32⟩
  | 75 => ⟨S69632x2816, .f32⟩
  | 76 => ⟨S_, .f32⟩
  | 77 => ⟨S69632x2816, .f32⟩
  | 78 => ⟨S69632x2816, .f32⟩
  | 79 => ⟨S69632x2816, .f32⟩
  | 80 => ⟨S69632x2816, .f32⟩
  | 81 => ⟨S69632x2816, .f32⟩
  | 82 => ⟨S69632x1024, .f32⟩
  | 83 => ⟨S69632x1024, .f32⟩
  | 84 => ⟨S69632x1024, .f32⟩
  | 85 => ⟨S69632x1024, .f32⟩
  | 86 => ⟨S69632x1024, .bf16⟩
  | _ => ⟨S136, .i32⟩

abbrev hbmTy (i : Nat) : BufTy := match i / 128 with
  | 0 => hbmTy0_0 i
  | 1 => hbmTy0_1 i
  | _ => ⟨S136, .i32⟩

abbrev bufTy : (tb : Table) → Fin (tcTables nBuf tb) → BufTy
  | .hbm, ⟨i, _⟩ => hbmTy i
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call2_v0 : Ref sig .tc := ⟨.hbm, 38, rfl⟩
abbrev main_call2_v1 : Ref sig .tc := ⟨.hbm, 39, rfl⟩
abbrev main_call2_cst : Ref sig .tc := ⟨.hbm, 40, rfl⟩
abbrev main_call2_v2 : Ref sig .tc := ⟨.hbm, 41, rfl⟩
abbrev main_call2_v3 : Ref sig .tc := ⟨.hbm, 42, rfl⟩
abbrev main_call2_cst_0 : Ref sig .tc := ⟨.hbm, 43, rfl⟩
abbrev main_call2_v4 : Ref sig .tc := ⟨.hbm, 44, rfl⟩
abbrev main_call2_v5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call3_v0 : Ref sig .tc := ⟨.hbm, 61, rfl⟩
abbrev main_call3_v1 : Ref sig .tc := ⟨.hbm, 62, rfl⟩
abbrev main_call3_cst : Ref sig .tc := ⟨.hbm, 63, rfl⟩
abbrev main_call3_v2 : Ref sig .tc := ⟨.hbm, 64, rfl⟩
abbrev main_call3_v3 : Ref sig .tc := ⟨.hbm, 65, rfl⟩
abbrev main_call3_cst_0 : Ref sig .tc := ⟨.hbm, 66, rfl⟩
abbrev main_call3_v4 : Ref sig .tc := ⟨.hbm, 67, rfl⟩
abbrev main_call3_v5 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_call4_v0 : Ref sig .tc := ⟨.hbm, 84, rfl⟩
abbrev main_call4_v1 : Ref sig .tc := ⟨.hbm, 85, rfl⟩
abbrev main_call4_cst : Ref sig .tc := ⟨.hbm, 86, rfl⟩
abbrev main_call4_v2 : Ref sig .tc := ⟨.hbm, 87, rfl⟩
abbrev main_call4_v3 : Ref sig .tc := ⟨.hbm, 88, rfl⟩
abbrev main_call4_cst_0 : Ref sig .tc := ⟨.hbm, 89, rfl⟩
abbrev main_call4_v4 : Ref sig .tc := ⟨.hbm, 90, rfl⟩
abbrev main_call4_v5 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_call5_v0 : Ref sig .tc := ⟨.hbm, 107, rfl⟩
abbrev main_call5_v1 : Ref sig .tc := ⟨.hbm, 108, rfl⟩
abbrev main_call5_cst : Ref sig .tc := ⟨.hbm, 109, rfl⟩
abbrev main_call5_v2 : Ref sig .tc := ⟨.hbm, 110, rfl⟩
abbrev main_call5_v3 : Ref sig .tc := ⟨.hbm, 111, rfl⟩
abbrev main_call5_cst_0 : Ref sig .tc := ⟨.hbm, 112, rfl⟩
abbrev main_call5_v4 : Ref sig .tc := ⟨.hbm, 113, rfl⟩
abbrev main_call5_v5 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_call6_v0 : Ref sig .tc := ⟨.hbm, 130, rfl⟩
abbrev main_call6_v1 : Ref sig .tc := ⟨.hbm, 131, rfl⟩
abbrev main_call6_cst : Ref sig .tc := ⟨.hbm, 132, rfl⟩
abbrev main_call6_v2 : Ref sig .tc := ⟨.hbm, 133, rfl⟩
abbrev main_call6_v3 : Ref sig .tc := ⟨.hbm, 134, rfl⟩
abbrev main_call6_cst_0 : Ref sig .tc := ⟨.hbm, 135, rfl⟩
abbrev main_call6_v4 : Ref sig .tc := ⟨.hbm, 136, rfl⟩
abbrev main_call6_v5 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_call7_v0 : Ref sig .tc := ⟨.hbm, 153, rfl⟩
abbrev main_call7_v1 : Ref sig .tc := ⟨.hbm, 154, rfl⟩
abbrev main_call7_cst : Ref sig .tc := ⟨.hbm, 155, rfl⟩
abbrev main_call7_v2 : Ref sig .tc := ⟨.hbm, 156, rfl⟩
abbrev main_call7_v3 : Ref sig .tc := ⟨.hbm, 157, rfl⟩
abbrev main_call7_cst_0 : Ref sig .tc := ⟨.hbm, 158, rfl⟩
abbrev main_call7_v4 : Ref sig .tc := ⟨.hbm, 159, rfl⟩
abbrev main_call7_v5 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_call8_v0 : Ref sig .tc := ⟨.hbm, 176, rfl⟩
abbrev main_call8_v1 : Ref sig .tc := ⟨.hbm, 177, rfl⟩
abbrev main_call8_cst : Ref sig .tc := ⟨.hbm, 178, rfl⟩
abbrev main_call8_v2 : Ref sig .tc := ⟨.hbm, 179, rfl⟩
abbrev main_call8_v3 : Ref sig .tc := ⟨.hbm, 180, rfl⟩
abbrev main_call8_cst_0 : Ref sig .tc := ⟨.hbm, 181, rfl⟩
abbrev main_call8_v4 : Ref sig .tc := ⟨.hbm, 182, rfl⟩
abbrev main_call8_v5 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_call9_v0 : Ref sig .tc := ⟨.hbm, 199, rfl⟩
abbrev main_call9_v1 : Ref sig .tc := ⟨.hbm, 200, rfl⟩
abbrev main_call9_cst : Ref sig .tc := ⟨.hbm, 201, rfl⟩
abbrev main_call9_v2 : Ref sig .tc := ⟨.hbm, 202, rfl⟩
abbrev main_call9_v3 : Ref sig .tc := ⟨.hbm, 203, rfl⟩
abbrev main_call9_cst_0 : Ref sig .tc := ⟨.hbm, 204, rfl⟩
abbrev main_call9_v4 : Ref sig .tc := ⟨.hbm, 205, rfl⟩
abbrev main_call9_v5 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩

abbrev nD : Nat := 1
abbrev τ : Topo := Topo.v7x

variable {F : FTy → Type} [FloatOps F]
-- ==== Dense.lean ====
abbrev S32768x1024 : Shape := ⟨2, ![32768, 1024]⟩
abbrev S1x1024 : Shape := ⟨2, ![1, 1024]⟩
abbrev S1024x5632 : Shape := ⟨2, ![1024, 5632]⟩
abbrev S2816x1024 : Shape := ⟨2, ![2816, 1024]⟩
abbrev S1024x2816 : Shape := ⟨2, ![1024, 2816]⟩
abbrev S2816x512 : Shape := ⟨2, ![2816, 512]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x512 : Shape := ⟨2, ![256, 512]⟩
abbrev S512x512 : Shape := ⟨2, ![512, 512]⟩

abbrev nBuf : Space → Nat
  | .hbm => 13
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1024x2816, .f32⟩
  | .hbm, ⟨5, _⟩ => ⟨S1024x2816, .bf16⟩
  | .hbm, ⟨6, _⟩ => ⟨S1024x2816, .f32⟩
  | .hbm, ⟨7, _⟩ => ⟨S1024x2816, .bf16⟩
  | .hbm, ⟨8, _⟩ => ⟨S2816x512, .f32⟩
  | .hbm, ⟨9, _⟩ => ⟨S2816x512, .bf16⟩
  | .hbm, ⟨10, _⟩ => ⟨S2816x512, .f32⟩
  | .hbm, ⟨11, _⟩ => ⟨S2816x512, .bf16⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x512, .bf16⟩
  | .local _ .vmem, ⟨6, _⟩ => ⟨S2816x512, .bf16⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DenseReferenceIdeal.lean ====
abbrev S32768x1024 : Shape := ⟨2, ![32768, 1024]⟩
abbrev S1x1024 : Shape := ⟨2, ![1, 1024]⟩
abbrev S1024x5632 : Shape := ⟨2, ![1024, 5632]⟩
abbrev S2816x1024 : Shape := ⟨2, ![2816, 1024]⟩
abbrev S1024x2816 : Shape := ⟨2, ![1024, 2816]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1024x2816, .f32⟩
  | .hbm, ⟨5, _⟩ => ⟨S1024x2816, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S_, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== OutProj.lean ====
abbrev S32768x1024 : Shape := ⟨2, ![32768, 1024]⟩
abbrev S1024x1024 : Shape := ⟨2, ![1024, 1024]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1024x1024, .bf16⟩
  | .hbm, ⟨4, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutProjReferenceIdeal.lean ====
abbrev S32768x1024 : Shape := ⟨2, ![32768, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S32768x1024, .f32⟩
  | .hbm, ⟨4, _⟩ => ⟨S32768x1024, .f32⟩
  | .hbm, ⟨5, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Qkv.lean ====
abbrev S32768x1024 : Shape := ⟨2, ![32768, 1024]⟩
abbrev S1x1024 : Shape := ⟨2, ![1, 1024]⟩
abbrev S1024x3072 : Shape := ⟨2, ![1024, 3072]⟩
abbrev S_ : Shape := ⟨0, ![]⟩
abbrev S1x512 : Shape := ⟨2, ![1, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S32768x3072 : Shape := ⟨2, ![32768, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 36
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x3072, .f32⟩
  | .hbm, ⟨3, _⟩ => ⟨S1024x3072, .bf16⟩
  | .hbm, ⟨4, _⟩ => ⟨S_, .f32⟩
  | .hbm, ⟨5, _⟩ => ⟨S1x512, .f32⟩
  | .hbm, ⟨6, _⟩ => ⟨S256, .i32⟩
  | .hbm, ⟨7, _⟩ => ⟨S_, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S_, .i32⟩
  | .hbm, ⟨13, _⟩ => ⟨S256, .i32⟩
  | .hbm, ⟨14, _⟩ => ⟨S256, .i1⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S256, .i1⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S256x1, .i32⟩
  | .hbm, ⟨26, _⟩ => ⟨S1x256, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S256x256, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .bf16⟩
  | .hbm, ⟨35, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x512, .f32⟩
  | .local _ .vmem, ⟨5, _⟩ => ⟨S256x256, .bf16⟩
  | .local _ .vmem, ⟨6, _⟩ => ⟨S512x3072, .bf16⟩
  | .local _ .vmem, ⟨7, _⟩ => ⟨S512x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QkvReferenceIdeal.lean ====
abbrev S32768x1024 : Shape := ⟨2, ![32768, 1024]⟩
abbrev S1x1024 : Shape := ⟨2, ![1, 1024]⟩
abbrev S1024x3072 : Shape := ⟨2, ![1024, 3072]⟩
abbrev S_ : Shape := ⟨0, ![]⟩
abbrev S32768 : Shape := ⟨1, ![32768]⟩
abbrev S32768x1 : Shape := ⟨2, ![32768, 1]⟩
abbrev S32768x3072 : Shape := ⟨2, ![32768, 3072]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x3072, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x3072, .f32⟩
  | .hbm, ⟨19, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kvq.lean ====
abbrev S32768x1024 : Shape := ⟨2, ![32768, 1024]⟩
abbrev S1024 : Shape := ⟨1, ![1024]⟩
abbrev S1024x2064 : Shape := ⟨2, ![1024, 2064]⟩
abbrev S64 : Shape := ⟨1, ![64]⟩
abbrev S1024x1024 : Shape := ⟨2, ![1024, 1024]⟩
abbrev S1024x2048 : Shape := ⟨2, ![1024, 2048]⟩
abbrev S_ : Shape := ⟨0, ![]⟩
abbrev S1024x128 : Shape := ⟨2, ![1024, 128]⟩
abbrev S1024x16 : Shape := ⟨2, ![1024, 16]⟩
abbrev S1 : Shape := ⟨1, ![1]⟩
abbrev S1x64 : Shape := ⟨2, ![1, 64]⟩
abbrev S16x64 : Shape := ⟨2, ![16, 64]⟩
abbrev S1x1024 : Shape := ⟨2, ![1, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x128 : Shape := ⟨2, ![1, 128]⟩
abbrev S128 : Shape := ⟨1, ![128]⟩
abbrev S128x1 : Shape := ⟨2, ![128, 1]⟩
abbrev S128x128 : Shape := ⟨2, ![128, 128]⟩
abbrev S32768x2048 : Shape := ⟨2, ![32768, 2048]⟩
abbrev S32768x128 : Shape := ⟨2, ![32768, 128]⟩
abbrev S512x1024 : Shape := ⟨2, ![512, 1024]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x256 : Shape := ⟨2, ![512, 256]⟩
abbrev S1x512 : Shape := ⟨2, ![1, 512]⟩

abbrev nBuf : Space → Nat
  | .hbm => 120
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2064, .f32⟩
  | .hbm, ⟨3, _⟩ => ⟨S64, .f32⟩
  | .hbm, ⟨4, _⟩ => ⟨S1024, .f32⟩
  | .hbm, ⟨5, _⟩ => ⟨S1024x1024, .f32⟩
  | .hbm, ⟨6, _⟩ => ⟨S64, .f32⟩
  | .hbm, ⟨7, _⟩ => ⟨S1024x2048, .f32⟩
  | .hbm, ⟨8, _⟩ => ⟨S1024x2048, .bf16⟩
  | .hbm, ⟨9, _⟩ => ⟨S_, .f32⟩
  | .hbm, ⟨10, _⟩ => ⟨S1024x128, .f32⟩
  | .hbm, ⟨11, _⟩ => ⟨S1024x16, .f32⟩
  | .hbm, ⟨12, _⟩ => ⟨S_, .i32⟩
  | .hbm, ⟨13, _⟩ => ⟨S1, .i32⟩
  | .hbm, ⟨14, _⟩ => ⟨S1024x128, .f32⟩
  | .hbm, ⟨15, _⟩ => ⟨S1024x128, .bf16⟩
  | .hbm, ⟨16, _⟩ => ⟨S1x64, .f32⟩
  | .hbm, ⟨17, _⟩ => ⟨S16x64, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1024x1024, .bf16⟩
  | .hbm, ⟨24, _⟩ => ⟨S1x64, .f32⟩
  | .hbm, ⟨25, _⟩ => ⟨S16x64, .f32⟩
  | .hbm, ⟨26, _⟩ => ⟨S1024, .f32⟩
  | .hbm, ⟨27, _⟩ => ⟨S1x1024, .f32⟩
  | .hbm, ⟨28, _⟩ => ⟨S256, .i32⟩
  | .hbm, ⟨29, _⟩ => ⟨S_, .i32⟩
  | .hbm, ⟨30, _⟩ => ⟨S_, .i32⟩
  | .hbm, ⟨31, _⟩ => ⟨S256, .i32⟩
  | .hbm, ⟨32, _⟩ => ⟨S256, .i32⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S256, .i1⟩
  | .hbm, ⟨43, _⟩ => ⟨S_, .i32⟩
  | .hbm, ⟨44, _⟩ => ⟨S256, .i32⟩
  | .hbm, ⟨45, _⟩ => ⟨S256, .i32⟩
  | .hbm, ⟨46, _⟩ => ⟨S256, .i32⟩
  | .hbm, ⟨47, _⟩ => ⟨S256x1, .i32⟩
  | .hbm, ⟨48, _⟩ => ⟨S1x256, .i32⟩
  | .hbm, ⟨49, _⟩ => ⟨S256x256, .i32⟩
  | .hbm, ⟨50, _⟩ => ⟨S256x256, .i32⟩
  | .hbm, ⟨51, _⟩ => ⟨S256x256, .i1⟩
  | .hbm, ⟨52, _⟩ => ⟨S256x256, .f32⟩
  | .hbm, ⟨53, _⟩ => ⟨S_, .f32⟩
  | .hbm, ⟨54, _⟩ => ⟨S256x256, .f32⟩
  | .hbm, ⟨55, _⟩ => ⟨S256x256, .f32⟩
  | .hbm, ⟨56, _⟩ => ⟨S256x256, .bf16⟩
  | .hbm, ⟨57, _⟩ => ⟨S_, .f32⟩
  | .hbm, ⟨58, _⟩ => ⟨S1x128, .f32⟩
  | .hbm, ⟨59, _⟩ => ⟨S128, .i32⟩
  | .hbm, ⟨60, _⟩ => ⟨S_, .i32⟩
  | .hbm, ⟨61, _⟩ => ⟨S_, .i32⟩
  | .hbm, ⟨62, _⟩ => ⟨S128, .i32⟩
  | .hbm, ⟨63, _⟩ => ⟨S128, .i32⟩
  | .hbm, ⟨64, _⟩ => ⟨S128, .i32⟩
  | .hbm, ⟨65, _⟩ => ⟨S_, .i32⟩
  | .hbm, ⟨66, _⟩ => ⟨S128, .i32⟩
  | .hbm, ⟨67, _⟩ => ⟨S128, .i1⟩
  | .hbm, ⟨68, _⟩ => ⟨S128, .i32⟩
  | .hbm, ⟨69, _⟩ => ⟨S128, .i32⟩
  | .hbm, ⟨70, _⟩ => ⟨S_, .i32⟩
  | .hbm, ⟨71, _⟩ => ⟨S128, .i32⟩
  | .hbm, ⟨72, _⟩ => ⟨S128, .i1⟩
  | .hbm, ⟨73, _⟩ => ⟨S128, .i1⟩
  | .hbm, ⟨74, _⟩ => ⟨S_, .i32⟩
  | .hbm, ⟨75, _⟩ => ⟨S128, .i32⟩
  | .hbm, ⟨76, _⟩ => ⟨S128, .i32⟩
  | .hbm, ⟨77, _⟩ => ⟨S128, .i32⟩
  | .hbm, ⟨78, _⟩ => ⟨S128x1, .i32⟩
  | .hbm, ⟨79, _⟩ => ⟨S1x128, .i32⟩
  | .hbm, ⟨80, _⟩ => ⟨S128x128, .i32⟩
  | .hbm, ⟨81, _⟩ => ⟨S128x128, .i32⟩
  | .hbm, ⟨82, _⟩ => ⟨S128x128, .i1⟩
  | .hbm, ⟨83, _⟩ => ⟨S128x128, .f32⟩
  | .hbm, ⟨84, _⟩ => ⟨S_, .f32⟩
  | .hbm, ⟨85, _⟩ => ⟨S128x128, .f32⟩
  | .hbm, ⟨86, _⟩ => ⟨S128x128, .f32⟩
  | .hbm, ⟨87, _⟩ => ⟨S128x128, .bf16⟩
  | .hbm, ⟨88, _⟩ => ⟨S256, .i32⟩
  | .hbm, ⟨89, _⟩ => ⟨S_, .i32⟩
  | .hbm, ⟨90, _⟩ => ⟨S_, .i32⟩
  | .hbm, ⟨91, _⟩ => ⟨S256, .i32⟩
  | .hbm, ⟨92, _⟩ => ⟨S256, .i32⟩
  | .hbm, ⟨93, _⟩ => ⟨S256, .i32⟩
  | .hbm, ⟨94, _⟩ => ⟨S_, .i32⟩
  | .hbm, ⟨95, _⟩ => ⟨S256, .i32⟩
  | .hbm, ⟨96, _⟩ => ⟨S256, .i1⟩
  | .hbm, ⟨97, _⟩ => ⟨S256, .i32⟩
  | .hbm, ⟨98, _⟩ => ⟨S256, .i32⟩
  | .hbm, ⟨99, _⟩ => ⟨S_, .i32⟩
  | .hbm, ⟨100, _⟩ => ⟨S256, .i32⟩
  | .hbm, ⟨101, _⟩ => ⟨S256, .i1⟩
  | .hbm, ⟨102, _⟩ => ⟨S256, .i1⟩
  | .hbm, ⟨103, _⟩ => ⟨S_, .i32⟩
  | .hbm, ⟨104, _⟩ => ⟨S256, .i32⟩
  | .hbm, ⟨105, _⟩ => ⟨S256, .i32⟩
  | .hbm, ⟨106, _⟩ => ⟨S256, .i32⟩
  | .hbm, ⟨107, _⟩ => ⟨S256x1, .i32⟩
  | .hbm, ⟨108, _⟩ => ⟨S1x256, .i32⟩
  | .hbm, ⟨109, _⟩ => ⟨S256x256, .i32⟩
  | .hbm, ⟨110, _⟩ => ⟨S256x256, .i32⟩
  | .hbm, ⟨111, _⟩ => ⟨S256x256, .i1⟩
  | .hbm, ⟨112, _⟩ => ⟨S256x256, .f32⟩
  | .hbm, ⟨113, _⟩ => ⟨S_, .f32⟩
  | .hbm, ⟨114, _⟩ => ⟨S256x256, .f32⟩
  | .hbm, ⟨115, _⟩ => ⟨S256x256, .f32⟩
  | .hbm, ⟨116, _⟩ => ⟨S256x256, .bf16⟩
  | .hbm, ⟨117, _⟩ => ⟨S32768x2048, .bf16⟩
  | .hbm, ⟨118, _⟩ => ⟨S32768x128, .f32⟩
  | .hbm, ⟨119, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x1024, .f32⟩
  | .local _ .vmem, ⟨5, _⟩ => ⟨S256x256, .bf16⟩
  | .local _ .vmem, ⟨6, _⟩ => ⟨S1x1024, .f32⟩
  | .local _ .vmem, ⟨7, _⟩ => ⟨S1024x128, .bf16⟩
  | .local _ .vmem, ⟨8, _⟩ => ⟨S1x128, .f32⟩
  | .local _ .vmem, ⟨9, _⟩ => ⟨S128x128, .bf16⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S256x256, .bf16⟩
  | .local _ .vmem, ⟨14, _⟩ => ⟨S512x2048, .bf16⟩
  | .local _ .vmem, ⟨15, _⟩ => ⟨S512x2048, .bf16⟩
  | .local _ .vmem, ⟨16, _⟩ => ⟨S512x128, .f32⟩
  | .local _ .vmem, ⟨17, _⟩ => ⟨S512x128, .f32⟩
  | .local _ .vmem, ⟨18, _⟩ => ⟨S512x1024, .bf16⟩
  | .local _ .vmem, ⟨19, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_0 : Ref sig .tc := ⟨.hbm, 43, rfl⟩
abbrev main_call0_v12 : Ref sig .tc := ⟨.hbm, 44, rfl⟩
abbrev main_call0_v13 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_1 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_2 : Ref sig .tc := ⟨.hbm, 57, rfl⟩
abbrev main_v30 : Ref sig .tc := ⟨.hbm, 58, rfl⟩
abbrev main_v31 : Ref sig .tc := ⟨.hbm, 59, rfl⟩
abbrev main_c_3 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_c : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_0 : Ref sig .tc := ⟨.hbm, 74, rfl⟩
abbrev main_call1_v12 : Ref sig .tc := ⟨.hbm, 75, rfl⟩
abbrev main_call1_v13 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_4 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_c_5 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_c : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_0 : Ref sig .tc := ⟨.hbm, 103, rfl⟩
abbrev main_call2_v12 : Ref sig .tc := ⟨.hbm, 104, rfl⟩
abbrev main_call2_v13 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_cst_6 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53_0 : Ref sig .tc := ⟨.hbm, 117, rfl⟩
abbrev main_v53_1 : Ref sig .tc := ⟨.hbm, 118, rfl⟩
abbrev main_v53_2 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KvqReferenceIdeal.lean ====
abbrev S32768x1024 : Shape := ⟨2, ![32768, 1024]⟩
abbrev S1024 : Shape := ⟨1, ![1024]⟩
abbrev S1024x2064 : Shape := ⟨2, ![1024, 2064]⟩
abbrev S64 : Shape := ⟨1, ![64]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2064 : Shape := ⟨2, ![32768, 2064]⟩
abbrev S32768x16x64 : Shape := ⟨3, ![32768, 16, 64]⟩
abbrev S32768x16 : Shape := ⟨2, ![32768, 16]⟩
abbrev S32768x16x1 : Shape := ⟨3, ![32768, 16, 1]⟩
abbrev S1x1x64 : Shape := ⟨3, ![1, 1, 64]⟩
abbrev S32768x2048 : Shape := ⟨2, ![32768, 2048]⟩
abbrev S32768x128 : Shape := ⟨2, ![32768, 128]⟩

abbrev nBuf : Space → Nat
  | .hbm => 86
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2064, .f32⟩
  | .hbm, ⟨3, _⟩ => ⟨S64, .f32⟩
  | .hbm, ⟨4, _⟩ => ⟨S1024, .f32⟩
  | .hbm, ⟨5, _⟩ => ⟨S1024x1024, .f32⟩
  | .hbm, ⟨6, _⟩ => ⟨S64, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S32768x2064, .f32⟩
  | .hbm, ⟨24, _⟩ => ⟨S32768x1024, .f32⟩
  | .hbm, ⟨25, _⟩ => ⟨S32768x16x64, .f32⟩
  | .hbm, ⟨26, _⟩ => ⟨S32768x16x64, .f32⟩
  | .hbm, ⟨27, _⟩ => ⟨S_, .f32⟩
  | .hbm, ⟨28, _⟩ => ⟨S32768x16, .f32⟩
  | .hbm, ⟨29, _⟩ => ⟨S32768x16x1, .f32⟩
  | .hbm, ⟨30, _⟩ => ⟨S_, .f32⟩
  | .hbm, ⟨31, _⟩ => ⟨S32768x16x1, .f32⟩
  | .hbm, ⟨32, _⟩ => ⟨S32768x16x1, .f32⟩
  | .hbm, ⟨33, _⟩ => ⟨S_, .f32⟩
  | .hbm, ⟨34, _⟩ => ⟨S32768x16x1, .f32⟩
  | .hbm, ⟨35, _⟩ => ⟨S32768x16x1, .f32⟩
  | .hbm, ⟨36, _⟩ => ⟨S32768x16x1, .f32⟩
  | .hbm, ⟨37, _⟩ => ⟨S32768x16x64, .f32⟩
  | .hbm, ⟨38, _⟩ => ⟨S32768x16x64, .f32⟩
  | .hbm, ⟨39, _⟩ => ⟨S1x1x64, .f32⟩
  | .hbm, ⟨40, _⟩ => ⟨S32768x16x64, .f32⟩
  | .hbm, ⟨41, _⟩ => ⟨S32768x16x64, .f32⟩
  | .hbm, ⟨42, _⟩ => ⟨S32768x1024, .f32⟩
  | .hbm, ⟨43, _⟩ => ⟨S32768x1024, .f32⟩
  | .hbm, ⟨44, _⟩ => ⟨S32768x2048, .f32⟩
  | .hbm, ⟨45, _⟩ => ⟨S32768x16, .f32⟩
  | .hbm, ⟨46, _⟩ => ⟨S_, .i32⟩
  | .hbm, ⟨47, _⟩ => ⟨S_, .f32⟩
  | .hbm, ⟨48, _⟩ => ⟨S32768x128, .f32⟩
  | .hbm, ⟨49, _⟩ => ⟨S32768x1024, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S32768x1, .f32⟩
  | .hbm, ⟨60, _⟩ => ⟨S32768x1024, .f32⟩
  | .hbm, ⟨61, _⟩ => ⟨S32768x1024, .f32⟩
  | .hbm, ⟨62, _⟩ => ⟨S1x1024, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S32768x16x64, .f32⟩
  | .hbm, ⟨67, _⟩ => ⟨S32768x16x64, .f32⟩
  | .hbm, ⟨68, _⟩ => ⟨S_, .f32⟩
  | .hbm, ⟨69, _⟩ => ⟨S32768x16, .f32⟩
  | .hbm, ⟨70, _⟩ => ⟨S32768x16x1, .f32⟩
  | .hbm, ⟨71, _⟩ => ⟨S_, .f32⟩
  | .hbm, ⟨72, _⟩ => ⟨S32768x16x1, .f32⟩
  | .hbm, ⟨73, _⟩ => ⟨S32768x16x1, .f32⟩
  | .hbm, ⟨74, _⟩ => ⟨S_, .f32⟩
  | .hbm, ⟨75, _⟩ => ⟨S32768x16x1, .f32⟩
  | .hbm, ⟨76, _⟩ => ⟨S32768x16x1, .f32⟩
  | .hbm, ⟨77, _⟩ => ⟨S32768x16x1, .f32⟩
  | .hbm, ⟨78, _⟩ => ⟨S32768x16x64, .f32⟩
  | .hbm, ⟨79, _⟩ => ⟨S32768x16x64, .f32⟩
  | .hbm, ⟨80, _⟩ => ⟨S1x1x64, .f32⟩
  | .hbm, ⟨81, _⟩ => ⟨S32768x16x64, .f32⟩
  | .hbm, ⟨82, _⟩ => ⟨S32768x16x64, .f32⟩
  | .hbm, ⟨83, _⟩ => ⟨S32768x1024, .f32⟩
  | .hbm, ⟨84, _⟩ => ⟨S32768x2048, .bf16⟩
  | .hbm, ⟨85, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_call0_v0 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== Combine.lean ====
abbrev S32768x1024 : Shape := ⟨2, ![32768, 1024]⟩
abbrev S69632x1024 : Shape := ⟨2, ![69632, 1024]⟩
abbrev S32768x2 : Shape := ⟨2, ![32768, 2]⟩
abbrev S32768x1 : Shape := ⟨2, ![32768, 1]⟩
abbrev S32768 : Shape := ⟨1, ![32768]⟩
abbrev S_ : Shape := ⟨0, ![]⟩
abbrev S32768x128 : Shape := ⟨2, ![32768, 128]⟩
abbrev S512x1024 : Shape := ⟨2, ![512, 1024]⟩
abbrev S512x128 : Shape := ⟨2, ![512, 128]⟩

abbrev nBuf : Space → Nat
  | .hbm => 31
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S69632x1024, .bf16⟩
  | .hbm, ⟨2, _⟩ => ⟨S32768x2, .i32⟩
  | .hbm, ⟨3, _⟩ => ⟨S32768x2, .f32⟩
  | .hbm, ⟨4, _⟩ => ⟨S32768x1, .i32⟩
  | .hbm, ⟨5, _⟩ => ⟨S32768, .i32⟩
  | .hbm, ⟨6, _⟩ => ⟨S_, .i32⟩
  | .hbm, ⟨7, _⟩ => ⟨S32768, .i32⟩
  | .hbm, ⟨8, _⟩ => ⟨S32768, .i1⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S32768, .i32⟩
  | .hbm, ⟨13, _⟩ => ⟨S32768x1, .i32⟩
  | .hbm, ⟨14, _⟩ => ⟨S32768x1024, .bf16⟩
  | .hbm, ⟨15, _⟩ => ⟨S32768x1, .i32⟩
  | .hbm, ⟨16, _⟩ => ⟨S32768, .i32⟩
  | .hbm, ⟨17, _⟩ => ⟨S_, .i32⟩
  | .hbm, ⟨18, _⟩ => ⟨S32768, .i32⟩
  | .hbm, ⟨19, _⟩ => ⟨S32768, .i1⟩
  | .hbm, ⟨20, _⟩ => ⟨S_, .i32⟩
  | .hbm, ⟨21, _⟩ => ⟨S32768, .i32⟩
  | .hbm, ⟨22, _⟩ => ⟨S32768, .i32⟩
  | .hbm, ⟨23, _⟩ => ⟨S32768, .i32⟩
  | .hbm, ⟨24, _⟩ => ⟨S32768x1, .i32⟩
  | .hbm, ⟨25, _⟩ => ⟨S32768x1024, .bf16⟩
  | .hbm, ⟨26, _⟩ => ⟨S32768x1, .f32⟩
  | .hbm, ⟨27, _⟩ => ⟨S32768x128, .f32⟩
  | .hbm, ⟨28, _⟩ => ⟨S32768x1, .f32⟩
  | .hbm, ⟨29, _⟩ => ⟨S32768x128, .f32⟩
  | .hbm, ⟨30, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .f32⟩
  | .local _ .vmem, ⟨11, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineReferenceIdeal.lean ====
abbrev S32768x1024 : Shape := ⟨2, ![32768, 1024]⟩
abbrev S69632x1024 : Shape := ⟨2, ![69632, 1024]⟩
abbrev S32768x2 : Shape := ⟨2, ![32768, 2]⟩
abbrev S_ : Shape := ⟨0, ![]⟩
abbrev S32768x2x1 : Shape := ⟨3, ![32768, 2, 1]⟩
abbrev S32768x2x1024 : Shape := ⟨3, ![32768, 2, 1024]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S69632x1024, .bf16⟩
  | .hbm, ⟨2, _⟩ => ⟨S32768x2, .i32⟩
  | .hbm, ⟨3, _⟩ => ⟨S32768x2, .f32⟩
  | .hbm, ⟨4, _⟩ => ⟨S69632x1024, .f32⟩
  | .hbm, ⟨5, _⟩ => ⟨S_, .i32⟩
  | .hbm, ⟨6, _⟩ => ⟨S32768x2, .i32⟩
  | .hbm, ⟨7, _⟩ => ⟨S32768x2, .i1⟩
  | .hbm, ⟨8, _⟩ => ⟨S_, .i32⟩
  | .hbm, ⟨9, _⟩ => ⟨S32768x2, .i32⟩
  | .hbm, ⟨10, _⟩ => ⟨S32768x2, .i32⟩
  | .hbm, ⟨11, _⟩ => ⟨S32768x2, .i32⟩
  | .hbm, ⟨12, _⟩ => ⟨S32768x2x1, .i32⟩
  | .hbm, ⟨13, _⟩ => ⟨S32768x2x1024, .f32⟩
  | .hbm, ⟨14, _⟩ => ⟨S32768x2x1, .f32⟩
  | .hbm, ⟨15, _⟩ => ⟨S32768x2x1024, .f32⟩
  | .hbm, ⟨16, _⟩ => ⟨S32768x2x1024, .f32⟩
  | .hbm, ⟨17, _⟩ => ⟨S_, .f32⟩
  | .hbm, ⟨18, _⟩ => ⟨S32768x1024, .f32⟩
  | .hbm, ⟨19, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Router.lean ====
abbrev S32768x1024 : Shape := ⟨2, ![32768, 1024]⟩
abbrev S1024x1024 : Shape := ⟨2, ![1024, 1024]⟩
abbrev S1x1024 : Shape := ⟨2, ![1, 1024]⟩
abbrev S1024x8 : Shape := ⟨2, ![1024, 8]⟩
abbrev S_ : Shape := ⟨0, ![]⟩
abbrev S1024x128 : Shape := ⟨2, ![1024, 128]⟩
abbrev S1 : Shape := ⟨1, ![1]⟩
abbrev S8x32768 : Shape := ⟨2, ![8, 32768]⟩
abbrev S32768x128 : Shape := ⟨2, ![32768, 128]⟩
abbrev S512x1024 : Shape := ⟨2, ![512, 1024]⟩
abbrev S8x512 : Shape := ⟨2, ![8, 512]⟩
abbrev S512x128 : Shape := ⟨2, ![512, 128]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩
abbrev S128x512 : Shape := ⟨2, ![128, 512]⟩

abbrev nBuf : Space → Nat
  | .hbm => 16
  | .vmem => 17
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1x1024, .f32⟩
  | .hbm, ⟨4, _⟩ => ⟨S1024x8, .f32⟩
  | .hbm, ⟨5, _⟩ => ⟨S1024x1024, .bf16⟩
  | .hbm, ⟨6, _⟩ => ⟨S_, .f32⟩
  | .hbm, ⟨7, _⟩ => ⟨S1024x128, .f32⟩
  | .hbm, ⟨8, _⟩ => ⟨S_, .i32⟩
  | .hbm, ⟨9, _⟩ => ⟨S1, .i32⟩
  | .hbm, ⟨10, _⟩ => ⟨S1024x128, .f32⟩
  | .hbm, ⟨11, _⟩ => ⟨S32768x1024, .f32⟩
  | .hbm, ⟨12, _⟩ => ⟨S32768x1024, .bf16⟩
  | .hbm, ⟨13, _⟩ => ⟨S8x32768, .i32⟩
  | .hbm, ⟨14, _⟩ => ⟨S32768x128, .f32⟩
  | .hbm, ⟨15, _⟩ => ⟨S32768x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1024x128, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x512, .i32⟩
  | .local _ .vmem, ⟨12, _⟩ => ⟨S8x512, .i32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RouterReferenceIdeal.lean ====
abbrev S32768x1024 : Shape := ⟨2, ![32768, 1024]⟩
abbrev S1024x1024 : Shape := ⟨2, ![1024, 1024]⟩
abbrev S1x1024 : Shape := ⟨2, ![1, 1024]⟩
abbrev S1024x8 : Shape := ⟨2, ![1024, 8]⟩
abbrev S_ : Shape := ⟨0, ![]⟩
abbrev S32768 : Shape := ⟨1, ![32768]⟩
abbrev S32768x1 : Shape := ⟨2, ![32768, 1]⟩
abbrev S32768x8 : Shape := ⟨2, ![32768, 8]⟩
abbrev S32768x2 : Shape := ⟨2, ![32768, 2]⟩
abbrev S2x32768 : Shape := ⟨2, ![2, 32768]⟩
abbrev S8x32768 : Shape := ⟨2, ![8, 32768]⟩
abbrev S32768x128 : Shape := ⟨2, ![32768, 128]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S32768x1024, .f32⟩
  | .hbm, ⟨3, _⟩ => ⟨S1x1024, .f32⟩
  | .hbm, ⟨4, _⟩ => ⟨S1024x8, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x8, .f32⟩
  | .hbm, ⟨24, _⟩ => ⟨S32768x2, .f32⟩
  | .hbm, ⟨25, _⟩ => ⟨S32768x2, .i32⟩
  | .hbm, ⟨26, _⟩ => ⟨S_, .f32⟩
  | .hbm, ⟨27, _⟩ => ⟨S32768, .f32⟩
  | .hbm, ⟨28, _⟩ => ⟨S_, .f32⟩
  | .hbm, ⟨29, _⟩ => ⟨S32768, .f32⟩
  | .hbm, ⟨30, _⟩ => ⟨S32768, .f32⟩
  | .hbm, ⟨31, _⟩ => ⟨S32768x1, .f32⟩
  | .hbm, ⟨32, _⟩ => ⟨S32768x2, .f32⟩
  | .hbm, ⟨33, _⟩ => ⟨S32768x2, .f32⟩
  | .hbm, ⟨34, _⟩ => ⟨S32768x2, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S32768x2, .f32⟩
  | .hbm, ⟨39, _⟩ => ⟨S32768x2, .f32⟩
  | .hbm, ⟨40, _⟩ => ⟨S2x32768, .i32⟩
  | .hbm, ⟨41, _⟩ => ⟨S_, .i32⟩
  | .hbm, ⟨42, _⟩ => ⟨S_, .i32⟩
  | .hbm, ⟨43, _⟩ => ⟨S8x32768, .i32⟩
  | .hbm, ⟨44, _⟩ => ⟨S32768x1024, .bf16⟩
  | .hbm, ⟨45, _⟩ => ⟨S32768x1, .f32⟩
  | .hbm, ⟨46, _⟩ => ⟨S32768x128, .f32⟩
  | .hbm, ⟨47, _⟩ => ⟨S32768x1, .f32⟩
  | .hbm, ⟨48, _⟩ => ⟨S32768x128, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_values : Ref sig .tc := ⟨.hbm, 24, rfl⟩
abbrev main_indices : Ref sig .tc := ⟨.hbm, 25, rfl⟩
abbrev main_cst_2 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_call0_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Forget.lean ====
abbrev S32768x128 : Shape := ⟨2, ![32768, 128]⟩
abbrev S16x128 : Shape := ⟨2, ![16, 128]⟩
abbrev S16 : Shape := ⟨1, ![16]⟩
abbrev S_ : Shape := ⟨0, ![]⟩
abbrev S1x128 : Shape := ⟨2, ![1, 128]⟩
abbrev S1 : Shape := ⟨1, ![1]⟩
abbrev S2 : Shape := ⟨1, ![2]⟩
abbrev S16x2048x128 : Shape := ⟨3, ![16, 2048, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16x1 : Shape := ⟨2, ![16, 1]⟩
abbrev S1x16 : Shape := ⟨2, ![1, 16]⟩
abbrev S16x16 : Shape := ⟨2, ![16, 16]⟩
abbrev S1x2048x128 : Shape := ⟨3, ![1, 2048, 128]⟩
abbrev S1x256x128 : Shape := ⟨3, ![1, 256, 128]⟩
abbrev S256x128 : Shape := ⟨2, ![256, 128]⟩

abbrev nBuf : Space → Nat
  | .hbm => 30
  | .vmem => 9
  | .smem => 0
  | _ => 0

abbrev bufTy : (tb : Table) → Fin (tcTables nBuf tb) → BufTy
  | .hbm, ⟨0, _⟩ => ⟨S32768x128, .f32⟩
  | .hbm, ⟨1, _⟩ => ⟨S16x128, .f32⟩
  | .hbm, ⟨2, _⟩ => ⟨S16, .f32⟩
  | .hbm, ⟨3, _⟩ => ⟨S_, .f32⟩
  | .hbm, ⟨4, _⟩ => ⟨S1x128, .f32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S2, .i32⟩
  | .hbm, ⟨10, _⟩ => ⟨S1x128, .f32⟩
  | .hbm, ⟨11, _⟩ => ⟨S16x2048x128, .f32⟩
  | .hbm, ⟨12, _⟩ => ⟨S256, .i32⟩
  | .hbm, ⟨13, _⟩ => ⟨S256x1, .i32⟩
  | .hbm, ⟨14, _⟩ => ⟨S256, .i32⟩
  | .hbm, ⟨15, _⟩ => ⟨S1x256, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S256x256, .bf16⟩
  | .hbm, ⟨20, _⟩ => ⟨S16, .i32⟩
  | .hbm, ⟨21, _⟩ => ⟨S16x1, .i32⟩
  | .hbm, ⟨22, _⟩ => ⟨S16, .i32⟩
  | .hbm, ⟨23, _⟩ => ⟨S1x16, .i32⟩
  | .hbm, ⟨24, _⟩ => ⟨S16x16, .i32⟩
  | .hbm, ⟨25, _⟩ => ⟨S16x16, .i32⟩
  | .hbm, ⟨26, _⟩ => ⟨S16x16, .i1⟩
  | .hbm, ⟨27, _⟩ => ⟨S16x16, .bf16⟩
  | .hbm, ⟨28, _⟩ => ⟨S16x2048x128, .bf16⟩
  | .hbm, ⟨29, _⟩ => ⟨S16x128, .bf16⟩
  | .local _ .vmem, ⟨0, _⟩ => ⟨S1x2048x128, .f32⟩
  | .local _ .vmem, ⟨1, _⟩ => ⟨S1x2048x128, .f32⟩
  | .local _ .vmem, ⟨2, _⟩ => ⟨S16x128, .f32⟩
  | .local _ .vmem, ⟨3, _⟩ => ⟨S1x128, .f32⟩
  | .local _ .vmem, ⟨4, _⟩ => ⟨S256x256, .bf16⟩
  | .local _ .vmem, ⟨5, _⟩ => ⟨S16x16, .bf16⟩
  | .local _ .vmem, ⟨6, _⟩ => ⟨S1x2048x128, .bf16⟩
  | .local _ .vmem, ⟨7, _⟩ => ⟨S1x2048x128, .bf16⟩
  | .local _ .vmem, ⟨8, _⟩ => ⟨S16x128, .bf16⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22_0 : Ref sig .tc := ⟨.hbm, 28, rfl⟩
abbrev main_v22_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ForgetReferenceIdeal.lean ====
abbrev S32768x128 : Shape := ⟨2, ![32768, 128]⟩
abbrev S16x128 : Shape := ⟨2, ![16, 128]⟩
abbrev S16 : Shape := ⟨1, ![16]⟩
abbrev S16x16x128 : Shape := ⟨3, ![16, 16, 128]⟩
abbrev S16x2048x128 : Shape := ⟨3, ![16, 2048, 128]⟩
abbrev S16x2064x128 : Shape := ⟨3, ![16, 2064, 128]⟩
abbrev S16x2064x16 : Shape := ⟨3, ![16, 2064, 16]⟩
abbrev S1x1x16 : Shape := ⟨3, ![1, 1, 16]⟩
abbrev S_ : Shape := ⟨0, ![]⟩
abbrev S1x16x128 : Shape := ⟨3, ![1, 16, 128]⟩

abbrev nBuf : Space → Nat
  | .hbm => 36
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S16x128, .f32⟩
  | .hbm, ⟨2, _⟩ => ⟨S16, .f32⟩
  | .hbm, ⟨3, _⟩ => ⟨S16x16x128, .f32⟩
  | .hbm, ⟨4, _⟩ => ⟨S16x2048x128, .f32⟩
  | .hbm, ⟨5, _⟩ => ⟨S16x2064x128, .f32⟩
  | .hbm, ⟨6, _⟩ => ⟨S16x2064x16, .f32⟩
  | .hbm, ⟨7, _⟩ => ⟨S1x1x16, .f32⟩
  | .hbm, ⟨8, _⟩ => ⟨S16x2064x16, .f32⟩
  | .hbm, ⟨9, _⟩ => ⟨S16x2064x16, .f32⟩
  | .hbm, ⟨10, _⟩ => ⟨S16x2064x16, .f32⟩
  | .hbm, ⟨11, _⟩ => ⟨S_, .f32⟩
  | .hbm, ⟨12, _⟩ => ⟨S16x2064x16, .f32⟩
  | .hbm, ⟨13, _⟩ => ⟨S16x2064x16, .f32⟩
  | .hbm, ⟨14, _⟩ => ⟨S16x2064x16, .f32⟩
  | .hbm, ⟨15, _⟩ => ⟨S16x2064x16, .f32⟩
  | .hbm, ⟨16, _⟩ => ⟨S16x2064x16, .i1⟩
  | .hbm, ⟨17, _⟩ => ⟨S16x2064x16, .f32⟩
  | .hbm, ⟨18, _⟩ => ⟨S16x2064x16, .f32⟩
  | .hbm, ⟨19, _⟩ => ⟨S16x2064x16, .f32⟩
  | .hbm, ⟨20, _⟩ => ⟨S16x2064x16, .f32⟩
  | .hbm, ⟨21, _⟩ => ⟨S16x2064x16, .f32⟩
  | .hbm, ⟨22, _⟩ => ⟨S16x2064x16, .f32⟩
  | .hbm, ⟨23, _⟩ => ⟨S16x2064x16, .f32⟩
  | .hbm, ⟨24, _⟩ => ⟨S16x2064x16, .f32⟩
  | .hbm, ⟨25, _⟩ => ⟨S16x2064x16, .f32⟩
  | .hbm, ⟨26, _⟩ => ⟨S_, .f32⟩
  | .hbm, ⟨27, _⟩ => ⟨S_, .f32⟩
  | .hbm, ⟨28, _⟩ => ⟨S16x2064x16, .f32⟩
  | .hbm, ⟨29, _⟩ => ⟨S_, .i32⟩
  | .hbm, ⟨30, _⟩ => ⟨S_, .f32⟩
  | .hbm, ⟨31, _⟩ => ⟨S16x2064x128, .f32⟩
  | .hbm, ⟨32, _⟩ => ⟨S16x2064x128, .bf16⟩
  | .hbm, ⟨33, _⟩ => ⟨S16x2048x128, .bf16⟩
  | .hbm, ⟨34, _⟩ => ⟨S1x16x128, .bf16⟩
  | .hbm, ⟨35, _⟩ => ⟨S16x128, .bf16⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v7 : Ref sig .tc := ⟨.hbm, 25, rfl⟩
abbrev main_call1_cst : Ref sig .tc := ⟨.hbm, 26, rfl⟩
abbrev main_call1_v0 : Ref sig .tc := ⟨.hbm, 27, rfl⟩
abbrev main_v8 : Ref sig .tc := ⟨.hbm, 28, rfl⟩
abbrev main_c : Ref sig .tc := ⟨.hbm, 29, rfl⟩
abbrev main_call2_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩

abbrev nD : Nat := 1
abbrev τ : Topo := Topo.v7x

variable {F : FTy → Type} [FloatOps F]
-- ==== Proof.Norm.lean ====
/- A row's root-mean-square norm over the extended reals, and the kernels' vectors of it at an element. -/
module

public import Idealize.ShloMosaic.PureOps.Ideal
public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

noncomputable section

namespace Cert.Norm

open Idealize.ShloMosaic Idealize.ShloMosaic.ValueIdx

/-- What a row is scaled by: one over the root of its mean square and the epsilon. -/
def scale (x : Fin 1024 → EReal) : EReal :=
  Ideal.rsqrt (Ideal.div (∑ k, x k * x k) (Ideal.ofBits .f32 0x44800000#32) + Ideal.ofBits .f32 0x358637BD#32)

/-- A row's norm at one position. -/
def normed (x g : Fin 1024 → EReal) (d : Fin 1024) : EReal := x d * scale x * g d

/-- A kernel's scaled rows: the sum of squares over the mean's count, the epsilon added, its root's reciprocal broadcast back. -/
theorem scaled_apply (x : FVec Ideal ⟨2, ![512, 1024]⟩ .f32) (hr : (⟨2, ![512, 1024]⟩ : Shape).Reduces [1] ⟨1, ![512]⟩) (hf : FKind.Formats .f32)
    (hn : (0x00000000#32 : BitVec 32) = FKind.add.neutral .f32 hf)
    (hs : (⟨1, ![512]⟩ : Shape).ShapeCasts ⟨2, ![512, 1]⟩) (hb : (⟨2, ![512, 1]⟩ : Shape).Broadcasts ⟨2, ![512, 1024]⟩) (p : Fin 512) (q : Fin 1024) :
    mulf x (broadcastTo ⟨2, ![512, 1024]⟩ (rsqrt (addf (divf (shapeCast ⟨2, ![512, 1]⟩ (multiReduction .add [1] ⟨1, ![512]⟩ (mulf x x) 0x00000000#32 hr hf hn : FVec Ideal ⟨1, ![512]⟩ .f32) hs)
        (broadcast ⟨2, ![512, 1]⟩ (Scalar.ofBits .f32 0x44800000#32))) (broadcast ⟨2, ![512, 1]⟩ (Scalar.ofBits .f32 0x358637BD#32)))) hb) (ix2 p q)
      = x (ix2 p q) * scale (fun d => x (ix2 p d)) := by
  refine congrArg (x (ix2 p q) * ·) ?_
  refine (broadcastTo_apply _ hb (ix2 p q) (ix2 p (0 : Fin 1)) (fun a => by match a with | ⟨0, _⟩ => rfl | ⟨1, _⟩ => rfl)).trans ?_
  unfold scale
  refine congrArg (fun s => Ideal.rsqrt (Ideal.div s (Ideal.ofBits .f32 0x44800000#32) + Ideal.ofBits .f32 0x358637BD#32)) ?_
  refine (shapeCast_a_a1_apply _ hs p 0).trans ((Ideal.multiReduction_add_single _ _ hr hf hn (ix1 p)).trans ?_)
  refine Finset.sum_congr rfl fun k _ => ?_
  have e : hr.lift (ix1 p) k = ix2 p (k : Fin 1024) := funext fun a => Fin.ext (by match a with | ⟨0, _⟩ => rfl | ⟨1, _⟩ => rfl)
  rw [e]; rfl

/-- The gain's row broadcast over the rows. -/
theorem gain_apply (g : FVec Ideal ⟨2, ![1, 1024]⟩ .f32) (hb : (⟨2, ![1, 1024]⟩ : Shape).Broadcasts ⟨2, ![512, 1024]⟩) (p : Fin 512) (q : Fin 1024) :
    broadcastTo ⟨2, ![512, 1024]⟩ g hb (ix2 p q) = g (ix2 (0 : Fin 1) q) := broadcastTo_1b_ab_apply g hb p q

/-- A product accumulated into zero, at one element. -/
theorem mm_apply {M K N : ℕ} {φ₁ φ₂ : FTy} (x : FVec Ideal ⟨2, ![M, K]⟩ φ₁) (w : FVec Ideal ⟨2, ![K, N]⟩ φ₂) (hs : (⟨2, ![K, N]⟩ : Shape).ShapeCasts ⟨2, ![K, N]⟩) (p : Fin M) (q : Fin N) :
    FloatOps.matmul (DotDims.plain M K N) none x (shapeCast ⟨2, ![K, N]⟩ w hs) (constant ⟨2, ![M, N]⟩ .f32 0x00000000#32 : FVec Ideal ⟨2, ![M, N]⟩ .f32) (ix2 p q) = ∑ k : Fin K, x (ix2 p k) * w (ix2 k q) := by
  refine (Ideal.matmul_plain_apply none x _ _ p q).trans ?_
  rw [show (constant ⟨2, ![M, N]⟩ .f32 0x00000000#32 : FVec Ideal ⟨2, ![M, N]⟩ .f32) (ix2 p q) = 0 from Ideal.ofBits_zero_f32, zero_add, shapeCast_self]

end Cert.Norm

end
-- ==== Proof.KvqSpec.lean ====
/- A head's norm over the extended reals, and the group-mean product that computes it at an element. -/
module

public import proofs.«01_k».proof.Proof.Norm
public import Idealize.ShloMosaic.Lib.Routing.OpsPair
public import Idealize.ShloMosaic.Lib.Routing.OpsSet

@[expose] public section

noncomputable section

namespace Cert.Kvq

open Cert.Norm
open Idealize.ShloMosaic Idealize.ShloMosaic.ValueIdx

/-- A position of the head that column `j` lies in. -/
abbrev headCol (j : Fin 1024) (d : Fin 64) : Fin 1024 := ⟨64 * (j.val / 64) + d.val, by have := j.isLt; have := d.isLt; omega⟩
/-- A column's position in its head. -/
abbrev headPos (j : Fin 1024) : Fin 64 := ⟨j.val % 64, by omega⟩

/-- What a head is scaled by: one over the root of its mean square and the epsilon. -/
def headScale (s : EReal) : EReal :=
  Ideal.rsqrt (Ideal.div s (Ideal.ofBits .f32 0x42800000#32) + Ideal.ofBits .f32 0x358637BD#32)

/-- A row's heads normed one by one, at one column. -/
def hnorm (u : Fin 1024 → EReal) (g : Fin 64 → EReal) (j : Fin 1024) : EReal :=
  u j * headScale (∑ d : Fin 64, u (headCol j d) * u (headCol j d)) * g (headPos j)

theorem ofBits_64 : Ideal.ofBits .f32 0x42800000#32 = ((64 : ℝ) : EReal) := by
  simp [Ideal.ofBits, Ideal.ieee, -EReal.coe_mul]; norm_num

theorem mul_self_nn (a : EReal) : 0 ≤ a * a := by
  rcases le_total 0 a with h | h
  · exact mul_nonneg h h
  · have h' : 0 ≤ -a := EReal.neg_nonneg.mpr h
    rw [← neg_mul_neg a a]; exact mul_nonneg h' h'

theorem sum_mul_nonneg {ι : Type} (s : Finset ι) (f : ι → EReal) (hf : ∀ k, 0 ≤ f k) (c : EReal) : (∑ k ∈ s, f k) * c = ∑ k ∈ s, f k * c := by
  classical
  induction s using Finset.induction_on with
  | empty => simp
  | insert a s ha ih =>
    rw [Finset.sum_insert ha, Finset.sum_insert ha, EReal.right_distrib_of_nonneg (hf a) (Finset.sum_nonneg fun k _ => hf k), ih]

/-- A position of the group that lane `b` lies in. -/
abbrev grpCol (b : Fin 256) (d : Fin 64) : Fin 256 := ⟨64 * (b.val / 64) + d.val, by have := b.isLt; have := d.isLt; omega⟩

theorem div_64 (x : EReal) : Ideal.div x (Ideal.ofBits .f32 0x42800000#32) = x * ((1 / 64 : ℝ) : EReal) := by
  rw [ofBits_64]; exact Ideal.div_coe (by norm_num) x

/-- A row times the groups' means is the group's sum over its count. -/
theorem group_mean (f : Fin 256 → EReal) (hf : ∀ k, 0 ≤ f k) (G : Fin 256 → EReal) (b : Fin 256)
    (hG : ∀ k : Fin 256, G k = Ideal.div (if k.val / 64 = b.val / 64 then 1 else 0) (Ideal.ofBits .f32 0x42800000#32)) :
    ∑ k, f k * G k = Ideal.div (∑ d : Fin 64, f (grpCol b d)) (Ideal.ofBits .f32 0x42800000#32) := by
  rw [div_64, sum_mul_nonneg _ _ (fun d => hf _)]
  have hb := b.isLt
  have e : ∀ k : Fin 256, f k * G k = if k.val / 64 = b.val / 64 then f k * ((1 / 64 : ℝ) : EReal) else 0 := fun k => by
    rw [hG, div_64]
    split
    · rw [one_mul]
    · rw [zero_mul, mul_zero]
  rw [Finset.sum_congr rfl fun k _ => e k, ← Finset.sum_filter]
  refine (Finset.sum_nbij' (fun d : Fin 64 => grpCol b d) (fun k : Fin 256 => (⟨k.val % 64, by omega⟩ : Fin 64)) ?_ ?_ ?_ ?_ ?_).symm
  · intro d _
    have := d.isLt
    exact Finset.mem_filter.mpr ⟨Finset.mem_univ _, show (64 * (b.val / 64) + d.val) / 64 = b.val / 64 by omega⟩
  · intro k _; exact Finset.mem_univ _
  · intro d _
    have := d.isLt
    exact Fin.ext (show (64 * (b.val / 64) + d.val) % 64 = d.val by omega)
  · intro k hk
    have h : k.val / 64 = b.val / 64 := (Finset.mem_filter.mp hk).2
    exact Fin.ext (show 64 * (b.val / 64) + k.val % 64 = k.val by omega)
  · intro d _; rfl

/-- The groups' means as a matrix. -/
def IsMean (gm : FVec Ideal ⟨2, ![256, 256]⟩ .bf16) : Prop :=
  ∀ a b : Fin 256, gm (ix2 a b) = Ideal.div (if a.val / 64 = b.val / 64 then 1 else 0) (Ideal.ofBits .f32 0x42800000#32)

/-- A column of a chunk of eight heads: the head's positions in it. -/
abbrev chunkCol (q : Fin 512) (d : Fin 64) : Fin 512 := ⟨64 * (q.val / 64) + d.val, by have := q.isLt; have := d.isLt; omega⟩

/-- A chunk's heads normed: the two halves' squares times the groups' means, side by side. -/
theorem chunk_apply (acc : FVec Ideal ⟨2, ![512, 512]⟩ .f32) (gm₁ gm₂ : FVec Ideal ⟨2, ![256, 256]⟩ .bf16) (h₁ : IsMean gm₁) (h₂ : IsMean gm₂)
    (g : FVec Ideal ⟨2, ![1, 512]⟩ .f32) (hlt : FTy.bits .bf16 < FTy.bits .f32)
    (s₁ : (⟨2, ![512, 512]⟩ : Shape).Slices ![0, 0] ⟨2, ![512, 256]⟩) (s₂ : (⟨2, ![512, 512]⟩ : Shape).Slices ![0, 256] ⟨2, ![512, 256]⟩)
    (hc : (⟨2, ![256, 256]⟩ : Shape).ShapeCasts ⟨2, ![256, 256]⟩) (hg : (⟨2, ![1, 512]⟩ : Shape).ShapeCasts ⟨2, ![1, 512]⟩)
    (hcat : Shape.Concatenates [⟨2, ![512, 256]⟩, ⟨2, ![512, 256]⟩] ⟨2, ![512, 512]⟩ 1) (hb : (⟨2, ![1, 512]⟩ : Shape).Broadcasts ⟨2, ![512, 512]⟩) (p q : Fin 512) :
    mulf (mulf acc (rsqrt (addf (concatenate ⟨2, ![512, 512]⟩ 1
        [⟨⟨2, ![512, 256]⟩, FloatOps.matmul (DotDims.plain 512 256 256) none (extractStridedSlice ⟨2, ![512, 256]⟩ ![0, 0] (truncf .bf16 (mulf acc acc) hlt) s₁) (shapeCast ⟨2, ![256, 256]⟩ gm₁ hc) (constant ⟨2, ![512, 256]⟩ .f32 0x00000000#32 : FVec Ideal ⟨2, ![512, 256]⟩ .f32)⟩,
         ⟨⟨2, ![512, 256]⟩, FloatOps.matmul (DotDims.plain 512 256 256) none (extractStridedSlice ⟨2, ![512, 256]⟩ ![0, 256] (truncf .bf16 (mulf acc acc) hlt) s₂) (shapeCast ⟨2, ![256, 256]⟩ gm₂ hc) (constant ⟨2, ![512, 256]⟩ .f32 0x00000000#32 : FVec Ideal ⟨2, ![512, 256]⟩ .f32)⟩] hcat)
        (broadcast ⟨2, ![512, 512]⟩ (Scalar.ofBits .f32 0x358637BD#32)))))
      (broadcastTo ⟨2, ![512, 512]⟩ (shapeCast ⟨2, ![1, 512]⟩ g hg) hb) (ix2 p q)
    = acc (ix2 p q) * headScale (∑ d : Fin 64, acc (ix2 p (chunkCol q d)) * acc (ix2 p (chunkCol q d))) * g (ix2 (0 : Fin 1) q) := by
  refine congr (congrArg HMul.hMul (congrArg (acc (ix2 p q) * ·) ?_)) ?_
  · unfold headScale
    refine congrArg (fun s => Ideal.rsqrt (s + Ideal.ofBits .f32 0x358637BD#32)) ?_
    by_cases hq : q.val < 256
    · refine (concatenate_pair_apply_left 1 _ _ hcat (ix2 p q) rfl (ix2 p (⟨q.val, hq⟩ : Fin 256)) (fun b => by match b with | ⟨0, _⟩ => rfl | ⟨1, _⟩ => rfl)).trans ?_
      rw [mm_apply]
      refine (group_mean (fun k => _) (fun k => ?_) (fun k => gm₁ (ix2 k _)) ⟨q.val, hq⟩ (fun k => h₁ k _)).trans ?_
      · rw [extractStridedSlice_apply _ _ s₁ (ix2 p k) (ix2 p (⟨k.val, by have := k.isLt; omega⟩ : Fin 512)) (fun z => by
          match z with
          | ⟨0, _⟩ => exact (Nat.zero_add _).symm
          | ⟨1, _⟩ => exact (Nat.zero_add _).symm)]
        exact mul_self_nn _
      · refine congrArg (fun s => Ideal.div s _) (Finset.sum_congr rfl fun d _ => ?_)
        refine (extractStridedSlice_apply _ _ s₁ (ix2 p _) (ix2 p (chunkCol q d)) (fun z => by
          match z with
          | ⟨0, _⟩ => exact (Nat.zero_add _).symm
          | ⟨1, _⟩ => exact (Nat.zero_add _).symm)).trans rfl
    · have hq' := q.isLt
      refine (concatenate_pair_apply_right 1 _ _ hcat (ix2 p q) rfl rfl (ix2 p (⟨q.val - 256, by omega⟩ : Fin 256)) (fun b hb => by
        match b with
        | ⟨0, _⟩ => rfl
        | ⟨1, _⟩ => exact absurd rfl hb) (show q.val - 256 + 256 = q.val by omega)).trans ?_
      rw [mm_apply]
      refine (group_mean (fun k => _) (fun k => ?_) (fun k => gm₂ (ix2 k _)) ⟨q.val - 256, by omega⟩ (fun k => h₂ k _)).trans ?_
      · rw [extractStridedSlice_apply _ _ s₂ (ix2 p k) (ix2 p (⟨256 + k.val, by have := k.isLt; omega⟩ : Fin 512)) (fun z => by
          match z with
          | ⟨0, _⟩ => exact (Nat.zero_add _).symm
          | ⟨1, _⟩ => rfl)]
        exact mul_self_nn _
      · refine congrArg (fun s => Ideal.div s _) (Finset.sum_congr rfl fun d _ => ?_)
        have hd := d.isLt
        refine (extractStridedSlice_apply _ _ s₂ (ix2 p _) (ix2 p (chunkCol q d)) (fun z => by
          match z with
          | ⟨0, _⟩ => exact (Nat.zero_add _).symm
          | ⟨1, _⟩ => show 64 * (q.val / 64) + d.val = 256 + (64 * ((q.val - 256) / 64) + d.val); omega)).trans rfl
  · rw [shapeCast_self]
    exact broadcastTo_1b_ab_apply g hb p q

end Cert.Kvq

end
-- ==== Proof.KvqHost.lean ====
/- What the host leaves for the key, value, forget and query projections' call: the weights' columns, the gains, and the
   groups' means. -/
module

public import proofs.«01_k».proof.Proof.Gen.KvqIdeal.Frame
public import proofs.«01_k».proof.Proof.KvqSpec

@[expose] public section

set_option maxRecDepth 16384

noncomputable section

namespace Cert.KvqIdeal.Value

open Cert.KvqIdeal Cert.KvqIdeal.Gen Cert.Norm Cert.Kvq
open Idealize.ShloMosaic Idealize.ShloMosaic.ValueIdx
open Idealize.ShloMosaic.TcCoe
open Idealize.SL Idealize.SL.RA Idealize.SL.Sem

section
variable (m : (ℓ : Loc nD τ sig) → Buf (Elt Ideal) ℓ) (c : Dev nD)

abbrev aX : S32768x1024.Idx → EReal := m ((c.tc : Thread nD τ).loc main_arg0)
abbrev aN : S1024.Idx → EReal := m ((c.tc : Thread nD τ).loc main_arg1)
abbrev aW : S1024x2064.Idx → EReal := m ((c.tc : Thread nD τ).loc main_arg2)
abbrev aK : S64.Idx → EReal := m ((c.tc : Thread nD τ).loc main_arg3)
abbrev aNq : S1024.Idx → EReal := m ((c.tc : Thread nD τ).loc main_arg4)
abbrev aWq : S1024x1024.Idx → EReal := m ((c.tc : Thread nD τ).loc main_arg5)
abbrev aQ : S64.Idx → EReal := m ((c.tc : Thread nD τ).loc main_arg6)

/-- The lanes' groups of 64, as the host's floor division leaves them. -/
def grp : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32))) (broadcastInDim S256 ![] bcast_S_S256 (constantI S_ 32 0#32))))
    (subi (Host.divsi (iotaInDim S256 32 0) (broadcastInDim S256 ![] bcast_S_S256 (constantI S_ 32 64#32))) (broadcastInDim S256 ![] bcast_S_S256 (constantI S_ 32 1#32)))
    (Host.divsi (iotaInDim S256 32 0) (broadcastInDim S256 ![] bcast_S_S256 (constantI S_ 32 64#32)))

/-- The groups' means as the host leaves them. -/
def means : FVec Ideal S256x256 .bf16 :=
  truncf .bf16 (Host.divf (uitofp .f32 (cmpi .eq (broadcastInDim S256x256 ![0, 1] bcast_S256x1_S256x256_0_1 (broadcastInDim S256x1 ![0] bcast_S256_S256x1_0 grp))
      (broadcastInDim S256x256 ![0, 1] bcast_S1x256_S256x256_0_1 (broadcastInDim S1x256 ![1] bcast_S256_S1x256_1 grp))) : FVec Ideal S256x256 .f32)
    (broadcastInDim S256x256 ![] bcast_S_S256x256 (constant S_ .f32 0x42800000#32 : FVec Ideal S_ .f32))) bitsLt_bf16_f32

theorem V_v29 : V m c main_v29 = (means : FVec Ideal S256x256 .bf16) := by
  unfold V hostOps0 hostOps0_1 hostOps0_2 hostOps0_3 hostOps0_4 hostOps0_5 hostOps0_6
  simp only [List.flatten_cons, List.flatten_nil, List.append_nil, List.cons_append, List.nil_append]
  simp only [StableHlo.TRef.unary, StableHlo.TRef.binary, StableHlo.TRef.nullary, StableHlo.TRef.ternary, StableHlo.TRef.toBuf, StableHlo.TRef.ofBuf, cast_eq]
  after_results
  rfl

theorem V_v52 : V m c main_v52 = (means : FVec Ideal S256x256 .bf16) := by
  unfold V hostOps0 hostOps0_1 hostOps0_2 hostOps0_3 hostOps0_4 hostOps0_5 hostOps0_6
  simp only [List.flatten_cons, List.flatten_nil, List.append_nil, List.cons_append, List.nil_append]
  simp only [StableHlo.TRef.unary, StableHlo.TRef.binary, StableHlo.TRef.nullary, StableHlo.TRef.ternary, StableHlo.TRef.toBuf, StableHlo.TRef.ofBuf, cast_eq]
  after_results
  rfl

theorem V_v1 : V m c main_v1 = (truncf .bf16 (extractStridedSlice S1024x2048 ![0, 0] (aW m c : FVec Ideal S1024x2064 .f32) slices_S1024x2064_S1024x2048_0_0) bitsLt_bf16_f32 : FVec Ideal S1024x2048 .bf16) := by
  unfold V hostOps0 hostOps0_1 hostOps0_2 hostOps0_3 hostOps0_4 hostOps0_5 hostOps0_6
  simp only [List.flatten_cons, List.flatten_nil, List.append_nil, List.cons_append, List.nil_append]
  simp only [StableHlo.TRef.unary, StableHlo.TRef.binary, StableHlo.TRef.nullary, StableHlo.TRef.ternary, StableHlo.TRef.toBuf, StableHlo.TRef.ofBuf, cast_eq]
  after_results

theorem V_v14 : V m c main_v14 = (truncf .bf16 (aWq m c : FVec Ideal S1024x1024 .f32) bitsLt_bf16_f32 : FVec Ideal S1024x1024 .bf16) := by
  unfold V hostOps0 hostOps0_1 hostOps0_2 hostOps0_3 hostOps0_4 hostOps0_5 hostOps0_6
  simp only [List.flatten_cons, List.flatten_nil, List.append_nil, List.cons_append, List.nil_append]
  simp only [StableHlo.TRef.unary, StableHlo.TRef.binary, StableHlo.TRef.nullary, StableHlo.TRef.ternary, StableHlo.TRef.toBuf, StableHlo.TRef.ofBuf, cast_eq]
  after_results

theorem V_v6 : V m c main_v6 = (truncf .bf16 (Host.scatter scatter_S1024x128_S1_S1024x16_01_n_1_0 (fun _ b => b) (broadcastInDim S1024x128 ![] bcast_S_S1024x128 (constant S_ .f32 0x00000000#32 : FVec Ideal S_ .f32)) (broadcastInDim S1 ![] bcast_S_S1 (constantI S_ 32 0#32)) (extractStridedSlice S1024x16 ![0, 2048] (aW m c : FVec Ideal S1024x2064 .f32) slices_S1024x2064_S1024x16_0_2048)) bitsLt_bf16_f32 : FVec Ideal S1024x128 .bf16) := by
  unfold V hostOps0 hostOps0_1 hostOps0_2 hostOps0_3 hostOps0_4 hostOps0_5 hostOps0_6
  simp only [List.flatten_cons, List.flatten_nil, List.append_nil, List.cons_append, List.nil_append]
  simp only [StableHlo.TRef.unary, StableHlo.TRef.binary, StableHlo.TRef.nullary, StableHlo.TRef.ternary, StableHlo.TRef.toBuf, StableHlo.TRef.ofBuf, cast_eq]
  after_results

theorem V_v11 : V m c main_v11 = (shapeCast S1x1024 (aN m c : FVec Ideal S1024 .f32) shapeCasts_S1024_S1x1024 : FVec Ideal S1x1024 .f32) := by
  unfold V hostOps0 hostOps0_1 hostOps0_2 hostOps0_3 hostOps0_4 hostOps0_5 hostOps0_6
  simp only [List.flatten_cons, List.flatten_nil, List.append_nil, List.cons_append, List.nil_append]
  simp only [StableHlo.TRef.unary, StableHlo.TRef.binary, StableHlo.TRef.nullary, StableHlo.TRef.ternary, StableHlo.TRef.toBuf, StableHlo.TRef.ofBuf, cast_eq]
  after_results
  rfl

theorem V_v12 : V m c main_v12 = (shapeCast S1x1024 (aN m c : FVec Ideal S1024 .f32) shapeCasts_S1024_S1x1024 : FVec Ideal S1x1024 .f32) := by
  unfold V hostOps0 hostOps0_1 hostOps0_2 hostOps0_3 hostOps0_4 hostOps0_5 hostOps0_6
  simp only [List.flatten_cons, List.flatten_nil, List.append_nil, List.cons_append, List.nil_append]
  simp only [StableHlo.TRef.unary, StableHlo.TRef.binary, StableHlo.TRef.nullary, StableHlo.TRef.ternary, StableHlo.TRef.toBuf, StableHlo.TRef.ofBuf, cast_eq]
  after_results
  rfl

theorem V_v13 : V m c main_v13 = (shapeCast S1x1024 (aNq m c : FVec Ideal S1024 .f32) shapeCasts_S1024_S1x1024 : FVec Ideal S1x1024 .f32) := by
  unfold V hostOps0 hostOps0_1 hostOps0_2 hostOps0_3 hostOps0_4 hostOps0_5 hostOps0_6
  simp only [List.flatten_cons, List.flatten_nil, List.append_nil, List.cons_append, List.nil_append]
  simp only [StableHlo.TRef.unary, StableHlo.TRef.binary, StableHlo.TRef.nullary, StableHlo.TRef.ternary, StableHlo.TRef.toBuf, StableHlo.TRef.ofBuf, cast_eq]
  after_results
  rfl

theorem V_v10 : V m c main_v10 = (shapeCast S1x1024 (shapeCast S1024 (broadcastInDim S16x64 ![0, 1] bcast_S1x64_S16x64_0_1 (shapeCast S1x64 (aK m c : FVec Ideal S64 .f32) shapeCasts_S64_S1x64)) shapeCasts_S16x64_S1024) shapeCasts_S1024_S1x1024 : FVec Ideal S1x1024 .f32) := by
  unfold V hostOps0 hostOps0_1 hostOps0_2 hostOps0_3 hostOps0_4 hostOps0_5 hostOps0_6
  simp only [List.flatten_cons, List.flatten_nil, List.append_nil, List.cons_append, List.nil_append]
  simp only [StableHlo.TRef.unary, StableHlo.TRef.binary, StableHlo.TRef.nullary, StableHlo.TRef.ternary, StableHlo.TRef.toBuf, StableHlo.TRef.ofBuf, cast_eq]
  after_results
  rfl

theorem V_v18 : V m c main_v18 = (shapeCast S1x1024 (shapeCast S1024 (broadcastInDim S16x64 ![0, 1] bcast_S1x64_S16x64_0_1 (shapeCast S1x64 (aQ m c : FVec Ideal S64 .f32) shapeCasts_S64_S1x64)) shapeCasts_S16x64_S1024) shapeCasts_S1024_S1x1024 : FVec Ideal S1x1024 .f32) := by
  unfold V hostOps0 hostOps0_1 hostOps0_2 hostOps0_3 hostOps0_4 hostOps0_5 hostOps0_6
  simp only [List.flatten_cons, List.flatten_nil, List.append_nil, List.cons_append, List.nil_append]
  simp only [StableHlo.TRef.unary, StableHlo.TRef.binary, StableHlo.TRef.nullary, StableHlo.TRef.ternary, StableHlo.TRef.toBuf, StableHlo.TRef.ofBuf, cast_eq]
  after_results
  rfl

/-- A row taken from a vector. -/
theorem row_apply (x : FVec Ideal S1024 .f32) (q : Fin 1024) : shapeCast S1x1024 x shapeCasts_S1024_S1x1024 (ix2 (0 : Fin 1) q) = x (ix1 q) := by
  refine shapeCast_apply x shapeCasts_S1024_S1x1024 _ (ix1 q) ?_
  rewrite [Shape.rowMajor_val_one, Shape.rowMajor_val_two]
  show q.val = 0 * 1024 + q.val
  omega

/-- A head's gain repeated for every head. -/
theorem tile_apply (x : FVec Ideal S64 .f32) (q : Fin 1024) :
    shapeCast S1x1024 (shapeCast S1024 (broadcastInDim S16x64 ![0, 1] bcast_S1x64_S16x64_0_1 (shapeCast S1x64 x shapeCasts_S64_S1x64)) shapeCasts_S16x64_S1024) shapeCasts_S1024_S1x1024 (ix2 (0 : Fin 1) q)
      = x (ix1 (headPos q)) := by
  have hq := q.isLt
  refine (row_apply _ q).trans ?_
  refine (shapeCast_apply _ shapeCasts_S16x64_S1024 (ix1 q) (ix2 (⟨q.val / 64, by omega⟩ : Fin 16) (headPos q)) ?_).trans ?_
  · rewrite [Shape.rowMajor_val_one, Shape.rowMajor_val_two]
    show q.val / 64 * 64 + q.val % 64 = q.val
    omega
  refine (broadcastInDim_apply _ bcast_S1x64_S16x64_0_1 _ _ (ix2 (0 : Fin 1) (headPos q)) (fun a => by match a with | ⟨0, _⟩ => rfl | ⟨1, _⟩ => rfl)).trans ?_
  refine shapeCast_apply x shapeCasts_S64_S1x64 _ (ix1 (headPos q)) ?_
  rewrite [Shape.rowMajor_val_one, Shape.rowMajor_val_two]
  show q.val % 64 = 0 * 64 + q.val % 64
  omega

theorem grp_apply : ∀ a : Fin 256, grp (ix1 a) = BitVec.ofNat 32 (a.val / 64) := by decide +kernel

theorem means_isMean : IsMean (means : FVec Ideal S256x256 .bf16) := by
  intro a b
  refine congr (congrArg Ideal.div ?_) (broadcastInDim_apply _ bcast_S_S256x256 _ (ix2 a b) (fun a => a.elim0) (fun a => a.elim0))
  have ha : broadcastInDim S256x256 ![0, 1] bcast_S256x1_S256x256_0_1 (broadcastInDim S256x1 ![0] bcast_S256_S256x1_0 grp) (ix2 a b) = BitVec.ofNat 32 (a.val / 64) := by
    refine (broadcastInDim_apply _ bcast_S256x1_S256x256_0_1 _ (ix2 a b) (ix2 a (0 : Fin 1)) (fun z => by match z with | ⟨0, _⟩ => rfl | ⟨1, _⟩ => rfl)).trans ?_
    exact (broadcastInDim_apply _ bcast_S256_S256x1_0 grp _ (ix1 a) (fun z => by match z with | ⟨0, _⟩ => rfl)).trans (grp_apply a)
  have hb : broadcastInDim S256x256 ![0, 1] bcast_S1x256_S256x256_0_1 (broadcastInDim S1x256 ![1] bcast_S256_S1x256_1 grp) (ix2 a b) = BitVec.ofNat 32 (b.val / 64) := by
    refine (broadcastInDim_apply _ bcast_S1x256_S256x256_0_1 _ (ix2 a b) (ix2 (0 : Fin 1) b) (fun z => by match z with | ⟨0, _⟩ => rfl | ⟨1, _⟩ => rfl)).trans ?_
    exact (broadcastInDim_apply _ bcast_S256_S1x256_1 grp _ (ix1 b) (fun z => by match z with | ⟨0, _⟩ => rfl)).trans (grp_apply b)
  have hw : ∀ a b : Fin 4, (IntOp.cmpi .eq (BitVec.ofNat 32 a.val) (BitVec.ofNat 32 b.val)) = if a.val = b.val then 1#1 else 0#1 := by decide +kernel
  have key : ∀ (u v : BitVec 32), u = BitVec.ofNat 32 (a.val / 64) → v = BitVec.ofNat 32 (b.val / 64) →
      (((IntOp.cmpi .eq u v).toNat : ℝ) : EReal) = if a.val / 64 = b.val / 64 then 1 else 0 := by
    rintro u v rfl rfl
    have ha := a.isLt
    have hb := b.isLt
    have := hw ⟨a.val / 64, by omega⟩ ⟨b.val / 64, by omega⟩
    rw [show IntOp.cmpi .eq (BitVec.ofNat 32 (a.val / 64)) (BitVec.ofNat 32 (b.val / 64)) = _ from this]
    by_cases h : a.val / 64 = b.val / 64
    · simp [h]
    · simp [h]
  exact key _ _ ha hb

theorem scatter_lands (p : Fin 1024) (q : Fin 16) (r : Fin 1024) (s : Fin 128) :
    scatter_S1024x128_S1_S1024x16_01_n_1_0.resultIdx? (ix2 p q) (broadcastInDim S1 ![] bcast_S_S1 (constantI S_ 32 0#32)) = some (ix2 r s) ↔ p.val = r.val ∧ q.val = s.val := by
  refine (Routing.resultIdx?_ix2 scatter_S1024x128_S1_S1024x16_01_n_1_0 (ix2 p q) (broadcastInDim S1 ![] bcast_S_S1 (constantI S_ 32 0#32)) r s).trans ?_
  have w0 : scatter_S1024x128_S1_S1024x16_01_n_1_0.window (ix2 p q) 0 = p.val := rfl
  have w1 : scatter_S1024x128_S1_S1024x16_01_n_1_0.window (ix2 p q) 1 = q.val := rfl
  have s0 : scatter_S1024x128_S1_S1024x16_01_n_1_0.start (ix2 p q) (broadcastInDim S1 ![] bcast_S_S1 (constantI S_ 32 0#32)) 0 = 0 := rfl
  have s1 : scatter_S1024x128_S1_S1024x16_01_n_1_0.start (ix2 p q) (broadcastInDim S1 ![] bcast_S_S1 (constantI S_ 32 0#32)) 1 = 0 := rfl
  rw [w0, w1, s0, s1]
  omega

theorem scatter_hit (x : FVec Ideal S1024x128 .f32) (u : FVec Ideal S1024x16 .f32) (k : Fin 1024) (q : Fin 128) (h : q.val < 16) :
    Host.scatter scatter_S1024x128_S1_S1024x16_01_n_1_0 (fun _ b => b) x (broadcastInDim S1 ![] bcast_S_S1 (constantI S_ 32 0#32)) u (ix2 k q) = u (ix2 k (⟨q.val, h⟩ : Fin 16)) := by
  refine Routing.scatter_set_hit scatter_S1024x128_S1_S1024x16_01_n_1_0 x _ u (ix2 k q) _ (fun j hj => ?_) (ix2 k (⟨q.val, h⟩ : Fin 16)) ((scatter_lands _ _ _ _).mpr ⟨rfl, rfl⟩)
  obtain ⟨p, s, rfl⟩ : ∃ (p : Fin 1024) (s : Fin 16), j = ix2 p s := ⟨_, _, eq_ix2 j⟩
  obtain ⟨e0, e1⟩ := (scatter_lands _ _ _ _).mp hj
  obtain rfl : p = k := Fin.ext e0
  obtain rfl : s = ⟨q.val, h⟩ := Fin.ext e1
  rfl

theorem scatter_miss (x : FVec Ideal S1024x128 .f32) (u : FVec Ideal S1024x16 .f32) (k : Fin 1024) (q : Fin 128) (h : ¬ q.val < 16) :
    Host.scatter scatter_S1024x128_S1_S1024x16_01_n_1_0 (fun _ b => b) x (broadcastInDim S1 ![] bcast_S_S1 (constantI S_ 32 0#32)) u (ix2 k q) = x (ix2 k q) := by
  refine Routing.scatter_set_miss scatter_S1024x128_S1_S1024x16_01_n_1_0 x _ u (ix2 k q) (fun j hj => ?_)
  obtain ⟨p, s, rfl⟩ : ∃ (p : Fin 1024) (s : Fin 16), j = ix2 p s := ⟨_, _, eq_ix2 j⟩
  obtain ⟨e0, e1⟩ := (scatter_lands _ _ _ _).mp hj
  have := s.isLt
  omega

theorem narrow_apply {s : Shape} (y : FVec Ideal s .f32) (i : s.Idx) : truncf .bf16 y bitsLt_bf16_f32 i = y i := rfl

/-- The forget gate's weights, zero past the heads. -/
theorem wf_apply (k : Fin 1024) (q : Fin 128) :
    V m c main_v6 (ix2 k q) = if h : q.val < 16 then aW m c (ix2 k (⟨2048 + q.val, by omega⟩ : Fin 2064)) else 0 := by
  rw [V_v6, narrow_apply]
  by_cases h : q.val < 16
  · rw [dif_pos h, scatter_hit _ _ k q h]
    refine extractStridedSlice_apply _ _ slices_S1024x2064_S1024x16_0_2048 _ _ (fun z => ?_)
    match z with
    | ⟨0, _⟩ => show k.val = 0 + k.val; omega
    | ⟨1, _⟩ => rfl
  · rw [dif_neg h, scatter_miss _ _ k q h]
    exact (broadcastInDim_apply _ bcast_S_S1024x128 _ (ix2 k q) (fun a => a.elim0) (fun a => a.elim0)).trans Ideal.ofBits_zero_f32

theorem wkv_apply (k : Fin 1024) (q : Fin 2048) : V m c main_v1 (ix2 k q) = aW m c (ix2 k (⟨q.val, by omega⟩ : Fin 2064)) := by
  rw [V_v1]
  refine extractStridedSlice_apply _ _ slices_S1024x2064_S1024x2048_0_0 _ _ (fun z => ?_)
  match z with
  | ⟨0, _⟩ => show k.val = 0 + k.val; omega
  | ⟨1, _⟩ => show q.val = 0 + q.val; omega

end
end Cert.KvqIdeal.Value
end
-- ==== Proof.Kvq.lean ====
/- The key, value, forget and query projections over the extended reals: a row's norm times a column of the weights, the
   keys' and queries' heads normed. Kernel and reference compute them at every element. -/
module

public import proofs.«01_k».proof.Proof.KvqHost

@[expose] public section

set_option maxRecDepth 16384

noncomputable section

namespace Cert.KvqIdeal.Value

open Cert.KvqIdeal Cert.KvqIdeal.Gen Cert.Norm Cert.Kvq
open Idealize.ShloMosaic Idealize.ShloMosaic.ValueIdx
open Idealize.ShloMosaic.TcCoe
open Idealize.ShloMosaic.Pipeline (Dat Cfg Window)
open Idealize.SL Idealize.SL.RA Idealize.SL.Sem

/-- One element of a projection: the row's norm times the column. -/
def proj {N : ℕ} (x : S32768x1024.Idx → EReal) (g : S1024.Idx → EReal) (w : (⟨2, ![1024, N]⟩ : Shape).Idx → EReal) (r : Fin 32768) (j : Fin N) : EReal :=
  ∑ k : Fin 1024, normed (fun d => x (ix2 r d)) (fun d => g (ix1 d)) k * w (ix2 k j)

/-- The keys normed head by head, then the values. -/
def kvSpec (x : S32768x1024.Idx → EReal) (g : S1024.Idx → EReal) (w : S1024x2064.Idx → EReal) (h : S64.Idx → EReal) (i : S32768x2048.Idx) : EReal :=
  if hk : (i 1).val < 1024 then hnorm (fun j => proj x g w (i 0) ⟨j.val, by omega⟩) (fun d => h (ix1 d)) ⟨(i 1).val, hk⟩
  else proj x g w (i 0) ⟨(i 1).val, lt_trans (show (i 1).val < 2048 from (i 1).isLt) (by decide)⟩

/-- The forget gates' logits, zero past the heads. -/
def fSpec (x : S32768x1024.Idx → EReal) (g : S1024.Idx → EReal) (w : S1024x2064.Idx → EReal) (i : S32768x128.Idx) : EReal :=
  if h : (i 1).val < 16 then proj x g w (i 0) ⟨2048 + (i 1).val, by omega⟩ else 0

/-- The queries normed head by head. -/
def qSpec (x : S32768x1024.Idx → EReal) (g : S1024.Idx → EReal) (w : S1024x1024.Idx → EReal) (h : S64.Idx → EReal) (i : S32768x1024.Idx) : EReal :=
  hnorm (fun j => proj x g w (i 0) j) (fun d => h (ix1 d)) (i 1)

/-- A chunk's heads normed, at one column. -/
def chunk (A : Fin 512 → EReal) (g : S1x512.Idx → EReal) (q : Fin 512) : EReal :=
  A q * headScale (∑ d : Fin 64, A (chunkCol q d) * A (chunkCol q d)) * g (ix2 (0 : Fin 1) q)

theorem chunk_congr (acc : FVec Ideal S512x512 .f32) (p : Fin 512) (A : Fin 512 → EReal) (h : ∀ j, acc (ix2 p j) = A j) (g : S1x512.Idx → EReal) (q : Fin 512) :
    acc (ix2 p q) * headScale (∑ d : Fin 64, acc (ix2 p (chunkCol q d)) * acc (ix2 p (chunkCol q d))) * g (ix2 (0 : Fin 1) q) = chunk A g q := by
  unfold chunk
  rw [h, Finset.sum_congr rfl fun d _ => by rw [h]]

theorem gained_apply (y : FVec Ideal S512x1024 .f32) (g : FVec Ideal S1x1024 .f32) (p : Fin 512) (q : Fin 1024) :
    truncf .bf16 (mulf y (broadcastTo S512x1024 (shapeCast S1x1024 g shapeCasts_S1x1024_S1x1024) broadcasts_S1x1024_S512x1024)) bitsLt_bf16_f32 (ix2 p q) = y (ix2 p q) * g (ix2 (0 : Fin 1) q) := by
  rw [shapeCast_self]
  exact congrArg (y (ix2 p q) * ·) (gain_apply g _ p q)

theorem pay3_apply (x : FVec Ideal S512x1024 .f32) (p : Fin 512) (q : Fin 1024) :
    k0_pay3 (F := Ideal) x (ix2 p q) = x (ix2 p q) * scale (fun d => x (ix2 p d)) := by
  unfold k0_pay3
  exact scaled_apply x _ _ _ _ _ p q

theorem pay4_apply (x : FVec Ideal S512x1024 .f32) (g : FVec Ideal S1x1024 .f32) (p : Fin 512) (q : Fin 1024) :
    k0_pay4 (F := Ideal) x g (ix2 p q) = normed (fun d => x (ix2 p d)) (fun d => g (ix2 (0 : Fin 1) d)) q := by
  unfold k0_pay4 normed
  exact (gained_apply _ g p q).trans (congrArg (· * g (ix2 (0 : Fin 1) q)) (pay3_apply x p q))

theorem pay10_apply (x : FVec Ideal S512x1024 .f32) (g : FVec Ideal S1x1024 .f32) (p : Fin 512) (q : Fin 1024) :
    k0_pay10 (F := Ideal) (k0_pay3 x) g (ix2 p q) = normed (fun d => x (ix2 p d)) (fun d => g (ix2 (0 : Fin 1) d)) q := by
  unfold k0_pay10 normed
  exact (gained_apply _ g p q).trans (congrArg (· * g (ix2 (0 : Fin 1) q)) (pay3_apply x p q))

/-- The first chunk as the other chunks state theirs. -/
theorem pay5_chunk (x : FVec Ideal S512x1024 .f32) (g : FVec Ideal S1x1024 .f32) (w : FVec Ideal S1024x512 .bf16) (gm : FVec Ideal S256x256 .bf16) (h : IsMean gm) (g' : FVec Ideal S1x512 .f32) (p q : Fin 512) :
    k0_pay5 (F := Ideal) x g w gm gm g' (ix2 p q) = chunk (fun j => ∑ k : Fin 1024, k0_pay4 (F := Ideal) x g (ix2 p k) * w (ix2 k j)) g' q := by
  unfold k0_pay5
  exact Eq.trans (chunk_apply _ gm gm h h g' _ _ _ _ _ _ _ p q) (chunk_congr _ p _ (fun j => mm_apply (k0_pay4 (F := Ideal) x g) w shapeCasts_S1024x512_S1024x512 p j) g' q)

theorem pay6_apply (xs : FVec Ideal S512x1024 .bf16) (w : FVec Ideal S1024x512 .bf16) (gm : FVec Ideal S256x256 .bf16) (h : IsMean gm) (g' : FVec Ideal S1x512 .f32) (p q : Fin 512) :
    k0_pay6 (F := Ideal) xs w gm gm g' (ix2 p q) = chunk (fun j => ∑ k : Fin 1024, xs (ix2 p k) * w (ix2 k j)) g' q := by
  unfold k0_pay6
  exact Eq.trans (chunk_apply _ gm gm h h g' _ _ _ _ _ _ _ p q) (chunk_congr _ p _ (fun j => mm_apply xs w shapeCasts_S1024x512_S1024x512 p j) g' q)

theorem pay2_apply (xs : FVec Ideal S512x1024 .bf16) (w : FVec Ideal S1024x512 .bf16) (gm : FVec Ideal S256x256 .bf16) (h : IsMean gm) (g' : FVec Ideal S1x512 .f32) (p q : Fin 512) :
    k0_pay2 (F := Ideal) xs w gm gm g' (ix2 p q) = chunk (fun j => ∑ k : Fin 1024, xs (ix2 p k) * w (ix2 k j)) g' q := by
  unfold k0_pay2
  exact Eq.trans (chunk_apply _ gm gm h h g' _ _ _ _ _ _ _ p q) (chunk_congr _ p _ (fun j => mm_apply xs w shapeCasts_S1024x512_S1024x512 p j) g' q)

theorem pay1_apply (y : FVec Ideal S512x1024 .f32) (g : FVec Ideal S1x1024 .f32) (w : FVec Ideal S1024x512 .bf16) (gm : FVec Ideal S256x256 .bf16) (h : IsMean gm) (g' : FVec Ideal S1x512 .f32) (p q : Fin 512) :
    k0_pay1 (F := Ideal) (k0_pay11 y g w gm gm) (k0_pay12 g') (ix2 p q) = chunk (fun j => ∑ k : Fin 1024, k0_pay10 (F := Ideal) y g (ix2 p k) * w (ix2 k j)) g' q := by
  unfold k0_pay1 k0_pay11 k0_pay12
  exact Eq.trans (chunk_apply _ gm gm h h g' _ _ _ _ _ _ _ p q) (chunk_congr _ p _ (fun j => mm_apply (k0_pay10 (F := Ideal) y g) w shapeCasts_S1024x512_S1024x512 p j) g' q)

theorem pay7_apply (xs : FVec Ideal S512x1024 .bf16) (w : FVec Ideal S1024x512 .bf16) (p q : Fin 512) :
    k0_pay7 (F := Ideal) xs w (ix2 p q) = ∑ k : Fin 1024, xs (ix2 p k) * w (ix2 k q) := by
  unfold k0_pay7
  exact mm_apply xs w shapeCasts_S1024x512_S1024x512 p q

theorem pay8_apply (xs : FVec Ideal S512x1024 .bf16) (w : FVec Ideal S1024x512 .bf16) (p q : Fin 512) :
    k0_pay8 (F := Ideal) xs w (ix2 p q) = ∑ k : Fin 1024, xs (ix2 p k) * w (ix2 k q) := by
  unfold k0_pay8
  exact mm_apply xs w shapeCasts_S1024x512_S1024x512 p q

theorem pay9_apply (x : FVec Ideal S512x1024 .f32) (g : FVec Ideal S1x1024 .f32) (w : FVec Ideal S1024x128 .bf16) (p : Fin 512) (q : Fin 128) :
    k0_pay9 (F := Ideal) (k0_pay3 x) g w (ix2 p q) = ∑ k : Fin 1024, normed (fun d => x (ix2 p d)) (fun d => g (ix2 (0 : Fin 1) d)) k * w (ix2 k q) := by
  refine (mm_apply (k0_pay10 (F := Ideal) (k0_pay3 x) g) w shapeCasts_S1024x128_S1024x128 p q).trans (Finset.sum_congr rfl fun k _ => ?_)
  rw [pay10_apply]

section
variable (m : (ℓ : Loc nD τ sig) → Buf (Elt Ideal) ℓ) (c : Dev nD)

/-- A point's row of the array. -/
abbrev row (t : Fin cfg0.N) (r : Fin 512) : Fin 32768 := ⟨512 * t.val + r.val, by have h : t.val < 64 := lt_of_lt_of_eq t.isLt N_0; have := r.isLt; omega⟩

theorem index_0 : ∀ t : Fin cfg0.N, (cfg0.win 0).index t = ![t.val, 0] := by decide +kernel
theorem index_13 : ∀ t : Fin cfg0.N, (cfg0.win 13).index t = ![t.val, 0] := by decide +kernel
theorem index_14 : ∀ t : Fin cfg0.N, (cfg0.win 14).index t = ![t.val, 0] := by decide +kernel
theorem index_15 : ∀ t : Fin cfg0.N, (cfg0.win 15).index t = ![t.val, 0] := by decide +kernel
theorem index_1 : ∀ t : Fin cfg0.N, (cfg0.win 1).index t = ![0, 0] := by decide +kernel
theorem index_2 : ∀ t : Fin cfg0.N, (cfg0.win 2).index t = ![0, 0] := by decide +kernel
theorem index_3 : ∀ t : Fin cfg0.N, (cfg0.win 3).index t = ![0, 0] := by decide +kernel
theorem index_4 : ∀ t : Fin cfg0.N, (cfg0.win 4).index t = ![0, 0] := by decide +kernel
theorem index_5 : ∀ t : Fin cfg0.N, (cfg0.win 5).index t = ![0, 0] := by decide +kernel
theorem index_6 : ∀ t : Fin cfg0.N, (cfg0.win 6).index t = ![0, 0] := by decide +kernel
theorem index_9 : ∀ t : Fin cfg0.N, (cfg0.win 9).index t = ![0, 0] := by decide +kernel
theorem index_10 : ∀ t : Fin cfg0.N, (cfg0.win 10).index t = ![0, 0] := by decide +kernel
theorem index_11 : ∀ t : Fin cfg0.N, (cfg0.win 11).index t = ![0, 0] := by decide +kernel
theorem index_12 : ∀ t : Fin cfg0.N, (cfg0.win 12).index t = ![0, 0] := by decide +kernel

theorem iblk_0 (t : Fin cfg0.N) (p : Fin 512) (q : Fin 1024) : iblk m c 0 t (ix2 p q) = aX m c (ix2 (row t p) q) := by
  refine (congrFun (V_main_arg0 m c) _).trans (congrArg (aX m c) (funext fun z => Fin.ext ?_))
  refine (Window.rect_emb_val (cfg0.win 0) t (ix2 p q) z).trans ?_
  rw [index_0]
  fin_cases z
  · show t.val * 512 + p.val = 512 * t.val + p.val; omega
  · show 0 * 1024 + q.val = q.val; omega

theorem iblk_1 (t : Fin cfg0.N) (p : Fin 1) (q : Fin 1024) : iblk m c 1 t (ix2 p q) = V m c main_v11 (ix2 p q) := by
  refine congrArg (V m c main_v11) (funext fun z => Fin.ext ?_)
  refine (Window.rect_emb_val (cfg0.win 1) t (ix2 p q) z).trans ?_
  rw [index_1]
  fin_cases z
  · show 0 * 1 + p.val = p.val; omega
  · show 0 * 1024 + q.val = q.val; omega

theorem iblk_2 (t : Fin cfg0.N) (p : Fin 1024) (q : Fin 2048) : iblk m c 2 t (ix2 p q) = V m c main_v1 (ix2 p q) := by
  refine congrArg (V m c main_v1) (funext fun z => Fin.ext ?_)
  refine (Window.rect_emb_val (cfg0.win 2) t (ix2 p q) z).trans ?_
  rw [index_2]
  fin_cases z
  · show 0 * 1024 + p.val = p.val; omega
  · show 0 * 2048 + q.val = q.val; omega

theorem iblk_3 (t : Fin cfg0.N) (p : Fin 1) (q : Fin 1024) : iblk m c 3 t (ix2 p q) = V m c main_v10 (ix2 p q) := by
  refine congrArg (V m c main_v10) (funext fun z => Fin.ext ?_)
  refine (Window.rect_emb_val (cfg0.win 3) t (ix2 p q) z).trans ?_
  rw [index_3]
  fin_cases z
  · show 0 * 1 + p.val = p.val; omega
  · show 0 * 1024 + q.val = q.val; omega

theorem iblk_4 (t : Fin cfg0.N) (p : Fin 256) (q : Fin 256) : iblk m c 4 t (ix2 p q) = V m c main_v29 (ix2 p q) := by
  refine congrArg (V m c main_v29) (funext fun z => Fin.ext ?_)
  refine (Window.rect_emb_val (cfg0.win 4) t (ix2 p q) z).trans ?_
  rw [index_4]
  fin_cases z
  · show 0 * 256 + p.val = p.val; omega
  · show 0 * 256 + q.val = q.val; omega

theorem iblk_5 (t : Fin cfg0.N) (p : Fin 1) (q : Fin 1024) : iblk m c 5 t (ix2 p q) = V m c main_v12 (ix2 p q) := by
  refine congrArg (V m c main_v12) (funext fun z => Fin.ext ?_)
  refine (Window.rect_emb_val (cfg0.win 5) t (ix2 p q) z).trans ?_
  rw [index_5]
  fin_cases z
  · show 0 * 1 + p.val = p.val; omega
  · show 0 * 1024 + q.val = q.val; omega

theorem iblk_6 (t : Fin cfg0.N) (p : Fin 1024) (q : Fin 128) : iblk m c 6 t (ix2 p q) = V m c main_v6 (ix2 p q) := by
  refine congrArg (V m c main_v6) (funext fun z => Fin.ext ?_)
  refine (Window.rect_emb_val (cfg0.win 6) t (ix2 p q) z).trans ?_
  rw [index_6]
  fin_cases z
  · show 0 * 1024 + p.val = p.val; omega
  · show 0 * 128 + q.val = q.val; omega

theorem iblk_9 (t : Fin cfg0.N) (p : Fin 1) (q : Fin 1024) : iblk m c 9 t (ix2 p q) = V m c main_v13 (ix2 p q) := by
  refine congrArg (V m c main_v13) (funext fun z => Fin.ext ?_)
  refine (Window.rect_emb_val (cfg0.win 9) t (ix2 p q) z).trans ?_
  rw [index_9]
  fin_cases z
  · show 0 * 1 + p.val = p.val; omega
  · show 0 * 1024 + q.val = q.val; omega

theorem iblk_10 (t : Fin cfg0.N) (p : Fin 1024) (q : Fin 1024) : iblk m c 10 t (ix2 p q) = V m c main_v14 (ix2 p q) := by
  refine congrArg (V m c main_v14) (funext fun z => Fin.ext ?_)
  refine (Window.rect_emb_val (cfg0.win 10) t (ix2 p q) z).trans ?_
  rw [index_10]
  fin_cases z
  · show 0 * 1024 + p.val = p.val; omega
  · show 0 * 1024 + q.val = q.val; omega

theorem iblk_11 (t : Fin cfg0.N) (p : Fin 1) (q : Fin 1024) : iblk m c 11 t (ix2 p q) = V m c main_v18 (ix2 p q) := by
  refine congrArg (V m c main_v18) (funext fun z => Fin.ext ?_)
  refine (Window.rect_emb_val (cfg0.win 11) t (ix2 p q) z).trans ?_
  rw [index_11]
  fin_cases z
  · show 0 * 1 + p.val = p.val; omega
  · show 0 * 1024 + q.val = q.val; omega

theorem iblk_12 (t : Fin cfg0.N) (p : Fin 256) (q : Fin 256) : iblk m c 12 t (ix2 p q) = V m c main_v52 (ix2 p q) := by
  refine congrArg (V m c main_v52) (funext fun z => Fin.ext ?_)
  refine (Window.rect_emb_val (cfg0.win 12) t (ix2 p q) z).trans ?_
  rw [index_12]
  fin_cases z
  · show 0 * 256 + p.val = p.val; omega
  · show 0 * 256 + q.val = q.val; omega

theorem mean_4 (t : Fin cfg0.N) : IsMean (iblk m c 4 t) := fun a b => by rw [iblk_4, V_v29]; exact means_isMean a b
theorem mean_12 (t : Fin cfg0.N) : IsMean (iblk m c 12 t) := fun a b => by rw [iblk_12, V_v52]; exact means_isMean a b

theorem gain_1 (t : Fin cfg0.N) (q : Fin 1024) : iblk m c 1 t (ix2 (0 : Fin 1) q) = aN m c (ix1 q) := by rw [iblk_1, V_v11]; exact row_apply _ q
theorem gain_5 (t : Fin cfg0.N) (q : Fin 1024) : iblk m c 5 t (ix2 (0 : Fin 1) q) = aN m c (ix1 q) := by rw [iblk_5, V_v12]; exact row_apply _ q
theorem gain_9 (t : Fin cfg0.N) (q : Fin 1024) : iblk m c 9 t (ix2 (0 : Fin 1) q) = aNq m c (ix1 q) := by rw [iblk_9, V_v13]; exact row_apply _ q
theorem gain_3 (t : Fin cfg0.N) (q : Fin 1024) : iblk m c 3 t (ix2 (0 : Fin 1) q) = aK m c (ix1 (headPos q)) := by rw [iblk_3, V_v10]; exact tile_apply _ q
theorem gain_11 (t : Fin cfg0.N) (q : Fin 1024) : iblk m c 11 t (ix2 (0 : Fin 1) q) = aQ m c (ix1 (headPos q)) := by rw [iblk_11, V_v18]; exact tile_apply _ q
theorem weight_2 (t : Fin cfg0.N) (k : Fin 1024) (q : Fin 2048) : iblk m c 2 t (ix2 k q) = aW m c (ix2 k (⟨q.val, by omega⟩ : Fin 2064)) := by rw [iblk_2]; exact wkv_apply m c k q
theorem weight_10 (t : Fin cfg0.N) (k : Fin 1024) (q : Fin 1024) : iblk m c 10 t (ix2 k q) = aWq m c (ix2 k q) := by rw [iblk_10, V_v14]; rfl

/-- A row's norm read from a point's blocks. -/
theorem norm_1 (t : Fin cfg0.N) (p : Fin 512) : normed (fun d => iblk m c 0 t (ix2 p d)) (fun d => iblk m c 1 t (ix2 (0 : Fin 1) d)) = normed (fun d => aX m c (ix2 (row t p) d)) (fun d => aN m c (ix1 d)) :=
  congr (congrArg normed (funext fun d => iblk_0 m c t p d)) (funext fun d => gain_1 m c t d)
theorem norm_5 (t : Fin cfg0.N) (p : Fin 512) : normed (fun d => iblk m c 0 t (ix2 p d)) (fun d => iblk m c 5 t (ix2 (0 : Fin 1) d)) = normed (fun d => aX m c (ix2 (row t p) d)) (fun d => aN m c (ix1 d)) :=
  congr (congrArg normed (funext fun d => iblk_0 m c t p d)) (funext fun d => gain_5 m c t d)
theorem norm_9 (t : Fin cfg0.N) (p : Fin 512) : normed (fun d => iblk m c 0 t (ix2 p d)) (fun d => iblk m c 9 t (ix2 (0 : Fin 1) d)) = normed (fun d => aX m c (ix2 (row t p) d)) (fun d => aNq m c (ix1 d)) :=
  congr (congrArg normed (funext fun d => iblk_0 m c t p d)) (funext fun d => gain_9 m c t d)

theorem chunk_eq_hnorm (o : ℕ) (ho : o = 0 ∨ o = 512) (A : Fin 512 → EReal) (u : Fin 1024 → EReal) (hA : ∀ j : Fin 512, A j = u ⟨o + j.val, by have := j.isLt; omega⟩)
    (g' : S1x512.Idx → EReal) (h : Fin 64 → EReal) (q : Fin 512) (C : Fin 1024) (hC : C.val = o + q.val) (hg : g' (ix2 (0 : Fin 1) q) = h (headPos C)) :
    chunk A g' q = hnorm u h C := by
  have hq := q.isLt
  have hd : ∀ d : Fin 64, A (chunkCol q d) = u (headCol C d) := fun d => by
    rw [hA]
    refine congrArg u (Fin.ext ?_)
    show o + (64 * (q.val / 64) + d.val) = 64 * (C.val / 64) + d.val
    omega
  have hc : A q = u C := (hA q).trans (congrArg u (Fin.ext hC.symm))
  unfold chunk hnorm
  rw [hc, hg, Finset.sum_congr rfl fun d _ => by rw [hd]]

theorem ld_x (t : Fin cfg0.N) : View.ld (iblk m c 0 t) r0_0 = iblk m c 0 t := View.ld_unit_zero (by funext a; fin_cases a <;> rfl) _ _
theorem ld_1 (t : Fin cfg0.N) : View.ld (iblk m c 1 t) r0_1 = iblk m c 1 t := View.ld_unit_zero (by funext a; fin_cases a <;> rfl) _ _
theorem ld_5 (t : Fin cfg0.N) : View.ld (iblk m c 5 t) r0_1 = iblk m c 5 t := View.ld_unit_zero (by funext a; fin_cases a <;> rfl) _ _
theorem ld_9 (t : Fin cfg0.N) : View.ld (iblk m c 9 t) r0_1 = iblk m c 9 t := View.ld_unit_zero (by funext a; fin_cases a <;> rfl) _ _
theorem ld_4 (t : Fin cfg0.N) : View.ld (iblk m c 4 t) r0_3 = iblk m c 4 t := View.ld_unit_zero (by funext a; fin_cases a <;> rfl) _ _
theorem ld_12 (t : Fin cfg0.N) : View.ld (iblk m c 12 t) r0_3 = iblk m c 12 t := View.ld_unit_zero (by funext a; fin_cases a <;> rfl) _ _
theorem ld_6 (t : Fin cfg0.N) : View.ld (iblk m c 6 t) r0_13 = iblk m c 6 t := View.ld_unit_zero (by funext a; fin_cases a <;> rfl) _ _

theorem ld_2 (t : Fin cfg0.N) (o : ℕ) (i1) (k : Fin 1024) (q : Fin 512) (C : Fin 2064) (hC : C.val = o + q.val) (hlt : C.val < 2048) :
    View.ld (iblk m c 2 t) (Rect.unit (s := S1024x2048) ![0, o] S1024x512.size i1) (ix2 k q) = aW m c (ix2 k C) := by
  refine Eq.trans (congrArg (iblk m c 2 t) (funext fun z => Fin.ext ?_)) (weight_2 m c t k ⟨C.val, hlt⟩)
  fin_cases z
  · show 0 + 1 * k.val = k.val; omega
  · show o + 1 * q.val = C.val; omega

theorem ld_10 (t : Fin cfg0.N) (o : ℕ) (i1) (k : Fin 1024) (q : Fin 512) (C : Fin 1024) (hC : C.val = o + q.val) :
    View.ld (iblk m c 10 t) (Rect.unit (s := S1024x1024) ![0, o] S1024x512.size i1) (ix2 k q) = aWq m c (ix2 k C) := by
  refine Eq.trans (congrArg (iblk m c 10 t) (funext fun z => Fin.ext ?_)) (weight_10 m c t k C)
  fin_cases z
  · show 0 + 1 * k.val = k.val; omega
  · show o + 1 * q.val = C.val; omega

theorem ld_3 (t : Fin cfg0.N) (o : ℕ) (i1) (q : Fin 512) (C : Fin 1024) (hC : C.val = o + q.val) :
    View.ld (iblk m c 3 t) (Rect.unit (s := S1x1024) ![0, o] S1x512.size i1) (ix2 (0 : Fin 1) q) = aK m c (ix1 (headPos C)) := by
  refine Eq.trans (congrArg (iblk m c 3 t) (funext fun z => Fin.ext ?_)) (gain_3 m c t C)
  fin_cases z
  · rfl
  · show o + 1 * q.val = C.val; omega

theorem ld_11 (t : Fin cfg0.N) (o : ℕ) (i1) (q : Fin 512) (C : Fin 1024) (hC : C.val = o + q.val) :
    View.ld (iblk m c 11 t) (Rect.unit (s := S1x1024) ![0, o] S1x512.size i1) (ix2 (0 : Fin 1) q) = aQ m c (ix1 (headPos C)) := by
  refine Eq.trans (congrArg (iblk m c 11 t) (funext fun z => Fin.ext ?_)) (gain_11 m c t C)
  fin_cases z
  · rfl
  · show o + 1 * q.val = C.val; omega

/-- A point's normed row times a column of the keys' and values' weights. -/
theorem proj_kv (t : Fin cfg0.N) (o : ℕ) (i1) (p q : Fin 512) (C : Fin 2064) (hC : C.val = o + q.val) (hlt : C.val < 2048) :
    ∑ k : Fin 1024, k0_pay4 (F := Ideal) (View.ld (iblk m c 0 t) r0_0) (View.ld (iblk m c 1 t) r0_1) (ix2 p k) * View.ld (iblk m c 2 t) (Rect.unit (s := S1024x2048) ![0, o] S1024x512.size i1) (ix2 k q)
      = proj (aX m c) (aN m c) (aW m c) (row t p) C := by
  unfold proj
  refine Finset.sum_congr rfl fun k _ => ?_
  rw [ld_x, ld_1, pay4_apply, norm_1, ld_2 m c t o i1 k q C hC hlt]

theorem proj_q (t : Fin cfg0.N) (o : ℕ) (i1) (p q : Fin 512) (C : Fin 1024) (hC : C.val = o + q.val) :
    ∑ k : Fin 1024, k0_pay10 (F := Ideal) (k0_pay3 (View.ld (iblk m c 0 t) r0_0)) (View.ld (iblk m c 9 t) r0_1) (ix2 p k) * View.ld (iblk m c 10 t) (Rect.unit (s := S1024x1024) ![0, o] S1024x512.size i1) (ix2 k q)
      = proj (aX m c) (aNq m c) (aWq m c) (row t p) C := by
  unfold proj
  refine Finset.sum_congr rfl fun k _ => ?_
  rw [ld_x, ld_9, pay10_apply, norm_9, ld_10 m c t o i1 k q C hC]

/-- A chunk of the keys. -/
theorem kv_key (t : Fin cfg0.N) (o : ℕ) (ho : o = 0 ∨ o = 512) (i1) (i2) (p q : Fin 512) (C : Fin 2048) (hC : C.val = o + q.val) :
    chunk (fun j => ∑ k : Fin 1024, k0_pay4 (F := Ideal) (View.ld (iblk m c 0 t) r0_0) (View.ld (iblk m c 1 t) r0_1) (ix2 p k) * View.ld (iblk m c 2 t) (Rect.unit (s := S1024x2048) ![0, o] S1024x512.size i1) (ix2 k j))
        (View.ld (iblk m c 3 t) (Rect.unit (s := S1x1024) ![0, o] S1x512.size i2)) q
      = kvSpec (aX m c) (aN m c) (aW m c) (aK m c) (ix2 (row t p) C) := by
  have hq := q.isLt
  have hlt : C.val < 1024 := by omega
  unfold kvSpec
  rw [dif_pos (show ((ix2 (row t p) C : S32768x2048.Idx) 1).val < 1024 from hlt)]
  refine chunk_eq_hnorm o ho _ _ (fun j => ?_) _ _ q ⟨C.val, hlt⟩ hC (ld_3 m c t o i2 q ⟨C.val, hlt⟩ hC)
  have hj := j.isLt
  exact proj_kv m c t o i1 p j ⟨o + j.val, by omega⟩ rfl (show o + j.val < 2048 by omega)

/-- A chunk of the values. -/
theorem kv_value (t : Fin cfg0.N) (o : ℕ) (ho : 1024 ≤ o) (i1) (p q : Fin 512) (C : Fin 2048) (hC : C.val = o + q.val) :
    ∑ k : Fin 1024, k0_pay4 (F := Ideal) (View.ld (iblk m c 0 t) r0_0) (View.ld (iblk m c 1 t) r0_1) (ix2 p k) * View.ld (iblk m c 2 t) (Rect.unit (s := S1024x2048) ![0, o] S1024x512.size i1) (ix2 k q)
      = kvSpec (aX m c) (aN m c) (aW m c) (aK m c) (ix2 (row t p) C) := by
  have hC' := C.isLt
  unfold kvSpec
  rw [dif_neg (show ¬ ((ix2 (row t p) C : S32768x2048.Idx) 1).val < 1024 from (show ¬ C.val < 1024 by omega))]
  exact proj_kv m c t o i1 p q ⟨C.val, by omega⟩ hC hC'

/-- A chunk of the queries. -/
theorem q_chunk (t : Fin cfg0.N) (o : ℕ) (ho : o = 0 ∨ o = 512) (i1) (i2) (p q : Fin 512) (C : Fin 1024) (hC : C.val = o + q.val) :
    chunk (fun j => ∑ k : Fin 1024, k0_pay10 (F := Ideal) (k0_pay3 (View.ld (iblk m c 0 t) r0_0)) (View.ld (iblk m c 9 t) r0_1) (ix2 p k) * View.ld (iblk m c 10 t) (Rect.unit (s := S1024x1024) ![0, o] S1024x512.size i1) (ix2 k j))
        (View.ld (iblk m c 11 t) (Rect.unit (s := S1x1024) ![0, o] S1x512.size i2)) q
      = qSpec (aX m c) (aNq m c) (aWq m c) (aQ m c) (ix2 (row t p) C) := by
  unfold qSpec
  refine chunk_eq_hnorm o ho _ _ (fun j => ?_) _ _ q C hC (ld_11 m c t o i2 q C hC)
  exact proj_q m c t o i1 p j _ rfl

theorem out_13 (t : Fin cfg0.N) (r : Fin 512) (C : Fin 2048) :
    (dats m 0 c).after 13 t (ix2 r C) = kvSpec (aX m c) (aN m c) (aW m c) (aK m c) (ix2 (row t r) C) := by
  rw [after0_13]
  unfold_out out0_13
  refine (View.canon_apply_of_pieces (S := S512x2048) (e := .bf16) (Val := Elt Ideal) (fun y => kvSpec (aX m c) (aN m c) (aW m c) (aK m c) (ix2 (row t (y 0)) (y 1))) _ ?_ _ (cover0_13 _ _ _ _ _)).trans rfl
  intro p hp x
  simp only [List.mem_cons, List.not_mem_nil, or_false] at hp
  rcases hp with rfl | rfl | rfl | rfl
  · obtain ⟨r', c', rfl⟩ : ∃ r' c', x = ix2 r' c' := ⟨_, _, eq_ix2 x⟩
    have hr : ((Rect.emb r0_12 (ix2 r' c')) 0 : Fin 512) = r' := Fin.ext (show 0 + 1 * r'.val = r'.val by omega)
    have hC : ((Rect.emb r0_12 (ix2 r' c')) 1).val = 1536 + c'.val := show 1536 + 1 * c'.val = 1536 + c'.val by omega
    refine Eq.trans ?_ (congrArg (fun R => kvSpec (aX m c) (aN m c) (aW m c) (aK m c) (ix2 (row t R) (Rect.emb r0_12 (ix2 r' c') 1))) hr.symm)
    exact (pay8_apply _ _ r' c').trans (kv_value m c t 1536 (by decide) _ r' c' _ hC)
  · obtain ⟨r', c', rfl⟩ : ∃ r' c', x = ix2 r' c' := ⟨_, _, eq_ix2 x⟩
    have hr : ((Rect.emb r0_10 (ix2 r' c')) 0 : Fin 512) = r' := Fin.ext (show 0 + 1 * r'.val = r'.val by omega)
    have hC : ((Rect.emb r0_10 (ix2 r' c')) 1).val = 1024 + c'.val := show 1024 + 1 * c'.val = 1024 + c'.val by omega
    refine Eq.trans ?_ (congrArg (fun R => kvSpec (aX m c) (aN m c) (aW m c) (aK m c) (ix2 (row t R) (Rect.emb r0_10 (ix2 r' c') 1))) hr.symm)
    exact (pay7_apply _ _ r' c').trans (kv_value m c t 1024 (by decide) _ r' c' _ hC)
  · obtain ⟨r', c', rfl⟩ : ∃ r' c', x = ix2 r' c' := ⟨_, _, eq_ix2 x⟩
    have hr : ((Rect.emb r0_8 (ix2 r' c')) 0 : Fin 512) = r' := Fin.ext (show 0 + 1 * r'.val = r'.val by omega)
    have hC : ((Rect.emb r0_8 (ix2 r' c')) 1).val = 512 + c'.val := show 512 + 1 * c'.val = 512 + c'.val by omega
    refine Eq.trans ?_ (congrArg (fun R => kvSpec (aX m c) (aN m c) (aW m c) (aK m c) (ix2 (row t R) (Rect.emb r0_8 (ix2 r' c') 1))) hr.symm)
    exact ((congrArg (fun G => k0_pay6 (F := Ideal) _ _ G G _ (ix2 r' c')) (ld_4 m c t)).trans (pay6_apply _ _ _ (mean_4 m c t) _ r' c')).trans (kv_key m c t 512 (.inr rfl) _ _ r' c' _ hC)
  · obtain ⟨r', c', rfl⟩ : ∃ r' c', x = ix2 r' c' := ⟨_, _, eq_ix2 x⟩
    have hr : ((Rect.emb r0_5 (ix2 r' c')) 0 : Fin 512) = r' := Fin.ext (show 0 + 1 * r'.val = r'.val by omega)
    have hC : ((Rect.emb r0_5 (ix2 r' c')) 1).val = 0 + c'.val := show 0 + 1 * c'.val = 0 + c'.val by omega
    refine Eq.trans ?_ (congrArg (fun R => kvSpec (aX m c) (aN m c) (aW m c) (aK m c) (ix2 (row t R) (Rect.emb r0_5 (ix2 r' c') 1))) hr.symm)
    exact ((congrArg (fun G => k0_pay5 (F := Ideal) _ _ _ G G _ (ix2 r' c')) (ld_4 m c t)).trans (pay5_chunk _ _ _ _ (mean_4 m c t) _ r' c')).trans (kv_key m c t 0 (.inl rfl) _ _ r' c' _ hC)

theorem out_14 (t : Fin cfg0.N) (r : Fin 512) (C : Fin 128) :
    (dats m 0 c).after 14 t (ix2 r C) = fSpec (aX m c) (aN m c) (aW m c) (ix2 (row t r) C) := by
  rw [after0_14]
  unfold_out out0_14
  refine (View.canon_apply_of_pieces (S := S512x128) (e := .f32) (Val := Elt Ideal) (fun y => fSpec (aX m c) (aN m c) (aW m c) (ix2 (row t (y 0)) (y 1))) _ ?_ _ (cover0_14 _ _)).trans rfl
  intro p hp x
  simp only [List.mem_cons, List.not_mem_nil, or_false] at hp
  obtain rfl := hp
  obtain ⟨r', c', rfl⟩ : ∃ r' c', x = ix2 r' c' := ⟨_, _, eq_ix2 x⟩
  have hx : Rect.emb r0_14 (ix2 r' c') = ix2 r' c' := funext fun z => Fin.ext (by
    fin_cases z
    · show 0 + 1 * r'.val = r'.val; omega
    · show 0 + 1 * c'.val = c'.val; omega)
  refine Eq.trans ?_ (congrArg (fun y : S512x128.Idx => fSpec (aX m c) (aN m c) (aW m c) (ix2 (row t (y 0)) (y 1))) hx.symm)
  refine (pay9_apply _ _ _ r' c').trans ?_
  have ew : ∀ k : Fin 1024, View.ld (iblk m c 6 t) r0_13 (ix2 k c') = if h : c'.val < 16 then aW m c (ix2 k (⟨2048 + c'.val, by omega⟩ : Fin 2064)) else 0 := fun k =>
    (congrFun (ld_6 m c t) _).trans ((iblk_6 m c t k c').trans (wf_apply m c k c'))
  have en : ∀ k : Fin 1024, normed (fun d => View.ld (iblk m c 0 t) r0_0 (ix2 r' d)) (fun d => View.ld (iblk m c 5 t) r0_1 (ix2 (0 : Fin 1) d)) k = normed (fun d => aX m c (ix2 (row t r') d)) (fun d => aN m c (ix1 d)) k := fun k => by
    rw [ld_x, ld_5, norm_5]
  refine (Finset.sum_congr rfl fun k _ => congr (congrArg HMul.hMul (en k)) (ew k)).trans ?_
  unfold fSpec
  by_cases h : c'.val < 16
  · rw [dif_pos (show ((ix2 (row t r') c' : S32768x128.Idx) 1).val < 16 from h)]
    unfold proj
    exact Finset.sum_congr rfl fun k _ => by rw [dif_pos h]
  · rw [dif_neg (show ¬ ((ix2 (row t r') c' : S32768x128.Idx) 1).val < 16 from h)]
    exact Finset.sum_eq_zero fun k _ => by rw [dif_neg h, mul_zero]

theorem out_15 (t : Fin cfg0.N) (r : Fin 512) (C : Fin 1024) :
    (dats m 0 c).after 15 t (ix2 r C) = qSpec (aX m c) (aNq m c) (aWq m c) (aQ m c) (ix2 (row t r) C) := by
  rw [after0_15]
  unfold_out out0_15
  refine (View.canon_apply_of_pieces (S := S512x1024) (e := .bf16) (Val := Elt Ideal) (fun y => qSpec (aX m c) (aNq m c) (aWq m c) (aQ m c) (ix2 (row t (y 0)) (y 1))) _ ?_ _ (cover0_15 _ _ _)).trans rfl
  intro p hp x
  simp only [List.mem_cons, List.not_mem_nil, or_false] at hp
  rcases hp with rfl | rfl
  · obtain ⟨r', c', rfl⟩ : ∃ r' c', x = ix2 r' c' := ⟨_, _, eq_ix2 x⟩
    have hr : ((Rect.emb r0_18 (ix2 r' c')) 0 : Fin 512) = r' := Fin.ext (show 0 + 1 * r'.val = r'.val by omega)
    have hC : ((Rect.emb r0_18 (ix2 r' c')) 1).val = 512 + c'.val := show 512 + 1 * c'.val = 512 + c'.val by omega
    refine Eq.trans ?_ (congrArg (fun R => qSpec (aX m c) (aNq m c) (aWq m c) (aQ m c) (ix2 (row t R) (Rect.emb r0_18 (ix2 r' c') 1))) hr.symm)
    exact ((congrArg (fun G => k0_pay2 (F := Ideal) _ _ G G _ (ix2 r' c')) (ld_12 m c t)).trans (pay2_apply _ _ _ (mean_12 m c t) _ r' c')).trans (q_chunk m c t 512 (.inr rfl) _ _ r' c' _ hC)
  · obtain ⟨r', c', rfl⟩ : ∃ r' c', x = ix2 r' c' := ⟨_, _, eq_ix2 x⟩
    have hr : ((Rect.emb r0_16 (ix2 r' c')) 0 : Fin 512) = r' := Fin.ext (show 0 + 1 * r'.val = r'.val by omega)
    have hC : ((Rect.emb r0_16 (ix2 r' c')) 1).val = 0 + c'.val := show 0 + 1 * c'.val = 0 + c'.val by omega
    refine Eq.trans ?_ (congrArg (fun R => qSpec (aX m c) (aNq m c) (aWq m c) (aQ m c) (ix2 (row t R) (Rect.emb r0_16 (ix2 r' c') 1))) hr.symm)
    exact ((congrArg (fun G => k0_pay1 (F := Ideal) (k0_pay11 _ _ _ G G) (k0_pay12 _) (ix2 r' c')) (ld_12 m c t)).trans (pay1_apply _ _ _ _ (mean_12 m c t) _ r' c')).trans (q_chunk m c t 0 (.inl rfl) _ _ r' c' _ hC)

/-- The array the run leaves in window 13. -/
theorem out_eq_13 : (dats m 0 c).arrAt 13 cfg0.N = (kvSpec (aX m c) (aN m c) (aW m c) (aK m c) : S32768x2048.Idx → EReal) := by
  refine Dat.arrAt_eq_of_cover (dats m 0 c) (13 : Fin 16) _ (fun t _ => ?_) (fun i => ?_)
  · funext y
    obtain ⟨r, C, rfl⟩ : ∃ (r : Fin 512) (C : Fin 2048), y = ix2 r C := ⟨_, _, eq_ix2 y⟩
    refine (out_13 m c t r C).trans (congrArg (kvSpec (aX m c) (aN m c) (aW m c) (aK m c)) (funext fun z => Fin.ext ?_))
    refine Eq.trans ?_ (Window.rect_emb_val (cfg0.win 13) t (ix2 r C) z).symm
    rw [index_13]
    fin_cases z
    · show 512 * t.val + r.val = t.val * 512 + r.val; omega
    · show C.val = 0 * 2048 + C.val; omega
  · have hi : (i 0).val < 32768 := (i 0).isLt
    let t : Fin cfg0.N := ⟨(i 0).val / 512, lt_of_lt_of_eq (show (i 0).val / 512 < 64 by omega) N_0.symm⟩
    refine ⟨t, flush0_13 _, ?_⟩
    have e : i = ((cfg0.win 13).rect t).emb (ix2 (⟨(i 0).val % 512, by omega⟩ : Fin 512) (i 1 : Fin 2048)) := by
      funext q
      refine Fin.ext (Eq.trans ?_ (Window.rect_emb_val (cfg0.win 13) t _ q).symm)
      rw [index_13]
      fin_cases q
      · show (i 0).val = (i 0).val / 512 * 512 + (i 0).val % 512; omega
      · show (i 1).val = 0 * 2048 + (i 1).val; omega
    rw [e]
    exact View.emb_mem_set _ _

/-- The array the run leaves in window 14. -/
theorem out_eq_14 : (dats m 0 c).arrAt 14 cfg0.N = (fSpec (aX m c) (aN m c) (aW m c) : S32768x128.Idx → EReal) := by
  refine Dat.arrAt_eq_of_cover (dats m 0 c) (14 : Fin 16) _ (fun t _ => ?_) (fun i => ?_)
  · funext y
    obtain ⟨r, C, rfl⟩ : ∃ (r : Fin 512) (C : Fin 128), y = ix2 r C := ⟨_, _, eq_ix2 y⟩
    refine (out_14 m c t r C).trans (congrArg (fSpec (aX m c) (aN m c) (aW m c)) (funext fun z => Fin.ext ?_))
    refine Eq.trans ?_ (Window.rect_emb_val (cfg0.win 14) t (ix2 r C) z).symm
    rw [index_14]
    fin_cases z
    · show 512 * t.val + r.val = t.val * 512 + r.val; omega
    · show C.val = 0 * 128 + C.val; omega
  · have hi : (i 0).val < 32768 := (i 0).isLt
    let t : Fin cfg0.N := ⟨(i 0).val / 512, lt_of_lt_of_eq (show (i 0).val / 512 < 64 by omega) N_0.symm⟩
    refine ⟨t, flush0_14 _, ?_⟩
    have e : i = ((cfg0.win 14).rect t).emb (ix2 (⟨(i 0).val % 512, by omega⟩ : Fin 512) (i 1 : Fin 128)) := by
      funext q
      refine Fin.ext (Eq.trans ?_ (Window.rect_emb_val (cfg0.win 14) t _ q).symm)
      rw [index_14]
      fin_cases q
      · show (i 0).val = (i 0).val / 512 * 512 + (i 0).val % 512; omega
      · show (i 1).val = 0 * 128 + (i 1).val; omega
    rw [e]
    exact View.emb_mem_set _ _

/-- The array the run leaves in window 15. -/
theorem out_eq_15 : (dats m 0 c).arrAt 15 cfg0.N = (qSpec (aX m c) (aNq m c) (aWq m c) (aQ m c) : S32768x1024.Idx → EReal) := by
  refine Dat.arrAt_eq_of_cover (dats m 0 c) (15 : Fin 16) _ (fun t _ => ?_) (fun i => ?_)
  · funext y
    obtain ⟨r, C, rfl⟩ : ∃ (r : Fin 512) (C : Fin 1024), y = ix2 r C := ⟨_, _, eq_ix2 y⟩
    refine (out_15 m c t r C).trans (congrArg (qSpec (aX m c) (aNq m c) (aWq m c) (aQ m c)) (funext fun z => Fin.ext ?_))
    refine Eq.trans ?_ (Window.rect_emb_val (cfg0.win 15) t (ix2 r C) z).symm
    rw [index_15]
    fin_cases z
    · show 512 * t.val + r.val = t.val * 512 + r.val; omega
    · show C.val = 0 * 1024 + C.val; omega
  · have hi : (i 0).val < 32768 := (i 0).isLt
    let t : Fin cfg0.N := ⟨(i 0).val / 512, lt_of_lt_of_eq (show (i 0).val / 512 < 64 by omega) N_0.symm⟩
    refine ⟨t, flush0_15 _, ?_⟩
    have e : i = ((cfg0.win 15).rect t).emb (ix2 (⟨(i 0).val % 512, by omega⟩ : Fin 512) (i 1 : Fin 1024)) := by
      funext q
      refine Fin.ext (Eq.trans ?_ (Window.rect_emb_val (cfg0.win 15) t _ q).symm)
      rw [index_15]
      fin_cases q
      · show (i 0).val = (i 0).val / 512 * 512 + (i 0).val % 512; omega
      · show (i 1).val = 0 * 1024 + (i 1).val; omega
    rw [e]
    exact View.emb_mem_set _ _

end
end Cert.KvqIdeal.Value
end
-- ==== Proof.Body.lean ====
/- The body of the grouped expert call, run once per branch, over any float semantics `F`: a tile that is used computes
   its SwiGLU, a tile that is not stores zeros. Each run finds the pieces it leaves in the output's staging buffer. -/
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables in scalar memory as the body is handed them: each tile's expert, and how many tiles are used. -/
abbrev mExpert : Memref sig .tc .smem S136 .i32 := Memref.whole main_arg0
abbrev mUsed : Memref sig .tc .smem S1 .i32 := Memref.whole main_arg1

/-- One staging buffer of the output, through which its contents are read back. -/
abbrev vOut : View sig .tc .vmem S512x1024 .bf16 := (Memref.whole cc0_stg5_0 : Memref sig .tc .vmem S512x1024 .bf16).view

/-- The word the body loads from the second table: how many tiles are used. -/
abbrev usedWord (T1 : S1.Idx → Elt F .i32) : BitVec 32 :=
  View.readAt (Elt F) mUsed.view (Rect.unit (s := S1) ![0] S1.size inb_S1_S1_0).toLoadRect T1 (Shape.Idx.first (numel1_S1.symm ▸ Nat.one_pos))

section
variable (c : Dev nD) (i : grid0.Coords) (q : PosShare TreeShare)
  (arg3 : Memref sig .tc .vmem S512x1024 .bf16) (harg3 : arg3.IsWhole)
  (arg4 : Memref sig .tc .vmem S1x1024x2816 .bf16) (harg4 : arg4.IsWhole)
  (arg5 : Memref sig .tc .vmem S1x1024x2816 .bf16) (harg5 : arg5.IsWhole)
  (arg6 : Memref sig .tc .vmem S1x2816x512 .bf16) (harg6 : arg6.IsWhole)
  (arg7 : Memref sig .tc .vmem S1x2816x512 .bf16) (harg7 : arg7.IsWhole)
  (arg8 : Memref sig .tc .vmem S512x1024 .bf16) (harg8 : arg8.IsWhole)
  (T0 : S136.Idx → Elt F .i32) (T1 : S1.Idx → Elt F .i32)
  (x0 : S512x1024.Idx → Elt F .bf16) (x1 x2 : S1x1024x2816.Idx → Elt F .bf16) (x3 x4 : S1x2816x512.Idx → Elt F .bf16)

/-- The resources the body is run from, but for the output's buffer: the inputs at their blocks and the tables. -/
abbrev ins : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (mExpert.view.loc (c : Thread nD τ) ↦{q} T0)
    ∗ (mUsed.view.loc (c : Thread nD τ) ↦{q} T1))

set_option backward.proofsInPublic true in
set_option maxHeartbeats 8000000 in
/-- A used tile. -/
def runUsed (h1 : k0_cond1 i (usedWord (F := F) T1) = 1#1) (h2 : ¬(k0_cond2 i (usedWord (F := F) T1) = 1#1)) :
    { out : List (View.Piece (Elt F) S512x1024 .bf16) //
      ∀ (K : PUnit → sProp 𝕄),
        iprop(ins c q arg3 arg4 arg5 arg6 arg7 T0 T1 x0 x1 x2 x3 x4
          ∗ (∃ d, owns (c : Thread nD τ) arg8 fullShare d)
          ∗ (iprop(ins c q arg3 arg4 arg5 arg6 arg7 T0 T1 x0 x1 x2 x3 x4
              ∗ (∃ f, arg8.view.loc (c : Thread nD τ) ↦[arg8.view.set]{fullShare} arg8.view.writes (Elt F) f out)) -∗ K ⟨⟩))
          ⊢ wp frame (wpE (defs₀ (F := F)) Variants.none c none) Set.univ (cc0_moe_grouped_ffn i mExpert (Memref.isWhole_whole _) mUsed (Memref.isWhole_whole _) arg3 harg3 arg4 harg4 arg5 harg5 arg6 harg6 arg7 harg7 arg8 harg8) K } :=
  ⟨_, fun K => by
    unfold owns ins
    rw [cc0_moe_grouped_ffn_eq_skeleton]; unfold cc0_moe_grouped_ffn_skel
    iintro ⟨⟨H0, H1, H2, H3, H4, HT0, HT1⟩, ⟨%d5, %f5, -, HO5⟩, Hk⟩
    have hT0 : mExpert.IsWhole := Memref.isWhole_whole _
    have hT1 : mUsed.IsWhole := Memref.isWhole_whole _
    sl_open_parts
    sl_exec! (disch := first | (guard_target = k0_cond1 _ _ = _; exact h1) | (guard_target = ¬(k0_cond2 _ _ = _); exact h2))
    sl_step
    iapply Hk
    isplitr [HO5]
    · isplitl [H0]; · iexact H0
      isplitl [H1]; · iexact H1
      isplitl [H2]; · iexact H2
      isplitl [H3]; · iexact H3
      isplitl [H4]; · iexact H4
      isplitl [HT0]; · iexact HT0
      iexact HT1
    iexists _; iexact HO5⟩

set_option backward.proofsInPublic true in
set_option maxHeartbeats 8000000 in
/-- A tile that is not used. -/
def runIdle (h1 : ¬(k0_cond1 i (usedWord (F := F) T1) = 1#1)) (h2 : k0_cond2 i (usedWord (F := F) T1) = 1#1) :
    { out : List (View.Piece (Elt F) S512x1024 .bf16) //
      ∀ (K : PUnit → sProp 𝕄),
        iprop(ins c q arg3 arg4 arg5 arg6 arg7 T0 T1 x0 x1 x2 x3 x4
          ∗ (∃ d, owns (c : Thread nD τ) arg8 fullShare d)
          ∗ (iprop(ins c q arg3 arg4 arg5 arg6 arg7 T0 T1 x0 x1 x2 x3 x4
              ∗ (∃ f, arg8.view.loc (c : Thread nD τ) ↦[arg8.view.set]{fullShare} arg8.view.writes (Elt F) f out)) -∗ K ⟨⟩))
          ⊢ wp frame (wpE (defs₀ (F := F)) Variants.none c none) Set.univ (cc0_moe_grouped_ffn i mExpert (Memref.isWhole_whole _) mUsed (Memref.isWhole_whole _) arg3 harg3 arg4 harg4 arg5 harg5 arg6 harg6 arg7 harg7 arg8 harg8) K } :=
  ⟨_, fun K => by
    unfold owns ins
    rw [cc0_moe_grouped_ffn_eq_skeleton]; unfold cc0_moe_grouped_ffn_skel
    iintro ⟨⟨H0, H1, H2, H3, H4, HT0, HT1⟩, ⟨%d5, %f5, -, HO5⟩, Hk⟩
    have hT0 : mExpert.IsWhole := Memref.isWhole_whole _
    have hT1 : mUsed.IsWhole := Memref.isWhole_whole _
    sl_exec! (disch := first | (guard_target = ¬(k0_cond1 _ _ = _); exact h1) | (guard_target = k0_cond2 _ _ = _; exact h2))
    sl_step
    iapply Hk
    isplitr [HO5]
    · isplitl [H0]; · iexact H0
      isplitl [H1]; · iexact H1
      isplitl [H2]; · iexact H2
      isplitl [H3]; · iexact H3
      isplitl [H4]; · iexact H4
      isplitl [HT0]; · iexact HT0
      iexact HT1
    iexists _; iexact HO5⟩

/-- Its pieces cover the block, -/
theorem cover_used (h1 : k0_cond1 i (usedWord (F := F) T1) = 1#1) (h2 : ¬(k0_cond2 i (usedWord (F := F) T1) = 1#1)) (y : S512x1024.Idx) :
    ∃ pc ∈ (runUsed c i q arg3 harg3 arg4 harg4 arg5 harg5 arg6 harg6 arg7 harg7 arg8 harg8 T0 T1 x0 x1 x2 x3 x4 h1 h2).1, y ∈ pc.1.set :=
  View.cover_of_tiledL (runUsed c i q arg3 harg3 arg4 harg4 arg5 harg5 arg6 harg6 arg7 harg7 arg8 harg8 T0 T1 x0 x1 x2 x3 x4 h1 h2).1 S512x512.size (by sl_kernel_rfl) y

/-- in both branches. -/
theorem cover_idle (h1 : ¬(k0_cond1 i (usedWord (F := F) T1) = 1#1)) (h2 : k0_cond2 i (usedWord (F := F) T1) = 1#1) (y : S512x1024.Idx) :
    ∃ pc ∈ (runIdle c i q arg3 harg3 arg4 harg4 arg5 harg5 arg6 harg6 arg7 harg7 arg8 harg8 T0 T1 x0 x1 x2 x3 x4 h1 h2).1, y ∈ pc.1.set :=
  View.cover_of_tiledL (runIdle c i q arg3 harg3 arg4 harg4 arg5 harg5 arg6 harg6 arg7 harg7 arg8 harg8 T0 T1 x0 x1 x2 x3 x4 h1 h2).1 S512x1024.size (by sl_kernel_rfl) y

/-- The second branch is taken exactly where the first is not. -/
theorem cond2_iff (w : BitVec 32) : k0_cond2 i w = 1#1 ↔ ¬(k0_cond1 i w = 1#1) := by
  unfold k0_cond2 k0_cond1
  simp only [Scalar.cmpi, Scalar.extui]
  generalize BitVec.ofNat 32 (i 0).val = v
  have e : v.slt w = !(w.sle v) := by
    simp only [BitVec.slt_eq_decide, BitVec.sle_eq_decide, ← not_le, decide_not]
  simp only [IntOp.cmpi, e]
  cases w.sle v <;> decide

end

end Cert.KernelIdeal.Moe

end
-- ==== Proof.Run.lean ====
/- The run of the grouped expert call, over any float semantics `F` and at any tables the launch admits. -/
module

public import proofs.«01_k».proof.Proof.Body
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the rounds library's, for the pipeline's staging cells. -/
abbrev EP : Emb (UR sig nD τ) 𝕄 := emb₁

variable (a : (pcfg0 (F := F)).Adm) (m : (ℓ : Loc nD τ sig) → Buf (Elt F) ℓ) (ρ : Dev nD → PrngReg)

/-- The pipeline at the tables `a`, alone and as @main's one. -/
abbrev cfgA : Pipeline.Cfg sig Λ₀ := cfg0 (F := F) a
abbrev pcs : Fin 1 → Pipeline.Cfg sig Λ₀ := Pipeline.pin (pcfgs (F := F)) fun _ => a

/-- The launch state. -/
abbrev launchSt : MemSt nD τ sig (Elt F) := ⟨m, fun _ => 0, ρ⟩

abbrev crd (t : Fin (cfgA a).N) : (cfgA a).grid.Coords := (cfgA a).grid.coords t
abbrev st0 (t : Fin (cfgA a).N) : Memref sig .tc .vmem S512x1024 .bf16 := spec0_0.stage ((cfgA a).slots t (0 : Fin 6))
abbrev hs0 (t : Fin (cfgA a).N) : (st0 a t).IsWhole := hstage0_0 (((cfgA a).slots t (0 : Fin 6)).cast nbuf0_0)
abbrev st1 (t : Fin (cfgA a).N) : Memref sig .tc .vmem S1x1024x2816 .bf16 := spec0_1.stage ((cfgA a).slots t (1 : Fin 6))
abbrev hs1 (t : Fin (cfgA a).N) : (st1 a t).IsWhole := hstage0_1 (((cfgA a).slots t (1 : Fin 6)).cast nbuf0_1)
abbrev st2 (t : Fin (cfgA a).N) : Memref sig .tc .vmem S1x1024x2816 .bf16 := spec0_2.stage ((cfgA a).slots t (2 : Fin 6))
abbrev hs2 (t : Fin (cfgA a).N) : (st2 a t).IsWhole := hstage0_2 (((cfgA a).slots t (2 : Fin 6)).cast nbuf0_2)
abbrev st3 (t : Fin (cfgA a).N) : Memref sig .tc .vmem S1x2816x512 .bf16 := spec0_3.stage ((cfgA a).slots t (3 : Fin 6))
abbrev hs3 (t : Fin (cfgA a).N) : (st3 a t).IsWhole := hstage0_3 (((cfgA a).slots t (3 : Fin 6)).cast nbuf0_3)
abbrev st4 (t : Fin (cfgA a).N) : Memref sig .tc .vmem S1x2816x512 .bf16 := spec0_4.stage ((cfgA a).slots t (4 : Fin 6))
abbrev hs4 (t : Fin (cfgA a).N) : (st4 a t).IsWhole := hstage0_4 (((cfgA a).slots t (4 : Fin 6)).cast nbuf0_4)
abbrev st5 (t : Fin (cfgA a).N) : Memref sig .tc .vmem S512x1024 .bf16 := spec0_5.stage ((cfgA a).slots t (5 : Fin 6))
abbrev hs5 (t : Fin (cfgA a).N) : (st5 a t).IsWhole := hstage0_5 (((cfgA a).slots t (5 : Fin 6)).cast nbuf0_5)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

/-- The tables, at their literal types. -/
abbrev tExpert : S136.Idx → Elt F .i32 := a.1 0
abbrev tUsed : S1.Idx → Elt F .i32 := a.1 1

/-- What the body leaves in the output's staging buffer at point `t`. -/
def outAt (c : Dev nD) (t : Fin (cfgA a).N) : S512x1024.Idx → Elt F .bf16 :=
  if h : k0_cond1 (crd a t) (usedWord (F := F) (tUsed a)) = 1#1 then
    vOut.read (Elt F) (vOut.writes (Elt F) vOut.junk (runUsed c (crd a t) fullShare.right (st0 a t) (hs0 a t) (st1 a t) (hs1 a t) (st2 a t) (hs2 a t) (st3 a t) (hs3 a t) (st4 a t) (hs4 a t) (st5 a t) (hs5 a t)
      (tExpert a) (tUsed a) (iblk a m c (0 : Fin 6) t) (iblk a m c (1 : Fin 6) t) (iblk a m c (2 : Fin 6) t) (iblk a m c (3 : Fin 6) t) (iblk a m c (4 : Fin 6) t) h
      (fun h' => (cond2_iff _ _).1 h' h)).1)
  else
    vOut.read (Elt F) (vOut.writes (Elt F) vOut.junk (runIdle c (crd a t) fullShare.right (st0 a t) (hs0 a t) (st1 a t) (hs1 a t) (st2 a t) (hs2 a t) (st3 a t) (hs3 a t) (st4 a t) (hs4 a t) (st5 a t) (hs5 a t)
      (tExpert a) (tUsed a) (iblk a m c (0 : Fin 6) t) (iblk a m c (1 : Fin 6) t) (iblk a m c (2 : Fin 6) t) (iblk a m c (3 : Fin 6) t) (iblk a m c (4 : Fin 6) t) h
      ((cond2_iff _ _).2 h)).1)

/-- The invariant: the body's halves of the tables. -/
def Phi (c : Dev nD) : sProp 𝕄 :=
  iprop((mExpert.view.loc (c : Thread nD τ) ↦{fullShare.right} tExpert a) ∗ (mUsed.view.loc (c : Thread nD τ) ↦{fullShare.right} tUsed a))

/-- The proof data of the one pipeline on core `c`. -/
def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 6) t
    | ⟨1, _⟩ => iblk a m c (1 : Fin 6) t
    | ⟨2, _⟩ => iblk a m c (2 : Fin 6) t
    | ⟨3, _⟩ => iblk a m c (3 : Fin 6) t
    | ⟨4, _⟩ => iblk a m c (4 : Fin 6) t
    | ⟨5, _⟩ => outAt a m c t
  Φ _ := Phi a c
  q _ := fullShare
  owed _ := 0

theorem after_0 (c : Dev nD) (t : Fin (cfgA a).N) : (dats a m 0 c).after (0 : Fin 6) t = iblk a m c (0 : Fin 6) t := rfl
theorem after_1 (c : Dev nD) (t : Fin (cfgA a).N) : (dats a m 0 c).after (1 : Fin 6) t = iblk a m c (1 : Fin 6) t := rfl
theorem after_2 (c : Dev nD) (t : Fin (cfgA a).N) : (dats a m 0 c).after (2 : Fin 6) t = iblk a m c (2 : Fin 6) t := rfl
theorem after_3 (c : Dev nD) (t : Fin (cfgA a).N) : (dats a m 0 c).after (3 : Fin 6) t = iblk a m c (3 : Fin 6) t := rfl
theorem after_4 (c : Dev nD) (t : Fin (cfgA a).N) : (dats a m 0 c).after (4 : Fin 6) t = iblk a m c (4 : Fin 6) t := rfl
theorem after_5 (c : Dev nD) (t : Fin (cfgA a).N) : (dats a m 0 c).after (5 : Fin 6) t = outAt a m c t := rfl

theorem before_0 (c : Dev nD) (t : Fin (cfgA a).N) (d) : (dats a m 0 c).before (0 : Fin 6) t d = iblk a m c (0 : Fin 6) t :=
  ((dats a m 0 c).before_in_eq_fetched (0 : Fin 6) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a m 0 c).before (1 : Fin 6) t d = iblk a m c (1 : Fin 6) t :=
  ((dats a m 0 c).before_in_eq_fetched (1 : Fin 6) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats a m 0 c).before (2 : Fin 6) t d = iblk a m c (2 : Fin 6) t :=
  ((dats a m 0 c).before_in_eq_fetched (2 : Fin 6) rfl (fun _ => rfl) (fun _ _ _ => rfl) (fun t => by rw [after_2]; unfold Dat.blockOf iblk; rfl) t d).trans
    (by unfold Dat.fetched Dat.blockOf iblk; rfl)
theorem before_3 (c : Dev nD) (t : Fin (cfgA a).N) (d) : (dats a m 0 c).before (3 : Fin 6) t d = iblk a m c (3 : Fin 6) t :=
  ((dats a m 0 c).before_in_eq_fetched (3 : Fin 6) rfl (fun _ => rfl) (fun _ _ _ => rfl) (fun t => by rw [after_3]; unfold Dat.blockOf iblk; rfl) t d).trans
    (by unfold Dat.fetched Dat.blockOf iblk; rfl)
theorem before_4 (c : Dev nD) (t : Fin (cfgA a).N) (d) : (dats a m 0 c).before (4 : Fin 6) t d = iblk a m c (4 : Fin 6) t :=
  ((dats a m 0 c).before_in_eq_fetched (4 : Fin 6) rfl (fun _ => rfl) (fun _ _ _ => rfl) (fun t => by rw [after_4]; unfold Dat.blockOf iblk; rfl) t d).trans
    (by unfold Dat.fetched Dat.blockOf iblk; rfl)

/-- Every point stores the output's block: one of the two branches is taken. -/
theorem idle_5 (t : Fin (cfgA a).N) : (cfgA a).idle (5 : Fin 6) ((cfgA a).grid.coords t) = false := by
  show (!(k0_cond1 (crd a t) (a.1.atD 1 ![0]) == 1#1) && !(k0_cond2 (crd a t) (a.1.atD 1 ![0]) == 1#1)) = false
  by_cases h : k0_cond1 (crd a t) (a.1.atD 1 ![0]) = 1#1
  · rw [h]; rfl
  · rw [(cond2_iff (crd a t) (a.1.atD 1 ![0])).2 h, Bool.and_comm]; rfl

/-- The body at point `t` on its staging memrefs, as the pipeline calls it. -/
abbrev bodyAt (t : Fin (cfgA a).N) : Prog (TpuEff nD τ sig (Elt F) Λ₀ .tc) PUnit :=
  cc0_moe_grouped_ffn (crd a t) mExpert (Memref.isWhole_whole _) mUsed (Memref.isWhole_whole _) (st0 a t) (hs0 a t) (st1 a t) (hs1 a t) (st2 a t) (hs2 a t) (st3 a t) (hs3 a t) (st4 a t) (hs4 a t) (st5 a t) (hs5 a t)

set_option maxHeartbeats 4000000 in
/-- The body obligation at point `t`, by branch. -/
theorem sound_body (c : Dev nD) (t : Fin (cfgA a).N) :
    iprop((dats a m 0 c).Φ t.castSucc ∗ (dats a m 0 c).owesAt () t.castSucc
        ∗ (∃ d, owns (c : Thread nD τ) (st0 a t) fullShare ((dats a m 0 c).before (0 : Fin 6) t d))
        ∗ (∃ d, owns (c : Thread nD τ) (st1 a t) fullShare ((dats a m 0 c).before (1 : Fin 6) t d))
        ∗ (∃ d, owns (c : Thread nD τ) (st2 a t) fullShare ((dats a m 0 c).before (2 : Fin 6) t d))
        ∗ (∃ d, owns (c : Thread nD τ) (st3 a t) fullShare ((dats a m 0 c).before (3 : Fin 6) t d))
        ∗ (∃ d, owns (c : Thread nD τ) (st4 a t) fullShare ((dats a m 0 c).before (4 : Fin 6) t d))
        ∗ (∃ d, owns (c : Thread nD τ) (st5 a t) fullShare ((dats a m 0 c).before (5 : Fin 6) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [idle_5 a t]
  simp only [before_0, before_1, before_2, before_3, before_4, after_0, after_1, after_2, after_3, after_4, after_5]
  rewrite [show (dats a m 0 c).Φ t.succ = Phi a c from rfl, show (dats a m 0 c).Φ t.castSucc = Phi a c from rfl,
    show (dats a m 0 c).owesAt () t.succ = (dats a m 0 c).owesAt () t.castSucc from rfl]
  unfold Phi
  iintro ⟨⟨HT0, HT1⟩, Ho, ⟨%d0, H0⟩, ⟨%d1, H1⟩, ⟨%d2, H2⟩, ⟨%d3, H3⟩, ⟨%d4, H4⟩, ⟨%d5, H5⟩⟩
  by_cases h : k0_cond1 (crd a t) (usedWord (F := F) (tUsed a)) = 1#1
  · iapply ((runUsed c (crd a t) fullShare.right (st0 a t) (hs0 a t) (st1 a t) (hs1 a t) (st2 a t) (hs2 a t) (st3 a t) (hs3 a t) (st4 a t) (hs4 a t) (st5 a t) (hs5 a t)
      (tExpert a) (tUsed a) (iblk a m c (0 : Fin 6) t) (iblk a m c (1 : Fin 6) t) (iblk a m c (2 : Fin 6) t) (iblk a m c (3 : Fin 6) t) (iblk a m c (4 : Fin 6) t) h
      (fun h' => (cond2_iff _ _).1 h' h)).2 _)
    isplitl [H0 H1 H2 H3 H4 HT0 HT1]
    · unfold ins
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      iexact HT1
    isplitl [H5]; · iexists _; iexact H5
    unfold ins
    iintro ⟨⟨H0, H1, H2, H3, H4, HT0, HT1⟩, ⟨%e5, H5⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; unfold outAt; rw [dif_pos h]; exact View.read_writes_of_cover _ _ _ _ _ (cover_used c _ _ _ _ _ _ _ _ _ _ _ _ _ _ _ _ _ _ _ _ _ _ _)
  · iapply ((runIdle c (crd a t) fullShare.right (st0 a t) (hs0 a t) (st1 a t) (hs1 a t) (st2 a t) (hs2 a t) (st3 a t) (hs3 a t) (st4 a t) (hs4 a t) (st5 a t) (hs5 a t)
      (tExpert a) (tUsed a) (iblk a m c (0 : Fin 6) t) (iblk a m c (1 : Fin 6) t) (iblk a m c (2 : Fin 6) t) (iblk a m c (3 : Fin 6) t) (iblk a m c (4 : Fin 6) t) h
      ((cond2_iff _ _).2 h)).2 _)
    isplitl [H0 H1 H2 H3 H4 HT0 HT1]
    · unfold ins
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      iexact HT1
    isplitl [H5]; · iexists _; iexact H5
    unfold ins
    iintro ⟨⟨H0, H1, H2, H3, H4, HT0, HT1⟩, ⟨%e5, H5⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; unfold outAt; rw [dif_neg h]; exact View.read_writes_of_cover _ _ _ _ _ (cover_idle c _ _ _ _ _ _ _ _ _ _ _ _ _ _ _ _ _ _ _ _ _ _ _)

/-- The library's body obligation, at every point. -/
theorem body_obligation (c : Dev nD) : BodyObligation (dats a m 0 c) (defs₀ (F := F)) Variants.none () Set.univ := fun t => by
  rw [bigSep_W0]
  exact sound_body a m c t

/-- The rounds library's launch element. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_intro (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a c from rfl]
  unfold Phi
  iintro ⟨-, ⟨HT0, HT1⟩, -⟩
  isplitl [HT0]
  · iexact HT0
  iexact HT1

theorem phi_exit (c : Dev nD) : (dats a m 0 c).Φ (Fin.last (cfgA a).N) ⊢ iprop(BI.emp ∗ Pipeline.scopedRest spec0 c) := by
  rw [scopedRest0_eq, show (dats a m 0 c).Φ (Fin.last (cfgA a).N) = Phi a c from rfl]
  unfold Phi
  iintro ⟨-, -⟩
  isplitr; · iempintro
  iempintro

/-- The launch memory's tables are `a`. -/
def Pinned : Prop := ∀ (c : Dev nD) (j : Fin 2), m ((c : Thread nD τ).loc (pre0.ref j)) = a.1 j

/-- What the run leaves: every array at what the pipeline computes, every table as it was. -/
def Post : PUnit × MemSt nD τ sig (Elt F) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
/-- From any memory with zero counters whose tables are `a`, every weakly fair execution of @main terminates in `Post`, every
    semaphore counter at zero. -/
theorem run_main (hp : Pinned a m) : θ_run (defs (F := F)) (onTc (τ := τ) (main (F := F))) (launchSt m ρ) (fun r => Post a m r ∧ r.2.sem = fun _ => 0) :=
  Pipeline.θ_run_region_noSem_pf_quiescent pcfgs (fun _ => a) (dats a m) () ((launch0 (F := F)).cellOf_inj fun _ => a) (0 : Fin 1)
    (launch0 (F := F)).win.to₀ (launch0 (F := F)).pre EP defs₀ Variants.none m ρ main
    (hbody := fun c => (body_obligation a m c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := F)).win.arr_inj c (launch0 (F := F)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_intro a m)
    (hout := phi_exit a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Every argument array ends as it was launched. -/
theorem kept {r : PUnit × MemSt nD τ sig (Elt F)} (hp : Pinned a m) (h : Post a m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 0).trans (hp c 0).symm, ((h c).2 1).trans (hp c 1).symm,
    ((h c).1 (0 : Fin 6)).trans ((dats a m 0 c).arrAt_in (0 : Fin 6) rfl _), ((h c).1 (1 : Fin 6)).trans ((dats a m 0 c).arrAt_in (1 : Fin 6) rfl _),
    ((h c).1 (2 : Fin 6)).trans ((dats a m 0 c).arrAt_in (2 : Fin 6) rfl _), ((h c).1 (3 : Fin 6)).trans ((dats a m 0 c).arrAt_in (3 : Fin 6) rfl _),
    ((h c).1 (4 : Fin 6)).trans ((dats a m 0 c).arrAt_in (4 : Fin 6) rfl _)⟩

end Cert.KernelIdeal.Moe

end
-- ==== Proof.Ok.lean ====
/- The precondition, decoded: every word of the experts' table is one of the 8 experts, so that the table is one the launch
   admits; and the frames of both kernels. -/
module

public import proofs.«01_k».proof.Proof.Run
public import proofs.«01_k».proof.Proof.Gen.Kernel
public import proofs.«01_k».proof.Proof.Gen.Pre_experts_exist
public import proofs.«01_k».proof.Defs
public import Idealize.ShloMosaic.Lib.ReduceAll
public import Idealize.ShloMosaic.Lib.Affine

@[expose] public section

set_option maxRecDepth 16384

noncomputable section

namespace Cert.KernelIdeal.Moe

open Cert.KernelIdeal Cert.KernelIdeal.Gen
open Idealize.ShloMosaic
open Idealize.ShloMosaic.TcCoe
open Idealize.SL Idealize.SL.Sem

variable {F : FTy → Type} [FloatOps F]

/-- The precondition holds of a table exactly when every word of it names one of the 8 experts. -/
theorem expert_lt (T0 : IVec S136 32) (T1 : IVec S1 32) (x : FVec F S69632x1024 .bf16) (g u : FVec F S8x1024x2816 .bf16)
    (da db : FVec F S8x2816x512 .bf16)
    (h : Cert.Pre_experts_exist.fn (F := F) T0 T1 x g u da db = fun _ => 1#1) (i : S136.Idx) : (T0 i).toNat < 8 := by
  have h0 := congrFun h (fun a => a.elim0)
  have e := Host.reduce_andi_all _ _ _ _ _ h0 i
  obtain ⟨h1, h2⟩ := IntOp.andi_eq_one.1 e
  have h3 := IntOp.cmpi_sge.1 h1
  have h4 := IntOp.cmpi_slt.1 h2
  have h5 : (0 : Int) ≤ (T0 i).toInt := h3
  have h6 : (T0 i).toInt < 8 := h4
  have := BitVec.toInt_eq_toNat_cond (T0 i)
  have := (T0 i).isLt
  split at * <;> omega

/-- A window's index map, as its word of the table. -/
theorem tr_1 (pf : pre0.Contents (Elt F)) (i : grid0.Coords) : ∃ j, cc0_transform_1 k0_off1_inb numel1_S1 pf i = ![(pf 0 j : BitVec 32).toNat, 0, 0] := ⟨_, rfl⟩
theorem tr_2 (pf : pre0.Contents (Elt F)) (i : grid0.Coords) : ∃ j, cc0_transform_2 k0_off1_inb numel1_S1 pf i = ![(pf 0 j : BitVec 32).toNat, 0, 0] := ⟨_, rfl⟩
theorem tr_3 (pf : pre0.Contents (Elt F)) (i : grid0.Coords) : ∃ j, cc0_transform_3 k0_off1_inb numel1_S1 pf i = ![(pf 0 j : BitVec 32).toNat, 0, 0] := ⟨_, rfl⟩
theorem tr_4 (pf : pre0.Contents (Elt F)) (i : grid0.Coords) : ∃ j, cc0_transform_4 k0_off1_inb numel1_S1 pf i = ![(pf 0 j : BitVec 32).toNat, 0, 0] := ⟨_, rfl⟩

theorem inbIn {n : Nat} (hn : n < 8) : ∀ a : Fin 3, ((![n, 0, 0] : Fin 3 → Nat) a + 1) * S1x1024x2816.size a ≤ S8x1024x2816.size a := by
  intro a; fin_cases a
  · show (n + 1) * 1 ≤ 8; omega
  · show (0 + 1) * 1024 ≤ 1024; decide
  · show (0 + 1) * 2816 ≤ 2816; decide
theorem inbOut {n : Nat} (hn : n < 8) : ∀ a : Fin 3, ((![n, 0, 0] : Fin 3 → Nat) a + 1) * S1x2816x512.size a ≤ S8x2816x512.size a := by
  intro a; fin_cases a
  · show (n + 1) * 1 ≤ 8; omega
  · show (0 + 1) * 2816 ≤ 2816; decide
  · show (0 + 1) * 512 ≤ 512; decide

/-- Tables naming existing experts are tables the launch admits. -/
theorem ok_of_lt (pf : pre0.Contents (Elt F)) (h : ∀ j, (pf 0 j : BitVec 32).toNat < 8) : ok0 pf := by
  refine ⟨fun i => ?_, fun i => ?_, fun i => ?_, fun i => ?_⟩
  · have hb : ∀ a, (cc0_transform_1 k0_off1_inb numel1_S1 pf i a + 1) * S1x1024x2816.size a ≤ S8x1024x2816.size a := by
      obtain ⟨j, e⟩ := tr_1 pf i; rw [e]; exact inbIn (h j)
    exact ⟨hb, .inr (Affine.block_words_dvd (of_decide_eq_true rfl) (by decide))⟩
  · have hb : ∀ a, (cc0_transform_2 k0_off1_inb numel1_S1 pf i a + 1) * S1x1024x2816.size a ≤ S8x1024x2816.size a := by
      obtain ⟨j, e⟩ := tr_2 pf i; rw [e]; exact inbIn (h j)
    exact ⟨hb, .inr (Affine.block_words_dvd (of_decide_eq_true rfl) (by decide))⟩
  · have hb : ∀ a, (cc0_transform_3 k0_off1_inb numel1_S1 pf i a + 1) * S1x2816x512.size a ≤ S8x2816x512.size a := by
      obtain ⟨j, e⟩ := tr_3 pf i; rw [e]; exact inbOut (h j)
    exact ⟨hb, .inr (Affine.block_words_dvd (of_decide_eq_true rfl) (by decide))⟩
  · have hb : ∀ a, (cc0_transform_4 k0_off1_inb numel1_S1 pf i a + 1) * S1x2816x512.size a ≤ S8x2816x512.size a := by
      obtain ⟨j, e⟩ := tr_4 pf i; rw [e]; exact inbOut (h j)
    exact ⟨hb, .inr (Affine.block_words_dvd (of_decide_eq_true rfl) (by decide))⟩

variable (m : (ℓ : Loc nD τ sig) → Buf (Elt F) ℓ) (ρ : Dev nD → PrngReg)

/-- The precondition, of a memory. -/
abbrev ExpertsExist : Prop := ∀ c : Dev nD, Cert.Pre_experts_exist.fn (F := F) (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) = fun _ => 1#1

/-- The launch memory's tables (the program runs on one device), with their side condition. -/
abbrev tabs : pre0.Contents (Elt F) := fun j => m (((0 : Dev nD) : Thread nD τ).loc (pre0.ref j))

theorem tabs_lt (h : ExpertsExist m) (j : S136.Idx) : (tabs m 0 j : BitVec 32).toNat < 8 := expert_lt _ _ _ _ _ _ _ (h 0) j

def adm (h : ExpertsExist m) : (pcfg0 (F := F)).Adm := ⟨tabs m, ok_of_lt _ (tabs_lt m h)⟩

theorem pinned (h : ExpertsExist m) : Pinned (adm m h) m := fun c j => by
  have e : c = (0 : Dev nD) := Subsingleton.elim _ _
  subst e; rfl

end Cert.KernelIdeal.Moe

namespace Cert

open Idealize.ShloMosaic Idealize.ShloMosaic.TcCoe Idealize.SL Idealize.SL.Sem

theorem frame_ideal : quiescent_KernelIdeal := fun m ρ h =>
  (θ_run Cert.KernelIdeal.defs _ _).mono (fun _ hr => ⟨fun c => KernelIdeal.Moe.kept _ m (KernelIdeal.Moe.pinned m h) hr.1 c, hr.2⟩)
    (KernelIdeal.Moe.run_main (F := Ideal) (KernelIdeal.Moe.adm m h) m ρ (KernelIdeal.Moe.pinned m h))

/-- The printed kernel's label table is its idealization's: the two texts are one. -/
theorem labels_eq : Kernel.defs₀ (F := Bits) = KernelIdeal.defs₀ (F := Bits) := by
  unfold Kernel.defs₀ KernelIdeal.defs₀
  refine congrArg Defs.onTc (funext fun l => funext fun p => ?_)
  match l, p with
  | 0, (t, s) => rfl
  | ⟨_ + 1, h⟩, _ => exact absurd h (Nat.not_lt.2 (Nat.le_add_left _ _))

theorem defs_eq : Kernel.defs (F := Bits) = KernelIdeal.defs (F := Bits) := by
  unfold Kernel.defs KernelIdeal.defs
  rw [labels_eq]; rfl

set_option maxHeartbeats 1000000 in
theorem frame_kernel : quiescent_Kernel := fun m ρ h => by
  rw [defs_eq]
  exact (θ_run Cert.KernelIdeal.defs _ _).mono (fun _ hr => ⟨fun c => KernelIdeal.Moe.kept (F := Bits) (KernelIdeal.Moe.adm m h) m (KernelIdeal.Moe.pinned m h) hr.1 c, hr.2⟩)
    (KernelIdeal.Moe.run_main (F := Bits) (KernelIdeal.Moe.adm m h) m ρ (KernelIdeal.Moe.pinned m h))

end Cert

end
-- ==== Proof.Block.lean ====
/- What the body stores in a used tile, as one expression: half the columns at a time, the sum over the eleven chunks of the
   hidden axis of the activation's chunk times the down projection's. -/
module

public import proofs.«01_k».proof.Proof.Run

@[expose] public section

set_option maxRecDepth 16384

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.Sem

variable {F : FTy → Type} [FloatOps F]

/-- One chunk of the hidden activation: the gate's product through x / (1 + exp (0 - x)), times the up product. -/
def hid (xs : Vec F S512x1024 .bf16) (g u : Vec F S1x1024x256 .bf16) : FVec F S512x256 .bf16 :=
  let gt : FVec F S512x256 .f32 := matmul dot_S512x1024_S1024x256_S512x256_1_0_0_1_n_n none xs (shapeCast S1024x256 g shapeCasts_S1x1024x256_S1024x256 : FVec F S1024x256 .bf16) (constant S512x256 .f32 0x00000000#32)
  let up : FVec F S512x256 .f32 := matmul dot_S512x1024_S1024x256_S512x256_1_0_0_1_n_n none xs (shapeCast S1024x256 u shapeCasts_S1x1024x256_S1024x256 : FVec F S1024x256 .bf16) (constant S512x256 .f32 0x00000000#32)
  let one : FVec F S512x256 .f32 := broadcast S512x256 (Scalar.ofBits .f32 0x3F800000#32 : F .f32)
  let zero : FVec F S512x256 .f32 := broadcast S512x256 (Scalar.ofBits .f32 0x00000000#32 : F .f32)
  truncf .bf16 (mulf (mulf gt (divf one (addf one (exp (subf zero gt))))) up) bitsLt_bf16_f32

/-- One chunk's share of half the output's columns. -/
def down (h : FVec F S512x256 .bf16) (d : Vec F S1x256x512 .bf16) : FVec F S512x512 .f32 :=
  matmul dot_S512x256_S256x512_S512x512_1_0_0_1_n_n none h (shapeCast S256x512 d shapeCasts_S1x256x512_S256x512 : FVec F S256x512 .bf16) (constant S512x512 .f32 0x00000000#32)

/-- Half the output's columns. -/
def half (x0 : S512x1024.Idx → Elt F .bf16) (x1 x2 : S1x1024x2816.Idx → Elt F .bf16) (d : S1x2816x512.Idx → Elt F .bf16) : FVec F S512x512 .bf16 :=
  truncf .bf16 (addf (addf (addf (addf (addf (addf (addf (addf (addf (addf (down (hid (View.ld x0 (Rect.unit ![0, 0] S512x1024.size inb_S512x1024_S512x1024_0_0)) (View.ld x1 (Rect.unit ![0, 0, 0] S1x1024x256.size inb_S1x1024x2816_S1x1024x256_0_0_0)) (View.ld x2 (Rect.unit ![0, 0, 0] S1x1024x256.size inb_S1x1024x2816_S1x1024x256_0_0_0))) (View.ld d (Rect.unit ![0, 0, 0] S1x256x512.size inb_S1x2816x512_S1x256x512_0_0_0)))
    (down (hid (View.ld x0 (Rect.unit ![0, 0] S512x1024.size inb_S512x1024_S512x1024_0_0)) (View.ld x1 (Rect.unit ![0, 0, 256] S1x1024x256.size inb_S1x1024x2816_S1x1024x256_0_0_256)) (View.ld x2 (Rect.unit ![0, 0, 256] S1x1024x256.size inb_S1x1024x2816_S1x1024x256_0_0_256))) (View.ld d (Rect.unit ![0, 256, 0] S1x256x512.size inb_S1x2816x512_S1x256x512_0_256_0))))
    (down (hid (View.ld x0 (Rect.unit ![0, 0] S512x1024.size inb_S512x1024_S512x1024_0_0)) (View.ld x1 (Rect.unit ![0, 0, 512] S1x1024x256.size inb_S1x1024x2816_S1x1024x256_0_0_512)) (View.ld x2 (Rect.unit ![0, 0, 512] S1x1024x256.size inb_S1x1024x2816_S1x1024x256_0_0_512))) (View.ld d (Rect.unit ![0, 512, 0] S1x256x512.size inb_S1x2816x512_S1x256x512_0_512_0))))
    (down (hid (View.ld x0 (Rect.unit ![0, 0] S512x1024.size inb_S512x1024_S512x1024_0_0)) (View.ld x1 (Rect.unit ![0, 0, 768] S1x1024x256.size inb_S1x1024x2816_S1x1024x256_0_0_768)) (View.ld x2 (Rect.unit ![0, 0, 768] S1x1024x256.size inb_S1x1024x2816_S1x1024x256_0_0_768))) (View.ld d (Rect.unit ![0, 768, 0] S1x256x512.size inb_S1x2816x512_S1x256x512_0_768_0))))
    (down (hid (View.ld x0 (Rect.unit ![0, 0] S512x1024.size inb_S512x1024_S512x1024_0_0)) (View.ld x1 (Rect.unit ![0, 0, 1024] S1x1024x256.size inb_S1x1024x2816_S1x1024x256_0_0_1024)) (View.ld x2 (Rect.unit ![0, 0, 1024] S1x1024x256.size inb_S1x1024x2816_S1x1024x256_0_0_1024))) (View.ld d (Rect.unit ![0, 1024, 0] S1x256x512.size inb_S1x2816x512_S1x256x512_0_1024_0))))
    (down (hid (View.ld x0 (Rect.unit ![0, 0] S512x1024.size inb_S512x1024_S512x1024_0_0)) (View.ld x1 (Rect.unit ![0, 0, 1280] S1x1024x256.size inb_S1x1024x2816_S1x1024x256_0_0_1280)) (View.ld x2 (Rect.unit ![0, 0, 1280] S1x1024x256.size inb_S1x1024x2816_S1x1024x256_0_0_1280))) (View.ld d (Rect.unit ![0, 1280, 0] S1x256x512.size inb_S1x2816x512_S1x256x512_0_1280_0))))
    (down (hid (View.ld x0 (Rect.unit ![0, 0] S512x1024.size inb_S512x1024_S512x1024_0_0)) (View.ld x1 (Rect.unit ![0, 0, 1536] S1x1024x256.size inb_S1x1024x2816_S1x1024x256_0_0_1536)) (View.ld x2 (Rect.unit ![0, 0, 1536] S1x1024x256.size inb_S1x1024x2816_S1x1024x256_0_0_1536))) (View.ld d (Rect.unit ![0, 1536, 0] S1x256x512.size inb_S1x2816x512_S1x256x512_0_1536_0))))
    (down (hid (View.ld x0 (Rect.unit ![0, 0] S512x1024.size inb_S512x1024_S512x1024_0_0)) (View.ld x1 (Rect.unit ![0, 0, 1792] S1x1024x256.size inb_S1x1024x2816_S1x1024x256_0_0_1792)) (View.ld x2 (Rect.unit ![0, 0, 1792] S1x1024x256.size inb_S1x1024x2816_S1x1024x256_0_0_1792))) (View.ld d (Rect.unit ![0, 1792, 0] S1x256x512.size inb_S1x2816x512_S1x256x512_0_1792_0))))
    (down (hid (View.ld x0 (Rect.unit ![0, 0] S512x1024.size inb_S512x1024_S512x1024_0_0)) (View.ld x1 (Rect.unit ![0, 0, 2048] S1x1024x256.size inb_S1x1024x2816_S1x1024x256_0_0_2048)) (View.ld x2 (Rect.unit ![0, 0, 2048] S1x1024x256.size inb_S1x1024x2816_S1x1024x256_0_0_2048))) (View.ld d (Rect.unit ![0, 2048, 0] S1x256x512.size inb_S1x2816x512_S1x256x512_0_2048_0))))
    (down (hid (View.ld x0 (Rect.unit ![0, 0] S512x1024.size inb_S512x1024_S512x1024_0_0)) (View.ld x1 (Rect.unit ![0, 0, 2304] S1x1024x256.size inb_S1x1024x2816_S1x1024x256_0_0_2304)) (View.ld x2 (Rect.unit ![0, 0, 2304] S1x1024x256.size inb_S1x1024x2816_S1x1024x256_0_0_2304))) (View.ld d (Rect.unit ![0, 2304, 0] S1x256x512.size inb_S1x2816x512_S1x256x512_0_2304_0))))
    (down (hid (View.ld x0 (Rect.unit ![0, 0] S512x1024.size inb_S512x1024_S512x1024_0_0)) (View.ld x1 (Rect.unit ![0, 0, 2560] S1x1024x256.size inb_S1x1024x2816_S1x1024x256_0_0_2560)) (View.ld x2 (Rect.unit ![0, 0, 2560] S1x1024x256.size inb_S1x1024x2816_S1x1024x256_0_0_2560))) (View.ld d (Rect.unit ![0, 2560, 0] S1x256x512.size inb_S1x2816x512_S1x256x512_0_2560_0)))) bitsLt_bf16_f32

section
variable (c : Dev nD) (i : grid0.Coords) (q : PosShare TreeShare)
  (arg3 : Memref sig .tc .vmem S512x1024 .bf16) (harg3 : arg3.IsWhole)
  (arg4 : Memref sig .tc .vmem S1x1024x2816 .bf16) (harg4 : arg4.IsWhole)
  (arg5 : Memref sig .tc .vmem S1x1024x2816 .bf16) (harg5 : arg5.IsWhole)
  (arg6 : Memref sig .tc .vmem S1x2816x512 .bf16) (harg6 : arg6.IsWhole)
  (arg7 : Memref sig .tc .vmem S1x2816x512 .bf16) (harg7 : arg7.IsWhole)
  (arg8 : Memref sig .tc .vmem S512x1024 .bf16) (harg8 : arg8.IsWhole)
  (T0 : S136.Idx → Elt F .i32) (T1 : S1.Idx → Elt F .i32)
  (x0 : S512x1024.Idx → Elt F .bf16) (x1 x2 : S1x1024x2816.Idx → Elt F .bf16) (x3 x4 : S1x2816x512.Idx → Elt F .bf16)

set_option maxHeartbeats 4000000 in
/-- The used tile's two stores: the left half of the columns, then the right. -/
theorem pieces_used (h1 : k0_cond1 i (usedWord (F := F) T1) = 1#1) (h2 : ¬(k0_cond2 i (usedWord (F := F) T1) = 1#1)) :
    (runUsed c i q arg3 harg3 arg4 harg4 arg5 harg5 arg6 harg6 arg7 harg7 arg8 harg8 T0 T1 x0 x1 x2 x3 x4 h1 h2).1
      = [⟨Rect.unit (s := S512x1024) ![0, 512] S512x512.size inb_S512x1024_S512x512_0_512, half x0 x1 x2 x4⟩,
         ⟨Rect.unit (s := S512x1024) ![0, 0] S512x512.size inb_S512x1024_S512x512_0_0, half x0 x1 x2 x3⟩] := by
  unfold runUsed
  dsimp only
  sl_unfold_words
  simp only [View.readAt_eq_ld, View.read_rep]
  rfl

/-- The unused tile's one store: zeros. -/
theorem pieces_idle (h1 : ¬(k0_cond1 i (usedWord (F := F) T1) = 1#1)) (h2 : k0_cond2 i (usedWord (F := F) T1) = 1#1) :
    (runIdle c i q arg3 harg3 arg4 harg4 arg5 harg5 arg6 harg6 arg7 harg7 arg8 harg8 T0 T1 x0 x1 x2 x3 x4 h1 h2).1
      = [⟨Rect.unit (s := S512x1024) ![0, 0] S512x1024.size inb_S512x1024_S512x1024_0_0, broadcast S512x1024 (Scalar.ofBits .bf16 0x0000#16 : F .bf16)⟩] := by
  unfold runIdle
  dsimp only
  sl_unfold_words
  rfl

end

end Cert.KernelIdeal.Moe

end
-- ==== Proof.Spec.lean ====
/- One expert's SwiGLU feed-forward layer over the extended reals, one element of its result at a time. -/
module

public import Idealize.ShloMosaic.PureOps.Ideal
public import Idealize.ShloMosaic.PureOps.Ideal.Laws
public import Idealize.ShloMosaic.Lib.ValueIdx

@[expose] public section

noncomputable section

namespace Cert.Ffn

open Idealize.ShloMosaic

/-- A row of the tokens times a column of a projection. -/
def lin (x w : Fin 1024 → EReal) : EReal := ∑ d, x d * w d

/-- The gated activation. -/
def act (gt up : EReal) : EReal := gt * Ideal.logistic gt * up

/-- A row's feed-forward result in one column: `g`, `u` the gate's and the up projection's columns, `d` the column of the down
    projection. -/
def ffn (x : Fin 1024 → EReal) (g u : Fin 2816 → Fin 1024 → EReal) (d : Fin 2816 → EReal) : EReal :=
  ∑ k, act (lin x (g k)) (lin x (u k)) * d k

/-- Position `b` of chunk `a` of the hidden axis. -/
def at256 (a : Fin 11) (b : Fin 256) : Fin 2816 := ⟨256 * a.val + b.val, by have := a.isLt; have := b.isLt; omega⟩

/-- A sum over the hidden axis is the sum of its eleven chunks', in the order the kernel adds them. -/
theorem sum_chunks (f : Fin 2816 → EReal) :
    ∑ k, f k = (((((((((((∑ b, f (at256 0 b)) + ∑ b, f (at256 1 b)) + ∑ b, f (at256 2 b)) + ∑ b, f (at256 3 b)) + ∑ b, f (at256 4 b))
      + ∑ b, f (at256 5 b)) + ∑ b, f (at256 6 b)) + ∑ b, f (at256 7 b)) + ∑ b, f (at256 8 b)) + ∑ b, f (at256 9 b)) + ∑ b, f (at256 10 b)) := by
  have e : ∑ k, f k = ∑ a : Fin 11, ∑ b : Fin 256, f (at256 a b) := by
    rw [← Equiv.sum_comp (finProdFinEquiv (m := 11) (n := 256)) f, Fintype.sum_prod_type]
    refine Finset.sum_congr rfl fun a _ => Finset.sum_congr rfl fun b _ => congrArg f (Fin.ext ?_)
    show b.val + 256 * a.val = 256 * a.val + b.val
    omega
  rw [e]
  iterate 10 rw [Fin.sum_univ_castSucc]
  rw [Fin.sum_univ_one]
  rfl

/-- The grouped layer's result at one row and column: its tile's expert's feed-forward layer where the tile is used, zero where
    it is not. `T0` gives each tile's expert, `T1` the number of used tiles; a column below 512 takes its down projection from
    `da`, another from `db`. -/
def moe (T0 : (⟨1, ![136]⟩ : Shape).Idx → BitVec 32) (T1 : (⟨1, ![1]⟩ : Shape).Idx → BitVec 32)
    (xs : (⟨2, ![69632, 1024]⟩ : Shape).Idx → EReal) (g u : (⟨3, ![8, 1024, 2816]⟩ : Shape).Idx → EReal)
    (da db : (⟨3, ![8, 2816, 512]⟩ : Shape).Idx → EReal) (t : Fin 136) (R : Fin 69632) (C : Fin 1024) : EReal :=
  if IntOp.cmpi .slt (BitVec.ofNat 32 t.val) (T1 (ValueIdx.ix1 0)) = 1#1 then
    let e : Fin 8 := ⟨(T0 (ValueIdx.ix1 t)).toNat % 8, Nat.mod_lt _ (by decide)⟩
    ffn (fun d => xs (ValueIdx.ix2 R d)) (fun k d => g (ValueIdx.ix3 e d k)) (fun k d => u (ValueIdx.ix3 e d k))
      (fun k => if h : C.val < 512 then da (ValueIdx.ix3 e k ⟨C.val, h⟩) else db (ValueIdx.ix3 e k ⟨C.val - 512, by have := C.isLt; omega⟩))
  else 0

/-- The tile a row lies in. -/
def tileOf (R : Fin 69632) : Fin 136 := ⟨R.val / 512, by have := R.isLt; omega⟩

end Cert.Ffn

end
-- ==== Proof.BlockIdeal.lean ====
/- The body's block over the extended reals: a used tile's is the feed-forward layer of its rows, an unused tile's is zero. -/
module

public import proofs.«01_k».proof.Proof.Block
public import proofs.«01_k».proof.Proof.Spec
public import Idealize.ShloMosaic.Lib.MatmulPlain
public import Idealize.ShloMosaic.Lib.IdealHost
public import Idealize.ShloMosaic.Lib.Pipeline.Value

@[expose] public section

set_option maxRecDepth 16384

noncomputable section

namespace Cert.KernelIdeal.Moe

open Cert.KernelIdeal Cert.KernelIdeal.Gen Cert.Ffn
open Idealize.ShloMosaic Idealize.ShloMosaic.ValueIdx
open Idealize.ShloMosaic.TcCoe
open Idealize.SL Idealize.SL.RA Idealize.SL.Sem

/-- A projection's chunk at a row and a column. -/
theorem mm_in (xs : FVec Ideal S512x1024 .bf16) (w : FVec Ideal S1x1024x256 .bf16) (r : Fin 512) (j : Fin 256) :
    matmul dot_S512x1024_S1024x256_S512x256_1_0_0_1_n_n none xs (shapeCast S1024x256 w shapeCasts_S1x1024x256_S1024x256 : FVec Ideal S1024x256 .bf16)
        (constant S512x256 .f32 0x00000000#32) (ix2 r j)
      = lin (fun d => xs (ix2 r d)) (fun d => w (ix3 0 d j)) := by
  refine (Ideal.matmul_plain_apply (M := 512) (K := 1024) (N := 256) none xs (shapeCast S1024x256 w shapeCasts_S1x1024x256_S1024x256) _ r j).trans ?_
  rw [show (constant S512x256 .f32 0x00000000#32 : FVec Ideal S512x256 .f32) (ix2 r j) = 0 from Ideal.ofBits_zero_f32, zero_add]
  refine Finset.sum_congr rfl fun d _ => congrArg (xs (ix2 r d) * ·) ?_
  rw [shapeCast_dropUnit_apply (d := ![1024, 256])]
  exact congrArg w (funext fun a => by fin_cases a <;> rfl)

theorem hid_apply (xs : FVec Ideal S512x1024 .bf16) (g u : FVec Ideal S1x1024x256 .bf16) (r : Fin 512) (j : Fin 256) :
    hid (F := Ideal) xs g u (ix2 r j)
      = act (lin (fun d => xs (ix2 r d)) (fun d => g (ix3 0 d j))) (lin (fun d => xs (ix2 r d)) (fun d => u (ix3 0 d j))) := by
  rw [← mm_in xs g r j, ← mm_in xs u r j]
  unfold hid act Ideal.logistic
  show _ * Ideal.div (Ideal.ofBits .f32 0x3F800000#32) (Ideal.ofBits .f32 0x3F800000#32 + Ideal.exp (Ideal.ofBits .f32 0x00000000#32 - _)) * _ = _
  rw [Ideal.ofBits_one_f32, Ideal.ofBits_zero_f32, zero_sub]

theorem down_apply (h : FVec Ideal S512x256 .bf16) (d : FVec Ideal S1x256x512 .bf16) (r c : Fin 512) :
    down (F := Ideal) h d (ix2 r c) = ∑ b : Fin 256, h (ix2 r b) * d (ix3 0 b c) := by
  unfold down
  refine (Ideal.matmul_plain_apply (M := 512) (K := 256) (N := 512) none h (shapeCast S256x512 d shapeCasts_S1x256x512_S256x512) _ r c).trans ?_
  rw [show (constant S512x512 .f32 0x00000000#32 : FVec Ideal S512x512 .f32) (ix2 r c) = 0 from Ideal.ofBits_zero_f32, zero_add]
  refine Finset.sum_congr rfl fun b _ => congrArg (h (ix2 r b) * ·) ?_
  rw [shapeCast_dropUnit_apply (d := ![256, 512])]
  exact congrArg d (funext fun a => by fin_cases a <;> rfl)

/-- One chunk's term: the loads' boxes read at the hidden position they stand for. -/
theorem chunk_apply (x0 : S512x1024.Idx → Elt Ideal .bf16) (x1 x2 : S1x1024x2816.Idx → Elt Ideal .bf16) (d : S1x2816x512.Idx → Elt Ideal .bf16)
    (a : Fin 11) (o : Nat) (ho : o = 256 * a.val) (i0) (i1) (i3) (r c : Fin 512) :
    down (F := Ideal) (hid (View.ld x0 (Rect.unit ![0, 0] S512x1024.size i0)) (View.ld x1 (Rect.unit ![0, 0, o] S1x1024x256.size i1)) (View.ld x2 (Rect.unit ![0, 0, o] S1x1024x256.size i1)))
        (View.ld (Val := Elt Ideal) (e' := .bf16) d (Rect.unit (s := S1x2816x512) ![0, o, 0] S1x256x512.size i3)) (ix2 r c)
      = ∑ b : Fin 256, (fun k : Fin 2816 => act (lin (fun dd => x0 (ix2 r dd)) (fun dd => x1 (ix3 0 dd k))) (lin (fun dd => x0 (ix2 r dd)) (fun dd => x2 (ix3 0 dd k))) * d (ix3 0 k c)) (at256 a b) := by
  subst ho
  rw [down_apply]
  refine Finset.sum_congr rfl fun b _ => ?_
  rw [hid_apply]
  have e0 : View.ld x0 (Rect.unit ![0, 0] S512x1024.size i0) = x0 := View.ld_unit_zero (by funext a; fin_cases a <;> rfl) i0 x0
  have e1 : ∀ (x : S1x1024x2816.Idx → Elt Ideal .bf16) (dd : Fin 1024), View.ld x (Rect.unit ![0, 0, 256 * a.val] S1x1024x256.size i1) (ix3 0 dd b) = x (ix3 0 dd (at256 a b)) := fun x dd =>
    congrArg x (funext fun q => Fin.ext (by
      fin_cases q
      · show 0 + 1 * 0 = 0; rfl
      · show 0 + 1 * dd.val = dd.val; omega
      · show 256 * a.val + 1 * b.val = 256 * a.val + b.val; omega))
  have e2 : View.ld (Val := Elt Ideal) (e' := .bf16) d (Rect.unit (s := S1x2816x512) ![0, 256 * a.val, 0] S1x256x512.size i3) (ix3 0 b c) = d (ix3 0 (at256 a b) c) :=
    congrArg d (funext fun q => Fin.ext (by
      fin_cases q
      · show 0 + 1 * 0 = 0; rfl
      · show 256 * a.val + 1 * b.val = 256 * a.val + b.val; omega
      · show 0 + 1 * c.val = c.val; omega))
  rw [e0, e2]
  exact congrArg (· * d (ix3 0 (at256 a b) c)) (congr (congrArg act (congrArg (lin _) (funext fun dd => e1 x1 dd))) (congrArg (lin _) (funext fun dd => e1 x2 dd)))

/-- Half the columns of a used tile. -/
theorem half_apply (x0 : S512x1024.Idx → Elt Ideal .bf16) (x1 x2 : S1x1024x2816.Idx → Elt Ideal .bf16) (d : S1x2816x512.Idx → Elt Ideal .bf16) (r c : Fin 512) :
    half (F := Ideal) x0 x1 x2 d (ix2 r c)
      = ffn (fun dd => x0 (ix2 r dd)) (fun k dd => x1 (ix3 0 dd k)) (fun k dd => x2 (ix3 0 dd k)) (fun k => d (ix3 0 k c)) := by
  unfold ffn
  rw [sum_chunks]
  unfold half
  refine congr (congrArg HAdd.hAdd ?_) (chunk_apply x0 x1 x2 d 10 2560 rfl _ _ _ r c)
  refine congr (congrArg HAdd.hAdd ?_) (chunk_apply x0 x1 x2 d 9 2304 rfl _ _ _ r c)
  refine congr (congrArg HAdd.hAdd ?_) (chunk_apply x0 x1 x2 d 8 2048 rfl _ _ _ r c)
  refine congr (congrArg HAdd.hAdd ?_) (chunk_apply x0 x1 x2 d 7 1792 rfl _ _ _ r c)
  refine congr (congrArg HAdd.hAdd ?_) (chunk_apply x0 x1 x2 d 6 1536 rfl _ _ _ r c)
  refine congr (congrArg HAdd.hAdd ?_) (chunk_apply x0 x1 x2 d 5 1280 rfl _ _ _ r c)
  refine congr (congrArg HAdd.hAdd ?_) (chunk_apply x0 x1 x2 d 4 1024 rfl _ _ _ r c)
  refine congr (congrArg HAdd.hAdd ?_) (chunk_apply x0 x1 x2 d 3 768 rfl _ _ _ r c)
  refine congr (congrArg HAdd.hAdd ?_) (chunk_apply x0 x1 x2 d 2 512 rfl _ _ _ r c)
  exact congr (congrArg HAdd.hAdd (chunk_apply x0 x1 x2 d 0 0 rfl _ _ _ r c)) (chunk_apply x0 x1 x2 d 1 256 rfl _ _ _ r c)

end Cert.KernelIdeal.Moe

end
-- ==== Proof.Value.lean ====
/- The array the run leaves, over the extended reals: the grouped layer of the arguments. -/
module

public import proofs.«01_k».proof.Proof.BlockIdeal
public import proofs.«01_k».proof.Proof.Ok
public import Idealize.ShloMosaic.Lib.Pipeline.Value

@[expose] public section

set_option maxRecDepth 16384

noncomputable section

namespace Cert.KernelIdeal.Moe

open Cert.KernelIdeal Cert.KernelIdeal.Gen Cert.Ffn
open Idealize.ShloMosaic Idealize.ShloMosaic.ValueIdx
open Idealize.ShloMosaic.TcCoe
open Idealize.ShloMosaic.Pipeline (Dat Cfg Window)
open Idealize.SL Idealize.SL.RA Idealize.SL.Sem

section
variable (a : (pcfg0 (F := Ideal)).Adm) (m : (ℓ : Loc nD τ sig) → Buf (Elt Ideal) ℓ) (c : Dev nD)

/-- The arguments the windows stage, at their literal types. -/
abbrev aXs : S69632x1024.Idx → EReal := m ((c : Thread nD τ).loc main_arg2)
abbrev aG : S8x1024x2816.Idx → EReal := m ((c : Thread nD τ).loc main_arg3)
abbrev aU : S8x1024x2816.Idx → EReal := m ((c : Thread nD τ).loc main_arg4)
abbrev aDa : S8x2816x512.Idx → EReal := m ((c : Thread nD τ).loc main_arg5)
abbrev aDb : S8x2816x512.Idx → EReal := m ((c : Thread nD τ).loc main_arg6)

theorem coord_eq (t : Fin grid0.N) : (grid0.coords t 0).val = t.val := by revert t; decide +kernel

theorem flush_all : ∀ t : Fin grid0.N, Window.flushOf grid0 true cc0_transform_5 t = true := by decide +kernel

/-- Point `t` as a tile. -/
abbrev tl (t : Fin (cfgA a).N) : Fin 136 := ⟨t.val, lt_of_lt_of_eq t.isLt N_0⟩

theorem tr_word (i : grid0.Coords) : (Scalar.indexCast (BitVec.ofNat 32 (i 0).val) : Index).toNat = (i 0).val := by
  have h : (i 0).val < 136 := (i 0).isLt
  show (BitVec.ofNat 32 (i 0).val).toNat = _
  rw [BitVec.toNat_ofNat]; omega

/-- The word of the experts' table a point's windows take their block index from. -/
theorem word_at (t : Fin (cfgA a).N) (x : S136.Idx) (hx : (x 0).val = (Scalar.indexCast (BitVec.ofNat 32 ((crd a t) 0).val) : Index).toNat) :
    tExpert a x = tExpert a (ix1 (tl a t)) := by
  refine congrArg (tExpert a) (funext fun q => Fin.ext ?_)
  fin_cases q
  refine hx.trans ?_
  rw [tr_word, coord_eq]

/-- A point's block index into a stack of experts' weights. -/
abbrev ixW (t : Fin (cfgA a).N) : Fin 3 → Nat := ![(tExpert a (ix1 (tl a t)) : BitVec 32).toNat, 0, 0]

/-- The place of the table a point reads. -/
abbrev place (t : Fin (cfgA a).N) : S136.Idx :=
  (Rect.unit (s := S136) ![(Scalar.indexCast (BitVec.ofNat 32 ((crd a t) 0).val) : Index).toNat] S1.size (k0_off1_inb (crd a t))).toLoadRect.idx
    (Shape.Idx.first (numel1_S1.symm ▸ Nat.one_pos))

theorem word_place (t : Fin (cfgA a).N) : tExpert a (place a t) = tExpert a (ix1 (tl a t)) := word_at a t _ rfl

theorem index_1 (t : Fin (cfgA a).N) : ((cfgA a).win (1 : Fin 6)).index t = ixW a t := by
  show ![(tExpert a (place a t) : BitVec 32).toNat, 0, 0] = _
  rw [word_place]
theorem index_2 (t : Fin (cfgA a).N) : ((cfgA a).win (2 : Fin 6)).index t = ixW a t := by
  show ![(tExpert a (place a t) : BitVec 32).toNat, 0, 0] = _
  rw [word_place]
theorem index_3 (t : Fin (cfgA a).N) : ((cfgA a).win (3 : Fin 6)).index t = ixW a t := by
  show ![(tExpert a (place a t) : BitVec 32).toNat, 0, 0] = _
  rw [word_place]
theorem index_4 (t : Fin (cfgA a).N) : ((cfgA a).win (4 : Fin 6)).index t = ixW a t := by
  show ![(tExpert a (place a t) : BitVec 32).toNat, 0, 0] = _
  rw [word_place]
theorem index_0 (t : Fin (cfgA a).N) : ((cfgA a).win (0 : Fin 6)).index t = ![t.val, 0] := by
  show ![(BitVec.ofNat 32 ((crd a t) 0).val).toNat, 0] = _
  have h : ((crd a t) 0).val < 136 := ((crd a t) 0).isLt
  rw [BitVec.toNat_ofNat, Nat.mod_eq_of_lt (by omega), coord_eq]
theorem index_5 (t : Fin (cfgA a).N) : ((cfgA a).win (5 : Fin 6)).index t = ![t.val, 0] := by
  show ![(BitVec.ofNat 32 ((crd a t) 0).val).toNat, 0] = _
  have h : ((crd a t) 0).val < 136 := ((crd a t) 0).isLt
  rw [BitVec.toNat_ofNat, Nat.mod_eq_of_lt (by omega), coord_eq]

/-- Row `r` of tile `t`. -/
abbrev row (t : Fin (cfgA a).N) (r : Fin 512) : Fin 69632 := ⟨512 * t.val + r.val, by have h : t.val < 136 := lt_of_lt_of_eq t.isLt N_0; have := r.isLt; omega⟩

/-- The point's expert. -/
abbrev expert (t : Fin (cfgA a).N) : Fin 8 := ⟨(tExpert a (ix1 (tl a t)) : BitVec 32).toNat % 8, Nat.mod_lt _ (by decide)⟩

theorem iblk_0 (t : Fin (cfgA a).N) (r : Fin 512) (d : Fin 1024) : iblk a m c (0 : Fin 6) t (ix2 r d) = aXs m c (ix2 (row a t r) d) := by
  refine congrArg (aXs m c) (funext fun q => Fin.ext ?_)
  refine (Window.rect_emb_val ((cfgA a).win (0 : Fin 6)) t (ix2 r d) q).trans ?_
  rw [index_0]
  fin_cases q
  · show t.val * 512 + r.val = 512 * t.val + r.val; omega
  · show 0 * 1024 + d.val = d.val; omega

theorem iblk_1 (t : Fin (cfgA a).N) (ht : (tExpert a (ix1 (tl a t)) : BitVec 32).toNat < 8) (p : Fin 1024) (q : Fin 2816) :
    iblk a m c (1 : Fin 6) t (ix3 0 p q) = aG m c (ix3 (expert a t) p q) := by
  refine congrArg (aG m c) (funext fun z => Fin.ext ?_)
  refine (Window.rect_emb_val ((cfgA a).win (1 : Fin 6)) t (ix3 0 p q) z).trans ?_
  rw [index_1]
  fin_cases z
  · show (tExpert a (ix1 (tl a t)) : BitVec 32).toNat * 1 + 0 = (tExpert a (ix1 (tl a t)) : BitVec 32).toNat % 8; omega
  · show 0 * 1024 + p.val = p.val; omega
  · show 0 * 2816 + q.val = q.val; omega
theorem iblk_2 (t : Fin (cfgA a).N) (ht : (tExpert a (ix1 (tl a t)) : BitVec 32).toNat < 8) (p : Fin 1024) (q : Fin 2816) :
    iblk a m c (2 : Fin 6) t (ix3 0 p q) = aU m c (ix3 (expert a t) p q) := by
  refine congrArg (aU m c) (funext fun z => Fin.ext ?_)
  refine (Window.rect_emb_val ((cfgA a).win (2 : Fin 6)) t (ix3 0 p q) z).trans ?_
  rw [index_2]
  fin_cases z
  · show (tExpert a (ix1 (tl a t)) : BitVec 32).toNat * 1 + 0 = (tExpert a (ix1 (tl a t)) : BitVec 32).toNat % 8; omega
  · show 0 * 1024 + p.val = p.val; omega
  · show 0 * 2816 + q.val = q.val; omega
theorem iblk_3 (t : Fin (cfgA a).N) (ht : (tExpert a (ix1 (tl a t)) : BitVec 32).toNat < 8) (p : Fin 2816) (q : Fin 512) :
    iblk a m c (3 : Fin 6) t (ix3 0 p q) = aDa m c (ix3 (expert a t) p q) := by
  refine congrArg (aDa m c) (funext fun z => Fin.ext ?_)
  refine (Window.rect_emb_val ((cfgA a).win (3 : Fin 6)) t (ix3 0 p q) z).trans ?_
  rw [index_3]
  fin_cases z
  · show (tExpert a (ix1 (tl a t)) : BitVec 32).toNat * 1 + 0 = (tExpert a (ix1 (tl a t)) : BitVec 32).toNat % 8; omega
  · show 0 * 2816 + p.val = p.val; omega
  · show 0 * 512 + q.val = q.val; omega
theorem iblk_4 (t : Fin (cfgA a).N) (ht : (tExpert a (ix1 (tl a t)) : BitVec 32).toNat < 8) (p : Fin 2816) (q : Fin 512) :
    iblk a m c (4 : Fin 6) t (ix3 0 p q) = aDb m c (ix3 (expert a t) p q) := by
  refine congrArg (aDb m c) (funext fun z => Fin.ext ?_)
  refine (Window.rect_emb_val ((cfgA a).win (4 : Fin 6)) t (ix3 0 p q) z).trans ?_
  rw [index_4]
  fin_cases z
  · show (tExpert a (ix1 (tl a t)) : BitVec 32).toNat * 1 + 0 = (tExpert a (ix1 (tl a t)) : BitVec 32).toNat % 8; omega
  · show 0 * 2816 + p.val = p.val; omega
  · show 0 * 512 + q.val = q.val; omega

/-- The tile's branch, as the comparison of its number with the table's word. -/
theorem used_iff (t : Fin (cfgA a).N) : k0_cond1 (crd a t) (usedWord (F := Ideal) (tUsed a)) = 1#1
    ↔ IntOp.cmpi .slt (BitVec.ofNat 32 (tl a t).val) (tUsed a (ix1 0)) = 1#1 := by
  have e : usedWord (F := Ideal) (tUsed a) = tUsed a (ix1 0) := congrArg (tUsed a) (funext fun q => Fin.ext (by fin_cases q; rfl))
  rw [e]
  unfold k0_cond1
  rw [coord_eq]
  show Scalar.cmpi .ne (Scalar.extui (IntOp.cmpi .slt (BitVec.ofNat 32 (tl a t).val) (tUsed a (ix1 0)) : BitVec 1) : BitVec 32) 0#32 = 1#1 ↔ _
  generalize IntOp.cmpi .slt (BitVec.ofNat 32 (tl a t).val) (tUsed a (ix1 0)) = b
  revert b
  decide

/-- The layer at one row and column, over the tables and the arguments. -/
abbrev layer (t : Fin 136) (R : Fin 69632) (C : Fin 1024) : EReal :=
  moe (tExpert a) (tUsed a) (aXs m c) (aG m c) (aU m c) (aDa m c) (aDb m c) t R C

section
variable (t : Fin (cfgA a).N) (ht : (tExpert a (ix1 (tl a t)) : BitVec 32).toNat < 8)
  (hu : IntOp.cmpi .slt (BitVec.ofNat 32 (tl a t).val) (tUsed a (ix1 0)) = 1#1) (r c' : Fin 512) (r'' : Fin 512) (C : Fin 1024) (hr : r''.val = r.val)
include ht hu hr

/-- The left half's stored value is the layer's. -/
theorem half_left (hC : C.val = c'.val) :
    ffn (fun dd => iblk a m c (0 : Fin 6) t (ix2 r dd)) (fun k dd => iblk a m c (1 : Fin 6) t (ix3 0 dd k)) (fun k dd => iblk a m c (2 : Fin 6) t (ix3 0 dd k))
      (fun k => iblk a m c (3 : Fin 6) t (ix3 0 k c')) = layer a m c (tl a t) (row a t r'') C := by
  obtain rfl : r'' = r := Fin.ext hr
  unfold layer moe
  rw [if_pos hu]
  refine congr (congr (congr (congrArg ffn (funext fun d => iblk_0 a m c t r'' d)) (funext₂ fun k d => iblk_1 a m c t ht d k)) (funext₂ fun k d => iblk_2 a m c t ht d k)) (funext fun k => ?_)
  have hlt : C.val < 512 := hC ▸ c'.isLt
  rw [dif_pos hlt]
  exact (iblk_3 a m c t ht k c').trans (congrArg (aDa m c) (congrArg (ix3 _ k) (Fin.ext hC.symm)))

/-- So is the right half's. -/
theorem half_right (hC : C.val = 512 + c'.val) :
    ffn (fun dd => iblk a m c (0 : Fin 6) t (ix2 r dd)) (fun k dd => iblk a m c (1 : Fin 6) t (ix3 0 dd k)) (fun k dd => iblk a m c (2 : Fin 6) t (ix3 0 dd k))
      (fun k => iblk a m c (4 : Fin 6) t (ix3 0 k c')) = layer a m c (tl a t) (row a t r'') C := by
  obtain rfl : r'' = r := Fin.ext hr
  unfold layer moe
  rw [if_pos hu]
  refine congr (congr (congr (congrArg ffn (funext fun d => iblk_0 a m c t r'' d)) (funext₂ fun k d => iblk_1 a m c t ht d k)) (funext₂ fun k d => iblk_2 a m c t ht d k)) (funext fun k => ?_)
  have hlt : ¬ C.val < 512 := by omega
  rw [dif_neg hlt]
  exact (iblk_4 a m c t ht k c').trans (congrArg (aDb m c) (congrArg (ix3 _ k) (Fin.ext (show c'.val = C.val - 512 by omega))))

end

/-- What the body leaves in the output's staging buffer is the layer's tile. -/
theorem outAt_apply (t : Fin (cfgA a).N) (ht : (tExpert a (ix1 (tl a t)) : BitVec 32).toNat < 8) (r : Fin 512) (C : Fin 1024) :
    outAt a m c t (ix2 r C) = layer a m c (tl a t) (row a t r) C := by
  unfold outAt
  by_cases h : k0_cond1 (crd a t) (usedWord (F := Ideal) (tUsed a)) = 1#1
  · rw [dif_pos h, View.read_writes_eq_canon _ _ _ (cover_used c _ _ _ _ _ _ _ _ _ _ _ _ _ _ _ _ _ _ _ _ _ _ _), pieces_used]
    refine (View.canon_apply_of_pieces (S := S512x1024) (e := .bf16) (Val := Elt Ideal) (fun y => layer a m c (tl a t) (row a t (y 0)) (y 1)) _ ?_ _ ?_).trans rfl
    · have hu := (used_iff a t).1 h
      intro p hp x
      simp only [List.mem_cons, List.not_mem_nil, or_false] at hp
      rcases hp with rfl | rfl
      · obtain ⟨r', c', rfl⟩ : ∃ r' c', x = ix2 r' c' := ⟨_, _, eq_ix2 x⟩
        refine (half_apply _ _ _ _ _ _).trans (half_right a m c t ht hu r' c' _ _ ?_ ?_)
        · show 0 + 1 * r'.val = _; omega
        · show 512 + 1 * c'.val = _; omega
      · obtain ⟨r', c', rfl⟩ : ∃ r' c', x = ix2 r' c' := ⟨_, _, eq_ix2 x⟩
        refine (half_apply _ _ _ _ _ _).trans (half_left a m c t ht hu r' c' _ _ ?_ ?_)
        · show 0 + 1 * r'.val = _; omega
        · show 0 + 1 * c'.val = _; omega
    · exact pieces_used (F := Ideal) c (crd a t) fullShare.right (st0 a t) (hs0 a t) (st1 a t) (hs1 a t) (st2 a t) (hs2 a t) (st3 a t) (hs3 a t) (st4 a t) (hs4 a t) (st5 a t) (hs5 a t)
        (tExpert a) (tUsed a) (iblk a m c (0 : Fin 6) t) (iblk a m c (1 : Fin 6) t) (iblk a m c (2 : Fin 6) t) (iblk a m c (3 : Fin 6) t) (iblk a m c (4 : Fin 6) t) h
        (fun h' => (cond2_iff _ _).1 h' h) ▸ cover_used c _ _ _ _ _ _ _ _ _ _ _ _ _ _ _ _ _ _ _ _ _ _ _ _
  · rw [dif_neg h, View.read_writes_eq_canon _ _ _ (cover_idle c _ _ _ _ _ _ _ _ _ _ _ _ _ _ _ _ _ _ _ _ _ _ _), pieces_idle]
    unfold layer moe
    rw [if_neg (fun h' => h ((used_iff a t).2 h')), View.canon_unit_zero (funext fun q => by fin_cases q <;> rfl)]
    exact Ideal.ofBits_zero_bf16

/-- The output array the run leaves is the layer, tile by tile. -/
theorem out_eq (hT : ∀ j : S136.Idx, (tExpert a j : BitVec 32).toNat < 8) :
    (dats a m 0 c).arrAt (5 : Fin 6) (cfgA a).N = (fun i : S69632x1024.Idx => layer a m c (tileOf (i 0)) (i 0) (i 1)) := by
  refine Dat.arrAt_eq_of_cover (dats a m 0 c) (5 : Fin 6) _ (fun t _ => ?_) (fun i => ?_)
  · funext y
    obtain ⟨r, C, rfl⟩ : ∃ (r : Fin 512) (C : Fin 1024), y = ix2 r C := ⟨_, _, eq_ix2 y⟩
    refine (outAt_apply a m c t (hT _) r C).trans ?_
    have h0 : ((((cfgA a).win (5 : Fin 6)).rect t).emb (ix2 r C) (0 : Fin 2) : Nat) = 512 * t.val + r.val := by
      refine (Window.rect_emb_val ((cfgA a).win (5 : Fin 6)) t (ix2 r C) (0 : Fin 2)).trans ?_
      rw [index_5]; show t.val * 512 + r.val = _; omega
    have h1 : ((((cfgA a).win (5 : Fin 6)).rect t).emb (ix2 r C) (1 : Fin 2) : Nat) = C.val := by
      refine (Window.rect_emb_val ((cfgA a).win (5 : Fin 6)) t (ix2 r C) (1 : Fin 2)).trans ?_
      rw [index_5]; show 0 * 1024 + C.val = _; omega
    have e0 : row a t r = (((cfgA a).win (5 : Fin 6)).rect t).emb (ix2 r C) (0 : Fin 2) := Fin.ext h0.symm
    have e1 : C = (((cfgA a).win (5 : Fin 6)).rect t).emb (ix2 r C) (1 : Fin 2) := Fin.ext h1.symm
    have e2 : tl a t = tileOf (row a t r) := Fin.ext (show t.val = (512 * t.val + r.val) / 512 by have := r.isLt; omega)
    rw [e2]
    exact congr (congrArg (fun R => layer a m c (tileOf R) R) e0) e1
  · have hi : (i 0).val < 69632 := (i 0).isLt
    let t : Fin (cfgA a).N := ⟨(i 0).val / 512, lt_of_lt_of_eq (show (i 0).val / 512 < 136 by omega) N_0.symm⟩
    refine ⟨t, flush_all _, ?_⟩
    have e : i = (((cfgA a).win (5 : Fin 6)).rect t).emb (ix2 (⟨(i 0).val % 512, by omega⟩ : Fin 512) (i 1 : Fin 1024)) := by
      funext q
      refine Fin.ext (Eq.trans ?_ (Window.rect_emb_val ((cfgA a).win (5 : Fin 6)) t _ q).symm)
      rw [index_5]
      fin_cases q
      · show (i 0).val = (i 0).val / 512 * 512 + (i 0).val % 512; omega
      · show (i 1).val = 0 * 1024 + (i 1).val; omega
    rw [e]
    exact View.emb_mem_set _ _

end

end Cert.KernelIdeal.Moe

end
-- ==== Proof.Ref.lean ====
/- The reference, over the extended reals: each expert's feed-forward stage, the one-hot weights, and their sum as the layer. -/
module

public import proofs.«01_k».proof.Proof.Gen.ReferenceIdeal.Run
public import proofs.«01_k».proof.Proof.Gen.ReferenceIdeal.Read
public import proofs.«01_k».proof.Proof.Spec
public import Idealize.ShloMosaic.Lib.IdealHost
public import Idealize.ShloMosaic.Lib.Pipeline.Value

@[expose] public section

set_option maxRecDepth 16384

noncomputable section

namespace Cert.ReferenceIdeal.Moe

open Cert.ReferenceIdeal Cert.ReferenceIdeal.Gen Cert.ReferenceIdeal.Read Cert.Ffn
open Idealize.ShloMosaic Idealize.ShloMosaic.ValueIdx

section
variable (T0 : S136.Idx → BitVec 32) (T1 : S1.Idx → BitVec 32) (xs : S69632x1024.Idx → EReal) (g u : S8x1024x2816.Idx → EReal) (da db : S8x2816x512.Idx → EReal)

/-- The two halves of the down projections, joined along the columns. -/
theorem down_at (e : Fin 8) (k : Fin 2816) (C : Fin 1024) :
    val_main_v4 (F := Ideal) da db (ix3 e k C) = if h : C.val < 512 then da (ix3 e k ⟨C.val, h⟩) else db (ix3 e k ⟨C.val - 512, by have := C.isLt; omega⟩) := by
  show val_main_v3 (F := Ideal) da db (ix3 e k C) = _
  unfold val_main_v3
  by_cases h : C.val < 512
  · rw [dif_pos h]
    exact concatenate_pair_apply_left (t := S8x2816x1024) (s₁ := S8x2816x512) (s₂ := S8x2816x512) 2 da db _ _ rfl _ (fun b => by fin_cases b <;> rfl)
  · rw [dif_neg h]
    exact concatenate_pair_apply_right (t := S8x2816x1024) (s₁ := S8x2816x512) (s₂ := S8x2816x512) 2 da db _ _ rfl rfl _ (fun b hb => by fin_cases b <;> first | rfl | exact absurd rfl hb) (by show C.val - 512 + 512 = C.val; omega)

/-- An expert's feed-forward stage at one row and column. -/
abbrev stage (e : Fin 8) (R : Fin 69632) (C : Fin 1024) : EReal :=
  ffn (fun d => xs (ix2 R d)) (fun k d => g (ix3 e d k)) (fun k d => u (ix3 e d k))
    (fun k => if h : C.val < 512 then da (ix3 e k ⟨C.val, h⟩) else db (ix3 e k ⟨C.val - 512, by have := C.isLt; omega⟩))

/-- The logistic function as the reference spells it. -/
theorem logistic_eq (x : EReal) : FloatOps.hostDivf (F := Ideal) (φ := .f32) (FloatOps.ofBits .f32 0x3F800000#32)
    (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = _
  rw [Ideal.ofBits_one_f32]; rfl

/-- The one-hot weight of an expert at a row, from the row's expert word. -/
theorem weight_at (R : Fin 69632) (e : Fin 8) : val_main_v12 (F := Ideal) T0 T1 (ix2 R e)
    = if (if IntOp.cmpi .slt (BitVec.ofNat 32 (tileOf R).val) (T1 (ix1 0)) = 1#1 then T0 (ix1 (tileOf R)) else 4294967295#32) = BitVec.ofNat 32 e.val then 1 else 0 := by
  have hi : idx_main_v10 (idx_main_v11 (idx_main_call1_v0 (idx_main_call1_v2 (ix2 R e)))) = ix1 (tileOf R) :=
    funext fun q => Fin.ext (by fin_cases q; rfl)
  rw [val_main_v12_apply, val_main_call1_v4_apply, val_main_call1_v2_apply, val_main_call1_v0_apply, val_main_v11_apply, val_main_v10_apply, hi,
    val_main_v9_apply, val_main_v8_apply, val_main_v5_apply, val_main_v7_apply, val_main_call1_v3_apply, val_main_call0_v1_apply]
  have h6 : val_main_v6 (F := Ideal) T1 (idx_main_v7 (ix1 (tileOf R))) = T1 (ix1 0) :=
    congrArg T1 (funext fun q => Fin.ext (by fin_cases q; exact Nat.lt_one_iff.1 (Fin.isLt _)))
  rw [h6]
  show FloatOps.uitofp (F := Ideal) .f32 (IntOp.cmpi .eq (Scalar.select (IntOp.cmpi .slt (BitVec.ofNat 32 (tileOf R).val) (T1 (ix1 0))) (T0 (ix1 (tileOf R))) 4294967295#32) (BitVec.ofNat 32 e.val)) = _
  generalize IntOp.cmpi .slt (BitVec.ofNat 32 (tileOf R).val) (T1 (ix1 0)) = b
  show FloatOps.uitofp (F := Ideal) .f32 (IntOp.cmpi .eq (if b = 1#1 then T0 (ix1 (tileOf R)) else 4294967295#32) (BitVec.ofNat 32 e.val)) = _
  generalize (if b = 1#1 then T0 (ix1 (tileOf R)) else 4294967295#32 : BitVec 32) = w
  by_cases hw : w = BitVec.ofNat 32 e.val
  · rw [if_pos hw, hw]
    show (((IntOp.cmpi .eq (BitVec.ofNat 32 e.val) (BitVec.ofNat 32 e.val)).toNat : ℝ) : EReal) = 1
    simp [IntOp.cmpi]
  · rw [if_neg hw]
    show (((IntOp.cmpi .eq w (BitVec.ofNat 32 e.val)).toNat : ℝ) : EReal) = 0
    simp [IntOp.cmpi, hw]

theorem gate_0 (R : Fin 69632) (k : Fin 2816) : val_main_v21 (F := Ideal) xs g (ix2 R k) = lin (fun d => xs (ix2 R d)) (fun d => g (ix3 0 d k)) := by
  rw [val_main_v21_apply]
  refine Finset.sum_congr rfl fun d _ => ?_
  rw [val_main_v16_apply, val_main_v15_apply]
  refine congr (congrArg (fun x y : EReal => x * y) (congrArg xs ?_)) (congrArg g ?_)
  · exact funext fun q => Fin.ext (by fin_cases q <;> rfl)
  · refine funext fun q => Fin.ext ?_
    fin_cases q
    · rfl
    · show (d.val * 2816 + k.val) / 2816 % 1024 = d.val; omega
    · show (d.val * 2816 + k.val) % 2816 = k.val; omega
theorem up_0 (R : Fin 69632) (k : Fin 2816) : val_main_v23 (F := Ideal) xs u (ix2 R k) = lin (fun d => xs (ix2 R d)) (fun d => u (ix3 0 d k)) := by
  rw [val_main_v23_apply]
  refine Finset.sum_congr rfl fun d _ => ?_
  rw [val_main_v18_apply, val_main_v17_apply]
  refine congr (congrArg (fun x y : EReal => x * y) (congrArg xs ?_)) (congrArg u ?_)
  · exact funext fun q => Fin.ext (by fin_cases q <;> rfl)
  · refine funext fun q => Fin.ext ?_
    fin_cases q
    · rfl
    · show (d.val * 2816 + k.val) / 2816 % 1024 = d.val; omega
    · show (d.val * 2816 + k.val) % 2816 = k.val; omega
theorem stage_0 (R : Fin 69632) (C : Fin 1024) : val_main_v25 (F := Ideal) xs g u da db (ix2 R C) = stage xs g u da db 0 R C := by
  rw [val_main_v25_apply]
  refine Finset.sum_congr rfl fun k _ => ?_
  have hl : lidx_main_v25 (ix2 R C) k = ix2 R k := funext fun q => Fin.ext (by fin_cases q <;> rfl)
  have hr : idx_main_v19 (idx_main_v20 (ridx_main_v25 (ix2 R C) k)) = ix3 0 k C := by
    refine funext fun q => Fin.ext ?_
    have := C.isLt
    fin_cases q
    · rfl
    · show (k.val * 1024 + C.val) / 1024 % 2816 = k.val; omega
    · show (k.val * 1024 + C.val) % 1024 = C.val; omega
  rw [hl, val_main_v20_apply, val_main_v19_apply, hr, down_at, val_main_v24_apply, val_main_v22_apply, gate_0, up_0, val_main_call2_v5_apply, val_main_call2_v4_apply,
    val_main_call2_v3_apply, val_main_call2_v2_apply, val_main_call2_v1_apply, val_main_call2_v0_apply, gate_0]
  exact congrArg (fun x : EReal => lin (fun d => xs (ix2 R d)) (fun d => g (ix3 0 d k)) * x * lin (fun d => xs (ix2 R d)) (fun d => u (ix3 0 d k)) * _) (logistic_eq _)
theorem term_0 (R : Fin 69632) (C : Fin 1024) : val_main_v27 (F := Ideal) T0 T1 xs g u da db (ix2 R C)
    = val_main_v12 (F := Ideal) T0 T1 (ix2 R 0) * stage xs g u da db 0 R C := by
  rw [val_main_v27_apply, val_main_v26_apply, val_main_v14_apply, stage_0]
  exact congrArg (fun x => val_main_v12 (F := Ideal) T0 T1 x * stage xs g u da db 0 R C) (funext fun q => Fin.ext (by fin_cases q <;> rfl))

theorem gate_1 (R : Fin 69632) (k : Fin 2816) : val_main_v36 (F := Ideal) xs g (ix2 R k) = lin (fun d => xs (ix2 R d)) (fun d => g (ix3 1 d k)) := by
  rw [val_main_v36_apply]
  refine Finset.sum_congr rfl fun d _ => ?_
  rw [val_main_v31_apply, val_main_v30_apply]
  refine congr (congrArg (fun x y : EReal => x * y) (congrArg xs ?_)) (congrArg g ?_)
  · exact funext fun q => Fin.ext (by fin_cases q <;> rfl)
  · refine funext fun q => Fin.ext ?_
    fin_cases q
    · rfl
    · show (d.val * 2816 + k.val) / 2816 % 1024 = d.val; omega
    · show (d.val * 2816 + k.val) % 2816 = k.val; omega
theorem up_1 (R : Fin 69632) (k : Fin 2816) : val_main_v38 (F := Ideal) xs u (ix2 R k) = lin (fun d => xs (ix2 R d)) (fun d => u (ix3 1 d k)) := by
  rw [val_main_v38_apply]
  refine Finset.sum_congr rfl fun d _ => ?_
  rw [val_main_v33_apply, val_main_v32_apply]
  refine congr (congrArg (fun x y : EReal => x * y) (congrArg xs ?_)) (congrArg u ?_)
  · exact funext fun q => Fin.ext (by fin_cases q <;> rfl)
  · refine funext fun q => Fin.ext ?_
    fin_cases q
    · rfl
    · show (d.val * 2816 + k.val) / 2816 % 1024 = d.val; omega
    · show (d.val * 2816 + k.val) % 2816 = k.val; omega
theorem stage_1 (R : Fin 69632) (C : Fin 1024) : val_main_v40 (F := Ideal) xs g u da db (ix2 R C) = stage xs g u da db 1 R C := by
  rw [val_main_v40_apply]
  refine Finset.sum_congr rfl fun k _ => ?_
  have hl : lidx_main_v40 (ix2 R C) k = ix2 R k := funext fun q => Fin.ext (by fin_cases q <;> rfl)
  have hr : idx_main_v34 (idx_main_v35 (ridx_main_v40 (ix2 R C) k)) = ix3 1 k C := by
    refine funext fun q => Fin.ext ?_
    have := C.isLt
    fin_cases q
    · rfl
    · show (k.val * 1024 + C.val) / 1024 % 2816 = k.val; omega
    · show (k.val * 1024 + C.val) % 1024 = C.val; omega
  rw [hl, val_main_v35_apply, val_main_v34_apply, hr, down_at, val_main_v39_apply, val_main_v37_apply, gate_1, up_1, val_main_call3_v5_apply, val_main_call3_v4_apply,
    val_main_call3_v3_apply, val_main_call3_v2_apply, val_main_call3_v1_apply, val_main_call3_v0_apply, gate_1]
  exact congrArg (fun x : EReal => lin (fun d => xs (ix2 R d)) (fun d => g (ix3 1 d k)) * x * lin (fun d => xs (ix2 R d)) (fun d => u (ix3 1 d k)) * _) (logistic_eq _)
theorem term_1 (R : Fin 69632) (C : Fin 1024) : val_main_v42 (F := Ideal) T0 T1 xs g u da db (ix2 R C)
    = val_main_v12 (F := Ideal) T0 T1 (ix2 R 1) * stage xs g u da db 1 R C := by
  rw [val_main_v42_apply, val_main_v41_apply, val_main_v29_apply, stage_1]
  exact congrArg (fun x => val_main_v12 (F := Ideal) T0 T1 x * stage xs g u da db 1 R C) (funext fun q => Fin.ext (by fin_cases q <;> rfl))

theorem gate_2 (R : Fin 69632) (k : Fin 2816) : val_main_v51 (F := Ideal) xs g (ix2 R k) = lin (fun d => xs (ix2 R d)) (fun d => g (ix3 2 d k)) := by
  rw [val_main_v51_apply]
  refine Finset.sum_congr rfl fun d _ => ?_
  rw [val_main_v46_apply, val_main_v45_apply]
  refine congr (congrArg (fun x y : EReal => x * y) (congrArg xs ?_)) (congrArg g ?_)
  · exact funext fun q => Fin.ext (by fin_cases q <;> rfl)
  · refine funext fun q => Fin.ext ?_
    fin_cases q
    · rfl
    · show (d.val * 2816 + k.val) / 2816 % 1024 = d.val; omega
    · show (d.val * 2816 + k.val) % 2816 = k.val; omega
theorem up_2 (R : Fin 69632) (k : Fin 2816) : val_main_v53 (F := Ideal) xs u (ix2 R k) = lin (fun d => xs (ix2 R d)) (fun d => u (ix3 2 d k)) := by
  rw [val_main_v53_apply]
  refine Finset.sum_congr rfl fun d _ => ?_
  rw [val_main_v48_apply, val_main_v47_apply]
  refine congr (congrArg (fun x y : EReal => x * y) (congrArg xs ?_)) (congrArg u ?_)
  · exact funext fun q => Fin.ext (by fin_cases q <;> rfl)
  · refine funext fun q => Fin.ext ?_
    fin_cases q
    · rfl
    · show (d.val * 2816 + k.val) / 2816 % 1024 = d.val; omega
    · show (d.val * 2816 + k.val) % 2816 = k.val; omega
theorem stage_2 (R : Fin 69632) (C : Fin 1024) : val_main_v55 (F := Ideal) xs g u da db (ix2 R C) = stage xs g u da db 2 R C := by
  rw [val_main_v55_apply]
  refine Finset.sum_congr rfl fun k _ => ?_
  have hl : lidx_main_v55 (ix2 R C) k = ix2 R k := funext fun q => Fin.ext (by fin_cases q <;> rfl)
  have hr : idx_main_v49 (idx_main_v50 (ridx_main_v55 (ix2 R C) k)) = ix3 2 k C := by
    refine funext fun q => Fin.ext ?_
    have := C.isLt
    fin_cases q
    · rfl
    · show (k.val * 1024 + C.val) / 1024 % 2816 = k.val; omega
    · show (k.val * 1024 + C.val) % 1024 = C.val; omega
  rw [hl, val_main_v50_apply, val_main_v49_apply, hr, down_at, val_main_v54_apply, val_main_v52_apply, gate_2, up_2, val_main_call4_v5_apply, val_main_call4_v4_apply,
    val_main_call4_v3_apply, val_main_call4_v2_apply, val_main_call4_v1_apply, val_main_call4_v0_apply, gate_2]
  exact congrArg (fun x : EReal => lin (fun d => xs (ix2 R d)) (fun d => g (ix3 2 d k)) * x * lin (fun d => xs (ix2 R d)) (fun d => u (ix3 2 d k)) * _) (logistic_eq _)
theorem term_2 (R : Fin 69632) (C : Fin 1024) : val_main_v57 (F := Ideal) T0 T1 xs g u da db (ix2 R C)
    = val_main_v12 (F := Ideal) T0 T1 (ix2 R 2) * stage xs g u da db 2 R C := by
  rw [val_main_v57_apply, val_main_v56_apply, val_main_v44_apply, stage_2]
  exact congrArg (fun x => val_main_v12 (F := Ideal) T0 T1 x * stage xs g u da db 2 R C) (funext fun q => Fin.ext (by fin_cases q <;> rfl))

theorem gate_3 (R : Fin 69632) (k : Fin 2816) : val_main_v66 (F := Ideal) xs g (ix2 R k) = lin (fun d => xs (ix2 R d)) (fun d => g (ix3 3 d k)) := by
  rw [val_main_v66_apply]
  refine Finset.sum_congr rfl fun d _ => ?_
  rw [val_main_v61_apply, val_main_v60_apply]
  refine congr (congrArg (fun x y : EReal => x * y) (congrArg xs ?_)) (congrArg g ?_)
  · exact funext fun q => Fin.ext (by fin_cases q <;> rfl)
  · refine funext fun q => Fin.ext ?_
    fin_cases q
    · rfl
    · show (d.val * 2816 + k.val) / 2816 % 1024 = d.val; omega
    · show (d.val * 2816 + k.val) % 2816 = k.val; omega
theorem up_3 (R : Fin 69632) (k : Fin 2816) : val_main_v68 (F := Ideal) xs u (ix2 R k) = lin (fun d => xs (ix2 R d)) (fun d => u (ix3 3 d k)) := by
  rw [val_main_v68_apply]
  refine Finset.sum_congr rfl fun d _ => ?_
  rw [val_main_v63_apply, val_main_v62_apply]
  refine congr (congrArg (fun x y : EReal => x * y) (congrArg xs ?_)) (congrArg u ?_)
  · exact funext fun q => Fin.ext (by fin_cases q <;> rfl)
  · refine funext fun q => Fin.ext ?_
    fin_cases q
    · rfl
    · show (d.val * 2816 + k.val) / 2816 % 1024 = d.val; omega
    · show (d.val * 2816 + k.val) % 2816 = k.val; omega
theorem stage_3 (R : Fin 69632) (C : Fin 1024) : val_main_v70 (F := Ideal) xs g u da db (ix2 R C) = stage xs g u da db 3 R C := by
  rw [val_main_v70_apply]
  refine Finset.sum_congr rfl fun k _ => ?_
  have hl : lidx_main_v70 (ix2 R C) k = ix2 R k := funext fun q => Fin.ext (by fin_cases q <;> rfl)
  have hr : idx_main_v64 (idx_main_v65 (ridx_main_v70 (ix2 R C) k)) = ix3 3 k C := by
    refine funext fun q => Fin.ext ?_
    have := C.isLt
    fin_cases q
    · rfl
    · show (k.val * 1024 + C.val) / 1024 % 2816 = k.val; omega
    · show (k.val * 1024 + C.val) % 1024 = C.val; omega
  rw [hl, val_main_v65_apply, val_main_v64_apply, hr, down_at, val_main_v69_apply, val_main_v67_apply, gate_3, up_3, val_main_call5_v5_apply, val_main_call5_v4_apply,
    val_main_call5_v3_apply, val_main_call5_v2_apply, val_main_call5_v1_apply, val_main_call5_v0_apply, gate_3]
  exact congrArg (fun x : EReal => lin (fun d => xs (ix2 R d)) (fun d => g (ix3 3 d k)) * x * lin (fun d => xs (ix2 R d)) (fun d => u (ix3 3 d k)) * _) (logistic_eq _)
theorem term_3 (R : Fin 69632) (C : Fin 1024) : val_main_v72 (F := Ideal) T0 T1 xs g u da db (ix2 R C)
    = val_main_v12 (F := Ideal) T0 T1 (ix2 R 3) * stage xs g u da db 3 R C := by
  rw [val_main_v72_apply, val_main_v71_apply, val_main_v59_apply, stage_3]
  exact congrArg (fun x => val_main_v12 (F := Ideal) T0 T1 x * stage xs g u da db 3 R C) (funext fun q => Fin.ext (by fin_cases q <;> rfl))

theorem gate_4 (R : Fin 69632) (k : Fin 2816) : val_main_v81 (F := Ideal) xs g (ix2 R k) = lin (fun d => xs (ix2 R d)) (fun d => g (ix3 4 d k)) := by
  rw [val_main_v81_apply]
  refine Finset.sum_congr rfl fun d _ => ?_
  rw [val_main_v76_apply, val_main_v75_apply]
  refine congr (congrArg (fun x y : EReal => x * y) (congrArg xs ?_)) (congrArg g ?_)
  · exact funext fun q => Fin.ext (by fin_cases q <;> rfl)
  · refine funext fun q => Fin.ext ?_
    fin_cases q
    · rfl
    · show (d.val * 2816 + k.val) / 2816 % 1024 = d.val; omega
    · show (d.val * 2816 + k.val) % 2816 = k.val; omega
theorem up_4 (R : Fin 69632) (k : Fin 2816) : val_main_v83 (F := Ideal) xs u (ix2 R k) = lin (fun d => xs (ix2 R d)) (fun d => u (ix3 4 d k)) := by
  rw [val_main_v83_apply]
  refine Finset.sum_congr rfl fun d _ => ?_
  rw [val_main_v78_apply, val_main_v77_apply]
  refine congr (congrArg (fun x y : EReal => x * y) (congrArg xs ?_)) (congrArg u ?_)
  · exact funext fun q => Fin.ext (by fin_cases q <;> rfl)
  · refine funext fun q => Fin.ext ?_
    fin_cases q
    · rfl
    · show (d.val * 2816 + k.val) / 2816 % 1024 = d.val; omega
    · show (d.val * 2816 + k.val) % 2816 = k.val; omega
theorem stage_4 (R : Fin 69632) (C : Fin 1024) : val_main_v85 (F := Ideal) xs g u da db (ix2 R C) = stage xs g u da db 4 R C := by
  rw [val_main_v85_apply]
  refine Finset.sum_congr rfl fun k _ => ?_
  have hl : lidx_main_v85 (ix2 R C) k = ix2 R k := funext fun q => Fin.ext (by fin_cases q <;> rfl)
  have hr : idx_main_v79 (idx_main_v80 (ridx_main_v85 (ix2 R C) k)) = ix3 4 k C := by
    refine funext fun q => Fin.ext ?_
    have := C.isLt
    fin_cases q
    · rfl
    · show (k.val * 1024 + C.val) / 1024 % 2816 = k.val; omega
    · show (k.val * 1024 + C.val) % 1024 = C.val; omega
  rw [hl, val_main_v80_apply, val_main_v79_apply, hr, down_at, val_main_v84_apply, val_main_v82_apply, gate_4, up_4, val_main_call6_v5_apply, val_main_call6_v4_apply,
    val_main_call6_v3_apply, val_main_call6_v2_apply, val_main_call6_v1_apply, val_main_call6_v0_apply, gate_4]
  exact congrArg (fun x : EReal => lin (fun d => xs (ix2 R d)) (fun d => g (ix3 4 d k)) * x * lin (fun d => xs (ix2 R d)) (fun d => u (ix3 4 d k)) * _) (logistic_eq _)
theorem term_4 (R : Fin 69632) (C : Fin 1024) : val_main_v87 (F := Ideal) T0 T1 xs g u da db (ix2 R C)
    = val_main_v12 (F := Ideal) T0 T1 (ix2 R 4) * stage xs g u da db 4 R C := by
  rw [val_main_v87_apply, val_main_v86_apply, val_main_v74_apply, stage_4]
  exact congrArg (fun x => val_main_v12 (F := Ideal) T0 T1 x * stage xs g u da db 4 R C) (funext fun q => Fin.ext (by fin_cases q <;> rfl))

theorem gate_5 (R : Fin 69632) (k : Fin 2816) : val_main_v96 (F := Ideal) xs g (ix2 R k) = lin (fun d => xs (ix2 R d)) (fun d => g (ix3 5 d k)) := by
  rw [val_main_v96_apply]
  refine Finset.sum_congr rfl fun d _ => ?_
  rw [val_main_v91_apply, val_main_v90_apply]
  refine congr (congrArg (fun x y : EReal => x * y) (congrArg xs ?_)) (congrArg g ?_)
  · exact funext fun q => Fin.ext (by fin_cases q <;> rfl)
  · refine funext fun q => Fin.ext ?_
    fin_cases q
    · rfl
    · show (d.val * 2816 + k.val) / 2816 % 1024 = d.val; omega
    · show (d.val * 2816 + k.val) % 2816 = k.val; omega
theorem up_5 (R : Fin 69632) (k : Fin 2816) : val_main_v98 (F := Ideal) xs u (ix2 R k) = lin (fun d => xs (ix2 R d)) (fun d => u (ix3 5 d k)) := by
  rw [val_main_v98_apply]
  refine Finset.sum_congr rfl fun d _ => ?_
  rw [val_main_v93_apply, val_main_v92_apply]
  refine congr (congrArg (fun x y : EReal => x * y) (congrArg xs ?_)) (congrArg u ?_)
  · exact funext fun q => Fin.ext (by fin_cases q <;> rfl)
  · refine funext fun q => Fin.ext ?_
    fin_cases q
    · rfl
    · show (d.val * 2816 + k.val) / 2816 % 1024 = d.val; omega
    · show (d.val * 2816 + k.val) % 2816 = k.val; omega
theorem stage_5 (R : Fin 69632) (C : Fin 1024) : val_main_v100 (F := Ideal) xs g u da db (ix2 R C) = stage xs g u da db 5 R C := by
  rw [val_main_v100_apply]
  refine Finset.sum_congr rfl fun k _ => ?_
  have hl : lidx_main_v100 (ix2 R C) k = ix2 R k := funext fun q => Fin.ext (by fin_cases q <;> rfl)
  have hr : idx_main_v94 (idx_main_v95 (ridx_main_v100 (ix2 R C) k)) = ix3 5 k C := by
    refine funext fun q => Fin.ext ?_
    have := C.isLt
    fin_cases q
    · rfl
    · show (k.val * 1024 + C.val) / 1024 % 2816 = k.val; omega
    · show (k.val * 1024 + C.val) % 1024 = C.val; omega
  rw [hl, val_main_v95_apply, val_main_v94_apply, hr, down_at, val_main_v99_apply, val_main_v97_apply, gate_5, up_5, val_main_call7_v5_apply, val_main_call7_v4_apply,
    val_main_call7_v3_apply, val_main_call7_v2_apply, val_main_call7_v1_apply, val_main_call7_v0_apply, gate_5]
  exact congrArg (fun x : EReal => lin (fun d => xs (ix2 R d)) (fun d => g (ix3 5 d k)) * x * lin (fun d => xs (ix2 R d)) (fun d => u (ix3 5 d k)) * _) (logistic_eq _)
theorem term_5 (R : Fin 69632) (C : Fin 1024) : val_main_v102 (F := Ideal) T0 T1 xs g u da db (ix2 R C)
    = val_main_v12 (F := Ideal) T0 T1 (ix2 R 5) * stage xs g u da db 5 R C := by
  rw [val_main_v102_apply, val_main_v101_apply, val_main_v89_apply, stage_5]
  exact congrArg (fun x => val_main_v12 (F := Ideal) T0 T1 x * stage xs g u da db 5 R C) (funext fun q => Fin.ext (by fin_cases q <;> rfl))

theorem gate_6 (R : Fin 69632) (k : Fin 2816) : val_main_v111 (F := Ideal) xs g (ix2 R k) = lin (fun d => xs (ix2 R d)) (fun d => g (ix3 6 d k)) := by
  rw [val_main_v111_apply]
  refine Finset.sum_congr rfl fun d _ => ?_
  rw [val_main_v106_apply, val_main_v105_apply]
  refine congr (congrArg (fun x y : EReal => x * y) (congrArg xs ?_)) (congrArg g ?_)
  · exact funext fun q => Fin.ext (by fin_cases q <;> rfl)
  · refine funext fun q => Fin.ext ?_
    fin_cases q
    · rfl
    · show (d.val * 2816 + k.val) / 2816 % 1024 = d.val; omega
    · show (d.val * 2816 + k.val) % 2816 = k.val; omega
theorem up_6 (R : Fin 69632) (k : Fin 2816) : val_main_v113 (F := Ideal) xs u (ix2 R k) = lin (fun d => xs (ix2 R d)) (fun d => u (ix3 6 d k)) := by
  rw [val_main_v113_apply]
  refine Finset.sum_congr rfl fun d _ => ?_
  rw [val_main_v108_apply, val_main_v107_apply]
  refine congr (congrArg (fun x y : EReal => x * y) (congrArg xs ?_)) (congrArg u ?_)
  · exact funext fun q => Fin.ext (by fin_cases q <;> rfl)
  · refine funext fun q => Fin.ext ?_
    fin_cases q
    · rfl
    · show (d.val * 2816 + k.val) / 2816 % 1024 = d.val; omega
    · show (d.val * 2816 + k.val) % 2816 = k.val; omega
theorem stage_6 (R : Fin 69632) (C : Fin 1024) : val_main_v115 (F := Ideal) xs g u da db (ix2 R C) = stage xs g u da db 6 R C := by
  rw [val_main_v115_apply]
  refine Finset.sum_congr rfl fun k _ => ?_
  have hl : lidx_main_v115 (ix2 R C) k = ix2 R k := funext fun q => Fin.ext (by fin_cases q <;> rfl)
  have hr : idx_main_v109 (idx_main_v110 (ridx_main_v115 (ix2 R C) k)) = ix3 6 k C := by
    refine funext fun q => Fin.ext ?_
    have := C.isLt
    fin_cases q
    · rfl
    · show (k.val * 1024 + C.val) / 1024 % 2816 = k.val; omega
    · show (k.val * 1024 + C.val) % 1024 = C.val; omega
  rw [hl, val_main_v110_apply, val_main_v109_apply, hr, down_at, val_main_v114_apply, val_main_v112_apply, gate_6, up_6, val_main_call8_v5_apply, val_main_call8_v4_apply,
    val_main_call8_v3_apply, val_main_call8_v2_apply, val_main_call8_v1_apply, val_main_call8_v0_apply, gate_6]
  exact congrArg (fun x : EReal => lin (fun d => xs (ix2 R d)) (fun d => g (ix3 6 d k)) * x * lin (fun d => xs (ix2 R d)) (fun d => u (ix3 6 d k)) * _) (logistic_eq _)
theorem term_6 (R : Fin 69632) (C : Fin 1024) : val_main_v117 (F := Ideal) T0 T1 xs g u da db (ix2 R C)
    = val_main_v12 (F := Ideal) T0 T1 (ix2 R 6) * stage xs g u da db 6 R C := by
  rw [val_main_v117_apply, val_main_v116_apply, val_main_v104_apply, stage_6]
  exact congrArg (fun x => val_main_v12 (F := Ideal) T0 T1 x * stage xs g u da db 6 R C) (funext fun q => Fin.ext (by fin_cases q <;> rfl))

theorem gate_7 (R : Fin 69632) (k : Fin 2816) : val_main_v126 (F := Ideal) xs g (ix2 R k) = lin (fun d => xs (ix2 R d)) (fun d => g (ix3 7 d k)) := by
  rw [val_main_v126_apply]
  refine Finset.sum_congr rfl fun d _ => ?_
  rw [val_main_v121_apply, val_main_v120_apply]
  refine congr (congrArg (fun x y : EReal => x * y) (congrArg xs ?_)) (congrArg g ?_)
  · exact funext fun q => Fin.ext (by fin_cases q <;> rfl)
  · refine funext fun q => Fin.ext ?_
    fin_cases q
    · rfl
    · show (d.val * 2816 + k.val) / 2816 % 1024 = d.val; omega
    · show (d.val * 2816 + k.val) % 2816 = k.val; omega
theorem up_7 (R : Fin 69632) (k : Fin 2816) : val_main_v128 (F := Ideal) xs u (ix2 R k) = lin (fun d => xs (ix2 R d)) (fun d => u (ix3 7 d k)) := by
  rw [val_main_v128_apply]
  refine Finset.sum_congr rfl fun d _ => ?_
  rw [val_main_v123_apply, val_main_v122_apply]
  refine congr (congrArg (fun x y : EReal => x * y) (congrArg xs ?_)) (congrArg u ?_)
  · exact funext fun q => Fin.ext (by fin_cases q <;> rfl)
  · refine funext fun q => Fin.ext ?_
    fin_cases q
    · rfl
    · show (d.val * 2816 + k.val) / 2816 % 1024 = d.val; omega
    · show (d.val * 2816 + k.val) % 2816 = k.val; omega
theorem stage_7 (R : Fin 69632) (C : Fin 1024) : val_main_v130 (F := Ideal) xs g u da db (ix2 R C) = stage xs g u da db 7 R C := by
  rw [val_main_v130_apply]
  refine Finset.sum_congr rfl fun k _ => ?_
  have hl : lidx_main_v130 (ix2 R C) k = ix2 R k := funext fun q => Fin.ext (by fin_cases q <;> rfl)
  have hr : idx_main_v124 (idx_main_v125 (ridx_main_v130 (ix2 R C) k)) = ix3 7 k C := by
    refine funext fun q => Fin.ext ?_
    have := C.isLt
    fin_cases q
    · rfl
    · show (k.val * 1024 + C.val) / 1024 % 2816 = k.val; omega
    · show (k.val * 1024 + C.val) % 1024 = C.val; omega
  rw [hl, val_main_v125_apply, val_main_v124_apply, hr, down_at, val_main_v129_apply, val_main_v127_apply, gate_7, up_7, val_main_call9_v5_apply, val_main_call9_v4_apply,
    val_main_call9_v3_apply, val_main_call9_v2_apply, val_main_call9_v1_apply, val_main_call9_v0_apply, gate_7]
  exact congrArg (fun x : EReal => lin (fun d => xs (ix2 R d)) (fun d => g (ix3 7 d k)) * x * lin (fun d => xs (ix2 R d)) (fun d => u (ix3 7 d k)) * _) (logistic_eq _)
theorem term_7 (R : Fin 69632) (C : Fin 1024) : val_main_v132 (F := Ideal) T0 T1 xs g u da db (ix2 R C)
    = val_main_v12 (F := Ideal) T0 T1 (ix2 R 7) * stage xs g u da db 7 R C := by
  rw [val_main_v132_apply, val_main_v131_apply, val_main_v119_apply, stage_7]
  exact congrArg (fun x => val_main_v12 (F := Ideal) T0 T1 x * stage xs g u da db 7 R C) (funext fun q => Fin.ext (by fin_cases q <;> rfl))

/-- The reference's result is the layer, where every tile's expert exists. -/
theorem result_eq (hT : ∀ j, (T0 j).toNat < 8) (R : Fin 69632) (C : Fin 1024) :
    val_main_v134 (F := Ideal) T0 T1 xs g u da db (ix2 R C) = moe T0 T1 xs g u da db (tileOf R) R C := by
  show val_main_v133 (F := Ideal) T0 T1 xs g u da db (ix2 R C) = _
  have hz : val_main_v13 (F := Ideal) (ix2 R C) = (0 : EReal) := by rw [val_main_v13_apply]; exact Ideal.ofBits_zero_f32
  rw [val_main_v133_apply, val_main_v118_apply, val_main_v103_apply, val_main_v88_apply, val_main_v73_apply, val_main_v58_apply, val_main_v43_apply, val_main_v28_apply, hz, term_0, term_1, term_2, term_3, term_4, term_5, term_6, term_7]
  show ((((((((0 + _ : EReal) + _ : EReal) + _ : EReal) + _ : EReal) + _ : EReal) + _ : EReal) + _ : EReal) + _ : EReal) = _
  simp only [weight_at]
  unfold moe
  by_cases hu : IntOp.cmpi .slt (BitVec.ofNat 32 (tileOf R).val) (T1 (ix1 0)) = 1#1
  · simp only [if_pos hu]
    obtain ⟨e, he⟩ : ∃ e : Fin 8, T0 (ix1 (tileOf R)) = BitVec.ofNat 32 e.val :=
      ⟨⟨(T0 (ix1 (tileOf R))).toNat, hT _⟩, (BitVec.ofNat_toNat _ _).symm ▸ by simp⟩
    have hE : (⟨(T0 (ix1 (tileOf R))).toNat % 8, Nat.mod_lt _ (by decide)⟩ : Fin 8) = e := by
      rw [Fin.ext_iff, he]; show (BitVec.ofNat 32 e.val).toNat % 8 = e.val
      rw [BitVec.toNat_ofNat]; have := e.isLt; omega
    rw [hE, he]
    have hd : ∀ i j : Fin 8, (BitVec.ofNat 32 i.val = BitVec.ofNat 32 j.val) ↔ i = j := by decide
    simp only [hd]
    fin_cases e <;> simp
  · simp only [if_neg hu]
    have hn : ∀ j : Fin 8, ¬ (4294967295#32 = BitVec.ofNat 32 j.val) := by decide
    simp only [hn, if_false, zero_mul, add_zero]

end

end Cert.ReferenceIdeal.Moe

end
-- ==== Proof.Dense.lean ====
/- The dense feed-forward layer over the extended reals: a row plus the SwiGLU layer of its norm. Kernel and reference
   compute it at every element. -/
module

public import proofs.«01_k».proof.Proof.Gen.DenseIdeal.Frame
public import proofs.«01_k».proof.Proof.Gen.DenseReferenceIdeal.Read
public import proofs.«01_k».proof.Proof.Norm
public import proofs.«01_k».proof.Proof.Spec

@[expose] public section

set_option maxRecDepth 16384

noncomputable section

namespace Cert.DenseIdeal.Value

open Cert.DenseIdeal Cert.DenseIdeal.Gen Cert.Norm Cert.Ffn
open Idealize.ShloMosaic Idealize.ShloMosaic.ValueIdx
open Idealize.ShloMosaic.TcCoe
open Idealize.ShloMosaic.Pipeline (Dat Cfg Window)
open Idealize.SL Idealize.SL.RA Idealize.SL.Sem

/-- The gate's column of the joined weights, and the up projection's. -/
def lo (k : Fin 2816) : Fin 5632 := ⟨k.val, by have := k.isLt; omega⟩
def hi (k : Fin 2816) : Fin 5632 := ⟨2816 + k.val, by have := k.isLt; omega⟩

/-- One element of the layer. -/
def layer (x : S32768x1024.Idx → EReal) (g : S1x1024.Idx → EReal) (w : S1024x5632.Idx → EReal) (wd : S2816x1024.Idx → EReal) (i : S32768x1024.Idx) : EReal :=
  x i + ffn (normed (fun d => x (ix2 (i 0) d)) (fun d => g (ix2 (0 : Fin 1) d))) (fun k d => w (ix2 d (lo k))) (fun k d => w (ix2 d (hi k)))
    (fun k => wd (ix2 k (i 1)))

/-- The normed rows, a chunk's activations, and its term of the down projection. -/
abbrev xn (x : FVec Ideal S512x1024 .f32) (g : FVec Ideal S1x1024 .f32) : FVec Ideal S512x1024 .bf16 := k0_pay4 (F := Ideal) x g
abbrev hid (xs : FVec Ideal S512x1024 .bf16) (g u : FVec Ideal S1024x256 .bf16) : FVec Ideal S512x256 .bf16 := k0_pay8 (F := Ideal) xs g u
def down (h : FVec Ideal S512x256 .bf16) (d : FVec Ideal S256x512 .bf16) : FVec Ideal S512x512 .f32 :=
  matmul dot_S512x256_S256x512_S512x512_1_0_0_1_n_n none h (shapeCast S256x512 d shapeCasts_S256x512_S256x512 : FVec Ideal S256x512 .bf16) (constant S512x512 .f32 0x00000000#32)

/-- Half the columns: the eleven chunks' terms, in the kernel's order. -/
def half (x0 : Vec Ideal S512x1024 .f32) (x1 : Vec Ideal S1x1024 .f32) (x2 x3 : Vec Ideal S1024x2816 .bf16) (d : Vec Ideal S2816x512 .bf16) : FVec Ideal S512x512 .f32 :=
  addf (addf (addf (addf (addf (addf (addf (addf (addf (addf (down (hid (xn x0 x1) (View.ld x2 (Rect.unit (s := S1024x2816) ![0, 0] S1024x256.size inb_S1024x2816_S1024x256_0_0)) (View.ld x3 (Rect.unit (s := S1024x2816) ![0, 0] S1024x256.size inb_S1024x2816_S1024x256_0_0))) (View.ld d (Rect.unit (s := S2816x512) ![0, 0] S256x512.size inb_S2816x512_S256x512_0_0)))
    (down (hid (xn x0 x1) (View.ld x2 (Rect.unit (s := S1024x2816) ![0, 256] S1024x256.size inb_S1024x2816_S1024x256_0_256)) (View.ld x3 (Rect.unit (s := S1024x2816) ![0, 256] S1024x256.size inb_S1024x2816_S1024x256_0_256))) (View.ld d (Rect.unit (s := S2816x512) ![256, 0] S256x512.size inb_S2816x512_S256x512_256_0))))
    (down (hid (xn x0 x1) (View.ld x2 (Rect.unit (s := S1024x2816) ![0, 512] S1024x256.size inb_S1024x2816_S1024x256_0_512)) (View.ld x3 (Rect.unit (s := S1024x2816) ![0, 512] S1024x256.size inb_S1024x2816_S1024x256_0_512))) (View.ld d (Rect.unit (s := S2816x512) ![512, 0] S256x512.size inb_S2816x512_S256x512_512_0))))
    (down (hid (xn x0 x1) (View.ld x2 (Rect.unit (s := S1024x2816) ![0, 768] S1024x256.size inb_S1024x2816_S1024x256_0_768)) (View.ld x3 (Rect.unit (s := S1024x2816) ![0, 768] S1024x256.size inb_S1024x2816_S1024x256_0_768))) (View.ld d (Rect.unit (s := S2816x512) ![768, 0] S256x512.size inb_S2816x512_S256x512_768_0))))
    (down (hid (xn x0 x1) (View.ld x2 (Rect.unit (s := S1024x2816) ![0, 1024] S1024x256.size inb_S1024x2816_S1024x256_0_1024)) (View.ld x3 (Rect.unit (s := S1024x2816) ![0, 1024] S1024x256.size inb_S1024x2816_S1024x256_0_1024))) (View.ld d (Rect.unit (s := S2816x512) ![1024, 0] S256x512.size inb_S2816x512_S256x512_1024_0))))
    (down (hid (xn x0 x1) (View.ld x2 (Rect.unit (s := S1024x2816) ![0, 1280] S1024x256.size inb_S1024x2816_S1024x256_0_1280)) (View.ld x3 (Rect.unit (s := S1024x2816) ![0, 1280] S1024x256.size inb_S1024x2816_S1024x256_0_1280))) (View.ld d (Rect.unit (s := S2816x512) ![1280, 0] S256x512.size inb_S2816x512_S256x512_1280_0))))
    (down (hid (xn x0 x1) (View.ld x2 (Rect.unit (s := S1024x2816) ![0, 1536] S1024x256.size inb_S1024x2816_S1024x256_0_1536)) (View.ld x3 (Rect.unit (s := S1024x2816) ![0, 1536] S1024x256.size inb_S1024x2816_S1024x256_0_1536))) (View.ld d (Rect.unit (s := S2816x512) ![1536, 0] S256x512.size inb_S2816x512_S256x512_1536_0))))
    (down (hid (xn x0 x1) (View.ld x2 (Rect.unit (s := S1024x2816) ![0, 1792] S1024x256.size inb_S1024x2816_S1024x256_0_1792)) (View.ld x3 (Rect.unit (s := S1024x2816) ![0, 1792] S1024x256.size inb_S1024x2816_S1024x256_0_1792))) (View.ld d (Rect.unit (s := S2816x512) ![1792, 0] S256x512.size inb_S2816x512_S256x512_1792_0))))
    (down (hid (xn x0 x1) (View.ld x2 (Rect.unit (s := S1024x2816) ![0, 2048] S1024x256.size inb_S1024x2816_S1024x256_0_2048)) (View.ld x3 (Rect.unit (s := S1024x2816) ![0, 2048] S1024x256.size inb_S1024x2816_S1024x256_0_2048))) (View.ld d (Rect.unit (s := S2816x512) ![2048, 0] S256x512.size inb_S2816x512_S256x512_2048_0))))
    (down (hid (xn x0 x1) (View.ld x2 (Rect.unit (s := S1024x2816) ![0, 2304] S1024x256.size inb_S1024x2816_S1024x256_0_2304)) (View.ld x3 (Rect.unit (s := S1024x2816) ![0, 2304] S1024x256.size inb_S1024x2816_S1024x256_0_2304))) (View.ld d (Rect.unit (s := S2816x512) ![2304, 0] S256x512.size inb_S2816x512_S256x512_2304_0))))
    (down (hid (xn x0 x1) (View.ld x2 (Rect.unit (s := S1024x2816) ![0, 2560] S1024x256.size inb_S1024x2816_S1024x256_0_2560)) (View.ld x3 (Rect.unit (s := S1024x2816) ![0, 2560] S1024x256.size inb_S1024x2816_S1024x256_0_2560))) (View.ld d (Rect.unit (s := S2816x512) ![2560, 0] S256x512.size inb_S2816x512_S256x512_2560_0)))

theorem xn_apply (x : FVec Ideal S512x1024 .f32) (g : FVec Ideal S1x1024 .f32) (p : Fin 512) (q : Fin 1024) :
    xn x g (ix2 p q) = normed (fun d => x (ix2 p d)) (fun d => g (ix2 (0 : Fin 1) d)) q := by
  unfold xn k0_pay4 normed
  exact congr (congrArg HMul.hMul (scaled_apply x _ _ _ _ _ p q)) (gain_apply g _ p q)

theorem hid_apply (xs : FVec Ideal S512x1024 .bf16) (g u : FVec Ideal S1024x256 .bf16) (r : Fin 512) (j : Fin 256) :
    hid xs g u (ix2 r j)
      = act (lin (fun d => xs (ix2 r d)) (fun d => g (ix2 d j))) (lin (fun d => xs (ix2 r d)) (fun d => u (ix2 d j))) := by
  have e (w : FVec Ideal S1024x256 .bf16) : matmul dot_S512x1024_S1024x256_S512x256_1_0_0_1_n_n none xs (shapeCast S1024x256 w shapeCasts_S1024x256_S1024x256 : FVec Ideal S1024x256 .bf16)
      (constant S512x256 .f32 0x00000000#32) (ix2 r j) = lin (fun d => xs (ix2 r d)) (fun d => w (ix2 d j)) := mm_apply xs w shapeCasts_S1024x256_S1024x256 r j
  rw [← e g, ← e u]
  unfold hid k0_pay8 act Ideal.logistic
  show _ * Ideal.div (Ideal.ofBits .f32 0x3F800000#32) (Ideal.ofBits .f32 0x3F800000#32 + Ideal.exp (Ideal.ofBits .f32 0x00000000#32 - _)) * _ = _
  rw [Ideal.ofBits_one_f32, Ideal.ofBits_zero_f32, zero_sub]

theorem down_apply (h : FVec Ideal S512x256 .bf16) (d : FVec Ideal S256x512 .bf16) (r c : Fin 512) :
    down h d (ix2 r c) = ∑ b : Fin 256, h (ix2 r b) * d (ix2 b c) := by
  unfold down
  exact mm_apply h d shapeCasts_S256x512_S256x512 r c

/-- One chunk's term: the loads' boxes read at the hidden position they stand for. -/
theorem chunk_apply (xs : FVec Ideal S512x1024 .bf16) (x2 x3 : S1024x2816.Idx → Elt Ideal .bf16) (d : S2816x512.Idx → Elt Ideal .bf16)
    (a : Fin 11) (o : Nat) (ho : o = 256 * a.val) (i1) (i3) (r c : Fin 512) :
    down (hid xs (View.ld x2 (Rect.unit (s := S1024x2816) ![0, o] S1024x256.size i1)) (View.ld x3 (Rect.unit (s := S1024x2816) ![0, o] S1024x256.size i1)))
        (View.ld (Val := Elt Ideal) (e' := .bf16) d (Rect.unit (s := S2816x512) ![o, 0] S256x512.size i3)) (ix2 r c)
      = ∑ b : Fin 256, (fun k : Fin 2816 => act (lin (fun dd => xs (ix2 r dd)) (fun dd => x2 (ix2 dd k))) (lin (fun dd => xs (ix2 r dd)) (fun dd => x3 (ix2 dd k))) * d (ix2 k c)) (at256 a b) := by
  subst ho
  rw [down_apply]
  refine Finset.sum_congr rfl fun b _ => ?_
  rw [hid_apply]
  have e1 : ∀ (x : S1024x2816.Idx → Elt Ideal .bf16) (dd : Fin 1024), View.ld x (Rect.unit (s := S1024x2816) ![0, 256 * a.val] S1024x256.size i1) (ix2 dd b) = x (ix2 dd (at256 a b)) := fun x dd =>
    congrArg x (funext fun q => Fin.ext (by
      fin_cases q
      · show 0 + 1 * dd.val = dd.val; omega
      · show 256 * a.val + 1 * b.val = 256 * a.val + b.val; omega))
  have e2 : View.ld (Val := Elt Ideal) (e' := .bf16) d (Rect.unit (s := S2816x512) ![256 * a.val, 0] S256x512.size i3) (ix2 b c) = d (ix2 (at256 a b) c) :=
    congrArg d (funext fun q => Fin.ext (by
      fin_cases q
      · show 256 * a.val + 1 * b.val = 256 * a.val + b.val; omega
      · show 0 + 1 * c.val = c.val; omega))
  rw [e2]
  exact congrArg (· * d (ix2 (at256 a b) c)) (congr (congrArg act (congrArg (lin _) (funext fun dd => e1 x2 dd))) (congrArg (lin _) (funext fun dd => e1 x3 dd)))

theorem half_apply (x0 : Vec Ideal S512x1024 .f32) (x1 : Vec Ideal S1x1024 .f32) (x2 x3 : Vec Ideal S1024x2816 .bf16) (d : Vec Ideal S2816x512 .bf16) (r c : Fin 512) :
    half x0 x1 x2 x3 d (ix2 r c)
      = ffn (normed (fun d => x0 (ix2 r d)) (fun d => x1 (ix2 (0 : Fin 1) d))) (fun k dd => x2 (ix2 dd k)) (fun k dd => x3 (ix2 dd k)) (fun k => d (ix2 k c)) := by
  have en : normed (fun d => x0 (ix2 r d)) (fun d => x1 (ix2 (0 : Fin 1) d)) = fun dd => xn x0 x1 (ix2 r dd) := funext fun dd => (xn_apply x0 x1 r dd).symm
  rw [en]
  unfold ffn
  rw [sum_chunks]
  unfold half
  refine congr (congrArg HAdd.hAdd ?_) (chunk_apply _ x2 x3 d 10 2560 rfl _ _ r c)
  refine congr (congrArg HAdd.hAdd ?_) (chunk_apply _ x2 x3 d 9 2304 rfl _ _ r c)
  refine congr (congrArg HAdd.hAdd ?_) (chunk_apply _ x2 x3 d 8 2048 rfl _ _ r c)
  refine congr (congrArg HAdd.hAdd ?_) (chunk_apply _ x2 x3 d 7 1792 rfl _ _ r c)
  refine congr (congrArg HAdd.hAdd ?_) (chunk_apply _ x2 x3 d 6 1536 rfl _ _ r c)
  refine congr (congrArg HAdd.hAdd ?_) (chunk_apply _ x2 x3 d 5 1280 rfl _ _ r c)
  refine congr (congrArg HAdd.hAdd ?_) (chunk_apply _ x2 x3 d 4 1024 rfl _ _ r c)
  refine congr (congrArg HAdd.hAdd ?_) (chunk_apply _ x2 x3 d 3 768 rfl _ _ r c)
  refine congr (congrArg HAdd.hAdd ?_) (chunk_apply _ x2 x3 d 2 512 rfl _ _ r c)
  exact congr (congrArg HAdd.hAdd (chunk_apply _ x2 x3 d 0 0 rfl _ _ r c)) (chunk_apply _ x2 x3 d 1 256 rfl _ _ r c)

/-- What the body stores, with the loads that are whole blocks read. -/
theorem out_pieces (x0 : Vec Ideal S512x1024 .f32) (x1 : Vec Ideal S1x1024 .f32) (x2 x3 : Vec Ideal S1024x2816 .bf16) (x4 x5 : Vec Ideal S2816x512 .bf16) :
    out0_6 (F := Ideal) x0 x1 x2 x3 x4 x5 = View.canon
      [⟨r0_25, addf (extractStridedSlice S512x512 ![0, 512] (View.ld x0 r0_0) slices_S512x1024_o0_512_S512x512) (half (View.ld x0 r0_0) (View.ld x1 r0_1) x2 x3 x5)⟩,
       ⟨r0_24, addf (extractStridedSlice S512x512 ![0, 0] (View.ld x0 r0_0) slices_S512x1024_o0_0_S512x512) (half (View.ld x0 r0_0) (View.ld x1 r0_1) x2 x3 x4)⟩] := rfl

section
variable (m : (ℓ : Loc nD τ sig) → Buf (Elt Ideal) ℓ) (c : Dev nD)

abbrev aX : S32768x1024.Idx → EReal := m ((c.tc : Thread nD τ).loc main_arg0)
abbrev aG : S1x1024.Idx → EReal := m ((c.tc : Thread nD τ).loc main_arg1)
abbrev aW : S1024x5632.Idx → EReal := m ((c.tc : Thread nD τ).loc main_arg2)
abbrev aD : S2816x1024.Idx → EReal := m ((c.tc : Thread nD τ).loc main_arg3)

theorem V_v1 : V m c main_v1 = (truncf .bf16 (extractStridedSlice S1024x2816 ![0, 0] (m ((c.tc : Thread nD τ).loc main_arg2) : FVec Ideal S1024x5632 .f32) slices_S1024x5632_S1024x2816_0_0 : FVec Ideal S1024x2816 .f32) bitsLt_bf16_f32 : FVec Ideal S1024x2816 .bf16) := by
  unfold V hostOps0
  after_results
theorem V_v3 : V m c main_v3 = (truncf .bf16 (extractStridedSlice S1024x2816 ![0, 2816] (m ((c.tc : Thread nD τ).loc main_arg2) : FVec Ideal S1024x5632 .f32) slices_S1024x5632_S1024x2816_0_2816 : FVec Ideal S1024x2816 .f32) bitsLt_bf16_f32 : FVec Ideal S1024x2816 .bf16) := by
  unfold V hostOps0
  after_results
theorem V_v5 : V m c main_v5 = (truncf .bf16 (extractStridedSlice S2816x512 ![0, 0] (m ((c.tc : Thread nD τ).loc main_arg3) : FVec Ideal S2816x1024 .f32) slices_S2816x1024_S2816x512_0_0 : FVec Ideal S2816x512 .f32) bitsLt_bf16_f32 : FVec Ideal S2816x512 .bf16) := by
  unfold V hostOps0
  after_results
theorem V_v7 : V m c main_v7 = (truncf .bf16 (extractStridedSlice S2816x512 ![0, 512] (m ((c.tc : Thread nD τ).loc main_arg3) : FVec Ideal S2816x1024 .f32) slices_S2816x1024_S2816x512_0_512 : FVec Ideal S2816x512 .f32) bitsLt_bf16_f32 : FVec Ideal S2816x512 .bf16) := by
  unfold V hostOps0
  after_results

theorem index_0 : ∀ t : Fin cfg0.N, (cfg0.win 0).index t = ![t.val, 0] := by decide +kernel
theorem index_1 : ∀ t : Fin cfg0.N, (cfg0.win 1).index t = ![0, 0] := by decide +kernel
theorem index_2 : ∀ t : Fin cfg0.N, (cfg0.win 2).index t = ![0, 0] := by decide +kernel
theorem index_3 : ∀ t : Fin cfg0.N, (cfg0.win 3).index t = ![0, 0] := by decide +kernel
theorem index_4 : ∀ t : Fin cfg0.N, (cfg0.win 4).index t = ![0, 0] := by decide +kernel
theorem index_5 : ∀ t : Fin cfg0.N, (cfg0.win 5).index t = ![0, 0] := by decide +kernel
theorem index_6 : ∀ t : Fin cfg0.N, (cfg0.win 6).index t = ![t.val, 0] := by decide +kernel

/-- A point's row of the array. -/
abbrev row (t : Fin cfg0.N) (r : Fin 512) : Fin 32768 := ⟨512 * t.val + r.val, by have h : t.val < 64 := lt_of_lt_of_eq t.isLt N_0; have := r.isLt; omega⟩

theorem iblk_0 (t : Fin cfg0.N) (p : Fin 512) (q : Fin 1024) : iblk m c 0 t (ix2 p q) = aX m c (ix2 (row t p) q) := by
  refine (congrFun (V_main_arg0 m c) _).trans (congrArg (aX m c) (funext fun z => Fin.ext ?_))
  refine (Window.rect_emb_val (cfg0.win 0) t (ix2 p q) z).trans ?_
  rw [index_0]
  fin_cases z
  · show t.val * 512 + p.val = 512 * t.val + p.val; omega
  · show 0 * 1024 + q.val = q.val; omega

theorem iblk_1 (t : Fin cfg0.N) (q : Fin 1024) : iblk m c 1 t (ix2 (0 : Fin 1) q) = aG m c (ix2 (0 : Fin 1) q) := by
  refine (congrFun (V_main_arg1 m c) _).trans (congrArg (aG m c) (funext fun z => Fin.ext ?_))
  refine (Window.rect_emb_val (cfg0.win 1) t (ix2 (0 : Fin 1) q) z).trans ?_
  rw [index_1]
  fin_cases z
  · show 0 * 1 + 0 = 0; rfl
  · show 0 * 1024 + q.val = q.val; omega

theorem iblk_2 (t : Fin cfg0.N) (p : Fin 1024) (q : Fin 2816) : iblk m c 2 t (ix2 p q) = aW m c (ix2 p (lo q)) := by
  have h0 : (((cfg0.win 2).rect t).emb (ix2 p q) (0 : Fin 2) : Nat) = p.val := by
    refine (Window.rect_emb_val (cfg0.win 2) t (ix2 p q) (0 : Fin 2)).trans ?_
    rw [index_2]; show 0 * 1024 + p.val = p.val; omega
  have h1 : (((cfg0.win 2).rect t).emb (ix2 p q) (1 : Fin 2) : Nat) = q.val := by
    refine (Window.rect_emb_val (cfg0.win 2) t (ix2 p q) (1 : Fin 2)).trans ?_
    rw [index_2]; show 0 * 2816 + q.val = q.val; omega
  refine (congrFun (V_v1 m c) _).trans (extractStridedSlice_apply _ (aW m c) slices_S1024x5632_S1024x2816_0_0 _ _ fun z => ?_)
  fin_cases z
  · show p.val = 0 + (((cfg0.win 2).rect t).emb (ix2 p q) (0 : Fin 2) : Nat); omega
  · show q.val = 0 + (((cfg0.win 2).rect t).emb (ix2 p q) (1 : Fin 2) : Nat); omega

theorem iblk_3 (t : Fin cfg0.N) (p : Fin 1024) (q : Fin 2816) : iblk m c 3 t (ix2 p q) = aW m c (ix2 p (hi q)) := by
  have h0 : (((cfg0.win 3).rect t).emb (ix2 p q) (0 : Fin 2) : Nat) = p.val := by
    refine (Window.rect_emb_val (cfg0.win 3) t (ix2 p q) (0 : Fin 2)).trans ?_
    rw [index_3]; show 0 * 1024 + p.val = p.val; omega
  have h1 : (((cfg0.win 3).rect t).emb (ix2 p q) (1 : Fin 2) : Nat) = q.val := by
    refine (Window.rect_emb_val (cfg0.win 3) t (ix2 p q) (1 : Fin 2)).trans ?_
    rw [index_3]; show 0 * 2816 + q.val = q.val; omega
  refine (congrFun (V_v3 m c) _).trans (extractStridedSlice_apply _ (aW m c) slices_S1024x5632_S1024x2816_0_2816 _ _ fun z => ?_)
  fin_cases z
  · show p.val = 0 + (((cfg0.win 3).rect t).emb (ix2 p q) (0 : Fin 2) : Nat); omega
  · show 2816 + q.val = 2816 + (((cfg0.win 3).rect t).emb (ix2 p q) (1 : Fin 2) : Nat); omega

theorem iblk_4 (t : Fin cfg0.N) (p : Fin 2816) (q : Fin 512) : iblk m c 4 t (ix2 p q) = aD m c (ix2 p (⟨q.val, by have := q.isLt; omega⟩ : Fin 1024)) := by
  have h0 : (((cfg0.win 4).rect t).emb (ix2 p q) (0 : Fin 2) : Nat) = p.val := by
    refine (Window.rect_emb_val (cfg0.win 4) t (ix2 p q) (0 : Fin 2)).trans ?_
    rw [index_4]; show 0 * 2816 + p.val = p.val; omega
  have h1 : (((cfg0.win 4).rect t).emb (ix2 p q) (1 : Fin 2) : Nat) = q.val := by
    refine (Window.rect_emb_val (cfg0.win 4) t (ix2 p q) (1 : Fin 2)).trans ?_
    rw [index_4]; show 0 * 512 + q.val = q.val; omega
  refine (congrFun (V_v5 m c) _).trans (extractStridedSlice_apply _ (aD m c) slices_S2816x1024_S2816x512_0_0 _ _ fun z => ?_)
  fin_cases z
  · show p.val = 0 + (((cfg0.win 4).rect t).emb (ix2 p q) (0 : Fin 2) : Nat); omega
  · show q.val = 0 + (((cfg0.win 4).rect t).emb (ix2 p q) (1 : Fin 2) : Nat); omega

theorem iblk_5 (t : Fin cfg0.N) (p : Fin 2816) (q : Fin 512) : iblk m c 5 t (ix2 p q) = aD m c (ix2 p (⟨512 + q.val, by have := q.isLt; omega⟩ : Fin 1024)) := by
  have h0 : (((cfg0.win 5).rect t).emb (ix2 p q) (0 : Fin 2) : Nat) = p.val := by
    refine (Window.rect_emb_val (cfg0.win 5) t (ix2 p q) (0 : Fin 2)).trans ?_
    rw [index_5]; show 0 * 2816 + p.val = p.val; omega
  have h1 : (((cfg0.win 5).rect t).emb (ix2 p q) (1 : Fin 2) : Nat) = q.val := by
    refine (Window.rect_emb_val (cfg0.win 5) t (ix2 p q) (1 : Fin 2)).trans ?_
    rw [index_5]; show 0 * 512 + q.val = q.val; omega
  refine (congrFun (V_v7 m c) _).trans (extractStridedSlice_apply _ (aD m c) slices_S2816x1024_S2816x512_0_512 _ _ fun z => ?_)
  fin_cases z
  · show p.val = 0 + (((cfg0.win 5).rect t).emb (ix2 p q) (0 : Fin 2) : Nat); omega
  · show 512 + q.val = 512 + (((cfg0.win 5).rect t).emb (ix2 p q) (1 : Fin 2) : Nat); omega

/-- A stored half's value, `o` its first column, `d` its half of the down projection. -/
theorem piece (t : Fin cfg0.N) (o : Nat) (hsl) (d : Vec Ideal S2816x512 .bf16) (r c' : Fin 512) (C : Fin 1024) (hC : C.val = o + c'.val)
    (hd : ∀ k : Fin 2816, d (ix2 k c') = aD m c (ix2 k C)) (r' : Fin 512) (hr : r'.val = r.val) :
    addf (extractStridedSlice S512x512 ![0, o] (View.ld (iblk m c 0 t) r0_0) hsl : FVec Ideal S512x512 .f32) (half (View.ld (iblk m c 0 t) r0_0) (View.ld (iblk m c 1 t) r0_1) (iblk m c 2 t) (iblk m c 3 t) d) (ix2 r c')
      = layer (aX m c) (aG m c) (aW m c) (aD m c) (ix2 (row t r') C) := by
  obtain rfl : r' = r := Fin.ext hr
  have e0 : View.ld (iblk m c 0 t) r0_0 = iblk m c 0 t := View.ld_unit_zero (by funext a; fin_cases a <;> rfl) _ _
  have eg : View.ld (iblk m c 1 t) r0_1 = iblk m c 1 t := View.ld_unit_zero (by funext a; fin_cases a <;> rfl) _ _
  rw [e0, eg]
  unfold layer
  refine congr (congrArg HAdd.hAdd ?_) ((half_apply _ _ _ _ _ _ _).trans ?_)
  · refine (extractStridedSlice_apply _ (iblk m c 0 t) hsl (ix2 r' c') (ix2 r' C) fun z => ?_).trans (iblk_0 m c t r' C)
    fin_cases z
    · show r'.val = 0 + r'.val; omega
    · show C.val = o + c'.val; omega
  · refine congr (congr (congr (congrArg ffn ?_) ?_) ?_) (funext hd)
    · exact congr (congrArg normed (funext fun d => iblk_0 m c t r' d)) (funext fun d => iblk_1 m c t d)
    · exact funext₂ fun k d => iblk_2 m c t d k
    · exact funext₂ fun k d => iblk_3 m c t d k

theorem out_apply (t : Fin cfg0.N) (r : Fin 512) (C : Fin 1024) :
    (dats m 0 c).after 6 t (ix2 r C) = layer (aX m c) (aG m c) (aW m c) (aD m c) (ix2 (row t r) C) := by
  rw [after0_6, out_pieces]
  refine (View.canon_apply_of_pieces (S := S512x1024) (e := .f32) (Val := Elt Ideal) (fun y => layer (aX m c) (aG m c) (aW m c) (aD m c) (ix2 (row t (y 0)) (y 1))) _ ?_ _ (cover0_6 _ _ _)).trans rfl
  intro p hp x
  simp only [List.mem_cons, List.not_mem_nil, or_false] at hp
  rcases hp with rfl | rfl
  · obtain ⟨r', c', rfl⟩ : ∃ r' c', x = ix2 r' c' := ⟨_, _, eq_ix2 x⟩
    refine piece m c t 512 _ _ r' c' _ ?_ (fun k => (iblk_5 m c t k c').trans (congrArg (fun q => aD m c (ix2 k q)) (Fin.ext ?_))) _ ?_
    · show 512 + 1 * c'.val = _; omega
    · show _ = 512 + 1 * c'.val; show 512 + c'.val = _; omega
    · show 0 + 1 * r'.val = _; omega
  · obtain ⟨r', c', rfl⟩ : ∃ r' c', x = ix2 r' c' := ⟨_, _, eq_ix2 x⟩
    refine piece m c t 0 _ _ r' c' _ ?_ (fun k => (iblk_4 m c t k c').trans (congrArg (fun q => aD m c (ix2 k q)) (Fin.ext ?_))) _ ?_
    · show 0 + 1 * c'.val = _; omega
    · show _ = 0 + 1 * c'.val; show c'.val = _; omega
    · show 0 + 1 * r'.val = _; omega

/-- The array the run leaves. -/
theorem out_eq : (dats m 0 c).arrAt 6 cfg0.N = (layer (aX m c) (aG m c) (aW m c) (aD m c) : S32768x1024.Idx → EReal) := by
  refine Dat.arrAt_eq_of_cover (dats m 0 c) (6 : Fin 7) _ (fun t _ => ?_) (fun i => ?_)
  · funext y
    obtain ⟨r, C, rfl⟩ : ∃ (r : Fin 512) (C : Fin 1024), y = ix2 r C := ⟨_, _, eq_ix2 y⟩
    refine (out_apply m c t r C).trans (congrArg (layer (aX m c) (aG m c) (aW m c) (aD m c)) (funext fun z => Fin.ext ?_))
    refine Eq.trans ?_ (Window.rect_emb_val (cfg0.win 6) t (ix2 r C) z).symm
    rw [index_6]
    fin_cases z
    · show 512 * t.val + r.val = t.val * 512 + r.val; omega
    · show C.val = 0 * 1024 + C.val; omega
  · have hi : (i 0).val < 32768 := (i 0).isLt
    let t : Fin cfg0.N := ⟨(i 0).val / 512, lt_of_lt_of_eq (show (i 0).val / 512 < 64 by omega) N_0.symm⟩
    refine ⟨t, flush0_6 _, ?_⟩
    have e : i = ((cfg0.win 6).rect t).emb (ix2 (⟨(i 0).val % 512, by omega⟩ : Fin 512) (i 1 : Fin 1024)) := by
      funext q
      refine Fin.ext (Eq.trans ?_ (Window.rect_emb_val (cfg0.win 6) t _ q).symm)
      rw [index_6]
      fin_cases q
      · show (i 0).val = (i 0).val / 512 * 512 + (i 0).val % 512; omega
      · show (i 1).val = 0 * 1024 + (i 1).val; omega
    rw [e]
    exact View.emb_mem_set _ _

end

end Cert.DenseIdeal.Value

namespace Cert.DenseReferenceIdeal.Value

open Cert.DenseIdeal.Value (layer lo hi)
open Cert.DenseReferenceIdeal Cert.DenseReferenceIdeal.Read Cert.Norm Cert.Ffn
open Idealize.ShloMosaic Idealize.ShloMosaic.ValueIdx

/-- The reference's norm at one element. -/
theorem ref_norm (x : S32768x1024.Idx → EReal) (g : S1x1024.Idx → EReal) (p : Fin 32768) (q : Fin 1024) :
    val_main_v13 (F := Ideal) x g (ix2 p q) = normed (fun d => x (ix2 p d)) (fun d => g (ix2 (0 : Fin 1) d)) q := by
  have hs : val_main_v3 (F := Ideal) x (ix1 p) = ∑ k : Fin 1024, x (ix2 p k) * x (ix2 p k) := by
    rw [val_main_v3_apply]
    refine (congrArg (· + _) (show val_main_cst (F := Ideal) _ = (0 : EReal) from Ideal.ofBits_zero_f32)).trans ((zero_add _).trans ?_)
    refine Finset.sum_congr rfl fun k _ => ?_
    have e : idx_main_v3 (ix1 p) k = ix2 p k := funext fun a => by fin_cases a <;> rfl
    rw [e]; rfl
  rw [val_main_v13_apply, val_main_v11_apply, val_main_v10_apply, val_main_v12_apply, val_main_v9_apply, val_main_v8_apply,
    val_main_v6_apply, val_main_v4_apply, val_main_v5_apply, val_main_v7_apply]
  have e1 : idx_main_v4 (idx_main_v10 (ix2 p q)) = ix1 p := funext fun a => by fin_cases a; rfl
  have e2 : idx_main_v12 (ix2 p q) = ix2 (0 : Fin 1) q := funext fun a => by fin_cases a <;> rfl
  rw [e1, e2, hs]
  rfl

variable (x : S32768x1024.Idx → EReal) (g : S1x1024.Idx → EReal) (w : S1024x5632.Idx → EReal) (wd : S2816x1024.Idx → EReal)

theorem ref_gate (p : Fin 32768) (k : Fin 2816) :
    val_main_v14 (F := Ideal) x g w (ix2 p k) = lin (normed (fun d => x (ix2 p d)) (fun d => g (ix2 (0 : Fin 1) d))) (fun d => w (ix2 d (lo k))) := by
  rw [val_main_v14_apply]
  refine Finset.sum_congr rfl fun d _ => ?_
  have e1 : lidx_main_v14 (ix2 p k) d = ix2 p d := funext fun a => by fin_cases a <;> rfl
  rw [e1, ref_norm, val_main_v0_apply]
  refine congrArg (_ * w ·) (funext fun a => Fin.ext ?_)
  fin_cases a
  · first | rfl | (show 0 + d.val = d.val; omega)
  · first | rfl | (show 0 + k.val = k.val; omega)

theorem ref_up (p : Fin 32768) (k : Fin 2816) :
    val_main_v16 (F := Ideal) x g w (ix2 p k) = lin (normed (fun d => x (ix2 p d)) (fun d => g (ix2 (0 : Fin 1) d))) (fun d => w (ix2 d (hi k))) := by
  rw [val_main_v16_apply]
  refine Finset.sum_congr rfl fun d _ => ?_
  have e1 : lidx_main_v16 (ix2 p k) d = ix2 p d := funext fun a => by fin_cases a <;> rfl
  rw [e1, ref_norm, val_main_v1_apply]
  refine congrArg (_ * w ·) (funext fun a => Fin.ext ?_)
  fin_cases a
  · first | rfl | (show 0 + d.val = d.val; omega)
  · first | rfl | (show k.val + 2816 = 2816 + k.val; omega)

theorem sigmoid_eq (z : EReal) : FloatOps.hostDivf (F := Ideal) (φ := .f32) (FloatOps.ofBits .f32 0x3F800000#32)
    (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = _
  rw [Ideal.ofBits_one_f32]; rfl

/-- The reference's result. -/
theorem ref_eq : val_main_v19 (F := Ideal) x g w wd = layer x g w wd := by
  funext i
  obtain ⟨p, q, rfl⟩ : ∃ (p : Fin 32768) (q : Fin 1024), i = ix2 p q := ⟨_, _, eq_ix2 i⟩
  rw [val_main_v19_apply, val_main_v18_apply]
  refine congrArg (x (ix2 p q) + ·) (Finset.sum_congr rfl fun k _ => ?_)
  have e1 : lidx_main_v18 (ix2 p q) k = ix2 p k := funext fun a => by fin_cases a <;> rfl
  have e2 : ridx_main_v18 (ix2 p q) k = ix2 k q := funext fun a => by fin_cases a <;> rfl
  rw [e1, e2, val_main_v17_apply, val_main_v15_apply, val_main_call0_v5_apply, val_main_call0_v4_apply, val_main_call0_v3_apply, val_main_call0_v2_apply,
    val_main_call0_v1_apply, val_main_call0_v0_apply, ref_gate, ref_up]
  exact congrArg (fun s : EReal => lin (normed (fun d => x (ix2 p d)) (fun d => g (ix2 (0 : Fin 1) d))) (fun d => w (ix2 d (lo k))) * s
    * lin (normed (fun d => x (ix2 p d)) (fun d => g (ix2 (0 : Fin 1) d))) (fun d => w (ix2 d (hi k))) * wd (ix2 k q)) (sigmoid_eq _)

end Cert.DenseReferenceIdeal.Value

end
-- ==== Proof.OutProj.lean ====
/- The output projection over the extended reals: a row of the attention's output times a column of the weights, onto the
   residual. Kernel and reference compute it at every element. -/
module

public import proofs.«01_k».proof.Proof.Gen.OutProjIdeal.Frame
public import proofs.«01_k».proof.Proof.Gen.OutProjReferenceIdeal.Read
public import Idealize.ShloMosaic.Lib.MatmulPlain
public import Idealize.ShloMosaic.Lib.IdealHost
public import Idealize.ShloMosaic.Lib.Pipeline.Value

@[expose] public section

set_option maxRecDepth 16384

noncomputable section

namespace Cert.OutProjIdeal.Value

open Cert.OutProjIdeal Cert.OutProjIdeal.Gen
open Idealize.ShloMosaic Idealize.ShloMosaic.ValueIdx
open Idealize.ShloMosaic.TcCoe
open Idealize.ShloMosaic.Pipeline (Dat Cfg Window)
open Idealize.SL Idealize.SL.RA Idealize.SL.Sem

/-- One element: the residual plus the row times the column. -/
def proj (a : S32768x1024.Idx → EReal) (w : S1024x1024.Idx → EReal) (r : S32768x1024.Idx → EReal) (i : S32768x1024.Idx) : EReal :=
  r i + ∑ k : Fin 1024, a (ix2 (i 0) k) * w (ix2 k (i 1))

theorem pay1_apply (x : FVec Ideal S512x1024 .bf16) (r : FVec Ideal S512x512 .f32) (w : FVec Ideal S1024x512 .bf16) (p q : Fin 512) :
    k0_pay1 (F := Ideal) x r w (ix2 p q) = r (ix2 p q) + ∑ k : Fin 1024, x (ix2 p k) * w (ix2 k q) := by
  unfold k0_pay1
  refine congrArg (r (ix2 p q) + ·) ?_
  refine (Ideal.matmul_plain_apply (M := 512) (K := 1024) (N := 512) none x (shapeCast S1024x512 w shapeCasts_S1024x512_S1024x512) _ p q).trans ?_
  rw [show (constant S512x512 .f32 0x00000000#32 : FVec Ideal S512x512 .f32) (ix2 p q) = 0 from Ideal.ofBits_zero_f32, zero_add, shapeCast_self]

theorem pay2_eq (x : FVec Ideal S512x1024 .bf16) (r : FVec Ideal S512x512 .f32) (w : FVec Ideal S1024x512 .bf16) : k0_pay2 (F := Ideal) x r w = k0_pay1 x r w := rfl

section
variable (m : (ℓ : Loc nD τ sig) → Buf (Elt Ideal) ℓ) (c : Dev nD)

abbrev aA : S32768x1024.Idx → EReal := m ((c.tc : Thread nD τ).loc main_arg0)
abbrev aW : S1024x1024.Idx → EReal := m ((c.tc : Thread nD τ).loc main_arg1)
abbrev aR : S32768x1024.Idx → EReal := m ((c.tc : Thread nD τ).loc main_arg2)

theorem V_w : V m c main_v0 = aW m c := by
  show V m c main_v0 = (truncf .bf16 (m ((c.tc : Thread nD τ).loc main_arg1) : FVec Ideal S1024x1024 .f32) bitsLt_bf16_f32 : FVec Ideal S1024x1024 .bf16)
  unfold V hostOps0
  after_results

theorem index_0 : ∀ t : Fin cfg0.N, (cfg0.win 0).index t = ![t.val, 0] := by decide +kernel
theorem index_1 : ∀ t : Fin cfg0.N, (cfg0.win 1).index t = ![0, 0] := by decide +kernel
theorem index_2 : ∀ t : Fin cfg0.N, (cfg0.win 2).index t = ![t.val, 0] := by decide +kernel
theorem index_3 : ∀ t : Fin cfg0.N, (cfg0.win 3).index t = ![t.val, 0] := by decide +kernel

/-- A point's row of the array. -/
abbrev row (t : Fin cfg0.N) (r : Fin 512) : Fin 32768 := ⟨512 * t.val + r.val, by have h : t.val < 64 := lt_of_lt_of_eq t.isLt N_0; have := r.isLt; omega⟩

theorem iblk_0 (t : Fin cfg0.N) (p : Fin 512) (q : Fin 1024) : iblk m c 0 t (ix2 p q) = aA m c (ix2 (row t p) q) := by
  refine (congrFun (V_main_arg0 m c) _).trans (congrArg (aA m c) (funext fun z => Fin.ext ?_))
  refine (Window.rect_emb_val (cfg0.win 0) t (ix2 p q) z).trans ?_
  rw [index_0]
  fin_cases z
  · show t.val * 512 + p.val = 512 * t.val + p.val; omega
  · show 0 * 1024 + q.val = q.val; omega

theorem iblk_1 (t : Fin cfg0.N) (p q : Fin 1024) : iblk m c 1 t (ix2 p q) = aW m c (ix2 p q) := by
  refine (congrFun (V_w m c) _).trans (congrArg (aW m c) (funext fun z => Fin.ext ?_))
  refine (Window.rect_emb_val (cfg0.win 1) t (ix2 p q) z).trans ?_
  rw [index_1]
  fin_cases z
  · show 0 * 1024 + p.val = p.val; omega
  · show 0 * 1024 + q.val = q.val; omega

theorem iblk_2 (t : Fin cfg0.N) (p : Fin 512) (q : Fin 1024) : iblk m c 2 t (ix2 p q) = aR m c (ix2 (row t p) q) := by
  refine (congrFun (V_main_arg2 m c) _).trans (congrArg (aR m c) (funext fun z => Fin.ext ?_))
  refine (Window.rect_emb_val (cfg0.win 2) t (ix2 p q) z).trans ?_
  rw [index_2]
  fin_cases z
  · show t.val * 512 + p.val = 512 * t.val + p.val; omega
  · show 0 * 1024 + q.val = q.val; omega

/-- A stored chunk's value, `o` its first column. -/
theorem piece (t : Fin cfg0.N) (o : Nat) (i0) (i2) (i1) (r c' : Fin 512) (C : Fin 1024) (hC : C.val = o + c'.val) (r' : Fin 512) (hr : r'.val = r.val) :
    k0_pay1 (F := Ideal) (View.ld (iblk m c 0 t) (Rect.unit (s := S512x1024) ![0, 0] S512x1024.size i0)) (View.ld (iblk m c 2 t) (Rect.unit (s := S512x1024) ![0, o] S512x512.size i2))
        (View.ld (iblk m c 1 t) (Rect.unit (s := S1024x1024) ![0, o] S1024x512.size i1)) (ix2 r c')
      = proj (aA m c) (aW m c) (aR m c) (ix2 (row t r') C) := by
  obtain rfl : r' = r := Fin.ext hr
  rw [pay1_apply]
  have e0 : View.ld (iblk m c 0 t) (Rect.unit (s := S512x1024) ![0, 0] S512x1024.size i0) = iblk m c 0 t := View.ld_unit_zero (by funext a; fin_cases a <;> rfl) i0 _
  have e2 : View.ld (iblk m c 2 t) (Rect.unit (s := S512x1024) ![0, o] S512x512.size i2) (ix2 r' c') = iblk m c 2 t (ix2 r' C) :=
    congrArg (iblk m c 2 t) (funext fun q => Fin.ext (by
      fin_cases q
      · show 0 + 1 * r'.val = r'.val; omega
      · show o + 1 * c'.val = C.val; omega))
  have e1 : ∀ k : Fin 1024, View.ld (iblk m c 1 t) (Rect.unit (s := S1024x1024) ![0, o] S1024x512.size i1) (ix2 k c') = iblk m c 1 t (ix2 k C) := fun k =>
    congrArg (iblk m c 1 t) (funext fun q => Fin.ext (by
      fin_cases q
      · show 0 + 1 * k.val = k.val; omega
      · show o + 1 * c'.val = C.val; omega))
  rw [e0, e2, iblk_2]
  unfold proj
  refine congrArg (aR m c (ix2 (row t r') C) + ·) (Finset.sum_congr rfl fun k _ => ?_)
  rw [e1, iblk_0, iblk_1]

theorem out_apply (t : Fin cfg0.N) (r : Fin 512) (C : Fin 1024) :
    (dats m 0 c).after 3 t (ix2 r C) = proj (aA m c) (aW m c) (aR m c) (ix2 (row t r) C) := by
  rw [after0_3]
  unfold out0_3
  refine (View.canon_apply_of_pieces (S := S512x1024) (e := .f32) (Val := Elt Ideal) (fun y => proj (aA m c) (aW m c) (aR m c) (ix2 (row t (y 0)) (y 1))) _ ?_ _ (cover0_3 _ _ _)).trans rfl
  intro p hp x
  simp only [List.mem_cons, List.not_mem_nil, or_false] at hp
  rcases hp with rfl | rfl
  · obtain ⟨r', c', rfl⟩ : ∃ r' c', x = ix2 r' c' := ⟨_, _, eq_ix2 x⟩
    refine (congrFun (pay2_eq _ _ _) _).trans (piece m c t 512 _ _ _ r' c' _ ?_ _ ?_)
    · show 512 + 1 * c'.val = _; omega
    · show 0 + 1 * r'.val = _; omega
  · obtain ⟨r', c', rfl⟩ : ∃ r' c', x = ix2 r' c' := ⟨_, _, eq_ix2 x⟩
    refine (piece m c t 0 _ _ _ r' c' _ ?_ _ ?_)
    · show 0 + 1 * c'.val = _; omega
    · show 0 + 1 * r'.val = _; omega

/-- The array the run leaves. -/
theorem out_eq : (dats m 0 c).arrAt 3 cfg0.N = (proj (aA m c) (aW m c) (aR m c) : S32768x1024.Idx → EReal) := by
  refine Dat.arrAt_eq_of_cover (dats m 0 c) (3 : Fin 4) _ (fun t _ => ?_) (fun i => ?_)
  · funext y
    obtain ⟨r, C, rfl⟩ : ∃ (r : Fin 512) (C : Fin 1024), y = ix2 r C := ⟨_, _, eq_ix2 y⟩
    refine (out_apply m c t r C).trans (congrArg (proj (aA m c) (aW m c) (aR m c)) (funext fun z => Fin.ext ?_))
    refine Eq.trans ?_ (Window.rect_emb_val (cfg0.win 3) t (ix2 r C) z).symm
    rw [index_3]
    fin_cases z
    · show 512 * t.val + r.val = t.val * 512 + r.val; omega
    · show C.val = 0 * 1024 + C.val; omega
  · have hi : (i 0).val < 32768 := (i 0).isLt
    let t : Fin cfg0.N := ⟨(i 0).val / 512, lt_of_lt_of_eq (show (i 0).val / 512 < 64 by omega) N_0.symm⟩
    refine ⟨t, flush0_3 _, ?_⟩
    have e : i = ((cfg0.win 3).rect t).emb (ix2 (⟨(i 0).val % 512, by omega⟩ : Fin 512) (i 1 : Fin 1024)) := by
      funext q
      refine Fin.ext (Eq.trans ?_ (Window.rect_emb_val (cfg0.win 3) t _ q).symm)
      rw [index_3]
      fin_cases q
      · show (i 0).val = (i 0).val / 512 * 512 + (i 0).val % 512; omega
      · show (i 1).val = 0 * 1024 + (i 1).val; omega
    rw [e]
    exact View.emb_mem_set _ _

end

/-- The reference's result. -/
theorem ref_eq (a : S32768x1024.Idx → EReal) (w : S1024x1024.Idx → EReal) (r : S32768x1024.Idx → EReal) :
    Cert.OutProjReferenceIdeal.Read.val_main_v2 (F := Ideal) a w r = proj a w r := by
  funext i
  rw [Cert.OutProjReferenceIdeal.Read.val_main_v2_apply, Cert.OutProjReferenceIdeal.Read.val_main_v1_apply]
  refine congrArg (r i + ·) (Finset.sum_congr rfl fun k _ => ?_)
  refine congr (congrArg HMul.hMul (congrArg a (funext fun q => ?_))) (congrArg w (funext fun q => ?_))
  · fin_cases q <;> rfl
  · fin_cases q <;> rfl

end Cert.OutProjIdeal.Value

end
-- ==== Proof.Qkv.lean ====
/- The query, key and value projections over the extended reals: a row's norm times a column of the weights. Kernel and
   reference compute it at every element. -/
module

public import proofs.«01_k».proof.Proof.Gen.QkvIdeal.Frame
public import proofs.«01_k».proof.Proof.Gen.QkvReferenceIdeal.Read
public import proofs.«01_k».proof.Proof.Norm

@[expose] public section

set_option maxRecDepth 16384

noncomputable section

namespace Cert.QkvIdeal.Value

open Cert.QkvIdeal Cert.QkvIdeal.Gen Cert.Norm
open Idealize.ShloMosaic Idealize.ShloMosaic.ValueIdx
open Idealize.ShloMosaic.TcCoe
open Idealize.ShloMosaic.Pipeline (Dat Cfg Window)
open Idealize.SL Idealize.SL.RA Idealize.SL.Sem

/-- One element: the row's norm times the column. -/
def proj (x : S32768x1024.Idx → EReal) (g : S1x1024.Idx → EReal) (w : S1024x3072.Idx → EReal) (i : S32768x3072.Idx) : EReal :=
  ∑ k : Fin 1024, normed (fun d => x (ix2 (i 0) d)) (fun d => g (ix2 (0 : Fin 1) d)) k * w (ix2 k (i 1))

theorem pay4_apply (x : FVec Ideal S512x1024 .f32) (g : FVec Ideal S1x1024 .f32) (p : Fin 512) (q : Fin 1024) :
    k0_pay4 (F := Ideal) x g (ix2 p q) = normed (fun d => x (ix2 p d)) (fun d => g (ix2 (0 : Fin 1) d)) q := by
  unfold k0_pay4 normed
  exact congr (congrArg HMul.hMul (scaled_apply x _ _ _ _ _ p q)) (gain_apply g _ p q)

theorem pay2_apply (xs : FVec Ideal S512x1024 .bf16) (w : FVec Ideal S1024x512 .bf16) (p q : Fin 512) :
    k0_pay2 (F := Ideal) xs w (ix2 p q) = ∑ k : Fin 1024, xs (ix2 p k) * w (ix2 k q) := by
  unfold k0_pay2
  exact mm_apply xs w shapeCasts_S1024x512_S1024x512 p q

section
variable (m : (ℓ : Loc nD τ sig) → Buf (Elt Ideal) ℓ) (c : Dev nD)

abbrev aX : S32768x1024.Idx → EReal := m ((c.tc : Thread nD τ).loc main_arg0)
abbrev aG : S1x1024.Idx → EReal := m ((c.tc : Thread nD τ).loc main_arg1)
abbrev aW : S1024x3072.Idx → EReal := m ((c.tc : Thread nD τ).loc main_arg2)

theorem V_w : V m c main_v0 = aW m c := by
  show V m c main_v0 = (truncf .bf16 (m ((c.tc : Thread nD τ).loc main_arg2) : FVec Ideal S1024x3072 .f32) bitsLt_bf16_f32 : FVec Ideal S1024x3072 .bf16)
  unfold V hostOps0 hostOps0_1 hostOps0_2
  simp only [List.flatten_cons, List.flatten_nil, List.append_nil, List.cons_append, List.nil_append]
  after_results

theorem index_0 : ∀ t : Fin cfg0.N, (cfg0.win 0).index t = ![t.val, 0] := by decide +kernel
theorem index_1 : ∀ t : Fin cfg0.N, (cfg0.win 1).index t = ![0, 0] := by decide +kernel
theorem index_2 : ∀ t : Fin cfg0.N, (cfg0.win 2).index t = ![0, 0] := by decide +kernel
theorem index_5 : ∀ t : Fin cfg0.N, (cfg0.win 5).index t = ![t.val, 0] := by decide +kernel

/-- A point's row of the array. -/
abbrev row (t : Fin cfg0.N) (r : Fin 512) : Fin 32768 := ⟨512 * t.val + r.val, by have h : t.val < 64 := lt_of_lt_of_eq t.isLt N_0; have := r.isLt; omega⟩

theorem iblk_0 (t : Fin cfg0.N) (p : Fin 512) (q : Fin 1024) : iblk m c 0 t (ix2 p q) = aX m c (ix2 (row t p) q) := by
  refine (congrFun (V_main_arg0 m c) _).trans (congrArg (aX m c) (funext fun z => Fin.ext ?_))
  refine (Window.rect_emb_val (cfg0.win 0) t (ix2 p q) z).trans ?_
  rw [index_0]
  fin_cases z
  · show t.val * 512 + p.val = 512 * t.val + p.val; omega
  · show 0 * 1024 + q.val = q.val; omega

theorem iblk_1 (t : Fin cfg0.N) (q : Fin 1024) : iblk m c 1 t (ix2 (0 : Fin 1) q) = aG m c (ix2 (0 : Fin 1) q) := by
  refine (congrFun (V_main_arg1 m c) _).trans (congrArg (aG m c) (funext fun z => Fin.ext ?_))
  refine (Window.rect_emb_val (cfg0.win 1) t (ix2 (0 : Fin 1) q) z).trans ?_
  rw [index_1]
  fin_cases z
  · show 0 * 1 + 0 = 0; rfl
  · show 0 * 1024 + q.val = q.val; omega

theorem iblk_2 (t : Fin cfg0.N) (p : Fin 1024) (q : Fin 3072) : iblk m c 2 t (ix2 p q) = aW m c (ix2 p q) := by
  refine (congrFun (V_w m c) _).trans (congrArg (aW m c) (funext fun z => Fin.ext ?_))
  refine (Window.rect_emb_val (cfg0.win 2) t (ix2 p q) z).trans ?_
  rw [index_2]
  fin_cases z
  · show 0 * 1024 + p.val = p.val; omega
  · show 0 * 3072 + q.val = q.val; omega

/-- A stored chunk's value, `o` its first column. -/
theorem piece (t : Fin cfg0.N) (o : Nat) (i0) (ig) (i1) (r c' : Fin 512) (C : Fin 3072) (hC : C.val = o + c'.val) (r' : Fin 512) (hr : r'.val = r.val) :
    k0_pay2 (F := Ideal) (k0_pay4 (View.ld (iblk m c 0 t) (Rect.unit (s := S512x1024) ![0, 0] S512x1024.size i0)) (View.ld (iblk m c 1 t) (Rect.unit (s := S1x1024) ![0, 0] S1x1024.size ig)))
        (View.ld (iblk m c 2 t) (Rect.unit (s := S1024x3072) ![0, o] S1024x512.size i1)) (ix2 r c')
      = proj (aX m c) (aG m c) (aW m c) (ix2 (row t r') C) := by
  obtain rfl : r' = r := Fin.ext hr
  rw [pay2_apply]
  have e0 : View.ld (iblk m c 0 t) (Rect.unit (s := S512x1024) ![0, 0] S512x1024.size i0) = iblk m c 0 t := View.ld_unit_zero (by funext a; fin_cases a <;> rfl) i0 _
  have eg : View.ld (iblk m c 1 t) (Rect.unit (s := S1x1024) ![0, 0] S1x1024.size ig) = iblk m c 1 t := View.ld_unit_zero (by funext a; fin_cases a <;> rfl) ig _
  have e1 : ∀ k : Fin 1024, View.ld (iblk m c 2 t) (Rect.unit (s := S1024x3072) ![0, o] S1024x512.size i1) (ix2 k c') = iblk m c 2 t (ix2 k C) := fun k =>
    congrArg (iblk m c 2 t) (funext fun q => Fin.ext (by
      fin_cases q
      · show 0 + 1 * k.val = k.val; omega
      · show o + 1 * c'.val = C.val; omega))
  rw [e0, eg]
  unfold proj
  refine Finset.sum_congr rfl fun k _ => ?_
  rw [e1, iblk_2, pay4_apply]
  exact congrArg (· * aW m c (ix2 k C)) (congr (congr (congrArg normed (funext fun d => iblk_0 m c t r' d)) (funext fun d => iblk_1 m c t d)) rfl)

theorem out_apply (t : Fin cfg0.N) (r : Fin 512) (C : Fin 3072) :
    (dats m 0 c).after 5 t (ix2 r C) = proj (aX m c) (aG m c) (aW m c) (ix2 (row t r) C) := by
  rw [after0_5]
  unfold out0_5
  refine (View.canon_apply_of_pieces (S := S512x3072) (e := .bf16) (Val := Elt Ideal) (fun y => proj (aX m c) (aG m c) (aW m c) (ix2 (row t (y 0)) (y 1))) _ ?_ _ (cover0_5 _ _ _ _ _ _ _)).trans rfl
  intro p hp x
  simp only [List.mem_cons, List.not_mem_nil, or_false] at hp
  rcases hp with rfl | rfl | rfl | rfl | rfl | rfl
  · obtain ⟨r', c', rfl⟩ : ∃ r' c', x = ix2 r' c' := ⟨_, _, eq_ix2 x⟩
    refine (piece m c t 2560 _ _ _ r' c' _ ?_ _ ?_)
    · show 2560 + 1 * c'.val = _; omega
    · show 0 + 1 * r'.val = _; omega
  · obtain ⟨r', c', rfl⟩ : ∃ r' c', x = ix2 r' c' := ⟨_, _, eq_ix2 x⟩
    refine (piece m c t 2048 _ _ _ r' c' _ ?_ _ ?_)
    · show 2048 + 1 * c'.val = _; omega
    · show 0 + 1 * r'.val = _; omega
  · obtain ⟨r', c', rfl⟩ : ∃ r' c', x = ix2 r' c' := ⟨_, _, eq_ix2 x⟩
    refine (piece m c t 1536 _ _ _ r' c' _ ?_ _ ?_)
    · show 1536 + 1 * c'.val = _; omega
    · show 0 + 1 * r'.val = _; omega
  · obtain ⟨r', c', rfl⟩ : ∃ r' c', x = ix2 r' c' := ⟨_, _, eq_ix2 x⟩
    refine (piece m c t 1024 _ _ _ r' c' _ ?_ _ ?_)
    · show 1024 + 1 * c'.val = _; omega
    · show 0 + 1 * r'.val = _; omega
  · obtain ⟨r', c', rfl⟩ : ∃ r' c', x = ix2 r' c' := ⟨_, _, eq_ix2 x⟩
    refine (piece m c t 512 _ _ _ r' c' _ ?_ _ ?_)
    · show 512 + 1 * c'.val = _; omega
    · show 0 + 1 * r'.val = _; omega
  · obtain ⟨r', c', rfl⟩ : ∃ r' c', x = ix2 r' c' := ⟨_, _, eq_ix2 x⟩
    refine (piece m c t 0 _ _ _ r' c' _ ?_ _ ?_)
    · show 0 + 1 * c'.val = _; omega
    · show 0 + 1 * r'.val = _; omega

/-- The array the run leaves. -/
theorem out_eq : (dats m 0 c).arrAt 5 cfg0.N = (proj (aX m c) (aG m c) (aW m c) : S32768x3072.Idx → EReal) := by
  refine Dat.arrAt_eq_of_cover (dats m 0 c) (5 : Fin 6) _ (fun t _ => ?_) (fun i => ?_)
  · funext y
    obtain ⟨r, C, rfl⟩ : ∃ (r : Fin 512) (C : Fin 3072), y = ix2 r C := ⟨_, _, eq_ix2 y⟩
    refine (out_apply m c t r C).trans (congrArg (proj (aX m c) (aG m c) (aW m c)) (funext fun z => Fin.ext ?_))
    refine Eq.trans ?_ (Window.rect_emb_val (cfg0.win 5) t (ix2 r C) z).symm
    rw [index_5]
    fin_cases z
    · show 512 * t.val + r.val = t.val * 512 + r.val; omega
    · show C.val = 0 * 3072 + C.val; omega
  · have hi : (i 0).val < 32768 := (i 0).isLt
    let t : Fin cfg0.N := ⟨(i 0).val / 512, lt_of_lt_of_eq (show (i 0).val / 512 < 64 by omega) N_0.symm⟩
    refine ⟨t, flush0_5 _, ?_⟩
    have e : i = ((cfg0.win 5).rect t).emb (ix2 (⟨(i 0).val % 512, by omega⟩ : Fin 512) (i 1 : Fin 3072)) := by
      funext q
      refine Fin.ext (Eq.trans ?_ (Window.rect_emb_val (cfg0.win 5) t _ q).symm)
      rw [index_5]
      fin_cases q
      · show (i 0).val = (i 0).val / 512 * 512 + (i 0).val % 512; omega
      · show (i 1).val = 0 * 3072 + (i 1).val; omega
    rw [e]
    exact View.emb_mem_set _ _

end

/-- The reference's norm at one element. -/
theorem ref_norm (x : S32768x1024.Idx → EReal) (g : S1x1024.Idx → EReal) (p : Fin 32768) (q : Fin 1024) :
    Cert.QkvReferenceIdeal.Read.val_main_v11 (F := Ideal) x g (ix2 p q) = normed (fun d => x (ix2 p d)) (fun d => g (ix2 (0 : Fin 1) d)) q := by
  have hs : Cert.QkvReferenceIdeal.Read.val_main_v1 (F := Ideal) x (ix1 p) = ∑ k : Fin 1024, x (ix2 p k) * x (ix2 p k) := by
    rw [Cert.QkvReferenceIdeal.Read.val_main_v1_apply]
    refine (congrArg (· + _) (show Cert.QkvReferenceIdeal.Read.val_main_cst (F := Ideal) _ = (0 : EReal) from Ideal.ofBits_zero_f32)).trans ((zero_add _).trans ?_)
    refine Finset.sum_congr rfl fun k _ => ?_
    have e : Cert.QkvReferenceIdeal.Read.idx_main_v1 (ix1 p) k = ix2 p k := funext fun a => by fin_cases a <;> rfl
    rw [e]; rfl
  rw [Cert.QkvReferenceIdeal.Read.val_main_v11_apply, Cert.QkvReferenceIdeal.Read.val_main_v9_apply, Cert.QkvReferenceIdeal.Read.val_main_v8_apply,
    Cert.QkvReferenceIdeal.Read.val_main_v10_apply, Cert.QkvReferenceIdeal.Read.val_main_v7_apply, Cert.QkvReferenceIdeal.Read.val_main_v6_apply,
    Cert.QkvReferenceIdeal.Read.val_main_v4_apply, Cert.QkvReferenceIdeal.Read.val_main_v2_apply, Cert.QkvReferenceIdeal.Read.val_main_v3_apply, Cert.QkvReferenceIdeal.Read.val_main_v5_apply]
  have e1 : Cert.QkvReferenceIdeal.Read.idx_main_v2 (Cert.QkvReferenceIdeal.Read.idx_main_v8 (ix2 p q)) = ix1 p := funext fun a => by fin_cases a; rfl
  have e2 : Cert.QkvReferenceIdeal.Read.idx_main_v10 (ix2 p q) = ix2 (0 : Fin 1) q := funext fun a => by fin_cases a <;> rfl
  rw [e1, e2, hs]
  rfl

/-- The reference's result. -/
theorem ref_eq (x : S32768x1024.Idx → EReal) (g : S1x1024.Idx → EReal) (w : S1024x3072.Idx → EReal) :
    Cert.QkvReferenceIdeal.Read.val_main_v13 (F := Ideal) x g w = proj x g w := by
  funext i
  rw [Cert.QkvReferenceIdeal.Read.val_main_v13_apply, Cert.QkvReferenceIdeal.Read.val_main_v12_apply]
  refine Finset.sum_congr rfl fun k _ => ?_
  have e1 : Cert.QkvReferenceIdeal.Read.lidx_main_v12 i k = ix2 (i 0 : Fin 32768) k := funext fun a => by fin_cases a <;> rfl
  have e2 : Cert.QkvReferenceIdeal.Read.ridx_main_v12 i k = ix2 k (i 1 : Fin 3072) := funext fun a => by fin_cases a <;> rfl
  rw [e1, e2]
  exact congrArg (· * w (ix2 k (i 1 : Fin 3072))) (ref_norm x g (i 0) k)

end Cert.QkvIdeal.Value

end
-- ==== Proof.Combine.lean ====
/- The combination of each token's two expert rows over the extended reals: a row plus the two rows that its positions
   name, each times its gate. Kernel and reference compute it at every element. -/
module

public import proofs.«01_k».proof.Proof.Gen.CombineIdeal
public import proofs.«01_k».proof.Proof.Gen.CombineIdeal.Frame
public import proofs.«01_k».proof.Proof.Gen.CombineReferenceIdeal
public import proofs.«01_k».proof.Proof.Gen.CombineReferenceIdeal.Read
public import Idealize.ShloMosaic.Lib.ValueIdx
public import proofs.«01_k».proof.Proof.Norm

@[expose] public section

set_option maxRecDepth 16384

noncomputable section

namespace Cert.Rows

open Idealize.ShloMosaic Idealize.ShloMosaic.ValueIdx

/-- Rows taken out of a table by one index each: a result row is the table's row at the index, read signed and clamped. -/
theorem take1 {α : Type} {N C R w : Nat} (hN : 0 < N) (d : GatherDims ⟨2, ![N, C]⟩ ⟨2, ![R, 1]⟩ ⟨2, ![R, C]⟩)
    (ho : d.offsetDims = [1]) (hc : d.collapsedSliceDims = [0]) (hb : d.operandBatchingDims = []) (hs : d.startIndicesBatchingDims = [])
    (hm : d.startIndexMap = [0]) (hi : d.indexVectorDim = 1) (hz : d.sliceSizes = ![1, C])
    (x : (⟨2, ![N, C]⟩ : Shape).Idx → α) (idx : IVec ⟨2, ![R, 1]⟩ w) (r : Fin R) (c : Fin C) :
    Host.gather d x idx (ix2 r c) = x (ix2 ⟨min (idx (ix2 r (0 : Fin 1))).toInt.toNat (N - 1), by omega⟩ c) := by
  obtain ⟨od, cd, bd, sb, sm, iv, sz, wf⟩ := d
  dsimp only at ho hc hb hs hm hi hz
  subst ho hc hb hs hm hi hz
  unfold Host.gather
  refine congrArg x (funext fun a => Fin.ext ?_)
  show GatherDims.start _ (ix2 r c) idx a + GatherDims.batchCoord _ (ix2 r c) a + GatherDims.offCoord _ (ix2 r c) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z => min (idx z).toInt.toNat (N - 1)) (funext fun b => Fin.ext ?_)
    match b with
    | ⟨0, _⟩ => rfl
    | ⟨1, _⟩ => rfl
  · unfold GatherDims.start
    rw [dif_neg (fun h => absurd (congrArg Fin.val (List.mem_singleton.mp h)) Nat.one_ne_zero)]
    unfold GatherDims.offCoord
    rw [dif_pos ((GatherDims.mem_sKept _ _).mpr ⟨fun h => absurd (congrArg Fin.val (List.mem_singleton.mp h)) Nat.one_ne_zero, List.not_mem_nil⟩)]
    simp only [Nat.zero_add]
    rfl

/-- Rows taken by two indices each. -/
theorem take2 {α : Type} {N C R K w : Nat} (hN : 0 < N) (d : GatherDims ⟨2, ![N, C]⟩ ⟨3, ![R, K, 1]⟩ ⟨3, ![R, K, C]⟩)
    (ho : d.offsetDims = [2]) (hc : d.collapsedSliceDims = [0]) (hb : d.operandBatchingDims = []) (hs : d.startIndicesBatchingDims = [])
    (hm : d.startIndexMap = [0]) (hi : d.indexVectorDim = 2) (hz : d.sliceSizes = ![1, C])
    (x : (⟨2, ![N, C]⟩ : Shape).Idx → α) (idx : IVec ⟨3, ![R, K, 1]⟩ w) (r : Fin R) (k : Fin K) (c : Fin C) :
    Host.gather d x idx (ix3 r k c) = x (ix2 ⟨min (idx (ix3 r k (0 : Fin 1))).toInt.toNat (N - 1), by omega⟩ c) := by
  obtain ⟨od, cd, bd, sb, sm, iv, sz, wf⟩ := d
  dsimp only at ho hc hb hs hm hi hz
  subst ho hc hb hs hm hi hz
  unfold Host.gather
  refine congrArg x (funext fun a => Fin.ext ?_)
  show GatherDims.start _ (ix3 r k c) idx a + GatherDims.batchCoord _ (ix3 r k c) a + GatherDims.offCoord _ (ix3 r k c) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z => min (idx z).toInt.toNat (N - 1)) (funext fun b => Fin.ext ?_)
    match b with
    | ⟨0, _⟩ => rfl
    | ⟨1, _⟩ => rfl
    | ⟨2, _⟩ => rfl
  · unfold GatherDims.start
    rw [dif_neg (fun h => absurd (congrArg Fin.val (List.mem_singleton.mp h)) Nat.one_ne_zero)]
    unfold GatherDims.offCoord
    rw [dif_pos ((GatherDims.mem_sKept _ _).mpr ⟨fun h => absurd (congrArg Fin.val (List.mem_singleton.mp h)) Nat.one_ne_zero, List.not_mem_nil⟩)]
    simp only [Nat.zero_add]
    rfl

/-- A position's word, counted from the end where it is negative, and the row of 69632 that it names. -/
def wrap (w : BitVec 32) : BitVec 32 := Scalar.select (IntOp.cmpi .slt w 0#32) (IntOp.addi w 69632#32) w
def place (w : BitVec 32) : Fin 69632 := ⟨min (wrap w).toInt.toNat (69632 - 1), by omega⟩

end Cert.Rows

namespace Cert.CombineIdeal.Value

open Cert.CombineIdeal Cert.CombineIdeal.Gen Cert.Rows
open Idealize.ShloMosaic Idealize.ShloMosaic.ValueIdx
open Idealize.ShloMosaic.TcCoe
open Idealize.ShloMosaic.Pipeline (Dat Cfg Window)
open Idealize.SL Idealize.SL.RA Idealize.SL.Sem

/-- One element of the combination. -/
def comb (h : S32768x1024.Idx → EReal) (ys : S69632x1024.Idx → EReal) (pos : S32768x2.Idx → BitVec 32) (gates : S32768x2.Idx → EReal) (i : S32768x1024.Idx) : EReal :=
  h i + gates (ix2 (i 0) (0 : Fin 2)) * ys (ix2 (place (pos (ix2 (i 0) (0 : Fin 2)))) (i 1)) + gates (ix2 (i 0) (1 : Fin 2)) * ys (ix2 (place (pos (ix2 (i 0) (1 : Fin 2)))) (i 1))

/-- What each chunk of columns stores. -/
def chunk (g1 g2 x : FVec Ideal S512x128 .f32) (y1 y2 : FVec Ideal S512x128 .bf16) : FVec Ideal S512x128 .f32 :=
  addf (addf x (mulf (shapeCast S512x128 g1 shapeCasts_S512x128_S512x128 : FVec Ideal S512x128 .f32) (extf .f32 (shapeCast S512x128 y1 shapeCasts_S512x128_S512x128 : FVec Ideal S512x128 .bf16) bitsLt_bf16_f32)))
    (mulf (shapeCast S512x128 g2 shapeCasts_S512x128_S512x128 : FVec Ideal S512x128 .f32) (extf .f32 (shapeCast S512x128 y2 shapeCasts_S512x128_S512x128 : FVec Ideal S512x128 .bf16) bitsLt_bf16_f32))

theorem chunk_apply (g1 g2 x : FVec Ideal S512x128 .f32) (y1 y2 : FVec Ideal S512x128 .bf16) (i : S512x128.Idx) :
    chunk g1 g2 x y1 y2 i = x i + g1 i * y1 i + g2 i * y2 i := by
  unfold chunk
  rw [shapeCast_self, shapeCast_self, shapeCast_self, shapeCast_self]
  rfl

theorem out_pieces (x0 : Vec Ideal S512x1024 .f32) (x1 x2 : Vec Ideal S512x1024 .bf16) (x3 x4 : Vec Ideal S512x128 .f32) :
    out0_5 (F := Ideal) x0 x1 x2 x3 x4 = View.canon
      [⟨r0_8, chunk (View.ld x3 r0_0) (View.ld x4 r0_0) (View.ld x0 r0_8) (View.ld x1 r0_8) (View.ld x2 r0_8)⟩,
       ⟨r0_7, chunk (View.ld x3 r0_0) (View.ld x4 r0_0) (View.ld x0 r0_7) (View.ld x1 r0_7) (View.ld x2 r0_7)⟩,
       ⟨r0_6, chunk (View.ld x3 r0_0) (View.ld x4 r0_0) (View.ld x0 r0_6) (View.ld x1 r0_6) (View.ld x2 r0_6)⟩,
       ⟨r0_5, chunk (View.ld x3 r0_0) (View.ld x4 r0_0) (View.ld x0 r0_5) (View.ld x1 r0_5) (View.ld x2 r0_5)⟩,
       ⟨r0_4, chunk (View.ld x3 r0_0) (View.ld x4 r0_0) (View.ld x0 r0_4) (View.ld x1 r0_4) (View.ld x2 r0_4)⟩,
       ⟨r0_3, chunk (View.ld x3 r0_0) (View.ld x4 r0_0) (View.ld x0 r0_3) (View.ld x1 r0_3) (View.ld x2 r0_3)⟩,
       ⟨r0_2, chunk (View.ld x3 r0_0) (View.ld x4 r0_0) (View.ld x0 r0_2) (View.ld x1 r0_2) (View.ld x2 r0_2)⟩,
       ⟨r0_1, chunk (View.ld x3 r0_0) (View.ld x4 r0_0) (View.ld x0 r0_1) (View.ld x1 r0_1) (View.ld x2 r0_1)⟩] := rfl

section
variable (m : (ℓ : Loc nD τ sig) → Buf (Elt Ideal) ℓ) (c : Dev nD)

abbrev aH : S32768x1024.Idx → EReal := m ((c.tc : Thread nD τ).loc main_arg0)
abbrev aY : S69632x1024.Idx → EReal := m ((c.tc : Thread nD τ).loc main_arg1)
abbrev aP : S32768x2.Idx → BitVec 32 := m ((c.tc : Thread nD τ).loc main_arg2)
abbrev aG : S32768x2.Idx → EReal := m ((c.tc : Thread nD τ).loc main_arg3)

/-- A column of the positions, and the column as the gather's indices. -/
def col (p : FVec Ideal S32768x2 .f32) (o : Nat) (h : S32768x2.Slices ![0, o] S32768x1) : FVec Ideal S32768x1 .f32 := extractStridedSlice S32768x1 ![0, o] p h
def idx (p : IVec S32768x2 32) (o : Nat) (h : S32768x2.Slices ![0, o] S32768x1) : IVec S32768x1 32 :=
  let w : IVec S32768 32 := shapeCast S32768 (extractStridedSlice S32768x1 ![0, o] p h : IVec S32768x1 32) shapeCasts_S32768x1_S32768
  broadcastInDim S32768x1 ![0] bcast_S32768_S32768x1_0 (select (cmpi .slt w (broadcastInDim S32768 ![] bcast_S_S32768 (constantI S_ 32 0#32)))
    (addi w (broadcastInDim S32768 ![] bcast_S_S32768 (constantI S_ 32 69632#32))) w)

theorem idx_apply (p : IVec S32768x2 32) (o : Fin 2) (h : S32768x2.Slices ![0, o.val] S32768x1) (r : Fin 32768) :
    idx p o.val h (ix2 r (0 : Fin 1)) = wrap (p (ix2 r o)) := by
  unfold idx
  refine (broadcastInDim_apply _ bcast_S32768_S32768x1_0 _ _ (ix1 r) (fun a => ?_)).trans ?_
  · fin_cases a
    show r.val = if (32768 : Nat) = 1 then 0 else r.val
    rw [if_neg (by decide)]
  · have e : (shapeCast S32768 (extractStridedSlice S32768x1 ![0, o.val] p h : IVec S32768x1 32) shapeCasts_S32768x1_S32768 : IVec S32768 32) (ix1 r) = p (ix2 r o) := by
      refine (shapeCast_apply _ _ (ix1 r) (ix2 r (0 : Fin 1)) ?_).trans (extractStridedSlice_apply _ p h _ _ fun z => ?_)
      · rw [Shape.rowMajor_val_two, Shape.rowMajor_val_one]; show r.val * 1 + 0 = r.val; omega
      · fin_cases z
        · show r.val = 0 + r.val; omega
        · show o.val = o.val + 0; omega
    show Scalar.select (IntOp.cmpi .slt _ _) (IntOp.addi _ _) _ = _
    rw [e]
    rfl

theorem V_v8 : V m c main_v8 = (Host.gather gather_S69632x1024_S32768x1_S32768x1024_1_0_n_n_0_1_11024 (aY m c) (idx (aP m c) 0 slices_S32768x2_S32768x1_0_0) : FVec Ideal S32768x1024 .bf16) := by
  unfold V hostOps0
  after_results
  rfl
theorem V_v17 : V m c main_v17 = (Host.gather gather_S69632x1024_S32768x1_S32768x1024_1_0_n_n_0_1_11024 (aY m c) (idx (aP m c) 1 slices_S32768x2_S32768x1_0_1) : FVec Ideal S32768x1024 .bf16) := by
  unfold V hostOps0
  after_results
  rfl
theorem V_v19 : V m c main_v19 = (broadcastInDim S32768x128 ![0, 1] bcast_S32768x1_S32768x128_0_1 (extractStridedSlice S32768x1 ![0, 0] (aG m c) slices_S32768x2_S32768x1_0_0) : FVec Ideal S32768x128 .f32) := by
  unfold V hostOps0
  after_results
theorem V_v21 : V m c main_v21 = (broadcastInDim S32768x128 ![0, 1] bcast_S32768x1_S32768x128_0_1 (extractStridedSlice S32768x1 ![0, 1] (aG m c) slices_S32768x2_S32768x1_0_1) : FVec Ideal S32768x128 .f32) := by
  unfold V hostOps0
  after_results

theorem index_0 : ∀ t : Fin cfg0.N, (cfg0.win 0).index t = ![t.val, 0] := by decide +kernel
theorem index_1 : ∀ t : Fin cfg0.N, (cfg0.win 1).index t = ![t.val, 0] := by decide +kernel
theorem index_2 : ∀ t : Fin cfg0.N, (cfg0.win 2).index t = ![t.val, 0] := by decide +kernel
theorem index_3 : ∀ t : Fin cfg0.N, (cfg0.win 3).index t = ![t.val, 0] := by decide +kernel
theorem index_4 : ∀ t : Fin cfg0.N, (cfg0.win 4).index t = ![t.val, 0] := by decide +kernel
theorem index_5 : ∀ t : Fin cfg0.N, (cfg0.win 5).index t = ![t.val, 0] := by decide +kernel

/-- A point's row of the array. -/
abbrev row (t : Fin cfg0.N) (r : Fin 512) : Fin 32768 := ⟨512 * t.val + r.val, by have h : t.val < 64 := lt_of_lt_of_eq t.isLt N_0; have := r.isLt; omega⟩

theorem emb_0 (t : Fin cfg0.N) (p : Fin 512) (q : Fin 1024) : ((cfg0.win 0).rect t).emb (ix2 p q) = ix2 (row t p) q := by
  funext z
  refine Fin.ext ((Window.rect_emb_val (cfg0.win 0) t (ix2 p q) z).trans ?_)
  rw [index_0]
  fin_cases z
  · show t.val * 512 + p.val = 512 * t.val + p.val; omega
  · show 0 * 1024 + q.val = q.val; omega

theorem emb_1 (t : Fin cfg0.N) (p : Fin 512) (q : Fin 1024) : ((cfg0.win 1).rect t).emb (ix2 p q) = ix2 (row t p) q := by
  funext z
  refine Fin.ext ((Window.rect_emb_val (cfg0.win 1) t (ix2 p q) z).trans ?_)
  rw [index_1]
  fin_cases z
  · show t.val * 512 + p.val = 512 * t.val + p.val; omega
  · show 0 * 1024 + q.val = q.val; omega

theorem emb_2 (t : Fin cfg0.N) (p : Fin 512) (q : Fin 1024) : ((cfg0.win 2).rect t).emb (ix2 p q) = ix2 (row t p) q := by
  funext z
  refine Fin.ext ((Window.rect_emb_val (cfg0.win 2) t (ix2 p q) z).trans ?_)
  rw [index_2]
  fin_cases z
  · show t.val * 512 + p.val = 512 * t.val + p.val; omega
  · show 0 * 1024 + q.val = q.val; omega

theorem emb_3 (t : Fin cfg0.N) (p : Fin 512) (q : Fin 128) : ((cfg0.win 3).rect t).emb (ix2 p q) = ix2 (row t p) q := by
  funext z
  refine Fin.ext ((Window.rect_emb_val (cfg0.win 3) t (ix2 p q) z).trans ?_)
  rw [index_3]
  fin_cases z
  · show t.val * 512 + p.val = 512 * t.val + p.val; omega
  · show 0 * 128 + q.val = q.val; omega

theorem emb_4 (t : Fin cfg0.N) (p : Fin 512) (q : Fin 128) : ((cfg0.win 4).rect t).emb (ix2 p q) = ix2 (row t p) q := by
  funext z
  refine Fin.ext ((Window.rect_emb_val (cfg0.win 4) t (ix2 p q) z).trans ?_)
  rw [index_4]
  fin_cases z
  · show t.val * 512 + p.val = 512 * t.val + p.val; omega
  · show 0 * 128 + q.val = q.val; omega

theorem iblk_0 (t : Fin cfg0.N) (p : Fin 512) (q : Fin 1024) : iblk m c 0 t (ix2 p q) = aH m c (ix2 (row t p) q) :=
  (congrFun (V_main_arg0 m c) _).trans (congrArg (aH m c) (emb_0 t p q))

theorem iblk_1 (t : Fin cfg0.N) (p : Fin 512) (q : Fin 1024) : iblk m c 1 t (ix2 p q) = aY m c (ix2 (place (aP m c (ix2 (row t p) (0 : Fin 2)))) q) := by
  refine (congrFun (V_v8 m c) _).trans ((congrArg _ (emb_1 t p q)).trans ?_)
  refine (take1 (by decide) gather_S69632x1024_S32768x1_S32768x1024_1_0_n_n_0_1_11024 rfl rfl rfl rfl rfl rfl rfl (aY m c) _ (row t p) q).trans ?_
  exact congrArg (fun w : BitVec 32 => aY m c (ix2 (⟨min w.toInt.toNat (69632 - 1), by omega⟩ : Fin 69632) q)) (idx_apply (aP m c) 0 slices_S32768x2_S32768x1_0_0 (row t p))

theorem iblk_2 (t : Fin cfg0.N) (p : Fin 512) (q : Fin 1024) : iblk m c 2 t (ix2 p q) = aY m c (ix2 (place (aP m c (ix2 (row t p) (1 : Fin 2)))) q) := by
  refine (congrFun (V_v17 m c) _).trans ((congrArg _ (emb_2 t p q)).trans ?_)
  refine (take1 (by decide) gather_S69632x1024_S32768x1_S32768x1024_1_0_n_n_0_1_11024 rfl rfl rfl rfl rfl rfl rfl (aY m c) _ (row t p) q).trans ?_
  exact congrArg (fun w : BitVec 32 => aY m c (ix2 (⟨min w.toInt.toNat (69632 - 1), by omega⟩ : Fin 69632) q)) (idx_apply (aP m c) 1 slices_S32768x2_S32768x1_0_1 (row t p))

theorem iblk_3 (t : Fin cfg0.N) (p : Fin 512) (q : Fin 128) : iblk m c 3 t (ix2 p q) = aG m c (ix2 (row t p) (0 : Fin 2)) := by
  refine (congrFun (V_v19 m c) _).trans ((congrArg _ (emb_3 t p q)).trans ?_)
  refine (broadcastInDim_apply _ bcast_S32768x1_S32768x128_0_1 _ _ (ix2 (row t p) (0 : Fin 1)) (fun a => ?_)).trans (extractStridedSlice_apply _ (aG m c) _ _ _ fun z => ?_)
  · fin_cases a
    · show (row t p).val = if (32768 : Nat) = 1 then 0 else (row t p).val; rw [if_neg (by decide)]
    · show 0 = if (1 : Nat) = 1 then 0 else q.val; rw [if_pos rfl]
  · fin_cases z
    · show (row t p).val = 0 + (row t p).val; omega
    · show 0 = 0 + 0; rfl

theorem iblk_4 (t : Fin cfg0.N) (p : Fin 512) (q : Fin 128) : iblk m c 4 t (ix2 p q) = aG m c (ix2 (row t p) (1 : Fin 2)) := by
  refine (congrFun (V_v21 m c) _).trans ((congrArg _ (emb_4 t p q)).trans ?_)
  refine (broadcastInDim_apply _ bcast_S32768x1_S32768x128_0_1 _ _ (ix2 (row t p) (0 : Fin 1)) (fun a => ?_)).trans (extractStridedSlice_apply _ (aG m c) _ _ _ fun z => ?_)
  · fin_cases a
    · show (row t p).val = if (32768 : Nat) = 1 then 0 else (row t p).val; rw [if_neg (by decide)]
    · show 0 = if (1 : Nat) = 1 then 0 else q.val; rw [if_pos rfl]
  · fin_cases z
    · show (row t p).val = 0 + (row t p).val; omega
    · show 1 = 1 + 0; rfl

/-- A stored chunk's value, `o` its first column. -/
theorem piece (t : Fin cfg0.N) (o : Nat) (i0) (r : Fin 512) (c' : Fin 128) (C : Fin 1024) (hC : C.val = o + c'.val) (r' : Fin 512) (hr : r'.val = r.val) :
    chunk (View.ld (iblk m c 3 t) r0_0) (View.ld (iblk m c 4 t) r0_0) (View.ld (iblk m c 0 t) (Rect.unit (s := S512x1024) ![0, o] S512x128.size i0))
        (View.ld (iblk m c 1 t) (Rect.unit (s := S512x1024) ![0, o] S512x128.size i0)) (View.ld (iblk m c 2 t) (Rect.unit (s := S512x1024) ![0, o] S512x128.size i0)) (ix2 r c')
      = comb (aH m c) (aY m c) (aP m c) (aG m c) (ix2 (row t r') C) := by
  obtain rfl : r' = r := Fin.ext hr
  rw [chunk_apply]
  have e3 : View.ld (iblk m c 3 t) r0_0 = iblk m c 3 t := View.ld_unit_zero (by funext a; fin_cases a <;> rfl) _ _
  have e4 : View.ld (iblk m c 4 t) r0_0 = iblk m c 4 t := View.ld_unit_zero (by funext a; fin_cases a <;> rfl) _ _
  have eb : (Rect.unit (s := S512x1024) ![0, o] S512x128.size i0).emb (ix2 r' c') = ix2 r' C := funext fun q => Fin.ext (by
      fin_cases q
      · show 0 + 1 * r'.val = r'.val; omega
      · show o + 1 * c'.val = C.val; omega)
  rw [e3, e4]
  have h0 : View.ld (iblk m c 0 t) (Rect.unit (s := S512x1024) ![0, o] S512x128.size i0) (ix2 r' c') = _ := (congrArg (iblk m c 0 t) eb).trans (iblk_0 m c t r' C)
  have h1 : View.ld (iblk m c 1 t) (Rect.unit (s := S512x1024) ![0, o] S512x128.size i0) (ix2 r' c') = _ := (congrArg (iblk m c 1 t) eb).trans (iblk_1 m c t r' C)
  have h2 : View.ld (iblk m c 2 t) (Rect.unit (s := S512x1024) ![0, o] S512x128.size i0) (ix2 r' c') = _ := (congrArg (iblk m c 2 t) eb).trans (iblk_2 m c t r' C)
  rw [h0, h1, h2, iblk_3, iblk_4]
  rfl

theorem out_apply (t : Fin cfg0.N) (r : Fin 512) (C : Fin 1024) :
    (dats m 0 c).after 5 t (ix2 r C) = comb (aH m c) (aY m c) (aP m c) (aG m c) (ix2 (row t r) C) := by
  rw [after0_5, out_pieces]
  refine (View.canon_apply_of_pieces (S := S512x1024) (e := .f32) (Val := Elt Ideal) (fun y => comb (aH m c) (aY m c) (aP m c) (aG m c) (ix2 (row t (y 0)) (y 1))) _ ?_ _ (cover0_5 _ _ _ _ _ _ _ _ _)).trans rfl
  intro p hp x
  simp only [List.mem_cons, List.not_mem_nil, or_false] at hp
  rcases hp with rfl | rfl | rfl | rfl | rfl | rfl | rfl | rfl
  · obtain ⟨r', c', rfl⟩ : ∃ r' c', x = ix2 r' c' := ⟨_, _, eq_ix2 x⟩
    refine piece m c t 896 _ r' c' _ ?_ _ ?_
    · show 896 + 1 * c'.val = _; omega
    · show 0 + 1 * r'.val = _; omega
  · obtain ⟨r', c', rfl⟩ : ∃ r' c', x = ix2 r' c' := ⟨_, _, eq_ix2 x⟩
    refine piece m c t 768 _ r' c' _ ?_ _ ?_
    · show 768 + 1 * c'.val = _; omega
    · show 0 + 1 * r'.val = _; omega
  · obtain ⟨r', c', rfl⟩ : ∃ r' c', x = ix2 r' c' := ⟨_, _, eq_ix2 x⟩
    refine piece m c t 640 _ r' c' _ ?_ _ ?_
    · show 640 + 1 * c'.val = _; omega
    · show 0 + 1 * r'.val = _; omega
  · obtain ⟨r', c', rfl⟩ : ∃ r' c', x = ix2 r' c' := ⟨_, _, eq_ix2 x⟩
    refine piece m c t 512 _ r' c' _ ?_ _ ?_
    · show 512 + 1 * c'.val = _; omega
    · show 0 + 1 * r'.val = _; omega
  · obtain ⟨r', c', rfl⟩ : ∃ r' c', x = ix2 r' c' := ⟨_, _, eq_ix2 x⟩
    refine piece m c t 384 _ r' c' _ ?_ _ ?_
    · show 384 + 1 * c'.val = _; omega
    · show 0 + 1 * r'.val = _; omega
  · obtain ⟨r', c', rfl⟩ : ∃ r' c', x = ix2 r' c' := ⟨_, _, eq_ix2 x⟩
    refine piece m c t 256 _ r' c' _ ?_ _ ?_
    · show 256 + 1 * c'.val = _; omega
    · show 0 + 1 * r'.val = _; omega
  · obtain ⟨r', c', rfl⟩ : ∃ r' c', x = ix2 r' c' := ⟨_, _, eq_ix2 x⟩
    refine piece m c t 128 _ r' c' _ ?_ _ ?_
    · show 128 + 1 * c'.val = _; omega
    · show 0 + 1 * r'.val = _; omega
  · obtain ⟨r', c', rfl⟩ : ∃ r' c', x = ix2 r' c' := ⟨_, _, eq_ix2 x⟩
    refine piece m c t 0 _ r' c' _ ?_ _ ?_
    · show 0 + 1 * c'.val = _; omega
    · show 0 + 1 * r'.val = _; omega

/-- The array the run leaves. -/
theorem out_eq : (dats m 0 c).arrAt 5 cfg0.N = (comb (aH m c) (aY m c) (aP m c) (aG m c) : S32768x1024.Idx → EReal) := by
  refine Dat.arrAt_eq_of_cover (dats m 0 c) (5 : Fin 6) _ (fun t _ => ?_) (fun i => ?_)
  · funext y
    obtain ⟨r, C, rfl⟩ : ∃ (r : Fin 512) (C : Fin 1024), y = ix2 r C := ⟨_, _, eq_ix2 y⟩
    refine (out_apply m c t r C).trans (congrArg (comb (aH m c) (aY m c) (aP m c) (aG m c)) (funext fun z => Fin.ext ?_))
    refine Eq.trans ?_ (Window.rect_emb_val (cfg0.win 5) t (ix2 r C) z).symm
    rw [index_5]
    fin_cases z
    · show 512 * t.val + r.val = t.val * 512 + r.val; omega
    · show C.val = 0 * 1024 + C.val; omega
  · have hi : (i 0).val < 32768 := (i 0).isLt
    let t : Fin cfg0.N := ⟨(i 0).val / 512, lt_of_lt_of_eq (show (i 0).val / 512 < 64 by omega) N_0.symm⟩
    refine ⟨t, flush0_5 _, ?_⟩
    have e : i = ((cfg0.win 5).rect t).emb (ix2 (⟨(i 0).val % 512, by omega⟩ : Fin 512) (i 1 : Fin 1024)) := by
      funext q
      refine Fin.ext (Eq.trans ?_ (Window.rect_emb_val (cfg0.win 5) t _ q).symm)
      rw [index_5]
      fin_cases q
      · show (i 0).val = (i 0).val / 512 * 512 + (i 0).val % 512; omega
      · show (i 1).val = 0 * 1024 + (i 1).val; omega
    rw [e]
    exact View.emb_mem_set _ _

end

end Cert.CombineIdeal.Value

namespace Cert.CombineReferenceIdeal.Value

open Cert.CombineIdeal.Value (comb)
open Cert.CombineReferenceIdeal Cert.CombineReferenceIdeal.Read Cert.Rows
open Idealize.ShloMosaic Idealize.ShloMosaic.ValueIdx

variable (h : S32768x1024.Idx → EReal) (ys : S69632x1024.Idx → EReal) (pos : S32768x2.Idx → BitVec 32) (gates : S32768x2.Idx → EReal)

theorem ref_row (r : Fin 32768) (k : Fin 2) (C : Fin 1024) : val_main_v7 (F := Ideal) ys pos (ix3 r k C) = ys (ix2 (place (pos (ix2 r k))) C) := by
  unfold val_main_v7
  refine (take2 (by decide) _ rfl rfl rfl rfl rfl rfl rfl (val_main_v0 (F := Ideal) ys) _ r k C).trans ?_
  have e : val_main_v6 (F := Ideal) pos (ix3 r k (0 : Fin 1)) = wrap (pos (ix2 r k)) := by
    rw [val_main_v6_apply, val_main_v5_apply, val_main_v2_apply, val_main_v4_apply, val_main_v1_apply, val_main_v3_apply]
    have e1 : idx_main_v6 (ix3 r k (0 : Fin 1)) = ix2 r k := funext fun a => by fin_cases a <;> rfl
    rw [e1]
    rfl
  exact congrArg (fun w : BitVec 32 => ys (ix2 (⟨min w.toInt.toNat (69632 - 1), by omega⟩ : Fin 69632) C)) e

/-- The reference's result. -/
theorem ref_eq : val_main_v12 (F := Ideal) h ys pos gates = comb h ys pos gates := by
  funext i
  obtain ⟨r, C, rfl⟩ : ∃ (r : Fin 32768) (C : Fin 1024), i = ix2 r C := ⟨_, _, eq_ix2 i⟩
  have e (k : Fin 2) : val_main_v10 (F := Ideal) ys pos gates (idx_main_v11 (ix2 r C) k) = gates (ix2 r k) * ys (ix2 (place (pos (ix2 r k))) C) := by
    have e1 : idx_main_v11 (ix2 r C) k = ix3 r k C := funext fun a => by fin_cases a <;> rfl
    rw [e1, val_main_v10_apply, ref_row, val_main_v9_apply, val_main_v8_apply]
    have e2 : idx_main_v8 (idx_main_v9 (ix3 r k C)) = ix2 r k := funext fun a => by fin_cases a <;> rfl
    rw [e2]
    rfl
  rw [val_main_v12_apply, val_main_v11_apply, Fin.sum_univ_two, e, e]
  refine (congrArg (fun z : EReal => h (ix2 r C) + (z + _)) (show val_main_cst (F := Ideal) _ = (0 : EReal) from Ideal.ofBits_zero_f32)).trans ?_
  unfold comb
  rw [zero_add, add_assoc]

end Cert.CombineReferenceIdeal.Value

end
-- ==== Proof.KvqRef.lean ====
/- The reference's projections at every element. -/
module

public import proofs.«01_k».proof.Proof.Kvq
public import proofs.«01_k».proof.Proof.Gen.KvqReferenceIdeal.Read
public import Idealize.ShloMosaic.Lib.KernelVsHost

@[expose] public section

set_option maxRecDepth 16384

noncomputable section

namespace Cert.KvqIdeal.Value

open Cert.KvqIdeal Cert.Norm Cert.Kvq
open Idealize.ShloMosaic Idealize.ShloMosaic.ValueIdx
open Cert.KvqReferenceIdeal.Read

theorem ref_norm_kv (x : S32768x1024.Idx → EReal) (g : S1024.Idx → EReal) (p : Fin 32768) (q : Fin 1024) :
    val_main_v12 (F := Ideal) x g (ix2 p q) = normed (fun d => x (ix2 p d)) (fun d => g (ix1 d)) q := by
  have hs : val_main_v1 (F := Ideal) x (ix1 p) = ∑ k : Fin 1024, x (ix2 p k) * x (ix2 p k) := by
    rw [val_main_v1_apply]
    refine (congrArg (· + _) (show val_main_cst (F := Ideal) _ = (0 : EReal) from Ideal.ofBits_zero_f32)).trans ((zero_add _).trans ?_)
    refine Finset.sum_congr rfl fun k _ => ?_
    have e : idx_main_v1 (ix1 p) k = ix2 p k := funext fun a => by fin_cases a <;> rfl
    rw [e]; rfl
  rw [val_main_v12_apply, val_main_v9_apply, val_main_v8_apply, val_main_v11_apply, val_main_v10_apply, val_main_v7_apply, val_main_v6_apply,
    val_main_v4_apply, val_main_v2_apply, val_main_v3_apply, val_main_v5_apply]
  have e1 : idx_main_v2 (idx_main_v8 (ix2 p q)) = ix1 p := funext fun a => by fin_cases a; rfl
  have e2 : idx_main_v10 (idx_main_v11 (ix2 p q)) = ix1 q := funext fun a => by fin_cases a; rfl
  rw [e1, e2, hs]
  rfl

theorem ref_norm_q (x : S32768x1024.Idx → EReal) (g : S1024.Idx → EReal) (p : Fin 32768) (q : Fin 1024) :
    val_main_v46 (F := Ideal) x g (ix2 p q) = normed (fun d => x (ix2 p d)) (fun d => g (ix1 d)) q := by
  have hs : val_main_v35 (F := Ideal) x (ix1 p) = ∑ k : Fin 1024, x (ix2 p k) * x (ix2 p k) := by
    rw [val_main_v35_apply]
    refine (congrArg (· + _) (show val_main_cst_5 (F := Ideal) _ = (0 : EReal) from Ideal.ofBits_zero_f32)).trans ((zero_add _).trans ?_)
    refine Finset.sum_congr rfl fun k _ => ?_
    have e : idx_main_v35 (ix1 p) k = ix2 p k := funext fun a => by fin_cases a <;> rfl
    rw [e]; rfl
  rw [val_main_v46_apply, val_main_v43_apply, val_main_v42_apply, val_main_v45_apply, val_main_v44_apply, val_main_v41_apply, val_main_v40_apply,
    val_main_v38_apply, val_main_v36_apply, val_main_v37_apply, val_main_v39_apply]
  have e1 : idx_main_v36 (idx_main_v42 (ix2 p q)) = ix1 p := funext fun a => by fin_cases a; rfl
  have e2 : idx_main_v44 (idx_main_v45 (ix2 p q)) = ix1 q := funext fun a => by fin_cases a; rfl
  rw [e1, e2, hs]
  rfl

theorem ref_proj_kv (x : S32768x1024.Idx → EReal) (g : S1024.Idx → EReal) (w : S1024x2064.Idx → EReal) (p : Fin 32768) (j : Fin 2064) :
    val_main_v13 (F := Ideal) x g w (ix2 p j) = proj x g w p j := by
  rw [val_main_v13_apply]
  refine Finset.sum_congr rfl fun k _ => ?_
  have e1 : lidx_main_v13 (ix2 p j) k = ix2 p k := funext fun a => by fin_cases a <;> rfl
  have e2 : ridx_main_v13 (ix2 p j) k = ix2 k j := funext fun a => by fin_cases a <;> rfl
  rw [e1, e2]
  exact congrArg (· * w (ix2 k j)) (ref_norm_kv x g p k)

theorem ref_proj_q (x : S32768x1024.Idx → EReal) (g : S1024.Idx → EReal) (w : S1024x1024.Idx → EReal) (p : Fin 32768) (j : Fin 1024) :
    val_main_v47 (F := Ideal) x g w (ix2 p j) = proj x g w p j := by
  rw [val_main_v47_apply]
  refine Finset.sum_congr rfl fun k _ => ?_
  have e1 : lidx_main_v47 (ix2 p j) k = ix2 p k := funext fun a => by fin_cases a <;> rfl
  have e2 : ridx_main_v47 (ix2 p j) k = ix2 k j := funext fun a => by fin_cases a <;> rfl
  rw [e1, e2]
  exact congrArg (· * w (ix2 k j)) (ref_norm_q x g p k)

/-- A head's position as a column. -/
abbrev colOf (h : Fin 16) (d : Fin 64) : Fin 1024 := ⟨64 * h.val + d.val, by have := h.isLt; have := d.isLt; omega⟩

theorem ref_key_at (x : S32768x1024.Idx → EReal) (g : S1024.Idx → EReal) (w : S1024x2064.Idx → EReal) (p : Fin 32768) (h : Fin 16) (d : Fin 64) :
    val_main_v15 (F := Ideal) x g w (ix3 p h d) = proj x g w p ⟨(colOf h d).val, by omega⟩ := by
  have hp := p.isLt
  have hh := h.isLt
  have hd := d.isLt
  rw [val_main_v15_apply, val_main_v14_apply, ← ref_proj_kv]
  refine congrArg (val_main_v13 (F := Ideal) x g w) (funext fun a => Fin.ext ?_)
  fin_cases a
  · show ((p.val * 16 + h.val) * 64 + d.val) / 1024 = p.val; omega
  · show ((p.val * 16 + h.val) * 64 + d.val) % 1024 = 64 * h.val + d.val; omega

theorem ref_query_at (x : S32768x1024.Idx → EReal) (g : S1024.Idx → EReal) (w : S1024x1024.Idx → EReal) (p : Fin 32768) (h : Fin 16) (d : Fin 64) :
    val_main_v48 (F := Ideal) x g w (ix3 p h d) = proj x g w p (colOf h d) := by
  have hp := p.isLt
  have hh := h.isLt
  have hd := d.isLt
  rw [val_main_v48_apply, ← ref_proj_q]
  refine congrArg (val_main_v47 (F := Ideal) x g w) (funext fun a => Fin.ext ?_)
  fin_cases a
  · show ((p.val * 16 + h.val) * 64 + d.val) / 1024 = p.val; omega
  · show ((p.val * 16 + h.val) * 64 + d.val) % 1024 = 64 * h.val + d.val; omega

theorem ref_keys (x : S32768x1024.Idx → EReal) (g : S1024.Idx → EReal) (w : S1024x2064.Idx → EReal) (kg : S64.Idx → EReal) (p : Fin 32768) (q : Fin 1024) :
    val_main_v29 (F := Ideal) x g w kg (ix2 p q) = hnorm (fun j => proj x g w p ⟨j.val, by omega⟩) (fun d => kg (ix1 d)) q := by
  have hp := p.isLt
  have hq := q.isLt
  have e : idx_main_v29 (ix2 p q) = ix3 p (⟨q.val / 64, by omega⟩ : Fin 16) (headPos q) := funext fun a => Fin.ext (by
    fin_cases a
    · show (p.val * 1024 + q.val) / 1024 = p.val; omega
    · show (p.val * 1024 + q.val) / 64 % 16 = q.val / 64; omega
    · show (p.val * 1024 + q.val) % 64 = q.val % 64; omega)
  have hs : val_main_v17 (F := Ideal) x g w (ix2 p (⟨q.val / 64, by omega⟩ : Fin 16)) = ∑ d : Fin 64, proj x g w p ⟨(headCol q d).val, by omega⟩ * proj x g w p ⟨(headCol q d).val, by omega⟩ := by
    rw [val_main_v17_apply]
    refine (congrArg (· + _) (show val_main_cst_2 (F := Ideal) _ = (0 : EReal) from Ideal.ofBits_zero_f32)).trans ((zero_add _).trans ?_)
    refine Finset.sum_congr rfl fun k _ => ?_
    have ek : idx_main_v17 (ix2 p (⟨q.val / 64, by omega⟩ : Fin 16)) k = ix3 p (⟨q.val / 64, by omega⟩ : Fin 16) k := funext fun a => by fin_cases a <;> rfl
    rw [ek, val_main_v16_apply, ref_key_at]
    rfl
  rw [val_main_v29_apply, e, val_main_v28_apply, val_main_v25_apply, val_main_v24_apply, val_main_v27_apply, val_main_v26_apply, val_main_v23_apply, val_main_v22_apply,
    val_main_v20_apply, val_main_v18_apply, val_main_v19_apply, val_main_v21_apply]
  have e1 : idx_main_v18 (idx_main_v24 (ix3 p (⟨q.val / 64, by omega⟩ : Fin 16) (headPos q))) = ix2 p (⟨q.val / 64, by omega⟩ : Fin 16) := funext fun a => by fin_cases a <;> rfl
  have e2 : idx_main_v26 (idx_main_v27 (ix3 p (⟨q.val / 64, by omega⟩ : Fin 16) (headPos q))) = ix1 (headPos q) := funext fun a => by fin_cases a; rfl
  have e3 : (⟨(colOf (⟨q.val / 64, by omega⟩ : Fin 16) (headPos q)).val, by omega⟩ : Fin 2064) = ⟨q.val, by omega⟩ := Fin.ext (show 64 * (q.val / 64) + q.val % 64 = q.val by omega)
  rw [e1, e2, hs, ref_key_at, e3]
  rfl

theorem ref_queries (x : S32768x1024.Idx → EReal) (g : S1024.Idx → EReal) (w : S1024x1024.Idx → EReal) (qg : S64.Idx → EReal) (p : Fin 32768) (q : Fin 1024) :
    val_main_v62 (F := Ideal) x g w qg (ix2 p q) = hnorm (fun j => proj x g w p j) (fun d => qg (ix1 d)) q := by
  have hp := p.isLt
  have hq := q.isLt
  have e : idx_main_v62 (ix2 p q) = ix3 p (⟨q.val / 64, by omega⟩ : Fin 16) (headPos q) := funext fun a => Fin.ext (by
    fin_cases a
    · show (p.val * 1024 + q.val) / 1024 = p.val; omega
    · show (p.val * 1024 + q.val) / 64 % 16 = q.val / 64; omega
    · show (p.val * 1024 + q.val) % 64 = q.val % 64; omega)
  have hs : val_main_v50 (F := Ideal) x g w (ix2 p (⟨q.val / 64, by omega⟩ : Fin 16)) = ∑ d : Fin 64, proj x g w p (headCol q d) * proj x g w p (headCol q d) := by
    rw [val_main_v50_apply]
    refine (congrArg (· + _) (show val_main_cst_8 (F := Ideal) _ = (0 : EReal) from Ideal.ofBits_zero_f32)).trans ((zero_add _).trans ?_)
    refine Finset.sum_congr rfl fun k _ => ?_
    have ek : idx_main_v50 (ix2 p (⟨q.val / 64, by omega⟩ : Fin 16)) k = ix3 p (⟨q.val / 64, by omega⟩ : Fin 16) k := funext fun a => by fin_cases a <;> rfl
    rw [ek, val_main_v49_apply, ref_query_at]
    rfl
  rw [val_main_v62_apply, e, val_main_v61_apply, val_main_v58_apply, val_main_v57_apply, val_main_v60_apply, val_main_v59_apply, val_main_v56_apply, val_main_v55_apply,
    val_main_v53_apply, val_main_v51_apply, val_main_v52_apply, val_main_v54_apply]
  have e1 : idx_main_v51 (idx_main_v57 (ix3 p (⟨q.val / 64, by omega⟩ : Fin 16) (headPos q))) = ix2 p (⟨q.val / 64, by omega⟩ : Fin 16) := funext fun a => by fin_cases a <;> rfl
  have e2 : idx_main_v59 (idx_main_v60 (ix3 p (⟨q.val / 64, by omega⟩ : Fin 16) (headPos q))) = ix1 (headPos q) := funext fun a => by fin_cases a; rfl
  have e3 : colOf (⟨q.val / 64, by omega⟩ : Fin 16) (headPos q) = q := Fin.ext (show 64 * (q.val / 64) + q.val % 64 = q.val by omega)
  rw [e1, e2, hs, ref_query_at, e3]
  rfl

/-- The reference's keys and values. -/
theorem ref_eq_kv (x : S32768x1024.Idx → EReal) (g : S1024.Idx → EReal) (w : S1024x2064.Idx → EReal) (kg : S64.Idx → EReal) :
    val_main_v63 (F := Ideal) x g w kg = kvSpec x g w kg := by
  funext i
  obtain ⟨p, q, rfl⟩ : ∃ (p : Fin 32768) (q : Fin 2048), i = ix2 p q := ⟨_, _, eq_ix2 i⟩
  have hq := q.isLt
  rw [val_main_v63_apply]
  refine Eq.trans (b := val_main_v31 (F := Ideal) x g w kg (ix2 p q)) rfl ?_
  unfold val_main_v31 kvSpec
  by_cases h : q.val < 1024
  · rw [dif_pos (show ((ix2 p q : S32768x2048.Idx) 1).val < 1024 from h)]
    refine (concatenate_pair_apply_left (t := S32768x2048) (s₁ := S32768x1024) (s₂ := S32768x1024) 1 _ _ _ (ix2 p q) rfl (ix2 p (⟨q.val, h⟩ : Fin 1024)) (fun b => by match b with | ⟨0, _⟩ => rfl | ⟨1, _⟩ => rfl)).trans ?_
    exact ref_keys x g w kg p ⟨q.val, h⟩
  · rw [dif_neg (show ¬ ((ix2 p q : S32768x2048.Idx) 1).val < 1024 from h)]
    refine (concatenate_pair_apply_right (t := S32768x2048) (s₁ := S32768x1024) (s₂ := S32768x1024) 1 _ _ _ (ix2 p q) rfl rfl (ix2 p (⟨q.val - 1024, by omega⟩ : Fin 1024)) (fun b hb => by
      match b with
      | ⟨0, _⟩ => rfl
      | ⟨1, _⟩ => exact absurd rfl hb) (show q.val - 1024 + 1024 = q.val by omega)).trans ?_
    rw [val_main_v30_apply]
    refine Eq.trans (congrArg (val_main_v13 (F := Ideal) x g w) (funext fun a => Fin.ext ?_)) (ref_proj_kv x g w p ⟨q.val, by omega⟩)
    fin_cases a
    · rfl
    · show 1024 + (q.val - 1024) = q.val; omega

/-- The reference's forget logits. -/
theorem ref_eq_f (x : S32768x1024.Idx → EReal) (g : S1024.Idx → EReal) (w : S1024x2064.Idx → EReal) :
    val_main_v33 (F := Ideal) x g w = fSpec x g w := by
  funext i
  obtain ⟨p, q, rfl⟩ : ∃ (p : Fin 32768) (q : Fin 128), i = ix2 p q := ⟨_, _, eq_ix2 i⟩
  have hq := q.isLt
  unfold val_main_v33 fSpec
  by_cases h : q.val < 16
  · rw [dif_pos (show ((ix2 p q : S32768x128.Idx) 1).val < 16 from h)]
    refine (pad_apply_of_inside _ _ _ _ _ _ _ (ix2 p q) (ix2 p (⟨q.val, h⟩ : Fin 16)) (fun a => by
      match a with
      | ⟨0, _⟩ => show p.val = 0 + p.val * (0 + 1); omega
      | ⟨1, _⟩ => show q.val = 0 + q.val * (0 + 1); omega)).trans ?_
    rw [val_main_v32_apply]
    refine Eq.trans (congrArg (val_main_v13 (F := Ideal) x g w) (funext fun a => Fin.ext ?_)) (ref_proj_kv x g w p ⟨2048 + q.val, by omega⟩)
    fin_cases a <;> rfl
  · rw [dif_neg (show ¬ ((ix2 p q : S32768x128.Idx) 1).val < 16 from h)]
    refine (pad_apply_of_not_inside _ _ _ _ _ _ _ (ix2 p q) 1 (fun hin => h ?_)).trans ?_
    · have h3 : (q.val - 0) / (0 + 1) < 16 := hin.2.2
      omega
    · show (((0#32 : BitVec 32).toInt : ℝ) : EReal) = 0
      simp

/-- The reference's queries. -/
theorem ref_eq_q (x : S32768x1024.Idx → EReal) (g : S1024.Idx → EReal) (w : S1024x1024.Idx → EReal) (qg : S64.Idx → EReal) :
    val_main_v64 (F := Ideal) x g w qg = qSpec x g w qg := by
  funext i
  obtain ⟨p, q, rfl⟩ : ∃ (p : Fin 32768) (q : Fin 1024), i = ix2 p q := ⟨_, _, eq_ix2 i⟩
  rw [val_main_v64_apply]
  exact ref_queries x g w qg p q

end Cert.KvqIdeal.Value

end
-- ==== Proof.More.lean ====
/- The calls beside the experts': the dense layer, an output projection, the normed projections and the combination of the experts' rows. Each leaves the
   reference's array over the extended reals. -/
module

public import proofs.«01_k».proof.Defs
public import proofs.«01_k».proof.Proof.Gen.Dense
public import proofs.«01_k».proof.Proof.Gen.DenseIdeal
public import proofs.«01_k».proof.Proof.Gen.DenseReferenceIdeal
public import proofs.«01_k».proof.Proof.Gen.DenseReferenceIdeal.Run
public import proofs.«01_k».proof.Proof.Gen.OutProjIdeal
public import proofs.«01_k».proof.Proof.Gen.OutProjReferenceIdeal
public import proofs.«01_k».proof.Proof.Gen.OutProjReferenceIdeal.Run
public import proofs.«01_k».proof.Proof.Gen.QkvIdeal
public import proofs.«01_k».proof.Proof.Gen.QkvReferenceIdeal
public import proofs.«01_k».proof.Proof.Gen.QkvReferenceIdeal.Run
public import proofs.«01_k».proof.Proof.Dense
public import proofs.«01_k».proof.Proof.OutProj
public import proofs.«01_k».proof.Proof.Qkv
public import proofs.«01_k».proof.Proof.Gen.CombineReferenceIdeal.Run
public import proofs.«01_k».proof.Proof.Combine
public import proofs.«01_k».proof.Proof.Gen.KvqIdeal
public import proofs.«01_k».proof.Proof.Gen.KvqReferenceIdeal
public import proofs.«01_k».proof.Proof.Gen.KvqReferenceIdeal.Run
public import proofs.«01_k».proof.Proof.KvqRef
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.ValueIdx Idealize.SL.Sem

theorem frame_DenseReference : quiescent_DenseReferenceIdeal := fun m ρ _ =>
  (θ_run Cert.DenseReferenceIdeal.defs _ _).mono (fun r hr => ⟨fun c => (hr c).2, sem_eq_zero_of_no_sems (by decide) r.2⟩)
    (Cert.DenseReferenceIdeal.Value.run (F := Ideal) m ρ)

theorem agree_Dense : algebraic_DenseIdeal_DenseReferenceIdeal := by
  intro m g m' g' _ hargs
  refine ⟨fun c => Cert.DenseIdeal.Value.layer (Cert.DenseIdeal.Value.aX m c) (Cert.DenseIdeal.Value.aG m c) (Cert.DenseIdeal.Value.aW m c) (Cert.DenseIdeal.Value.aD m c), ?_, ?_⟩
  · refine (θ_run Cert.DenseIdeal.defs _ _).mono (fun r hr => ?_) (Cert.DenseIdeal.Gen.run_main (F := Ideal) m g)
    intro c
    exact ⟨((hr c).1 6).trans (Cert.DenseIdeal.Value.out_eq m c),
      ((hr c).1 0).trans (((Cert.DenseIdeal.Gen.dats m 0 c).arrAt_in 0 rfl _).trans ((Cert.DenseIdeal.Gen.A_eq m c 0).trans (Cert.DenseIdeal.Gen.V_main_arg0 m c))),
      ((hr c).1 1).trans (((Cert.DenseIdeal.Gen.dats m 0 c).arrAt_in 1 rfl _).trans ((Cert.DenseIdeal.Gen.A_eq m c 1).trans (Cert.DenseIdeal.Gen.V_main_arg1 m c))),
      ((hr c).2 Cert.DenseIdeal.main_arg2 (Pipeline.mem_restRefs_of Cert.DenseIdeal.main_arg2 (by decide) (by decide))).trans (Cert.DenseIdeal.Gen.V_main_arg2 m c),
      ((hr c).2 Cert.DenseIdeal.main_arg3 (Pipeline.mem_restRefs_of Cert.DenseIdeal.main_arg3 (by decide) (by decide))).trans (Cert.DenseIdeal.Gen.V_main_arg3 m c)⟩
  · refine (θ_run Cert.DenseReferenceIdeal.defs _ _).mono (fun r hr => ?_) (Cert.DenseReferenceIdeal.Value.run (F := Ideal) m' g')
    intro c
    obtain ⟨h0, h1, h2, h3⟩ := hargs c
    exact ⟨(hr c).1.trans ((Cert.DenseReferenceIdeal.Read.val_main_v19_eq (F := Ideal) (m' ((c.tc : Thread Cert.DenseReferenceIdeal.nD Cert.DenseReferenceIdeal.τ).loc Cert.DenseReferenceIdeal.main_arg0)) (m' ((c.tc : Thread Cert.DenseReferenceIdeal.nD Cert.DenseReferenceIdeal.τ).loc Cert.DenseReferenceIdeal.main_arg1)) (m' ((c.tc : Thread Cert.DenseReferenceIdeal.nD Cert.DenseReferenceIdeal.τ).loc Cert.DenseReferenceIdeal.main_arg2)) (m' ((c.tc : Thread Cert.DenseReferenceIdeal.nD Cert.DenseReferenceIdeal.τ).loc Cert.DenseReferenceIdeal.main_arg3))).trans ((congr (congr (congr (congrArg (Cert.DenseReferenceIdeal.Read.val_main_v19 (F := Ideal)) h0) h1) h2) h3).trans (Cert.DenseReferenceIdeal.Value.ref_eq _ _ _ _))), (hr c).2⟩

theorem frame_OutProjReference : quiescent_OutProjReferenceIdeal := fun m ρ _ =>
  (θ_run Cert.OutProjReferenceIdeal.defs _ _).mono (fun r hr => ⟨fun c => (hr c).2, sem_eq_zero_of_no_sems (by decide) r.2⟩)
    (Cert.OutProjReferenceIdeal.Value.run (F := Ideal) m ρ)

theorem agree_OutProj : algebraic_OutProjIdeal_OutProjReferenceIdeal := by
  intro m g m' g' _ hargs
  refine ⟨fun c => Cert.OutProjIdeal.Value.proj (Cert.OutProjIdeal.Value.aA m c) (Cert.OutProjIdeal.Value.aW m c) (Cert.OutProjIdeal.Value.aR m c), ?_, ?_⟩
  · refine (θ_run Cert.OutProjIdeal.defs _ _).mono (fun r hr => ?_) (Cert.OutProjIdeal.Gen.run_main (F := Ideal) m g)
    intro c
    exact ⟨((hr c).1 3).trans (Cert.OutProjIdeal.Value.out_eq m c),
      ((hr c).1 0).trans (((Cert.OutProjIdeal.Gen.dats m 0 c).arrAt_in 0 rfl _).trans ((Cert.OutProjIdeal.Gen.A_eq m c 0).trans (Cert.OutProjIdeal.Gen.V_main_arg0 m c))),
      ((hr c).2 Cert.OutProjIdeal.main_arg1 (Pipeline.mem_restRefs_of Cert.OutProjIdeal.main_arg1 (by decide) (by decide))).trans (Cert.OutProjIdeal.Gen.V_main_arg1 m c),
      ((hr c).1 2).trans (((Cert.OutProjIdeal.Gen.dats m 0 c).arrAt_in 2 rfl _).trans ((Cert.OutProjIdeal.Gen.A_eq m c 2).trans (Cert.OutProjIdeal.Gen.V_main_arg2 m c)))⟩
  · refine (θ_run Cert.OutProjReferenceIdeal.defs _ _).mono (fun r hr => ?_) (Cert.OutProjReferenceIdeal.Value.run (F := Ideal) m' g')
    intro c
    obtain ⟨h0, h1, h2⟩ := hargs c
    exact ⟨(hr c).1.trans ((Cert.OutProjReferenceIdeal.Read.val_main_v2_eq (F := Ideal) (m' ((c.tc : Thread Cert.OutProjReferenceIdeal.nD Cert.OutProjReferenceIdeal.τ).loc Cert.OutProjReferenceIdeal.main_arg0)) (m' ((c.tc : Thread Cert.OutProjReferenceIdeal.nD Cert.OutProjReferenceIdeal.τ).loc Cert.OutProjReferenceIdeal.main_arg1)) (m' ((c.tc : Thread Cert.OutProjReferenceIdeal.nD Cert.OutProjReferenceIdeal.τ).loc Cert.OutProjReferenceIdeal.main_arg2))).trans ((congr (congr (congrArg (Cert.OutProjReferenceIdeal.Read.val_main_v2 (F := Ideal)) h0) h1) h2).trans (Cert.OutProjIdeal.Value.ref_eq _ _ _))), (hr c).2⟩

theorem frame_QkvReference : quiescent_QkvReferenceIdeal := fun m ρ _ =>
  (θ_run Cert.QkvReferenceIdeal.defs _ _).mono (fun r hr => ⟨fun c => (hr c).2, sem_eq_zero_of_no_sems (by decide) r.2⟩)
    (Cert.QkvReferenceIdeal.Value.run (F := Ideal) m ρ)

theorem agree_Qkv : algebraic_QkvIdeal_QkvReferenceIdeal := by
  intro m g m' g' _ hargs
  refine ⟨fun c => Cert.QkvIdeal.Value.proj (Cert.QkvIdeal.Value.aX m c) (Cert.QkvIdeal.Value.aG m c) (Cert.QkvIdeal.Value.aW m c), ?_, ?_⟩
  · refine (θ_run Cert.QkvIdeal.defs _ _).mono (fun r hr => ?_) (Cert.QkvIdeal.Gen.run_main (F := Ideal) m g)
    intro c
    exact ⟨((hr c).1 5).trans (Cert.QkvIdeal.Value.out_eq m c),
      ((hr c).1 0).trans (((Cert.QkvIdeal.Gen.dats m 0 c).arrAt_in 0 rfl _).trans ((Cert.QkvIdeal.Gen.A_eq m c 0).trans (Cert.QkvIdeal.Gen.V_main_arg0 m c))),
      ((hr c).1 1).trans (((Cert.QkvIdeal.Gen.dats m 0 c).arrAt_in 1 rfl _).trans ((Cert.QkvIdeal.Gen.A_eq m c 1).trans (Cert.QkvIdeal.Gen.V_main_arg1 m c))),
      ((hr c).2 Cert.QkvIdeal.main_arg2 (Pipeline.mem_restRefs_of Cert.QkvIdeal.main_arg2 (by decide) (by decide))).trans (Cert.QkvIdeal.Gen.V_main_arg2 m c)⟩
  · refine (θ_run Cert.QkvReferenceIdeal.defs _ _).mono (fun r hr => ?_) (Cert.QkvReferenceIdeal.Value.run (F := Ideal) m' g')
    intro c
    obtain ⟨h0, h1, h2⟩ := hargs c
    exact ⟨(hr c).1.trans ((Cert.QkvReferenceIdeal.Read.val_main_v13_eq (F := Ideal) (m' ((c.tc : Thread Cert.QkvReferenceIdeal.nD Cert.QkvReferenceIdeal.τ).loc Cert.QkvReferenceIdeal.main_arg0)) (m' ((c.tc : Thread Cert.QkvReferenceIdeal.nD Cert.QkvReferenceIdeal.τ).loc Cert.QkvReferenceIdeal.main_arg1)) (m' ((c.tc : Thread Cert.QkvReferenceIdeal.nD Cert.QkvReferenceIdeal.τ).loc Cert.QkvReferenceIdeal.main_arg2))).trans ((congr (congr (congrArg (Cert.QkvReferenceIdeal.Read.val_main_v13 (F := Ideal)) h0) h1) h2).trans (Cert.QkvIdeal.Value.ref_eq _ _ _))), (hr c).2⟩

theorem frame_KvqReference : quiescent_KvqReferenceIdeal := fun m ρ _ =>
  (θ_run Cert.KvqReferenceIdeal.defs _ _).mono (fun r hr => ⟨fun c => (hr c).2.2.2, sem_eq_zero_of_no_sems (by decide) r.2⟩)
    (Cert.KvqReferenceIdeal.Value.run (F := Ideal) m ρ)

theorem agree_Kvq : algebraic_KvqIdeal_KvqReferenceIdeal := by
  intro m g m' g' _ hargs
  refine ⟨fun c => Cert.KvqIdeal.Value.kvSpec (Cert.KvqIdeal.Value.aX m c) (Cert.KvqIdeal.Value.aN m c) (Cert.KvqIdeal.Value.aW m c) (Cert.KvqIdeal.Value.aK m c), fun c => Cert.KvqIdeal.Value.fSpec (Cert.KvqIdeal.Value.aX m c) (Cert.KvqIdeal.Value.aN m c) (Cert.KvqIdeal.Value.aW m c), fun c => Cert.KvqIdeal.Value.qSpec (Cert.KvqIdeal.Value.aX m c) (Cert.KvqIdeal.Value.aNq m c) (Cert.KvqIdeal.Value.aWq m c) (Cert.KvqIdeal.Value.aQ m c), ?_, ?_⟩
  · refine (θ_run Cert.KvqIdeal.defs _ _).mono (fun r hr => ?_) (Cert.KvqIdeal.Gen.run_main (F := Ideal) m g)
    intro c
    exact ⟨((hr c).1 13).trans (Cert.KvqIdeal.Value.out_eq_13 m c), ((hr c).1 14).trans (Cert.KvqIdeal.Value.out_eq_14 m c), ((hr c).1 15).trans (Cert.KvqIdeal.Value.out_eq_15 m c),
      ((hr c).1 0).trans (((Cert.KvqIdeal.Gen.dats m 0 c).arrAt_in 0 rfl _).trans ((Cert.KvqIdeal.Gen.A_eq m c 0).trans (Cert.KvqIdeal.Gen.V_main_arg0 m c))),
      ((hr c).2 Cert.KvqIdeal.main_arg1 (Pipeline.mem_restRefs_of Cert.KvqIdeal.main_arg1 (by decide) (by decide))).trans (Cert.KvqIdeal.Gen.V_main_arg1 m c),
      ((hr c).2 Cert.KvqIdeal.main_arg2 (Pipeline.mem_restRefs_of Cert.KvqIdeal.main_arg2 (by decide) (by decide))).trans (Cert.KvqIdeal.Gen.V_main_arg2 m c),
      ((hr c).2 Cert.KvqIdeal.main_arg3 (Pipeline.mem_restRefs_of Cert.KvqIdeal.main_arg3 (by decide) (by decide))).trans (Cert.KvqIdeal.Gen.V_main_arg3 m c),
      ((hr c).2 Cert.KvqIdeal.main_arg4 (Pipeline.mem_restRefs_of Cert.KvqIdeal.main_arg4 (by decide) (by decide))).trans (Cert.KvqIdeal.Gen.V_main_arg4 m c),
      ((hr c).2 Cert.KvqIdeal.main_arg5 (Pipeline.mem_restRefs_of Cert.KvqIdeal.main_arg5 (by decide) (by decide))).trans (Cert.KvqIdeal.Gen.V_main_arg5 m c),
      ((hr c).2 Cert.KvqIdeal.main_arg6 (Pipeline.mem_restRefs_of Cert.KvqIdeal.main_arg6 (by decide) (by decide))).trans (Cert.KvqIdeal.Gen.V_main_arg6 m c)⟩
  · refine (θ_run Cert.KvqReferenceIdeal.defs _ _).mono (fun r hr => ?_) (Cert.KvqReferenceIdeal.Value.run (F := Ideal) m' g')
    intro c
    obtain ⟨h0, h1, h2, h3, h4, h5, h6⟩ := hargs c
    exact ⟨(hr c).1.trans ((Cert.KvqReferenceIdeal.Read.val_main_v63_eq (F := Ideal) m' c).trans ((congr (congr (congr (congrArg (Cert.KvqReferenceIdeal.Read.val_main_v63 (F := Ideal)) h0) h1) h2) h3).trans (Cert.KvqIdeal.Value.ref_eq_kv _ _ _ _))), (hr c).2.1.trans ((Cert.KvqReferenceIdeal.Read.val_main_v33_eq (F := Ideal) (m' ((c.tc : Thread Cert.KvqReferenceIdeal.nD Cert.KvqReferenceIdeal.τ).loc Cert.KvqReferenceIdeal.main_arg0)) (m' ((c.tc : Thread Cert.KvqReferenceIdeal.nD Cert.KvqReferenceIdeal.τ).loc Cert.KvqReferenceIdeal.main_arg1)) (m' ((c.tc : Thread Cert.KvqReferenceIdeal.nD Cert.KvqReferenceIdeal.τ).loc Cert.KvqReferenceIdeal.main_arg2))).trans ((congr (congr (congrArg (Cert.KvqReferenceIdeal.Read.val_main_v33 (F := Ideal)) h0) h1) h2).trans (Cert.KvqIdeal.Value.ref_eq_f _ _ _))), (hr c).2.2.1.trans ((Cert.KvqReferenceIdeal.Read.val_main_v64_eq (F := Ideal) (m' ((c.tc : Thread Cert.KvqReferenceIdeal.nD Cert.KvqReferenceIdeal.τ).loc Cert.KvqReferenceIdeal.main_arg0)) (m' ((c.tc : Thread Cert.KvqReferenceIdeal.nD Cert.KvqReferenceIdeal.τ).loc Cert.KvqReferenceIdeal.main_arg4)) (m' ((c.tc : Thread Cert.KvqReferenceIdeal.nD Cert.KvqReferenceIdeal.τ).loc Cert.KvqReferenceIdeal.main_arg5)) (m' ((c.tc : Thread Cert.KvqReferenceIdeal.nD Cert.KvqReferenceIdeal.τ).loc Cert.KvqReferenceIdeal.main_arg6))).trans ((congr (congr (congr (congrArg (Cert.KvqReferenceIdeal.Read.val_main_v64 (F := Ideal)) h0) h4) h5) h6).trans (Cert.KvqIdeal.Value.ref_eq_q _ _ _ _))), (hr c).2.2.2⟩

theorem frame_CombineReference : quiescent_CombineReferenceIdeal := fun m ρ _ =>
  (θ_run Cert.CombineReferenceIdeal.defs _ _).mono (fun r hr => ⟨fun c => (hr c).2, sem_eq_zero_of_no_sems (by decide) r.2⟩)
    (Cert.CombineReferenceIdeal.Value.run (F := Ideal) m ρ)

theorem agree_Combine : algebraic_CombineIdeal_CombineReferenceIdeal := by
  intro m g m' g' _ hargs
  refine ⟨fun c => Cert.CombineIdeal.Value.comb (Cert.CombineIdeal.Value.aH m c) (Cert.CombineIdeal.Value.aY m c) (Cert.CombineIdeal.Value.aP m c) (Cert.CombineIdeal.Value.aG m c), ?_, ?_⟩
  · refine (θ_run Cert.CombineIdeal.defs _ _).mono (fun r hr => ?_) (Cert.CombineIdeal.Gen.run_main (F := Ideal) m g)
    intro c
    exact ⟨((hr c).1 5).trans (Cert.CombineIdeal.Value.out_eq m c),
      ((hr c).1 0).trans (((Cert.CombineIdeal.Gen.dats m 0 c).arrAt_in 0 rfl _).trans ((Cert.CombineIdeal.Gen.A_eq m c 0).trans (Cert.CombineIdeal.Gen.V_main_arg0 m c))),
      ((hr c).2 Cert.CombineIdeal.main_arg1 (Pipeline.mem_restRefs_of Cert.CombineIdeal.main_arg1 (by decide) (by decide))).trans (Cert.CombineIdeal.Gen.V_main_arg1 m c),
      ((hr c).2 Cert.CombineIdeal.main_arg2 (Pipeline.mem_restRefs_of Cert.CombineIdeal.main_arg2 (by decide) (by decide))).trans (Cert.CombineIdeal.Gen.V_main_arg2 m c),
      ((hr c).2 Cert.CombineIdeal.main_arg3 (Pipeline.mem_restRefs_of Cert.CombineIdeal.main_arg3 (by decide) (by decide))).trans (Cert.CombineIdeal.Gen.V_main_arg3 m c)⟩
  · refine (θ_run Cert.CombineReferenceIdeal.defs _ _).mono (fun r hr => ?_) (Cert.CombineReferenceIdeal.Value.run (F := Ideal) m' g')
    intro c
    obtain ⟨h0, h1, h2, h3⟩ := hargs c
    exact ⟨(hr c).1.trans ((Cert.CombineReferenceIdeal.Read.val_main_v12_eq (F := Ideal) (m' ((c.tc : Thread Cert.CombineReferenceIdeal.nD Cert.CombineReferenceIdeal.τ).loc Cert.CombineReferenceIdeal.main_arg0)) (m' ((c.tc : Thread Cert.CombineReferenceIdeal.nD Cert.CombineReferenceIdeal.τ).loc Cert.CombineReferenceIdeal.main_arg1)) (m' ((c.tc : Thread Cert.CombineReferenceIdeal.nD Cert.CombineReferenceIdeal.τ).loc Cert.CombineReferenceIdeal.main_arg2)) (m' ((c.tc : Thread Cert.CombineReferenceIdeal.nD Cert.CombineReferenceIdeal.τ).loc Cert.CombineReferenceIdeal.main_arg3))).trans ((congr (congr (congr (congrArg (Cert.CombineReferenceIdeal.Read.val_main_v12 (F := Ideal)) h0) h1) h2) h3).trans (Cert.CombineReferenceIdeal.Value.ref_eq _ _ _ _))), (hr c).2⟩

end Cert.Proof

end
-- ==== Proof.RouterSpec.lean ====
/- The router of one row over the extended reals: the normed row is finite whatever the row holds, the split product is the
   product, and two rounds of a maximum and its first lane are the first two positions of the stable sort. -/
module

public import proofs.«01_k».proof.Proof.Norm
public import Idealize.ShloMosaic.Lib.SortPrefix
public import Idealize.ShloMosaic.Lib.SortFacts

@[expose] public section

noncomputable section

namespace Cert.Router

open Idealize.ShloMosaic Idealize.ShloMosaic.ValueIdx Cert.Norm

/-- A value that is a real number. -/
def Fin' (x : EReal) : Prop := ∃ r : ℝ, x = (r : EReal)

theorem fin_of_ne {x : EReal} (h1 : x ≠ ⊥) (h2 : x ≠ ⊤) : Fin' x := ⟨x.toReal, (EReal.coe_toReal h2 h1).symm⟩
theorem Fin'.ne_bot {x : EReal} (h : Fin' x) : x ≠ ⊥ := by obtain ⟨r, rfl⟩ := h; exact EReal.coe_ne_bot r
theorem Fin'.ne_top {x : EReal} (h : Fin' x) : x ≠ ⊤ := by obtain ⟨r, rfl⟩ := h; exact EReal.coe_ne_top r
theorem Fin'.mul {x y : EReal} (hx : Fin' x) (hy : Fin' y) : Fin' (x * y) := by
  obtain ⟨r, rfl⟩ := hx; obtain ⟨s, rfl⟩ := hy; exact ⟨r * s, (EReal.coe_mul r s).symm⟩
theorem Fin'.sub_self {x : EReal} (hx : Fin' x) : x - x = 0 := by
  obtain ⟨r, rfl⟩ := hx; rw [← EReal.coe_sub, _root_.sub_self]; rfl
theorem fin_zero : Fin' 0 := ⟨0, rfl⟩
theorem fin_sum {ι : Type} (s : Finset ι) (f : ι → EReal) (h : ∀ k, Fin' (f k)) : Fin' (∑ k ∈ s, f k) := by
  choose g hg using h
  refine ⟨∑ k ∈ s, g k, ?_⟩
  rw [Finset.sum_congr rfl fun k _ => hg k]
  induction s using Finset.cons_induction with
  | empty => simp
  | cons a s ha ih => rw [Finset.sum_cons, Finset.sum_cons, ih, EReal.coe_add]

theorem count_eq : Ideal.ofBits .f32 0x44800000#32 = ((1024 : ℝ) : EReal) := by
  simp [Ideal.ofBits, Ideal.ieee, -EReal.coe_mul]
  norm_num

theorem eps_eq : ∃ e : ℝ, 0 < e ∧ Ideal.ofBits .f32 0x358637BD#32 = (e : EReal) := by
  refine ⟨(8796093 : ℝ) * 2 ^ (-43 : ℤ), by positivity, ?_⟩
  simp [Ideal.ofBits, Ideal.ieee, -EReal.coe_mul]

theorem ninf_eq : Ideal.ofBits .f32 0xFF800000#32 = ⊥ := by simp [Ideal.ofBits, Ideal.ieee]
theorem pinf_eq : Ideal.ofBits .f32 0x7F800000#32 = ⊤ := by simp [Ideal.ofBits, Ideal.ieee]

theorem div_count (x : EReal) : Ideal.div x (Ideal.ofBits .f32 0x44800000#32) = x * (((1024 : ℝ)⁻¹ : ℝ) : EReal) := by
  rw [count_eq]
  unfold Ideal.div
  rw [if_neg (by norm_num), EReal.coe_inv]

theorem sq_nonneg (x : EReal) : 0 ≤ x * x := by
  rcases le_total 0 x with h | h
  · exact mul_nonneg h h
  · induction x with
    | bot => simp
    | top => simp
    | coe r => rw [← EReal.coe_mul]; exact EReal.coe_nonneg.mpr (mul_self_nonneg r)

/-- A row's norm is finite where its gain is: a row holding an infinity is scaled by zero. -/
theorem normed_fin (x g : Fin 1024 → EReal) (hg : ∀ d, Fin' (g d)) (d : Fin 1024) : Fin' (normed x g d) := by
  obtain ⟨e, he, hee⟩ := eps_eq
  unfold normed scale
  rw [div_count, hee]
  by_cases hx : ∀ k, Fin' (x k)
  · refine Fin'.mul (Fin'.mul (hx d) ?_) (hg d)
    choose y hy using hx
    have hs : (∑ k, x k * x k) = ((∑ k, y k * y k : ℝ) : EReal) := by
      rw [Finset.sum_congr rfl fun k _ => (show x k * x k = ((y k * y k : ℝ) : EReal) by rw [hy k, EReal.coe_mul])]
      induction (Finset.univ : Finset (Fin 1024)) using Finset.cons_induction with
      | empty => simp
      | cons a s ha ih => rw [Finset.sum_cons, Finset.sum_cons, ih, EReal.coe_add]
    have h0 : 0 ≤ ∑ k, y k * y k := Finset.sum_nonneg fun k _ => mul_self_nonneg _
    rw [hs, ← EReal.coe_mul, ← EReal.coe_add, Ideal.rsqrt_coe]
    have hp : 0 < (∑ k, y k * y k) * (1024 : ℝ)⁻¹ + e := by positivity
    rw [if_neg (not_lt.mpr hp.le), if_neg hp.ne']
    exact ⟨_, rfl⟩
  · push Not at hx
    obtain ⟨j, hj⟩ := hx
    have hj2 : x j * x j = ⊤ := by
      by_cases h1 : x j = ⊥
      · rw [h1]; rfl
      · by_cases h2 : x j = ⊤
        · rw [h2]; rfl
        · exact absurd (fin_of_ne h1 h2) hj
    have hs : (∑ k, x k * x k) = ⊤ := top_le_iff.mp (hj2 ▸ Finset.single_le_sum (f := fun k => x k * x k) (fun k _ => sq_nonneg (x k)) (Finset.mem_univ j))
    rw [hs, EReal.top_mul_coe_of_pos (by positivity), EReal.top_add_coe, Ideal.rsqrt_top, mul_zero, zero_mul]
    exact fin_zero

/-- The product of split finite factors is the product. -/
theorem split_sum {K : ℕ} (a b : Fin K → EReal) (ha : ∀ k, Fin' (a k)) (hb : ∀ k, Fin' (b k)) :
    (∑ k, a k * b k) + (∑ k, a k * (b k - b k)) + (∑ k, (a k - a k) * b k) = ∑ k, a k * b k := by
  rw [Finset.sum_eq_zero (fun k _ => show a k * (b k - b k) = 0 by rw [(hb k).sub_self, mul_zero]),
    Finset.sum_eq_zero (fun k _ => show (a k - a k) * b k = 0 by rw [(ha k).sub_self, zero_mul]), add_zero, add_zero]

/-- The first lane of the greatest value. -/
def IsFirst {n : ℕ} (f : Fin n → EReal) (i : Fin n) : Prop := (∀ q, f q ≤ f i) ∧ ∀ q, q < i → f q < f i

theorem exists_first (f : Fin 128 → EReal) : ∃ i, IsFirst f i := by
  classical
  obtain ⟨j, -, hj⟩ := Finset.exists_max_image Finset.univ f ⟨0, Finset.mem_univ _⟩
  have hne : (Finset.univ.filter fun i => ∀ q, f q ≤ f i).Nonempty := ⟨j, by simpa using hj⟩
  refine ⟨(Finset.univ.filter fun i => ∀ q, f q ≤ f i).min' hne, ?_, fun q hq => ?_⟩
  · exact (Finset.mem_filter.mp (Finset.min'_mem _ hne)).2
  · have hm := (Finset.mem_filter.mp (Finset.min'_mem _ hne)).2
    refine lt_of_le_of_ne (hm q) fun e => ?_
    exact absurd (Finset.min'_le _ q (Finset.mem_filter.mpr ⟨Finset.mem_univ _, fun r => e ▸ hm r⟩)) (not_le.mpr hq)

theorem fold_max (f : Fin 128 → EReal) (i : Fin 128) (h : IsFirst f i) : (Finset.univ : Finset (Fin 128)).fold max (⊥ : EReal) f = f i := by
  refine le_antisymm ?_ ?_
  · exact (Finset.fold_max_le (f i)).mpr ⟨bot_le, fun q _ => h.1 q⟩
  · exact (Finset.le_fold_max (f i)).mpr (Or.inr ⟨i, Finset.mem_univ _, le_rfl⟩)

theorem toInt_lane (q : ℕ) (h : q ≤ 128) : (BitVec.ofNat 32 q).toInt = (q : ℤ) := by
  rw [BitVec.toInt_eq_toNat_cond, BitVec.toNat_ofNat]
  have : q % 2 ^ 32 = q := Nat.mod_eq_of_lt (by omega)
  rw [this, if_pos (by omega)]

theorem toInt_minsi (a b : BitVec 32) : (IntOp.minsi a b).toInt = min a.toInt b.toInt := by
  unfold IntOp.minsi
  rcases le_total a.toInt b.toInt with h | h
  · rw [min_eq_left h]
    split
    · rfl
    · rename_i hs
      simp [BitVec.slt, BitVec.sle] at hs
      omega
  · rw [min_eq_right h]
    split
    · rename_i hs
      simp [BitVec.slt, BitVec.sle] at hs
      omega
    · rfl

theorem fold_lane (f : Fin 128 → EReal) (i : Fin 128) (h : IsFirst f i) (g : Fin 128 → BitVec 32)
    (hg : ∀ q, g q = if f q = f i then BitVec.ofNat 32 q.val else 128#32) [Std.Commutative (IKind.minsi.op)] [Std.Associative (IKind.minsi.op)] :
    (Finset.univ : Finset (Fin 128)).fold IKind.minsi.op 2147483647#32 g = BitVec.ofNat 32 i.val := by
  have e := Finset.fold_hom (op := IKind.minsi.op) (op' := (min : ℤ → ℤ → ℤ)) (m := BitVec.toInt) (s := (Finset.univ : Finset (Fin 128))) (b := 2147483647#32) (f := g) (fun x y => toInt_minsi x y)
  refine BitVec.eq_of_toInt_eq (e.symm.trans ?_)
  have hi := i.isLt
  rw [toInt_lane i.val (by omega)]
  have hv : ∀ q, (g q).toInt = if f q = f i then (q.val : ℤ) else 128 := fun q => by
    have := q.isLt
    rw [hg]
    split
    · exact toInt_lane _ (by omega)
    · rfl
  refine le_antisymm ?_ ?_
  · exact (Finset.fold_min_le (i.val : ℤ)).mpr (Or.inr ⟨i, Finset.mem_univ _, by rw [hv, if_pos rfl]⟩)
  · refine (Finset.le_fold_min (i.val : ℤ)).mpr ⟨?_, fun q _ => ?_⟩
    · show (i.val : ℤ) ≤ 2147483647
      omega
    · rw [hv]
      split
      · rename_i hq
        by_contra hlt
        exact absurd hq (h.2 q (by rw [Fin.lt_def]; omega)).ne
      · omega

/-- The lanes hold the scores, and minus infinity past the experts. -/
def lanes (L : Fin 8 → EReal) (q : Fin 128) : EReal := if h : q.val < 8 then L ⟨q.val, h⟩ else ⊥

/-- Lanes with one taken out. -/
def drop (f : Fin 128 → EReal) (i q : Fin 128) : EReal := if q = i then ⊥ else f q

/-- The first two positions of the scores in falling order, equal ones by position. -/
structure Top2 (L : Fin 8 → EReal) (i j : Fin 8) : Prop where
  ne : j ≠ i
  le : ∀ q, L q ≤ L i
  lt : ∀ q, q < i → L q < L i
  le' : ∀ q, q ≠ i → L q ≤ L j
  lt' : ∀ q, q ≠ i → q < j → L q < L j

theorem top2_of_lanes (L : Fin 8 → EReal) (hL : ∀ e, Fin' (L e)) (i j : Fin 128) (hi : IsFirst (lanes L) i) (hj : IsFirst (drop (lanes L) i) j) :
    ∃ (i' j' : Fin 8), i'.val = i.val ∧ j'.val = j.val ∧ Top2 L i' j' := by
  have lane : ∀ q : Fin 8, lanes L ⟨q.val, by omega⟩ = L q := fun q => by unfold lanes; rw [dif_pos q.isLt]
  have hi8 : i.val < 8 := by
    by_contra h
    have h0 := hi.1 ⟨0, by omega⟩
    rw [show lanes L i = ⊥ by unfold lanes; rw [dif_neg h]] at h0
    exact (hL 0).ne_bot (le_bot_iff.mp ((lane 0).symm.le.trans h0))
  obtain ⟨r, hr⟩ : ∃ r : Fin 8, r.val ≠ i.val := by
    by_cases h : i.val = 0
    · exact ⟨1, by rw [h]; decide⟩
    · exact ⟨0, fun e => h e.symm⟩
  have dlane : ∀ q : Fin 8, q.val ≠ i.val → drop (lanes L) i ⟨q.val, by omega⟩ = L q := fun q hq => by
    unfold drop; rw [if_neg (fun e => hq (congrArg Fin.val e)), lane]
  have hjb : drop (lanes L) i j ≠ ⊥ := fun e => by
    have h0 := hj.1 ⟨r.val, by omega⟩
    rw [e, dlane r hr] at h0
    exact (hL r).ne_bot (le_bot_iff.mp h0)
  have hji : j ≠ i := fun e => hjb (by unfold drop; rw [if_pos e])
  have hj8 : j.val < 8 := by
    by_contra h
    exact hjb (by unfold drop; rw [if_neg hji]; unfold lanes; rw [dif_neg h])
  have ei : lanes L i = L ⟨i.val, hi8⟩ := lane ⟨i.val, hi8⟩
  have ej : drop (lanes L) i j = L ⟨j.val, hj8⟩ := dlane ⟨j.val, hj8⟩ (fun e => hji (Fin.ext e))
  refine ⟨⟨i.val, hi8⟩, ⟨j.val, hj8⟩, rfl, rfl, ⟨fun e => hji (Fin.ext (congrArg (fun z : Fin 8 => z.val) e)), fun q => ?_, fun q hq => ?_, fun q hq => ?_, fun q hq hlt => ?_⟩⟩
  · rw [← lane q, ← ei]; exact hi.1 _
  · rw [← lane q, ← ei]; exact hi.2 _ hq
  · rw [← dlane q (fun e => hq (Fin.ext e)), ← ej]; exact hj.1 _
  · rw [← dlane q (fun e => hq (Fin.ext e)), ← ej]; exact hj.2 _ hlt

/-- Where the later of two equal elements is never before the earlier, the position decides nothing the stable sort does not. -/
theorem stable_eq {n : ℕ} (R B : Fin n → Fin n → Bool) (h : ∀ a b, a < b → R b a = B b a) (l : List (Fin n)) (hl : l.Pairwise (· < ·)) :
    stableSort R l = stableSort B l := by
  induction l with
  | nil => rfl
  | cons a l ih =>
    rw [List.pairwise_cons] at hl
    unfold stableSort
    rw [ih hl.2]
    exact insertBefore_congr R B a _ fun b hb => h a b (hl.1 b ((perm_stableSort B l).mem_iff.mp hb))

/-- The scores' order, greatest first. -/
def before (L : Fin 8 → EReal) (k k' : Fin 8) : Bool := Ideal.cmpTotal .gt (L k) (L k') == 1#1

theorem before_eq (L : Fin 8 → EReal) (k k' : Fin 8) : before L k k' = decide (L k' < L k) := by
  unfold before Ideal.cmpTotal Ideal.cmp
  show (BitVec.ofBool (decide (L k' < L k)) == 1#1) = _
  by_cases h : L k' < L k <;> simp [h]

theorem sorted_two (L : Fin 8 → EReal) (i j : Fin 8) (h : Top2 L i j) : sortedFrom (before L) 0 = i ∧ sortedFrom (before L) 1 = j := by
  have hB := StrictTotalBefore.of_key_then_position (fun a b : EReal => decide (b < a)) L (fun a => by simp) (fun a b c hab hbc => by
    simp only [decide_eq_true_eq] at *; exact lt_trans hbc hab) (fun a b => by
    simp only [decide_eq_true_eq]
    rcases lt_trichotomy a b with h | h | h
    · exact Or.inr (Or.inr h)
    · exact Or.inr (Or.inl h)
    · exact Or.inl h)
  have hs : sortedFrom (before L) = sortedFrom (fun k k' : Fin 8 => decide (L k' < L k) || (decide (L k = L k') && decide (k < k'))) := by
    funext k
    unfold sortedFrom
    refine Eq.trans (List.get_of_eq (stable_eq (before L) (fun k k' : Fin 8 => decide (L k' < L k) || (decide (L k = L k') && decide (k < k'))) (fun a b hab => ?_) (List.finRange 8) ?_) _) rfl
    · rw [before_eq, decide_eq_false (not_lt.mpr hab.le), Bool.and_false, Bool.or_false]
    · exact List.pairwise_lt_finRange 8
  have key := hB.sortedFrom_eq_of_prefix (k := 2) (by omega) ![i, j] (by
      intro a b hab
      fin_cases a <;> fin_cases b
      · rfl
      · exact absurd hab.symm h.ne
      · exact absurd hab h.ne
      · rfl)
    (by
      intro a b hab
      have ha : a = 0 := by fin_cases a; · rfl
                            · fin_cases b <;> exact absurd hab (by decide)
      have hb : b = 1 := by fin_cases b; · exact absurd hab (by rw [ha]; decide)
                            · rfl
      subst ha hb
      show (decide (L i < L j) || (decide (L j = L i) && decide (j < i))) = false
      have h1 : ¬ L i < L j := not_lt.mpr (h.le j)
      have h2 : ¬ (L j = L i ∧ j < i) := fun e => absurd e.1 (h.lt j e.2).ne
      rw [decide_eq_false h1, Bool.false_or, ← Bool.decide_and, decide_eq_false h2])
    (by
      intro a p hp
      have hpi : p ≠ i := fun e => hp 0 e.symm
      have hpj : p ≠ j := fun e => hp 1 e.symm
      fin_cases a
      · show (decide (L i < L p) || (decide (L p = L i) && decide (p < i))) = false
        have h1 : ¬ L i < L p := not_lt.mpr (h.le p)
        have h2 : ¬ (L p = L i ∧ p < i) := fun e => absurd e.1 (h.lt p e.2).ne
        rw [decide_eq_false h1, Bool.false_or, ← Bool.decide_and, decide_eq_false h2]
      · show (decide (L j < L p) || (decide (L p = L j) && decide (p < j))) = false
        have h1 : ¬ L j < L p := not_lt.mpr (h.le' p hpi)
        have h2 : ¬ (L p = L j ∧ p < j) := fun e => absurd e.1 (h.lt' p hpi e.2).ne
        rw [decide_eq_false h1, Bool.false_or, ← Bool.decide_and, decide_eq_false h2])
  rw [hs]
  exact ⟨key 0, key 1⟩

/-- The `k`-th expert of the scores. -/
def pick (L : Fin 8 → EReal) (k : Fin 2) : Fin 8 := sortedFrom (before L) (k.castLE (by omega))

/-- The first and the second gate. -/
def gate (L : Fin 8 → EReal) (k : Fin 2) : EReal :=
  Ideal.div (Ideal.exp (L (pick L k) - L (pick L 0))) (1 + Ideal.exp (L (pick L 1) - L (pick L 0)))

theorem exp_self {x : EReal} (h : Fin' x) : Ideal.exp (x - x) = 1 := by
  rw [h.sub_self]; show ((Real.exp 0 : ℝ) : EReal) = 1; rw [Real.exp_zero]; rfl

/-- A small number's word, through the floats and back. -/
theorem id_word (q : ℕ) (h : q ≤ 128) : Ideal.fptosi 32 (((BitVec.ofNat 32 q).toInt : ℝ) : EReal) = BitVec.ofNat 32 q := by
  rw [toInt_lane q h]
  unfold Ideal.fptosi
  show BitVec.ofInt 32 (max _ (min _ (if (0 : ℝ) ≤ ((q : ℤ) : ℝ) then ⌊((q : ℤ) : ℝ)⌋ else ⌈((q : ℤ) : ℝ)⌉))) = _
  rw [if_pos (by positivity), Int.floor_intCast, min_eq_right (by norm_num; omega), max_eq_right (by norm_num)]
  exact BitVec.ofInt_natCast 32 q

end Cert.Router

end
-- ==== Proof.RouterPay.lean ====
/- The router kernel's vectors at an element, over the extended reals. -/
module

public import proofs.«01_k».proof.Proof.Gen.RouterIdeal.Frame
public import proofs.«01_k».proof.Proof.RouterSpec

@[expose] public section

set_option maxRecDepth 16384

noncomputable section

namespace Cert.RouterIdeal.Value

open Cert.RouterIdeal Cert.RouterIdeal.Gen Cert.Norm Cert.Router
open Idealize.ShloMosaic Idealize.ShloMosaic.ValueIdx
open Idealize.ShloMosaic.TcCoe
open Idealize.SL Idealize.SL.RA Idealize.SL.Sem

theorem pay4_apply (x : FVec Ideal S512x1024 .bf16) (r : FVec Ideal S512x512 .f32) (w : FVec Ideal S1024x512 .bf16) (p q : Fin 512) :
    k0_pay4 (F := Ideal) x r w (ix2 p q) = r (ix2 p q) + ∑ k : Fin 1024, x (ix2 p k) * w (ix2 k q) := by
  unfold k0_pay4
  exact congrArg (r (ix2 p q) + ·) (mm_apply (M := 512) (K := 1024) (N := 512) x w shapeCasts_S1024x512_S1024x512 p q)

theorem pay5_eq (x : FVec Ideal S512x1024 .bf16) (r : FVec Ideal S512x512 .f32) (w : FVec Ideal S1024x512 .bf16) : k0_pay5 (F := Ideal) x r w = k0_pay4 x r w := rfl

theorem pay6_apply (x : FVec Ideal S512x1024 .f32) (g : FVec Ideal S1x1024 .f32) (p : Fin 512) (q : Fin 1024) :
    k0_pay6 (F := Ideal) x g (ix2 p q) = normed (fun d => x (ix2 p d)) (fun d => g (ix2 (0 : Fin 1) d)) q := by
  unfold k0_pay6
  rw [shapeCast_self]
  refine congr (congrArg HMul.hMul ?_) (gain_apply g broadcasts_S1x1024_S512x1024 p q)
  exact scaled_apply x reduces_S512x1024_S512 (.inl rfl) rfl shapeCasts_S512_S512x1 broadcasts_S512x1_S512x1024 p q

theorem pay7_apply (x : FVec Ideal S512x1024 .f32) (g : FVec Ideal S1x1024 .f32) (p : Fin 512) (q : Fin 1024) :
    k0_pay7 (F := Ideal) x g (ix2 p q) = normed (fun d => x (ix2 p d)) (fun d => g (ix2 (0 : Fin 1) d)) q := pay6_apply x g p q

theorem pay8_apply (x : FVec Ideal S512x1024 .f32) (g : FVec Ideal S1x1024 .f32) (p : Fin 512) (q : Fin 1024) :
    k0_pay8 (F := Ideal) x g (ix2 p q) = normed (fun d => x (ix2 p d)) (fun d => g (ix2 (0 : Fin 1) d)) q := pay6_apply x g p q

/-- A lane's number. -/
theorem lane_apply (p : Fin 512) (q : Fin 128) : iota .tc S512x128 32 [1] iota_S512x128_d1_w32 (ix2 p q) = BitVec.ofNat 32 q.val := by
  show BitVec.ofNat 32 (0 * 128 + q.val) = _
  rw [Nat.zero_mul, Nat.zero_add]

theorem lane_lt : ∀ q : Fin 128, IntOp.cmpi .slt (BitVec.ofNat 32 q.val) 8#32 = if q.val < 8 then 1#1 else 0#1 := by decide +kernel

theorem lane_eq (q i : Fin 128) : IntOp.cmpi .eq (BitVec.ofNat 32 q.val) (BitVec.ofNat 32 i.val) = if q = i then 1#1 else 0#1 := by
  have hq := q.isLt
  have hi := i.isLt
  by_cases h : q = i
  · rw [if_pos h, h]; simp [IntOp.cmpi]
  · rw [if_neg h]
    have hne : BitVec.ofNat 32 q.val ≠ BitVec.ofNat 32 i.val := fun e => h (Fin.ext (by
      have e' := congrArg BitVec.toInt e
      rw [toInt_lane q.val (by omega), toInt_lane i.val (by omega)] at e'
      exact_mod_cast e'))
    show BitVec.ofBool (BitVec.ofNat 32 q.val == BitVec.ofNat 32 i.val) = 0#1
    rw [beq_eq_false_iff_ne.2 hne]; rfl

theorem sel_if {α : Type} (P : Prop) [Decidable P] (a b : α) : Scalar.select (if P then 1#1 else 0#1) a b = if P then a else b := by
  by_cases h : P
  · simp [h, Scalar.select]
  · simp [h, Scalar.select]

/-- The scores' lanes: the split product under the experts, minus infinity past them. -/
theorem pay9_apply (a : FVec Ideal S512x1024 .f32) (a' : FVec Ideal S512x1024 .bf16) (w : FVec Ideal S1024x128 .f32) (p : Fin 512) (q : Fin 128) (L : Fin 8 → EReal)
    (haa : ∀ k : Fin 1024, a' (ix2 p k) = a (ix2 p k)) (ha : ∀ k : Fin 1024, Fin' (a (ix2 p k))) (hw : ∀ k : Fin 1024, Fin' (w (ix2 k q)))
    (hL : ∀ h : q.val < 8, L ⟨q.val, h⟩ = ∑ k : Fin 1024, a (ix2 p k) * w (ix2 k q)) :
    k0_pay9 (F := Ideal) a a' w (ix2 p q) = lanes L q := by
  unfold k0_pay9
  refine (select_apply _ _ _ _).trans ?_
  have hc : cmpi .slt (iota .tc S512x128 32 [1] iota_S512x128_d1_w32) (broadcast S512x128 8#32) (ix2 p q) = if q.val < 8 then 1#1 else 0#1 :=
    (congrArg (fun z => IntOp.cmpi .slt z 8#32) (lane_apply p q)).trans (lane_lt q)
  refine (congrArg (fun z => Scalar.select z _ _) hc).trans ((sel_if _ _ _).trans ?_)
  unfold lanes
  by_cases h : q.val < 8
  · rw [if_pos h, dif_pos h, hL h, ← split_sum (fun k => a (ix2 p k)) (fun k => w (ix2 k q)) ha hw]
    refine congr (congrArg HAdd.hAdd (congr (congrArg HAdd.hAdd ?_) ?_)) ?_
    · refine (Ideal.matmul_plain_apply (M := 512) (K := 1024) (N := 128) none _ _ _ p q).trans ?_
      rw [show (constant S512x128 .f32 0x00000000#32 : FVec Ideal S512x128 .f32) (ix2 p q) = 0 from Ideal.ofBits_zero_f32, zero_add, shapeCast_self]
      exact Finset.sum_congr rfl fun k _ => congrArg (· * w (ix2 k q)) (haa k)
    · refine (Ideal.matmul_plain_apply (M := 512) (K := 1024) (N := 128) none _ _ _ p q).trans ?_
      rw [show (constant S512x128 .f32 0x00000000#32 : FVec Ideal S512x128 .f32) (ix2 p q) = 0 from Ideal.ofBits_zero_f32, zero_add, shapeCast_self]
      exact Finset.sum_congr rfl fun k _ => congrArg (· * (w (ix2 k q) - w (ix2 k q))) (haa k)
    · refine (Ideal.matmul_plain_apply (M := 512) (K := 1024) (N := 128) none _ _ _ p q).trans ?_
      rw [show (constant S512x128 .f32 0x00000000#32 : FVec Ideal S512x128 .f32) (ix2 p q) = 0 from Ideal.ofBits_zero_f32, zero_add, shapeCast_self]
      exact Finset.sum_congr rfl fun k _ => congrArg (fun z => (a (ix2 p k) - z) * w (ix2 k q)) (haa k)
  · rw [if_neg h, dif_neg h]
    exact ninf_eq

theorem lift_row (p : Fin 512) (k : Fin 128) : reduces_S512x128_S512.lift (ix1 p) k = ix2 p k :=
  funext fun a => Fin.ext (by match a with | ⟨0, _⟩ => rfl | ⟨1, _⟩ => rfl)

/-- A row's greatest lane. -/
theorem rowMax (x : FVec Ideal S512x128 .f32) (p : Fin 512) (f : Fin 128 → EReal) (hx : ∀ q, x (ix2 p q) = f q) (i : Fin 128) (hi : IsFirst f i) :
    shapeCast S512x1 (multiReduction .maximumf [1] S512 x 0xFF800000#32 reduces_S512x128_S512 (.inl rfl) rfl : FVec Ideal S512 .f32) shapeCasts_S512_S512x1 (ix2 p (0 : Fin 1)) = f i := by
  refine (shapeCast_a_a1_apply _ shapeCasts_S512_S512x1 p 0).trans ((Ideal.multiReduction_maximumf_single _ _ reduces_S512x128_S512 (.inl rfl) rfl (ix1 p)).trans ?_)
  refine Eq.trans (b := Finset.univ.fold max ⊥ f) ?_ (fold_max f i hi)
  have e : x ∘ reduces_S512x128_S512.lift (ix1 p) = f := funext fun k => (congrArg x (lift_row p k)).trans (hx k)
  rw [e]
  exact congrArg (fun z => Finset.univ.fold max z f) ninf_eq

/-- Its first lane. -/
theorem rowArg (x : FVec Ideal S512x128 .f32) (mx : FVec Ideal S512x1 .f32) (p : Fin 512) (f : Fin 128 → EReal) (hx : ∀ q, x (ix2 p q) = f q) (i : Fin 128) (hi : IsFirst f i)
    (hm : mx (ix2 p (0 : Fin 1)) = f i) :
    shapeCast S512x1 (multiReductionI .minsi [1] S512 (select (cmpf .oeq x (broadcastTo S512x128 mx broadcasts_S512x1_S512x128)) (iota .tc S512x128 32 [1] iota_S512x128_d1_w32) (broadcast S512x128 128#32))
      2147483647#32 reduces_S512x128_S512 rfl) shapeCasts_S512_S512x1 (ix2 p (0 : Fin 1)) = BitVec.ofNat 32 i.val := by
  refine (shapeCast_a_a1_apply _ shapeCasts_S512_S512x1 p 0).trans ((multiReductionI_eq_fold _ _ _ reduces_S512x128_S512 _ (ix1 p)).trans ?_)
  refine (reduces_S512x128_S512.fold_filter_drop_single IKind.minsi.op _ _ (ix1 p)).trans ?_
  refine fold_lane f i hi _ fun q => ?_
  show select _ _ _ (reduces_S512x128_S512.lift (ix1 p) q) = _
  rw [lift_row]
  refine (select_apply _ _ _ _).trans ?_
  have hb : broadcastTo S512x128 mx broadcasts_S512x1_S512x128 (ix2 p q) = f i :=
    (broadcastTo_apply _ broadcasts_S512x1_S512x128 (ix2 p q) (ix2 p (0 : Fin 1)) (fun a => by match a with | ⟨0, _⟩ => rfl | ⟨1, _⟩ => rfl)).trans hm
  have hc : cmpf .oeq x (broadcastTo S512x128 mx broadcasts_S512x1_S512x128) (ix2 p q) = if f q = f i then 1#1 else 0#1 := by
    refine (cmpf_apply _ _ _ _).trans ?_
    rw [hb, hx]
    show BitVec.ofBool (decide (f q = f i)) = _
    by_cases h : f q = f i <;> simp [h]
  rw [hc, sel_if, lane_apply]
  rfl

/-- The rounds over a row whose lanes are `f`: the first lane `i` of the greatest, and the first lane `j` of the greatest of the others. -/
theorem rounds (a : FVec Ideal S512x1024 .f32) (a' : FVec Ideal S512x1024 .bf16) (w : FVec Ideal S1024x128 .f32) (p : Fin 512) (f : Fin 128 → EReal)
    (hx : ∀ q, k0_pay9 (F := Ideal) a a' w (ix2 p q) = f q) (i j : Fin 128) (hi : IsFirst f i) (hj : IsFirst (drop f i) j) :
    k0_pay10 (F := Ideal) a a' w (ix2 p (0 : Fin 1)) = f i ∧ k0_pay11 (F := Ideal) a a' w (ix2 p (0 : Fin 1)) = BitVec.ofNat 32 i.val
      ∧ k0_pay13 (F := Ideal) a a' w (ix2 p (0 : Fin 1)) = drop f i j ∧ k0_pay14 (F := Ideal) a a' w (ix2 p (0 : Fin 1)) = BitVec.ofNat 32 j.val := by
  have h10 : k0_pay10 (F := Ideal) a a' w (ix2 p (0 : Fin 1)) = f i := by
    unfold k0_pay10; exact rowMax _ p f hx i hi
  have h11 : k0_pay11 (F := Ideal) a a' w (ix2 p (0 : Fin 1)) = BitVec.ofNat 32 i.val := by
    unfold k0_pay11; exact rowArg _ _ p f hx i hi h10
  have h12 : ∀ q, k0_pay12 (F := Ideal) a a' w (ix2 p q) = drop f i q := fun q => by
    unfold k0_pay12
    refine (select_apply _ _ _ _).trans ?_
    have hb : broadcastTo S512x128 (k0_pay11 (F := Ideal) a a' w) broadcasts_S512x1_S512x128 (ix2 p q) = BitVec.ofNat 32 i.val :=
      (broadcastTo_apply _ broadcasts_S512x1_S512x128 (ix2 p q) (ix2 p (0 : Fin 1)) (fun a => by match a with | ⟨0, _⟩ => rfl | ⟨1, _⟩ => rfl)).trans h11
    have hc : cmpi .eq (iota .tc S512x128 32 [1] iota_S512x128_d1_w32) (broadcastTo S512x128 (k0_pay11 (F := Ideal) a a' w) broadcasts_S512x1_S512x128) (ix2 p q) = if q = i then 1#1 else 0#1 :=
      (congr (congrArg (IntOp.cmpi .eq) (lane_apply p q)) hb).trans (lane_eq q i)
    rw [hc, sel_if, hx]
    unfold drop
    by_cases h : q = i
    · rw [if_pos h, if_pos h]; exact ninf_eq
    · rw [if_neg h, if_neg h]
  have h13 : k0_pay13 (F := Ideal) a a' w (ix2 p (0 : Fin 1)) = drop f i j := by
    unfold k0_pay13; exact rowMax _ p (drop f i) h12 j hj
  have h14 : k0_pay14 (F := Ideal) a a' w (ix2 p (0 : Fin 1)) = BitVec.ofNat 32 j.val := by
    unfold k0_pay14; exact rowArg _ _ p (drop f i) h12 j hj h13
  exact ⟨h10, h11, h13, h14⟩

theorem pay15_apply (a : FVec Ideal S512x1024 .f32) (a' : FVec Ideal S512x1024 .bf16) (w : FVec Ideal S1024x128 .f32) (i : S512x1.Idx) :
    k0_pay15 (F := Ideal) a a' w i = Ideal.exp (k0_pay13 (F := Ideal) a a' w i - k0_pay10 (F := Ideal) a a' w i) := by
  unfold k0_pay15
  generalize k0_pay13 (F := Ideal) a a' w = x
  generalize k0_pay10 (F := Ideal) a a' w = y
  rfl

theorem pay16_apply (a : FVec Ideal S512x1024 .f32) (a' : FVec Ideal S512x1024 .bf16) (w : FVec Ideal S1024x128 .f32) (i : S512x1.Idx) :
    k0_pay16 (F := Ideal) a a' w i = 1 + k0_pay15 (F := Ideal) a a' w i := by
  unfold k0_pay16
  exact congrArg (· + k0_pay15 (F := Ideal) a a' w i) Ideal.ofBits_one_f32

theorem spread (x : FVec Ideal S512x1 .f32) (p : Fin 512) (q : Fin 128) :
    broadcastTo S512x128 (shapeCast S512x1 x shapeCasts_S512x1_S512x1) broadcasts_S512x1_S512x128 (ix2 p q) = x (ix2 p (0 : Fin 1)) := by
  rw [shapeCast_self]
  exact broadcastTo_apply _ broadcasts_S512x1_S512x128 (ix2 p q) (ix2 p (0 : Fin 1)) (fun a => by match a with | ⟨0, _⟩ => rfl | ⟨1, _⟩ => rfl)

theorem spreadI (x : IVec S512x1 32) (p : Fin 512) (q : Fin 128) :
    broadcastTo S512x128 (shapeCast S512x1 x shapeCasts_S512x1_S512x1) broadcasts_S512x1_S512x128 (ix2 p q) = x (ix2 p (0 : Fin 1)) := by
  rw [shapeCast_self]
  exact broadcastTo_apply _ broadcasts_S512x1_S512x128 (ix2 p q) (ix2 p (0 : Fin 1)) (fun a => by match a with | ⟨0, _⟩ => rfl | ⟨1, _⟩ => rfl)

theorem pay2_apply (x : FVec Ideal S512x1 .f32) (p : Fin 512) (q : Fin 128) : k0_pay2 (F := Ideal) x (ix2 p q) = Ideal.div 1 (x (ix2 p (0 : Fin 1))) := by
  unfold k0_pay2
  refine (spread _ p q).trans ?_
  exact congrArg (fun z => Ideal.div z (x (ix2 p (0 : Fin 1)))) Ideal.ofBits_one_f32

theorem pay3_apply (e x : FVec Ideal S512x1 .f32) (p : Fin 512) (q : Fin 128) : k0_pay3 (F := Ideal) e x (ix2 p q) = Ideal.div (e (ix2 p (0 : Fin 1))) (x (ix2 p (0 : Fin 1))) := by
  unfold k0_pay3
  exact spread _ p q

/-- The stored experts: the first in row 0, the second in row 1, zero in the others. -/
theorem pay1_apply (x y : IVec S512x1 32) (p : Fin 512) (r : Fin 8) (i j : Fin 128)
    (hx : x (ix2 p (0 : Fin 1)) = BitVec.ofNat 32 i.val) (hy : y (ix2 p (0 : Fin 1)) = BitVec.ofNat 32 j.val) :
    k0_pay1 (F := Ideal) (iota .tc S512x128 32 [1] iota_S512x128_d1_w32) x y (k0_pay17) (ix2 r p)
      = if r.val = 0 then BitVec.ofNat 32 i.val else if r.val = 1 then BitVec.ofNat 32 j.val else 0#32 := by
  have hr := r.isLt
  have hi := i.isLt
  have hj := j.isLt
  unfold k0_pay1
  refine (congrArg (Ideal.fptosi 32) (extractStridedSlice_apply _ _ slices_S128x512_o0_0_S8x512 (ix2 r p) (ix2 (⟨r.val, by omega⟩ : Fin 128) p) (fun z => ?_))).trans ?_
  · match z with
    | ⟨0, _⟩ => show r.val = 0 + r.val; omega
    | ⟨1, _⟩ => show p.val = 0 + p.val; omega
  rw [transpose_ix2_apply]
  have h0 : cmpi .eq (iota .tc S512x128 32 [1] iota_S512x128_d1_w32) (k0_pay17 : IVec S512x128 32) (ix2 p (⟨r.val, by omega⟩ : Fin 128)) = if (⟨r.val, by omega⟩ : Fin 128) = 0 then 1#1 else 0#1 :=
    (congrArg (fun z => IntOp.cmpi .eq z 0#32) (lane_apply p _)).trans (lane_eq _ 0)
  have h1 : cmpi .eq (iota .tc S512x128 32 [1] iota_S512x128_d1_w32) (broadcast S512x128 1#32) (ix2 p (⟨r.val, by omega⟩ : Fin 128)) = if (⟨r.val, by omega⟩ : Fin 128) = 1 then 1#1 else 0#1 :=
    (congrArg (fun z => IntOp.cmpi .eq z 1#32) (lane_apply p _)).trans (lane_eq _ 1)
  have e0 : ((⟨r.val, by omega⟩ : Fin 128) = 0) ↔ r.val = 0 := by rw [Fin.ext_iff]; rfl
  have e1 : ((⟨r.val, by omega⟩ : Fin 128) = 1) ↔ r.val = 1 := by rw [Fin.ext_iff]; rfl
  rw [sitofp_apply, select_apply, select_apply, h0, h1, sel_if, sel_if, spreadI, spreadI, hx, hy]
  simp only [e0, e1]
  split
  · exact id_word i.val (by omega)
  · split
    · exact id_word j.val (by omega)
    · exact id_word 0 (by omega)

end Cert.RouterIdeal.Value

end
-- ==== Proof.Router.lean ====
/- The router's five results over the extended reals: the output projection onto the residual, its norm, the two experts
   and the two gates. -/
module

public import proofs.«01_k».proof.Proof.RouterPay
public import Idealize.ShloMosaic.Lib.Pipeline.Value
public import Idealize.ShloMosaic.Lib.Routing.OpsPair
public import Idealize.ShloMosaic.Lib.Routing.OpsSet

@[expose] public section

set_option maxRecDepth 16384

noncomputable section

namespace Cert.RouterIdeal.Value

open Cert.RouterIdeal Cert.RouterIdeal.Gen Cert.Norm Cert.Router
open Idealize.ShloMosaic Idealize.ShloMosaic.ValueIdx
open Idealize.ShloMosaic.TcCoe
open Idealize.ShloMosaic.Pipeline (Dat Cfg Window)
open Idealize.SL Idealize.SL.RA Idealize.SL.Sem

section
variable (a : S32768x1024.Idx → EReal) (w : S1024x1024.Idx → EReal) (r : S32768x1024.Idx → EReal) (g : S1x1024.Idx → EReal) (wr : S1024x8.Idx → EReal)

/-- One element of the projection onto the residual. -/
def hval (i : S32768x1024.Idx) : EReal := r i + ∑ k : Fin 1024, a (ix2 (i 0) k) * w (ix2 k (i 1))

/-- One element of its norm. -/
def xnv (i : S32768x1024.Idx) : EReal := normed (fun d => hval a w r (ix2 (i 0) d)) (fun d => g (ix2 (0 : Fin 1) d)) (i 1)

/-- A row's scores. -/
def score (p : Fin 32768) (e : Fin 8) : EReal := ∑ k : Fin 1024, xnv a w r g (ix2 p k) * wr (ix2 k e)

/-- The experts: the first in row 0, the second in row 1, zero in the others. -/
def ids (i : S8x32768.Idx) : BitVec 32 :=
  if (i 0).val = 0 then BitVec.ofNat 32 (pick (score a w r g wr (i 1)) 0).val
  else if (i 0).val = 1 then BitVec.ofNat 32 (pick (score a w r g wr (i 1)) 1).val else 0#32

/-- A gate in every lane. -/
def gates (k : Fin 2) (i : S32768x128.Idx) : EReal := gate (score a w r g wr (i 0)) k

theorem xnv_fin (hg : ∀ i, Fin' (g i)) (i : S32768x1024.Idx) : Fin' (xnv a w r g i) := normed_fin _ _ (fun d => hg _) _

theorem score_fin (hg : ∀ i, Fin' (g i)) (hw : ∀ i, Fin' (wr i)) (p : Fin 32768) (e : Fin 8) : Fin' (score a w r g wr p e) :=
  fin_sum _ _ fun k => (xnv_fin a w r g hg _).mul (hw _)

end

section
variable (m : (ℓ : Loc nD τ sig) → Buf (Elt Ideal) ℓ) (c : Dev nD)

abbrev aA : S32768x1024.Idx → EReal := m ((c.tc : Thread nD τ).loc main_arg0)
abbrev aW : S1024x1024.Idx → EReal := m ((c.tc : Thread nD τ).loc main_arg1)
abbrev aR : S32768x1024.Idx → EReal := m ((c.tc : Thread nD τ).loc main_arg2)
abbrev aG : S1x1024.Idx → EReal := m ((c.tc : Thread nD τ).loc main_arg3)
abbrev aE : S1024x8.Idx → EReal := m ((c.tc : Thread nD τ).loc main_arg4)

theorem V_w : V m c main_v0 = aW m c := by
  show V m c main_v0 = (truncf .bf16 (m ((c.tc : Thread nD τ).loc main_arg1) : FVec Ideal S1024x1024 .f32) bitsLt_bf16_f32 : FVec Ideal S1024x1024 .bf16)
  unfold V hostOps0
  after_results

theorem V_v3 : V m c main_v3 = (Host.scatter scatter_S1024x128_S1_S1024x8_01_n_1_0 (fun _ b => b) (broadcastInDim S1024x128 ![] bcast_S_S1024x128 (constant S_ .f32 0x00000000#32 : FVec Ideal S_ .f32)) (broadcastInDim S1 ![] bcast_S_S1 (constantI S_ 32 0#32)) (aE m c : FVec Ideal S1024x8 .f32) : FVec Ideal S1024x128 .f32) := by
  unfold V hostOps0
  simp only [StableHlo.TRef.unary, StableHlo.TRef.binary, StableHlo.TRef.nullary, StableHlo.TRef.ternary, StableHlo.TRef.toBuf, StableHlo.TRef.ofBuf, cast_eq]
  after_results

theorem scatter_lands (p : Fin 1024) (q : Fin 8) (r : Fin 1024) (s : Fin 128) :
    scatter_S1024x128_S1_S1024x8_01_n_1_0.resultIdx? (ix2 p q) (broadcastInDim S1 ![] bcast_S_S1 (constantI S_ 32 0#32)) = some (ix2 r s) ↔ p.val = r.val ∧ q.val = s.val := by
  refine (Routing.resultIdx?_ix2 scatter_S1024x128_S1_S1024x8_01_n_1_0 (ix2 p q) (broadcastInDim S1 ![] bcast_S_S1 (constantI S_ 32 0#32)) r s).trans ?_
  have w0 : scatter_S1024x128_S1_S1024x8_01_n_1_0.window (ix2 p q) 0 = p.val := rfl
  have w1 : scatter_S1024x128_S1_S1024x8_01_n_1_0.window (ix2 p q) 1 = q.val := rfl
  have s0 : scatter_S1024x128_S1_S1024x8_01_n_1_0.start (ix2 p q) (broadcastInDim S1 ![] bcast_S_S1 (constantI S_ 32 0#32)) 0 = 0 := rfl
  have s1 : scatter_S1024x128_S1_S1024x8_01_n_1_0.start (ix2 p q) (broadcastInDim S1 ![] bcast_S_S1 (constantI S_ 32 0#32)) 1 = 0 := rfl
  rw [w0, w1, s0, s1]
  omega

/-- The router's weights, zero past the experts. -/
theorem wr_apply (k : Fin 1024) (q : Fin 128) : V m c main_v3 (ix2 k q) = if h : q.val < 8 then aE m c (ix2 k (⟨q.val, h⟩ : Fin 8)) else 0 := by
  rw [V_v3]
  by_cases h : q.val < 8
  · rw [dif_pos h]
    refine Routing.scatter_set_hit scatter_S1024x128_S1_S1024x8_01_n_1_0 _ _ _ (ix2 k q) _ (fun j hj => ?_) (ix2 k (⟨q.val, h⟩ : Fin 8)) ((scatter_lands _ _ _ _).mpr ⟨rfl, rfl⟩)
    obtain ⟨p, s, rfl⟩ : ∃ (p : Fin 1024) (s : Fin 8), j = ix2 p s := ⟨_, _, eq_ix2 j⟩
    obtain ⟨e0, e1⟩ := (scatter_lands _ _ _ _).mp hj
    obtain rfl : p = k := Fin.ext e0
    obtain rfl : s = ⟨q.val, h⟩ := Fin.ext e1
    rfl
  · rw [dif_neg h]
    refine (Routing.scatter_set_miss scatter_S1024x128_S1_S1024x8_01_n_1_0 _ _ _ (ix2 k q) (fun j hj => ?_)).trans ?_
    · obtain ⟨p, s, rfl⟩ : ∃ (p : Fin 1024) (s : Fin 8), j = ix2 p s := ⟨_, _, eq_ix2 j⟩
      obtain ⟨e0, e1⟩ := (scatter_lands _ _ _ _).mp hj
      have := s.isLt
      omega
    · exact (broadcastInDim_apply _ bcast_S_S1024x128 _ (ix2 k q) (fun a => a.elim0) (fun a => a.elim0)).trans Ideal.ofBits_zero_f32

theorem index_0 : ∀ t : Fin cfg0.N, (cfg0.win 0).index t = ![t.val, 0] := by decide +kernel
theorem index_1 : ∀ t : Fin cfg0.N, (cfg0.win 1).index t = ![0, 0] := by decide +kernel
theorem index_2 : ∀ t : Fin cfg0.N, (cfg0.win 2).index t = ![t.val, 0] := by decide +kernel
theorem index_3 : ∀ t : Fin cfg0.N, (cfg0.win 3).index t = ![0, 0] := by decide +kernel
theorem index_4 : ∀ t : Fin cfg0.N, (cfg0.win 4).index t = ![0, 0] := by decide +kernel
theorem index_5 : ∀ t : Fin cfg0.N, (cfg0.win 5).index t = ![t.val, 0] := by decide +kernel
theorem index_6 : ∀ t : Fin cfg0.N, (cfg0.win 6).index t = ![t.val, 0] := by decide +kernel
theorem index_7 : ∀ t : Fin cfg0.N, (cfg0.win 7).index t = ![0, t.val] := by decide +kernel
theorem index_8 : ∀ t : Fin cfg0.N, (cfg0.win 8).index t = ![t.val, 0] := by decide +kernel
theorem index_9 : ∀ t : Fin cfg0.N, (cfg0.win 9).index t = ![t.val, 0] := by decide +kernel

/-- A point's row of the array. -/
abbrev row (t : Fin cfg0.N) (r : Fin 512) : Fin 32768 := ⟨512 * t.val + r.val, by have h : t.val < 64 := lt_of_lt_of_eq t.isLt N_0; have := r.isLt; omega⟩

theorem iblk_0 (t : Fin cfg0.N) (p : Fin 512) (q : Fin 1024) : iblk m c 0 t (ix2 p q) = aA m c (ix2 (row t p) q) := by
  refine (congrFun (V_main_arg0 m c) _).trans (congrArg (aA m c) (funext fun z => Fin.ext ?_))
  refine (Window.rect_emb_val (cfg0.win 0) t (ix2 p q) z).trans ?_
  rw [index_0]
  fin_cases z
  · show t.val * 512 + p.val = 512 * t.val + p.val; omega
  · show 0 * 1024 + q.val = q.val; omega

theorem iblk_1 (t : Fin cfg0.N) (p q : Fin 1024) : iblk m c 1 t (ix2 p q) = aW m c (ix2 p q) := by
  refine (congrFun (V_w m c) _).trans (congrArg (aW m c) (funext fun z => Fin.ext ?_))
  refine (Window.rect_emb_val (cfg0.win 1) t (ix2 p q) z).trans ?_
  rw [index_1]
  fin_cases z
  · show 0 * 1024 + p.val = p.val; omega
  · show 0 * 1024 + q.val = q.val; omega

theorem iblk_2 (t : Fin cfg0.N) (p : Fin 512) (q : Fin 1024) : iblk m c 2 t (ix2 p q) = aR m c (ix2 (row t p) q) := by
  refine (congrFun (V_main_arg2 m c) _).trans (congrArg (aR m c) (funext fun z => Fin.ext ?_))
  refine (Window.rect_emb_val (cfg0.win 2) t (ix2 p q) z).trans ?_
  rw [index_2]
  fin_cases z
  · show t.val * 512 + p.val = 512 * t.val + p.val; omega
  · show 0 * 1024 + q.val = q.val; omega

theorem iblk_3 (t : Fin cfg0.N) (q : Fin 1024) : iblk m c 3 t (ix2 (0 : Fin 1) q) = aG m c (ix2 (0 : Fin 1) q) := by
  refine (congrFun (V_main_arg3 m c) _).trans (congrArg (aG m c) (funext fun z => Fin.ext ?_))
  refine (Window.rect_emb_val (cfg0.win 3) t (ix2 (0 : Fin 1) q) z).trans ?_
  rw [index_3]
  fin_cases z
  · show 0 * 1 + 0 = 0; omega
  · show 0 * 1024 + q.val = q.val; omega

theorem iblk_4 (t : Fin cfg0.N) (p : Fin 1024) (q : Fin 128) : iblk m c 4 t (ix2 p q) = if h : q.val < 8 then aE m c (ix2 p (⟨q.val, h⟩ : Fin 8)) else 0 := by
  refine Eq.trans ?_ (wr_apply m c p q)
  refine congrArg (V m c main_v3) (funext fun z => Fin.ext ?_)
  refine (Window.rect_emb_val (cfg0.win 4) t (ix2 p q) z).trans ?_
  rw [index_4]
  fin_cases z
  · show 0 * 1024 + p.val = p.val; omega
  · show 0 * 128 + q.val = q.val; omega

/-- A stored chunk's value, `o` its first column. -/
theorem piece (t : Fin cfg0.N) (o : Nat) (i0) (i2) (i1) (r c' : Fin 512) (C : Fin 1024) (hC : C.val = o + c'.val) (r' : Fin 512) (hr : r'.val = r.val) :
    k0_pay4 (F := Ideal) (View.ld (iblk m c 0 t) (Rect.unit (s := S512x1024) ![0, 0] S512x1024.size i0)) (View.ld (iblk m c 2 t) (Rect.unit (s := S512x1024) ![0, o] S512x512.size i2))
        (View.ld (iblk m c 1 t) (Rect.unit (s := S1024x1024) ![0, o] S1024x512.size i1)) (ix2 r c')
      = hval (aA m c) (aW m c) (aR m c) (ix2 (row t r') C) := by
  obtain rfl : r' = r := Fin.ext hr
  rw [pay4_apply]
  have e0 : View.ld (iblk m c 0 t) (Rect.unit (s := S512x1024) ![0, 0] S512x1024.size i0) = iblk m c 0 t := View.ld_unit_zero (by funext a; fin_cases a <;> rfl) i0 _
  have e2 : View.ld (iblk m c 2 t) (Rect.unit (s := S512x1024) ![0, o] S512x512.size i2) (ix2 r' c') = iblk m c 2 t (ix2 r' C) :=
    congrArg (iblk m c 2 t) (funext fun q => Fin.ext (by
      fin_cases q
      · show 0 + 1 * r'.val = r'.val; omega
      · show o + 1 * c'.val = C.val; omega))
  have e1 : ∀ k : Fin 1024, View.ld (iblk m c 1 t) (Rect.unit (s := S1024x1024) ![0, o] S1024x512.size i1) (ix2 k c') = iblk m c 1 t (ix2 k C) := fun k =>
    congrArg (iblk m c 1 t) (funext fun q => Fin.ext (by
      fin_cases q
      · show 0 + 1 * k.val = k.val; omega
      · show o + 1 * c'.val = C.val; omega))
  rw [e0, e2, iblk_2]
  unfold hval
  refine congrArg (aR m c (ix2 (row t r') C) + ·) (Finset.sum_congr rfl fun k _ => ?_)
  rw [e1, iblk_0, iblk_1]

/-- The projection's stores read back. -/
theorem store_apply (t : Fin cfg0.N) (h0 h1 h2) (p : Fin 512) (q : Fin 1024) :
    View.canon (kernelRun0_A.sl.H5_2 c (ms0_0 t) h0 (ms0_1 t) h1 (ms0_2 t) h2 (iblk m c 0 t) (iblk m c 1 t) (iblk m c 2 t)) (ix2 p q)
      = hval (aA m c) (aW m c) (aR m c) (ix2 (row t p) q) := by
  refine (View.canon_apply_of_pieces (S := S512x1024) (e := .f32) (Val := Elt Ideal) (fun y => hval (aA m c) (aW m c) (aR m c) (ix2 (row t (y 0)) (y 1))) _ ?_ _
    (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      (iblk m c 0 t) (iblk m c 1 t) (iblk m c 2 t) (iblk m c 3 t) (iblk m c 4 t) _)).trans rfl
  intro pc hp x
  unfold kernelRun0_A.sl.H5_2 at hp
  rcases List.mem_cons.1 hp with rfl | hp
  · obtain ⟨r', c', rfl⟩ : ∃ r' c', x = ix2 r' c' := ⟨_, _, eq_ix2 x⟩
    dsimp only
    simp only [View.readAt_eq_ld, Memref.IsWhole.read_unread]
    refine (congrFun (pay5_eq _ _ _) _).trans (piece m c t 512 _ _ _ r' c' _ ?_ _ ?_)
    · show 512 + 1 * c'.val = _; omega
    · show 0 + 1 * r'.val = _; omega
  · obtain rfl := List.mem_singleton.1 hp
    obtain ⟨r', c', rfl⟩ : ∃ r' c', x = ix2 r' c' := ⟨_, _, eq_ix2 x⟩
    dsimp only
    simp only [View.readAt_eq_ld, Memref.IsWhole.read_unread]
    refine (piece m c t 0 _ _ _ r' c' _ ?_ _ ?_)
    · show 0 + 1 * c'.val = _; omega
    · show 0 + 1 * r'.val = _; omega

theorem back_apply (t : Fin cfg0.N) (h0 h1 h2) (p : Fin 512) (q : Fin 1024) :
    kernelRun0_A.sl.v13 c (ms0_0 t) h0 (ms0_1 t) h1 (ms0_2 t) h2 (ms0_5 t) (iblk m c 0 t) (iblk m c 1 t) (iblk m c 2 t) (ix2 p q)
      = hval (aA m c) (aW m c) (aR m c) (ix2 (row t p) q) := by
  unfold kernelRun0_A.sl.v13
  rw [View.readCov_eq_canon']
  refine Eq.trans (congrArg _ (funext fun z => Fin.ext ?_)) (store_apply m c t h0 h1 h2 p q)
  fin_cases z
  · show 0 + 1 * p.val = p.val; omega
  · show 0 + 1 * q.val = q.val; omega

/-- One store covering its buffer, read back. -/
theorem whole2 {a b : Nat} {e : EltTy} (i0) (w : (⟨2, ![a, b]⟩ : Shape).Idx → Elt Ideal e) (p : Fin a) (q : Fin b) :
    View.canon [(⟨Rect.unit (s := ⟨2, ![a, b]⟩) ![0, 0] ![a, b] i0, w⟩ : View.Piece (Elt Ideal) ⟨2, ![a, b]⟩ e)] (ix2 p q) = w (ix2 p q) := by
  refine Eq.trans (congrArg _ (funext fun z => Fin.ext ?_)) (View.canon_cons_emb (Rect.unit (s := ⟨2, ![a, b]⟩) ![0, 0] ![a, b] i0) w [] (ix2 p q))
  fin_cases z
  · show p.val = 0 + 1 * p.val; omega
  · show q.val = 0 + 1 * q.val; omega

theorem after_5 (t : Fin cfg0.N) (p : Fin 512) (q : Fin 1024) : (dats m 0 c).after 5 t (ix2 p q) = hval (aA m c) (aW m c) (aR m c) (ix2 (row t p) q) := by
  rw [after0_5]
  unfold outsAt0 out0_A_5 kernelRun0_A
  dsimp only
  rw [View.read_writes_junk_eq_canon]
  exact store_apply m c t _ _ _ p q

theorem gain (t : Fin cfg0.N) (i0) : View.ld (iblk m c 3 t) (Rect.unit (s := S1x1024) ![0, 0] S1x1024.size i0) = iblk m c 3 t := View.ld_unit_zero (by funext a; fin_cases a <;> rfl) i0 _
theorem route (t : Fin cfg0.N) (i0) : View.ld (iblk m c 4 t) (Rect.unit (s := S1024x128) ![0, 0] S1024x128.size i0) = iblk m c 4 t := View.ld_unit_zero (by funext a; fin_cases a <;> rfl) i0 _

/-- A row's rounds: the two experts and the two gates' numerators and denominator. -/
theorem top (hg : ∀ i, Fin' (aG m c i)) (hw : ∀ i, Fin' (aE m c i)) (t : Fin cfg0.N) (p : Fin 512) (X : FVec Ideal S512x1024 .f32) (G : FVec Ideal S1x1024 .f32) (W : FVec Ideal S1024x128 .f32)
    (hX : ∀ d, X (ix2 p d) = hval (aA m c) (aW m c) (aR m c) (ix2 (row t p) d)) (hG : ∀ d, G (ix2 (0 : Fin 1) d) = aG m c (ix2 (0 : Fin 1) d))
    (hW : ∀ k q, W (ix2 k q) = if h : q.val < 8 then aE m c (ix2 k (⟨q.val, h⟩ : Fin 8)) else 0)
    (L : Fin 8 → EReal) (hL : L = score (aA m c) (aW m c) (aR m c) (aG m c) (aE m c) (row t p)) :
    k0_pay11 (F := Ideal) (k0_pay6 X G) (k0_pay8 X G) W (ix2 p (0 : Fin 1)) = BitVec.ofNat 32 (pick L 0).val
      ∧ k0_pay14 (F := Ideal) (k0_pay6 X G) (k0_pay8 X G) W (ix2 p (0 : Fin 1)) = BitVec.ofNat 32 (pick L 1).val
      ∧ k0_pay15 (F := Ideal) (k0_pay6 X G) (k0_pay8 X G) W (ix2 p (0 : Fin 1)) = Ideal.exp (L (pick L 1) - L (pick L 0))
      ∧ k0_pay16 (F := Ideal) (k0_pay6 X G) (k0_pay8 X G) W (ix2 p (0 : Fin 1)) = 1 + Ideal.exp (L (pick L 1) - L (pick L 0)) := by
  have hn : ∀ k : Fin 1024, k0_pay6 (F := Ideal) X G (ix2 p k) = xnv (aA m c) (aW m c) (aR m c) (aG m c) (ix2 (row t p) k) := fun k => by
    rw [pay6_apply, show (fun d => X (ix2 p d)) = _ from funext hX, show (fun d => G (ix2 (0 : Fin 1) d)) = _ from funext hG]
    rfl
  have hf : ∀ e, Fin' (L e) := fun e => by rw [hL]; exact score_fin _ _ _ _ _ hg hw _ e
  have h9 : ∀ q, k0_pay9 (F := Ideal) (k0_pay6 X G) (k0_pay8 X G) W (ix2 p q) = lanes L q := fun q => by
    refine pay9_apply _ _ W p q L (fun k => rfl) (fun k => ?_) (fun k => ?_) (fun h => ?_)
    · rw [hn]; exact xnv_fin _ _ _ _ hg _
    · rw [hW]
      split
      · exact hw _
      · exact fin_zero
    · rw [hL]
      refine Finset.sum_congr rfl fun k _ => ?_
      rw [hn, hW, dif_pos h]
  obtain ⟨i, hi⟩ := exists_first (lanes L)
  obtain ⟨j, hj⟩ := exists_first (drop (lanes L) i)
  obtain ⟨i', j', hi', hj', ht⟩ := top2_of_lanes L hf i j hi hj
  obtain ⟨s0, s1⟩ := sorted_two L i' j' ht
  obtain ⟨f10, f11, f13, f14⟩ := rounds _ _ W p (lanes L) h9 i j hi hj
  have e0 : pick L 0 = i' := s0
  have e1 : pick L 1 = j' := s1
  have l0 : lanes L i = L i' := by
    unfold lanes
    rw [dif_pos (hi' ▸ i'.isLt)]
    exact congrArg L (Fin.ext hi'.symm)
  have l1 : drop (lanes L) i j = L j' := by
    unfold drop lanes
    have hne : j ≠ i := fun e => ht.ne (Fin.ext (by rw [hi', hj', e]))
    rw [if_neg hne, dif_pos (hj' ▸ j'.isLt)]
    exact congrArg L (Fin.ext hj'.symm)
  have h15 : k0_pay15 (F := Ideal) (k0_pay6 X G) (k0_pay8 X G) W (ix2 p (0 : Fin 1)) = Ideal.exp (L (pick L 1) - L (pick L 0)) := by
    rw [pay15_apply, f10, f13, l0, l1, e0, e1]
  refine ⟨?_, ?_, h15, ?_⟩
  · rw [f11, e0, hi']
  · rw [f14, e1, hj']
  · rw [pay16_apply, h15]

theorem after_6 (t : Fin cfg0.N) (p : Fin 512) (q : Fin 1024) : (dats m 0 c).after 6 t (ix2 p q) = xnv (aA m c) (aW m c) (aR m c) (aG m c) (ix2 (row t p) q) := by
  rw [after0_6]
  unfold outsAt0 out0_A_6 kernelRun0_A
  dsimp only
  rw [View.read_writes_junk_eq_canon]
  refine (whole2 _ _ p q).trans ?_
  simp only [View.readAt_eq_ld, Memref.IsWhole.read_unread]
  rw [gain, pay7_apply]
  unfold xnv
  refine congr (congr (congrArg normed (funext fun d => back_apply m c t _ _ _ p d)) (funext fun d => iblk_3 m c t d)) rfl

end

end Cert.RouterIdeal.Value

end
-- ==== Proof.RouterOut.lean ====
/- The arrays the router's run leaves. -/
module

public import proofs.«01_k».proof.Proof.Router
public import Idealize.ShloMosaic.Lib.Pipeline.Value
public import Idealize.ShloMosaic.Lib.Routing.OpsPair
public import Idealize.ShloMosaic.Lib.Routing.OpsSet

@[expose] public section

set_option maxRecDepth 16384

noncomputable section

namespace Cert.RouterIdeal.Value

open Cert.RouterIdeal Cert.RouterIdeal.Gen Cert.Norm Cert.Router
open Idealize.ShloMosaic Idealize.ShloMosaic.ValueIdx
open Idealize.ShloMosaic.TcCoe
open Idealize.ShloMosaic.Pipeline (Dat Cfg Window)
open Idealize.SL Idealize.SL.RA Idealize.SL.Sem

section
variable (m : (ℓ : Loc nD τ sig) → Buf (Elt Ideal) ℓ) (c : Dev nD)

theorem after_8 (hg : ∀ i, Fin' (aG m c i)) (hw : ∀ i, Fin' (aE m c i)) (t : Fin cfg0.N) (p : Fin 512) (q : Fin 128) :
    (dats m 0 c).after 8 t (ix2 p q) = gates (aA m c) (aW m c) (aR m c) (aG m c) (aE m c) 0 (ix2 (row t p) q) := by
  rw [after0_8]
  unfold outsAt0 out0_A_8 kernelRun0_A
  dsimp only
  rw [View.read_writes_junk_eq_canon]
  refine (whole2 _ _ p q).trans ?_
  unfold kernelRun0_A.sl.r_5 kernelRun0_A.sl.r kernelRun0_A.sl.r_1
  simp only [View.readAt_eq_ld, Memref.IsWhole.read_unread]
  repeat rw [gain]
  repeat rw [route]
  rw [pay2_apply]
  have hX := back_apply m c t (hs0_0 t) (hs0_1 t) (hs0_2 t) p
  have hG := iblk_3 m c t
  have hW := iblk_4 m c t
  generalize kernelRun0_A.sl.v13 c (ms0_0 t) (hs0_0 t) (ms0_1 t) (hs0_1 t) (ms0_2 t) (hs0_2 t) (ms0_5 t) (iblk m c 0 t) (iblk m c 1 t) (iblk m c 2 t) = X at hX ⊢
  generalize iblk m c 3 t = G at hG ⊢
  generalize iblk m c 4 t = W at hW ⊢
  obtain ⟨-, -, -, h16⟩ := top m c hg hw t p X G W hX hG hW _ rfl
  refine (congrArg (Ideal.div 1) h16).trans ?_
  unfold gates gate
  rw [exp_self (score_fin _ _ _ _ _ hg hw _ _)]

theorem after_9 (hg : ∀ i, Fin' (aG m c i)) (hw : ∀ i, Fin' (aE m c i)) (t : Fin cfg0.N) (p : Fin 512) (q : Fin 128) :
    (dats m 0 c).after 9 t (ix2 p q) = gates (aA m c) (aW m c) (aR m c) (aG m c) (aE m c) 1 (ix2 (row t p) q) := by
  rw [after0_9]
  unfold outsAt0 out0_A_9 kernelRun0_A
  dsimp only
  rw [View.read_writes_junk_eq_canon]
  refine (whole2 _ _ p q).trans ?_
  unfold kernelRun0_A.sl.r_4 kernelRun0_A.sl.r_5 kernelRun0_A.sl.r kernelRun0_A.sl.r_1
  simp only [View.readAt_eq_ld, Memref.IsWhole.read_unread]
  repeat rw [gain]
  repeat rw [route]
  rw [pay3_apply]
  have hX := back_apply m c t (hs0_0 t) (hs0_1 t) (hs0_2 t) p
  have hG := iblk_3 m c t
  have hW := iblk_4 m c t
  generalize kernelRun0_A.sl.v13 c (ms0_0 t) (hs0_0 t) (ms0_1 t) (hs0_1 t) (ms0_2 t) (hs0_2 t) (ms0_5 t) (iblk m c 0 t) (iblk m c 1 t) (iblk m c 2 t) = X at hX ⊢
  generalize iblk m c 3 t = G at hG ⊢
  generalize iblk m c 4 t = W at hW ⊢
  obtain ⟨-, -, h15, h16⟩ := top m c hg hw t p X G W hX hG hW _ rfl
  exact congr (congrArg Ideal.div h15) h16

theorem after_7 (hg : ∀ i, Fin' (aG m c i)) (hw : ∀ i, Fin' (aE m c i)) (t : Fin cfg0.N) (r : Fin 8) (p : Fin 512) :
    (dats m 0 c).after 7 t (ix2 r p) = ids (aA m c) (aW m c) (aR m c) (aG m c) (aE m c) (ix2 r (row t p)) := by
  rw [after0_7]
  unfold outsAt0 out0_A_7 kernelRun0_A
  dsimp only
  rw [View.read_writes_junk_eq_canon]
  refine (whole2 _ _ r p).trans ?_
  unfold kernelRun0_A.sl.r_2 kernelRun0_A.sl.r_3 kernelRun0_A.sl.r kernelRun0_A.sl.r_1 kernelRun0_A.sl.v45
  simp only [View.readAt_eq_ld, Memref.IsWhole.read_unread]
  repeat rw [gain]
  repeat rw [route]
  have hX := back_apply m c t (hs0_0 t) (hs0_1 t) (hs0_2 t) p
  have hG := iblk_3 m c t
  have hW := iblk_4 m c t
  generalize kernelRun0_A.sl.v13 c (ms0_0 t) (hs0_0 t) (ms0_1 t) (hs0_1 t) (ms0_2 t) (hs0_2 t) (ms0_5 t) (iblk m c 0 t) (iblk m c 1 t) (iblk m c 2 t) = X at hX ⊢
  generalize iblk m c 3 t = G at hG ⊢
  generalize iblk m c 4 t = W at hW ⊢
  obtain ⟨h11, h14, -, -⟩ := top m c hg hw t p X G W hX hG hW _ rfl
  exact pay1_apply _ _ p r ⟨(pick _ 0).val, by omega⟩ ⟨(pick _ 1).val, by omega⟩ h11 h14

theorem out_5 : (dats m 0 c).arrAt 5 cfg0.N = (hval (aA m c) (aW m c) (aR m c) : S32768x1024.Idx → EReal) := by
  refine Dat.arrAt_eq_of_cover (dats m 0 c) (5 : Fin 10) _ (fun t _ => ?_) (fun i => ?_)
  · funext y
    obtain ⟨r, C, rfl⟩ : ∃ (r : Fin 512) (C : Fin 1024), y = ix2 r C := ⟨_, _, eq_ix2 y⟩
    refine (after_5 m c t r C).trans (congrArg (hval (aA m c) (aW m c) (aR m c)) (funext fun z => Fin.ext ?_))
    refine Eq.trans ?_ (Window.rect_emb_val (cfg0.win 5) t (ix2 r C) z).symm
    rw [index_5]
    fin_cases z
    · show 512 * t.val + r.val = t.val * 512 + r.val; omega
    · show C.val = 0 * 1024 + C.val; omega
  · have hi : (i 0).val < 32768 := (i 0).isLt
    let t : Fin cfg0.N := ⟨(i 0).val / 512, lt_of_lt_of_eq (show (i 0).val / 512 < 64 by omega) N_0.symm⟩
    refine ⟨t, flush0_5 _, ?_⟩
    have e : i = ((cfg0.win 5).rect t).emb (ix2 (⟨(i 0).val % 512, by omega⟩ : Fin 512) (i 1 : Fin 1024)) := by
      funext q
      refine Fin.ext (Eq.trans ?_ (Window.rect_emb_val (cfg0.win 5) t _ q).symm)
      rw [index_5]
      fin_cases q
      · show (i 0).val = (i 0).val / 512 * 512 + (i 0).val % 512; omega
      · show (i 1).val = 0 * 1024 + (i 1).val; omega
    rw [e]
    exact View.emb_mem_set _ _

theorem out_6 : (dats m 0 c).arrAt 6 cfg0.N = (xnv (aA m c) (aW m c) (aR m c) (aG m c) : S32768x1024.Idx → EReal) := by
  refine Dat.arrAt_eq_of_cover (dats m 0 c) (6 : Fin 10) _ (fun t _ => ?_) (fun i => ?_)
  · funext y
    obtain ⟨r, C, rfl⟩ : ∃ (r : Fin 512) (C : Fin 1024), y = ix2 r C := ⟨_, _, eq_ix2 y⟩
    refine (after_6 m c t r C).trans (congrArg (xnv (aA m c) (aW m c) (aR m c) (aG m c)) (funext fun z => Fin.ext ?_))
    refine Eq.trans ?_ (Window.rect_emb_val (cfg0.win 6) t (ix2 r C) z).symm
    rw [index_6]
    fin_cases z
    · show 512 * t.val + r.val = t.val * 512 + r.val; omega
    · show C.val = 0 * 1024 + C.val; omega
  · have hi : (i 0).val < 32768 := (i 0).isLt
    let t : Fin cfg0.N := ⟨(i 0).val / 512, lt_of_lt_of_eq (show (i 0).val / 512 < 64 by omega) N_0.symm⟩
    refine ⟨t, flush0_6 _, ?_⟩
    have e : i = ((cfg0.win 6).rect t).emb (ix2 (⟨(i 0).val % 512, by omega⟩ : Fin 512) (i 1 : Fin 1024)) := by
      funext q
      refine Fin.ext (Eq.trans ?_ (Window.rect_emb_val (cfg0.win 6) t _ q).symm)
      rw [index_6]
      fin_cases q
      · show (i 0).val = (i 0).val / 512 * 512 + (i 0).val % 512; omega
      · show (i 1).val = 0 * 1024 + (i 1).val; omega
    rw [e]
    exact View.emb_mem_set _ _

theorem out_8 (hg : ∀ i, Fin' (aG m c i)) (hw : ∀ i, Fin' (aE m c i)) : (dats m 0 c).arrAt 8 cfg0.N = (gates (aA m c) (aW m c) (aR m c) (aG m c) (aE m c) 0 : S32768x128.Idx → EReal) := by
  refine Dat.arrAt_eq_of_cover (dats m 0 c) (8 : Fin 10) _ (fun t _ => ?_) (fun i => ?_)
  · funext y
    obtain ⟨r, C, rfl⟩ : ∃ (r : Fin 512) (C : Fin 128), y = ix2 r C := ⟨_, _, eq_ix2 y⟩
    refine (after_8 m c hg hw t r C).trans (congrArg (gates (aA m c) (aW m c) (aR m c) (aG m c) (aE m c) 0) (funext fun z => Fin.ext ?_))
    refine Eq.trans ?_ (Window.rect_emb_val (cfg0.win 8) t (ix2 r C) z).symm
    rw [index_8]
    fin_cases z
    · show 512 * t.val + r.val = t.val * 512 + r.val; omega
    · show C.val = 0 * 128 + C.val; omega
  · have hi : (i 0).val < 32768 := (i 0).isLt
    let t : Fin cfg0.N := ⟨(i 0).val / 512, lt_of_lt_of_eq (show (i 0).val / 512 < 64 by omega) N_0.symm⟩
    refine ⟨t, flush0_8 _, ?_⟩
    have e : i = ((cfg0.win 8).rect t).emb (ix2 (⟨(i 0).val % 512, by omega⟩ : Fin 512) (i 1 : Fin 128)) := by
      funext q
      refine Fin.ext (Eq.trans ?_ (Window.rect_emb_val (cfg0.win 8) t _ q).symm)
      rw [index_8]
      fin_cases q
      · show (i 0).val = (i 0).val / 512 * 512 + (i 0).val % 512; omega
      · show (i 1).val = 0 * 128 + (i 1).val; omega
    rw [e]
    exact View.emb_mem_set _ _

theorem out_9 (hg : ∀ i, Fin' (aG m c i)) (hw : ∀ i, Fin' (aE m c i)) : (dats m 0 c).arrAt 9 cfg0.N = (gates (aA m c) (aW m c) (aR m c) (aG m c) (aE m c) 1 : S32768x128.Idx → EReal) := by
  refine Dat.arrAt_eq_of_cover (dats m 0 c) (9 : Fin 10) _ (fun t _ => ?_) (fun i => ?_)
  · funext y
    obtain ⟨r, C, rfl⟩ : ∃ (r : Fin 512) (C : Fin 128), y = ix2 r C := ⟨_, _, eq_ix2 y⟩
    refine (after_9 m c hg hw t r C).trans (congrArg (gates (aA m c) (aW m c) (aR m c) (aG m c) (aE m c) 1) (funext fun z => Fin.ext ?_))
    refine Eq.trans ?_ (Window.rect_emb_val (cfg0.win 9) t (ix2 r C) z).symm
    rw [index_9]
    fin_cases z
    · show 512 * t.val + r.val = t.val * 512 + r.val; omega
    · show C.val = 0 * 128 + C.val; omega
  · have hi : (i 0).val < 32768 := (i 0).isLt
    let t : Fin cfg0.N := ⟨(i 0).val / 512, lt_of_lt_of_eq (show (i 0).val / 512 < 64 by omega) N_0.symm⟩
    refine ⟨t, flush0_9 _, ?_⟩
    have e : i = ((cfg0.win 9).rect t).emb (ix2 (⟨(i 0).val % 512, by omega⟩ : Fin 512) (i 1 : Fin 128)) := by
      funext q
      refine Fin.ext (Eq.trans ?_ (Window.rect_emb_val (cfg0.win 9) t _ q).symm)
      rw [index_9]
      fin_cases q
      · show (i 0).val = (i 0).val / 512 * 512 + (i 0).val % 512; omega
      · show (i 1).val = 0 * 128 + (i 1).val; omega
    rw [e]
    exact View.emb_mem_set _ _

theorem out_7 (hg : ∀ i, Fin' (aG m c i)) (hw : ∀ i, Fin' (aE m c i)) : (dats m 0 c).arrAt 7 cfg0.N = (ids (aA m c) (aW m c) (aR m c) (aG m c) (aE m c) : S8x32768.Idx → BitVec 32) := by
  refine Dat.arrAt_eq_of_cover (dats m 0 c) (7 : Fin 10) _ (fun t _ => ?_) (fun i => ?_)
  · funext y
    obtain ⟨r, C, rfl⟩ : ∃ (r : Fin 8) (C : Fin 512), y = ix2 r C := ⟨_, _, eq_ix2 y⟩
    refine (after_7 m c hg hw t r C).trans (congrArg (ids (aA m c) (aW m c) (aR m c) (aG m c) (aE m c)) (funext fun z => Fin.ext ?_))
    refine Eq.trans ?_ (Window.rect_emb_val (cfg0.win 7) t (ix2 r C) z).symm
    rw [index_7]
    fin_cases z
    · show r.val = 0 * 8 + r.val; omega
    · show 512 * t.val + C.val = t.val * 512 + C.val; omega
  · have hi : (i 1).val < 32768 := (i 1).isLt
    let t : Fin cfg0.N := ⟨(i 1).val / 512, lt_of_lt_of_eq (show (i 1).val / 512 < 64 by omega) N_0.symm⟩
    refine ⟨t, flush0_7 _, ?_⟩
    have e : i = ((cfg0.win 7).rect t).emb (ix2 (i 0 : Fin 8) (⟨(i 1).val % 512, by omega⟩ : Fin 512)) := by
      funext q
      refine Fin.ext (Eq.trans ?_ (Window.rect_emb_val (cfg0.win 7) t _ q).symm)
      rw [index_7]
      fin_cases q
      · show (i 0).val = 0 * 8 + (i 0).val; omega
      · show (i 1).val = (i 1).val / 512 * 512 + (i 1).val % 512; omega
    rw [e]
    exact View.emb_mem_set _ _

end

end Cert.RouterIdeal.Value

end
-- ==== Proof.RouterRef.lean ====
/- The router's reference over the extended reals: its five results are those of the kernel's run. -/
module

public import proofs.«01_k».proof.Proof.Gen.RouterReferenceIdeal.Read
public import proofs.«01_k».proof.Proof.RouterOut
public import Idealize.ShloMosaic.Lib.IdealHost
public import Idealize.ShloMosaic.Lib.KernelVsHost

@[expose] public section

set_option maxRecDepth 16384

noncomputable section

namespace Cert.RouterReferenceIdeal.Spec

open Cert.RouterReferenceIdeal Cert.RouterReferenceIdeal.Gen Cert.RouterReferenceIdeal.Read Cert.Norm Cert.Router
open Cert.RouterIdeal.Value (hval xnv score ids gates score_fin)
open Idealize.ShloMosaic Idealize.ShloMosaic.ValueIdx
open Idealize.ShloMosaic.TcCoe
open Idealize.SL Idealize.SL.RA Idealize.SL.Sem

/-- The two picked scores are in falling order. -/
theorem pick_le (L : Fin 8 → EReal) (hL : ∀ e, Fin' (L e)) (k : Fin 2) : L (pick L k) ≤ L (pick L 0) := by
  obtain ⟨i, hi⟩ := exists_first (lanes L)
  obtain ⟨j, hj⟩ := exists_first (drop (lanes L) i)
  obtain ⟨i', j', -, -, ht⟩ := top2_of_lanes L hL i j hi hj
  rw [show pick L 0 = i' from (sorted_two L i' j' ht).1]
  exact ht.le _

section
variable (a : S32768x1024.Idx → EReal) (w : S1024x1024.Idx → EReal) (r : S32768x1024.Idx → EReal) (g : S1x1024.Idx → EReal) (wr : S1024x8.Idx → EReal)

theorem ref_h : val_main_v2 (F := Ideal) a w r = hval a w r := by
  funext i
  rw [val_main_v2_apply, val_main_v1_apply]
  refine congrArg (r i + ·) (Finset.sum_congr rfl fun k _ => ?_)
  refine congr (congrArg HMul.hMul (congrArg a (funext fun q => ?_))) (congrArg w (funext fun q => ?_))
  · fin_cases q <;> rfl
  · fin_cases q <;> rfl

theorem ref_norm (p : Fin 32768) (q : Fin 1024) : val_main_v14 (F := Ideal) a w r g (ix2 p q) = xnv a w r g (ix2 p q) := by
  have hs : val_main_v4 (F := Ideal) a w r (ix1 p) = ∑ k : Fin 1024, hval a w r (ix2 p k) * hval a w r (ix2 p k) := by
    rw [val_main_v4_apply]
    refine (congrArg (· + _) (show val_main_cst (F := Ideal) _ = (0 : EReal) from Ideal.ofBits_zero_f32)).trans ((zero_add _).trans ?_)
    refine Finset.sum_congr rfl fun k _ => ?_
    have e : idx_main_v4 (ix1 p) k = ix2 p k := funext fun a => by fin_cases a <;> rfl
    rw [e, val_main_v3_apply, ref_h]; rfl
  rw [val_main_v14_apply, val_main_v12_apply, val_main_v11_apply, val_main_v13_apply, val_main_v10_apply, val_main_v9_apply, val_main_v7_apply, val_main_v5_apply,
    val_main_v6_apply, val_main_v8_apply, ref_h]
  have e1 : idx_main_v5 (idx_main_v11 (ix2 p q)) = ix1 p := funext fun a => by fin_cases a; rfl
  have e2 : idx_main_v13 (ix2 p q) = ix2 (0 : Fin 1) q := funext fun a => by fin_cases a <;> rfl
  rw [e1, e2, hs]
  rfl

theorem ref_score (p : Fin 32768) (e : Fin 8) : val_main_v15 (F := Ideal) a w r g wr (ix2 p e) = score a w r g wr p e := by
  rw [val_main_v15_apply]
  refine Finset.sum_congr rfl fun k _ => ?_
  have e1 : lidx_main_v15 (ix2 p e) k = ix2 p k := funext fun a => by fin_cases a <;> rfl
  have e2 : ridx_main_v15 (ix2 p e) k = ix2 k e := funext fun a => by fin_cases a <;> rfl
  rw [e1, e2, ref_norm]

theorem along_at (p : Fin 32768) (e e' : Fin 8) : (ix2 p e : S32768x8.Idx).along (1 : Fin 2) e' = ix2 p e' :=
  funext fun z => by fin_cases z <;> rfl

/-- The first two places of a sorted row. -/
theorem sorted_row (x : S32768x8.Idx → EReal) (p : Fin 32768) (k : Fin 2) (L : Fin 8 → EReal) (hx : ∀ e, x (ix2 p e) = L e) :
    (Host.topK S32768x2 1 (FloatOps.cmpfTotal (F := Ideal) (φ := .f32) .gt) x sliceFits_S32768x8_S32768x2).1 (ix2 p k) = L (pick L k)
      ∧ (Host.topK S32768x2 1 (FloatOps.cmpfTotal (F := Ideal) (φ := .f32) .gt) x sliceFits_S32768x8_S32768x2).2 (ix2 p k) = BitVec.ofNat 32 (pick L k).val := by
  have hk := k.isLt
  have hcut : ∀ {α : Type} (y : S32768x8.Idx → α), extractStridedSlice S32768x2 (fun _ => 0) y sliceFits_S32768x8_S32768x2 (ix2 p k) = y (ix2 p (⟨k.val, by omega⟩ : Fin 8)) := fun y =>
    extractStridedSlice_apply _ _ sliceFits_S32768x8_S32768x2 _ _ fun z => by
      match z with
      | ⟨0, _⟩ => show p.val = 0 + p.val; omega
      | ⟨1, _⟩ => show k.val = 0 + k.val; omega
  have hb : (fun k₁ k₂ : Fin 8 => FloatOps.cmpfTotal (F := Ideal) (φ := .f32) .gt (x (ix2 p k₁)) (x (ix2 p k₂)) == 1#1) = before L := by
    funext k₁ k₂
    rw [hx, hx]; rfl
  constructor
  · unfold Host.topK
    dsimp only
    refine (hcut _).trans ?_
    show x ((ix2 p (⟨k.val, by omega⟩ : Fin 8) : S32768x8.Idx).along (1 : Fin 2) (sortedFrom (fun k₁ k₂ : Fin 8 => FloatOps.cmpfTotal (F := Ideal) (φ := .f32) .gt (x ((ix2 p (⟨k.val, by omega⟩ : Fin 8) : S32768x8.Idx).along (1 : Fin 2) k₁)) (x ((ix2 p (⟨k.val, by omega⟩ : Fin 8) : S32768x8.Idx).along (1 : Fin 2) k₂)) == 1#1) (⟨k.val, by omega⟩ : Fin 8))) = _
    simp only [along_at]
    rw [hb]
    exact (congrArg x (along_at p _ _)).trans (hx _)
  · unfold Host.topK
    dsimp only
    refine (hcut _).trans ?_
    show BitVec.ofNat 32 (((ix2 p (⟨k.val, by omega⟩ : Fin 8) : S32768x8.Idx).along (1 : Fin 2) (sortedFrom (fun k₁ k₂ : Fin 8 => FloatOps.cmpfTotal (F := Ideal) (φ := .f32) .gt (x ((ix2 p (⟨k.val, by omega⟩ : Fin 8) : S32768x8.Idx).along (1 : Fin 2) k₁)) (x ((ix2 p (⟨k.val, by omega⟩ : Fin 8) : S32768x8.Idx).along (1 : Fin 2) k₂)) == 1#1) (⟨k.val, by omega⟩ : Fin 8))) (1 : Fin 2)).val = _
    simp only [along_at]
    rw [hb]
    rfl

theorem ref_values (p : Fin 32768) (k : Fin 2) : val_main_values (F := Ideal) a w r g wr (ix2 p k) = score a w r g wr p (pick (score a w r g wr p) k) :=
  (sorted_row _ p k _ (fun e => ref_score a w r g wr p e)).1

theorem ref_indices (p : Fin 32768) (k : Fin 2) : val_main_indices (F := Ideal) a w r g wr (ix2 p k) = BitVec.ofNat 32 (pick (score a w r g wr p) k).val :=
  (sorted_row _ p k _ (fun e => ref_score a w r g wr p e)).2

theorem reduces2 : S32768x2.Reduces [1] S32768 := by decide

theorem lift2 (p : Fin 32768) (k : Fin 2) : reduces2.lift (ix1 p) k = ix2 p k :=
  funext fun a => Fin.ext (by match a with | ⟨0, _⟩ => rfl | ⟨1, _⟩ => rfl)

theorem ref_max (hg : ∀ i, Fin' (g i)) (hw : ∀ i, Fin' (wr i)) (p : Fin 32768) : val_main_v18 (F := Ideal) a w r g wr (ix1 p) = score a w r g wr p (pick (score a w r g wr p) 0) := by
  have h16 : val_main_v16 (F := Ideal) a w r g wr (ix1 p) = score a w r g wr p (pick (score a w r g wr p) 0) := by
    unfold val_main_v16
    refine (Host.reduce_eq_fold_single (max : EReal → EReal → EReal) _ _ reducesTo_S32768x2_S32768_d1 reduces2 h_S_ (ix1 p)).trans ?_
    have e : (val_main_values (F := Ideal) a w r g wr) ∘ reduces2.lift (ix1 p) = fun k : Fin 2 => score a w r g wr p (pick (score a w r g wr p) k) :=
      funext fun k => (congrArg (val_main_values (F := Ideal) a w r g wr) (lift2 p k)).trans (ref_values a w r g wr p k)
    rw [e]
    have hb : val_main_cst_2 (F := Ideal) (Shape.Idx.first h_S_) = (⊥ : EReal) := ninf_eq
    rw [hb]
    show (Finset.univ : Finset (Fin 2)).fold max ⊥ (fun k : Fin 2 => score a w r g wr p (pick (score a w r g wr p) k)) = _
    have h1 := pick_le (score a w r g wr p) (score_fin a w r g wr hg hw p) 1
    rw [show (Finset.univ : Finset (Fin 2)) = {0, 1} from by decide, Finset.fold_insert (by decide), Finset.fold_singleton, max_bot_right]
    exact max_eq_left h1
  rw [val_main_v18_apply, h16]
  have hb : val_main_v17 (F := Ideal) (ix1 p) = (⊥ : EReal) := (val_main_v17_apply _).trans ninf_eq
  rw [hb]
  exact max_bot_left _

theorem ref_exp (hg : ∀ i, Fin' (g i)) (hw : ∀ i, Fin' (wr i)) (p : Fin 32768) (k : Fin 2) :
    val_main_v22 (F := Ideal) a w r g wr (ix2 p k) = Ideal.exp (score a w r g wr p (pick (score a w r g wr p) k) - score a w r g wr p (pick (score a w r g wr p) 0)) := by
  rw [val_main_v22_apply, val_main_v21_apply, val_main_v20_apply, val_main_v19_apply, ref_values]
  have e : idx_main_v19 (idx_main_v20 (ix2 p k)) = ix1 p := funext fun a => by fin_cases a; rfl
  rw [e, ref_max a w r g wr hg hw]
  rfl

theorem ref_gate (hg : ∀ i, Fin' (g i)) (hw : ∀ i, Fin' (wr i)) (p : Fin 32768) (k : Fin 2) :
    val_main_v26 (F := Ideal) a w r g wr (ix2 p k) = gate (score a w r g wr p) k := by
  have h23 : val_main_v23 (F := Ideal) a w r g wr (ix1 p) = 1 + Ideal.exp (score a w r g wr p (pick (score a w r g wr p) 1) - score a w r g wr p (pick (score a w r g wr p) 0)) := by
    rw [val_main_v23_apply]
    refine (congrArg (· + _) (show val_main_cst_4 (F := Ideal) _ = (0 : EReal) from Ideal.ofBits_zero_f32)).trans ((zero_add _).trans ?_)
    rw [Fin.sum_univ_two]
    have e0 : ∀ k : Fin 2, idx_main_v23 (ix1 p) k = ix2 p k := fun k => funext fun a => by fin_cases a <;> rfl
    rw [e0, e0, ref_exp a w r g wr hg hw, ref_exp a w r g wr hg hw, exp_self (score_fin a w r g wr hg hw _ _)]
  rw [val_main_v26_apply, val_main_v25_apply, val_main_v24_apply, ref_exp a w r g wr hg hw]
  have e : idx_main_v24 (idx_main_v25 (ix2 p k)) = ix1 p := funext fun a => by fin_cases a; rfl
  rw [e, h23]
  rfl

theorem ref_2 : val_main_v29 (F := Ideal) a w r g = xnv a w r g := by
  funext i
  obtain ⟨p, q, rfl⟩ : ∃ (p : Fin 32768) (q : Fin 1024), i = ix2 p q := ⟨_, _, eq_ix2 i⟩
  rw [val_main_v29_apply]
  exact ref_norm a w r g p q

theorem ref_3 : val_main_v28 (F := Ideal) a w r g wr = ids a w r g wr := by
  funext i
  obtain ⟨s, p, rfl⟩ : ∃ (s : Fin 8) (p : Fin 32768), i = ix2 s p := ⟨_, _, eq_ix2 i⟩
  unfold val_main_v28
  have hin : ∀ k : Fin 2, s.val = k.val → pad S8x32768 ![0, 0] ![6, 0] ![0, 0] (val_main_v27 (F := Ideal) a w r g wr) (val_main_call0_v0 (F := Ideal)) pads_S2x32768_S8x32768_060_000 h_S_ (ix2 s p)
      = BitVec.ofNat 32 (pick (score a w r g wr p) k).val := fun k hk => by
    refine (pad_apply_of_inside _ _ _ _ _ pads_S2x32768_S8x32768_060_000 h_S_ (ix2 s p) (ix2 k p) (fun z => ?_)).trans ?_
    · match z with
      | ⟨0, _⟩ => show s.val = 0 + k.val * (0 + 1); omega
      | ⟨1, _⟩ => show p.val = 0 + p.val * (0 + 1); omega
    · rw [val_main_v27_apply]
      have e : idx_main_v27 (ix2 k p) = ix2 p k := funext fun a => by fin_cases a <;> rfl
      rw [e, ref_indices]
  unfold ids
  show _ = if s.val = 0 then BitVec.ofNat 32 (pick (score a w r g wr p) 0).val else if s.val = 1 then BitVec.ofNat 32 (pick (score a w r g wr p) 1).val else 0#32
  by_cases h0 : s.val = 0
  · rw [if_pos h0]; exact hin 0 h0
  · rw [if_neg h0]
    by_cases h1 : s.val = 1
    · rw [if_pos h1]; exact hin 1 h1
    · rw [if_neg h1]
      refine (pad_apply_of_not_inside _ _ _ _ _ pads_S2x32768_S8x32768_060_000 h_S_ (ix2 s p) (⟨0, by decide⟩ : Fin S2x32768.rank) ?_).trans rfl
      rintro ⟨-, -, h⟩
      have h' : (s.val - 0) / (0 + 1) < 2 := h
      omega

theorem ref_4 (hg : ∀ i, Fin' (g i)) (hw : ∀ i, Fin' (wr i)) : val_main_v31 (F := Ideal) a w r g wr = gates a w r g wr 0 := by
  funext i
  obtain ⟨p, q, rfl⟩ : ∃ (p : Fin 32768) (q : Fin 128), i = ix2 p q := ⟨_, _, eq_ix2 i⟩
  rw [val_main_v31_apply, val_main_v30_apply]
  have e : idx_main_v30 (idx_main_v31 (ix2 p q)) = ix2 p (0 : Fin 2) := funext fun a => by fin_cases a <;> rfl
  rw [e]
  exact ref_gate a w r g wr hg hw p 0

theorem ref_5 (hg : ∀ i, Fin' (g i)) (hw : ∀ i, Fin' (wr i)) : val_main_v33 (F := Ideal) a w r g wr = gates a w r g wr 1 := by
  funext i
  obtain ⟨p, q, rfl⟩ : ∃ (p : Fin 32768) (q : Fin 128), i = ix2 p q := ⟨_, _, eq_ix2 i⟩
  rw [val_main_v33_apply, val_main_v32_apply]
  have e : idx_main_v32 (idx_main_v33 (ix2 p q)) = ix2 p (1 : Fin 2) := funext fun a => by fin_cases a <;> rfl
  rw [e]
  exact ref_gate a w r g wr hg hw p 1

end

end Cert.RouterReferenceIdeal.Spec

end
-- ==== Proof.RouterMore.lean ====
/- The router: its precondition decoded, and its five results over the extended reals the reference's. -/
module

public import proofs.«01_k».proof.Defs
public import proofs.«01_k».proof.Proof.Gen.RouterIdeal
public import proofs.«01_k».proof.Proof.Gen.RouterReferenceIdeal
public import proofs.«01_k».proof.Proof.Gen.RouterReferenceIdeal.Run
public import proofs.«01_k».proof.Proof.Gen.Pre_router_finite
public import proofs.«01_k».proof.Proof.RouterRef
public import Idealize.ShloMosaic.Lib.ReduceAll
public import Idealize.ShloMosaic.Lib.Affine
public import Idealize.ShloMosaic.Lib.Quiescent

@[expose] public section

set_option maxRecDepth 16384

noncomputable section

namespace Cert.Proof

open Idealize.ShloMosaic Idealize.ShloMosaic.ValueIdx Idealize.ShloMosaic.TcCoe Idealize.SL Idealize.SL.Sem
open Cert.Router (Fin' fin_of_ne pinf_eq)

/-- A magnitude below infinity: a real number. -/
theorem fin_of_lt {x : EReal} (h : BitVec.ofBool (decide (max x (-x) < ⊤)) = 1#1) : Fin' x := by
  have h' : max x (-x) < ⊤ := by
    by_contra hn
    rw [decide_eq_false hn] at h
    exact absurd h (by decide)
  refine fin_of_ne ?_ ?_
  · rintro rfl
    exact absurd h' (by simp)
  · rintro rfl
    exact absurd h' (by simp)

/-- The precondition: the gain and the router's weights are real numbers. -/
theorem router_fin (a : FVec Ideal Cert.Pre_router_finite.S32768x1024 .bf16) (w : FVec Ideal Cert.Pre_router_finite.S1024x1024 .f32) (r : FVec Ideal Cert.Pre_router_finite.S32768x1024 .f32)
    (g : FVec Ideal Cert.Pre_router_finite.S1x1024 .f32) (e : FVec Ideal Cert.Pre_router_finite.S1024x8 .f32) (h : Cert.Pre_router_finite.fn (F := Ideal) a w r g e = fun _ => 1#1) :
    (∀ i, Fin' (g i)) ∧ ∀ i, Fin' (e i) := by
  have h0 := congrFun h (fun a => a.elim0)
  obtain ⟨h1, h2⟩ := IntOp.andi_eq_one.1 h0
  constructor
  · intro i
    have e := Host.reduce_andi_all _ _ _ _ _ h1 i
    refine fin_of_lt ?_
    rw [← pinf_eq]
    exact e
  · intro i
    have e := Host.reduce_andi_all _ _ _ _ _ h2 i
    refine fin_of_lt ?_
    rw [← pinf_eq]
    exact e

theorem frame_RouterReference : quiescent_RouterReferenceIdeal := fun m ρ _ =>
  (θ_run Cert.RouterReferenceIdeal.defs _ _).mono (fun r hr => ⟨fun c => (hr c).2.2.2.2.2, sem_eq_zero_of_no_sems (by decide) r.2⟩)
    (Cert.RouterReferenceIdeal.Value.run (F := Ideal) m ρ)

theorem frame_RouterReference_pre : quiescent_RouterReferenceIdeal_pre_router_finite := fun m ρ _ =>
  (θ_run Cert.RouterReferenceIdeal.defs _ _).mono (fun r hr => ⟨fun c => (hr c).2.2.2.2.2, sem_eq_zero_of_no_sems (by decide) r.2⟩)
    (Cert.RouterReferenceIdeal.Value.run (F := Ideal) m ρ)

theorem agree_Router : algebraic_RouterIdeal_RouterReferenceIdeal_pre_router_finite := by
  intro m g m' g' hpre hargs
  have hg : ∀ c, ∀ i, Fin' (Cert.RouterIdeal.Value.aG m c i) := fun c => (router_fin _ _ _ _ _ (hpre c)).1
  have hw : ∀ c, ∀ i, Fin' (Cert.RouterIdeal.Value.aE m c i) := fun c => (router_fin _ _ _ _ _ (hpre c)).2
  refine ⟨fun c => Cert.RouterIdeal.Value.hval (Cert.RouterIdeal.Value.aA m c) (Cert.RouterIdeal.Value.aW m c) (Cert.RouterIdeal.Value.aR m c), fun c => Cert.RouterIdeal.Value.xnv (Cert.RouterIdeal.Value.aA m c) (Cert.RouterIdeal.Value.aW m c) (Cert.RouterIdeal.Value.aR m c) (Cert.RouterIdeal.Value.aG m c), fun c => Cert.RouterIdeal.Value.ids (Cert.RouterIdeal.Value.aA m c) (Cert.RouterIdeal.Value.aW m c) (Cert.RouterIdeal.Value.aR m c) (Cert.RouterIdeal.Value.aG m c) (Cert.RouterIdeal.Value.aE m c), fun c => Cert.RouterIdeal.Value.gates (Cert.RouterIdeal.Value.aA m c) (Cert.RouterIdeal.Value.aW m c) (Cert.RouterIdeal.Value.aR m c) (Cert.RouterIdeal.Value.aG m c) (Cert.RouterIdeal.Value.aE m c) 0, fun c => Cert.RouterIdeal.Value.gates (Cert.RouterIdeal.Value.aA m c) (Cert.RouterIdeal.Value.aW m c) (Cert.RouterIdeal.Value.aR m c) (Cert.RouterIdeal.Value.aG m c) (Cert.RouterIdeal.Value.aE m c) 1, ?_, ?_⟩
  · refine (θ_run Cert.RouterIdeal.defs _ _).mono (fun r hr => ?_) (Cert.RouterIdeal.Gen.run_main (F := Ideal) m g)
    intro c
    exact ⟨((hr c).1 5).trans (Cert.RouterIdeal.Value.out_5 m c), ((hr c).1 6).trans (Cert.RouterIdeal.Value.out_6 m c), ((hr c).1 7).trans (Cert.RouterIdeal.Value.out_7 m c (hg c) (hw c)), ((hr c).1 8).trans (Cert.RouterIdeal.Value.out_8 m c (hg c) (hw c)), ((hr c).1 9).trans (Cert.RouterIdeal.Value.out_9 m c (hg c) (hw c)),
      ((hr c).1 0).trans (((Cert.RouterIdeal.Gen.dats m 0 c).arrAt_in 0 rfl _).trans ((Cert.RouterIdeal.Gen.A_eq m c 0).trans (Cert.RouterIdeal.Gen.V_main_arg0 m c))),
      ((hr c).2 Cert.RouterIdeal.main_arg1 (Pipeline.mem_restRefs_of Cert.RouterIdeal.main_arg1 (by decide) (by decide))).trans (Cert.RouterIdeal.Gen.V_main_arg1 m c),
      ((hr c).1 2).trans (((Cert.RouterIdeal.Gen.dats m 0 c).arrAt_in 2 rfl _).trans ((Cert.RouterIdeal.Gen.A_eq m c 2).trans (Cert.RouterIdeal.Gen.V_main_arg2 m c))),
      ((hr c).1 3).trans (((Cert.RouterIdeal.Gen.dats m 0 c).arrAt_in 3 rfl _).trans ((Cert.RouterIdeal.Gen.A_eq m c 3).trans (Cert.RouterIdeal.Gen.V_main_arg3 m c))),
      ((hr c).2 Cert.RouterIdeal.main_arg4 (Pipeline.mem_restRefs_of Cert.RouterIdeal.main_arg4 (by decide) (by decide))).trans (Cert.RouterIdeal.Gen.V_main_arg4 m c)⟩
  · refine (θ_run Cert.RouterReferenceIdeal.defs _ _).mono (fun r hr => ?_) (Cert.RouterReferenceIdeal.Value.run (F := Ideal) m' g')
    intro c
    obtain ⟨h0, h1, h2, h3, h4⟩ := hargs c
    exact ⟨(hr c).1.trans ((Cert.RouterReferenceIdeal.Read.val_main_v2_eq (F := Ideal) (m' ((c.tc : Thread Cert.RouterReferenceIdeal.nD Cert.RouterReferenceIdeal.τ).loc Cert.RouterReferenceIdeal.main_arg0)) (m' ((c.tc : Thread Cert.RouterReferenceIdeal.nD Cert.RouterReferenceIdeal.τ).loc Cert.RouterReferenceIdeal.main_arg1)) (m' ((c.tc : Thread Cert.RouterReferenceIdeal.nD Cert.RouterReferenceIdeal.τ).loc Cert.RouterReferenceIdeal.main_arg2))).trans ((congr (congr (congrArg (Cert.RouterReferenceIdeal.Read.val_main_v2 (F := Ideal)) h0) h1) h2).trans (Cert.RouterReferenceIdeal.Spec.ref_h _ _ _))),
      (hr c).2.1.trans ((Cert.RouterReferenceIdeal.Read.val_main_v29_eq (F := Ideal) (m' ((c.tc : Thread Cert.RouterReferenceIdeal.nD Cert.RouterReferenceIdeal.τ).loc Cert.RouterReferenceIdeal.main_arg0)) (m' ((c.tc : Thread Cert.RouterReferenceIdeal.nD Cert.RouterReferenceIdeal.τ).loc Cert.RouterReferenceIdeal.main_arg1)) (m' ((c.tc : Thread Cert.RouterReferenceIdeal.nD Cert.RouterReferenceIdeal.τ).loc Cert.RouterReferenceIdeal.main_arg2)) (m' ((c.tc : Thread Cert.RouterReferenceIdeal.nD Cert.RouterReferenceIdeal.τ).loc Cert.RouterReferenceIdeal.main_arg3))).trans ((congr (congr (congr (congrArg (Cert.RouterReferenceIdeal.Read.val_main_v29 (F := Ideal)) h0) h1) h2) h3).trans (Cert.RouterReferenceIdeal.Spec.ref_2 _ _ _ _))),
      (hr c).2.2.1.trans ((Cert.RouterReferenceIdeal.Read.val_main_v28_eq (F := Ideal) (m' ((c.tc : Thread Cert.RouterReferenceIdeal.nD Cert.RouterReferenceIdeal.τ).loc Cert.RouterReferenceIdeal.main_arg0)) (m' ((c.tc : Thread Cert.RouterReferenceIdeal.nD Cert.RouterReferenceIdeal.τ).loc Cert.RouterReferenceIdeal.main_arg1)) (m' ((c.tc : Thread Cert.RouterReferenceIdeal.nD Cert.RouterReferenceIdeal.τ).loc Cert.RouterReferenceIdeal.main_arg2)) (m' ((c.tc : Thread Cert.RouterReferenceIdeal.nD Cert.RouterReferenceIdeal.τ).loc Cert.RouterReferenceIdeal.main_arg3)) (m' ((c.tc : Thread Cert.RouterReferenceIdeal.nD Cert.RouterReferenceIdeal.τ).loc Cert.RouterReferenceIdeal.main_arg4))).trans ((congr (congr (congr (congr (congrArg (Cert.RouterReferenceIdeal.Read.val_main_v28 (F := Ideal)) h0) h1) h2) h3) h4).trans (Cert.RouterReferenceIdeal.Spec.ref_3 _ _ _ _ _))),
      (hr c).2.2.2.1.trans ((Cert.RouterReferenceIdeal.Read.val_main_v31_eq (F := Ideal) m' c).trans ((congr (congr (congr (congr (congrArg (Cert.RouterReferenceIdeal.Read.val_main_v31 (F := Ideal)) h0) h1) h2) h3) h4).trans (Cert.RouterReferenceIdeal.Spec.ref_4 _ _ _ _ _ (hg c) (hw c)))),
      (hr c).2.2.2.2.1.trans ((Cert.RouterReferenceIdeal.Read.val_main_v33_eq (F := Ideal) m' c).trans ((congr (congr (congr (congr (congrArg (Cert.RouterReferenceIdeal.Read.val_main_v33 (F := Ideal)) h0) h1) h2) h3) h4).trans (Cert.RouterReferenceIdeal.Spec.ref_5 _ _ _ _ _ (hg c) (hw c)))), (hr c).2.2.2.2.2⟩

end Cert.Proof

end
-- ==== Proof.ForgetSpec.lean ====
/- The forget gate over the extended reals: the two forms of a logit's log-sigmoid agree and are finite above -∞, and a sum
   over a triangle of ones is a running sum. -/
module

public import proofs.«01_k».proof.Proof.RouterSpec

@[expose] public section

noncomputable section

namespace Cert.Forget

open Idealize.ShloMosaic Idealize.ShloMosaic.ValueIdx Cert.Router

/-- The log-sigmoid as the kernel forms it. -/
def ls (y : EReal) : EReal := min y 0 - Ideal.log (1 + Ideal.exp (0 - max y (-y)))

theorem cmax (a b : ℝ) : ((max a b : ℝ) : EReal) = max (a : EReal) (b : EReal) := EReal.coe_strictMono.monotone.map_max
theorem cmin (a b : ℝ) : ((min a b : ℝ) : EReal) = min (a : EReal) (b : EReal) := EReal.coe_strictMono.monotone.map_min

theorem log_fin {x : EReal} (h0 : 0 < x) (h : x ≠ ⊤) : Fin' (Ideal.log x) := by
  induction x with
  | bot => exact absurd h0 (by simp)
  | top => exact absurd rfl h
  | coe r =>
    have hr : 0 < r := by exact_mod_cast h0
    rw [Ideal.log_coe, if_neg (not_le.mpr hr)]
    exact ⟨_, rfl⟩

theorem soft_fin (z : EReal) (h : z ≠ ⊤) : Fin' (Ideal.log (1 + Ideal.exp z)) := by
  induction z with
  | bot => exact log_fin (by simp) (by simp; exact EReal.coe_ne_top 1)
  | top => exact absurd rfl h
  | coe r =>
    have e : (1 : EReal) + Ideal.exp (r : EReal) = ((1 + Real.exp r : ℝ) : EReal) := by rw [Ideal.exp_coe, ← EReal.coe_one, ← EReal.coe_add]
    rw [e]
    refine log_fin ?_ (EReal.coe_ne_top _)
    have : (0 : ℝ) < 1 + Real.exp r := by positivity
    exact_mod_cast this

theorem abs_ne (y : EReal) : (0 : EReal) - max y (-y) ≠ ⊤ := by
  induction y with
  | bot => simp
  | top => simp
  | coe r =>
    rw [← EReal.coe_neg, ← cmax, zero_sub, ← EReal.coe_neg]
    exact EReal.coe_ne_top _

theorem ls_fin {y : EReal} (h : y ≠ ⊥) : Fin' (ls y) := by
  obtain ⟨l, hl⟩ := soft_fin _ (abs_ne y)
  unfold ls
  rw [hl]
  induction y with
  | bot => exact absurd rfl h
  | top => exact ⟨0 - l, by rw [min_eq_right le_top, EReal.coe_sub]; rfl⟩
  | coe r => exact ⟨min r 0 - l, by rw [EReal.coe_sub, cmin]; rfl⟩

/-- The reference's form. -/
theorem ls_ref (y : EReal) : -(max (-y) 0 + Ideal.log (1 + Ideal.exp (-(max (-y - 0) (-(-y - 0)))))) = ls y := by
  have e : (-(max (-y - 0) (-(-y - 0))) : EReal) = 0 - max y (-y) := by rw [sub_zero, neg_neg, zero_sub, max_comm]
  rw [e]
  unfold ls
  obtain ⟨l, hl⟩ := soft_fin _ (abs_ne y)
  rw [hl, EReal.neg_add (.inr (EReal.coe_ne_top _)) (.inr (EReal.coe_ne_bot _))]
  refine congrArg (· - (l : EReal)) ?_
  induction y with
  | bot => simp
  | top => simp
  | coe r =>
    rw [← EReal.coe_neg, ← EReal.coe_zero, ← cmax, ← cmin, ← EReal.coe_neg]
    exact congrArg _ (by have h := max_neg_neg r 0; rw [neg_zero] at h; rw [h, neg_neg])

/-- A running sum. -/
def pre (l : ℕ → EReal) (n : ℕ) : EReal := ∑ k ∈ Finset.range n, l k

theorem pre_add (l : ℕ → EReal) (o n : ℕ) : pre l (o + n) = pre l o + ∑ k ∈ Finset.range n, l (o + k) := Finset.sum_range_add l o n

theorem pre_fin (l : ℕ → EReal) (h : ∀ k, Fin' (l k)) (n : ℕ) : Fin' (pre l n) := fin_sum _ _ h

/-- A row of the triangle of ones against a column. -/
theorem tri_sum {K : ℕ} (t : Fin K → EReal) (x : Fin K → EReal) (l : ℕ → EReal) (p : Fin K) (ht : ∀ k : Fin K, t k = if k.val ≤ p.val then 1 else 0)
    (hx : ∀ k : Fin K, x k = l k.val) : ∑ k : Fin K, t k * x k = ∑ k ∈ Finset.range (p.val + 1), l k := by
  have e : ∀ k : Fin K, t k * x k = (fun n : ℕ => if n ≤ p.val then l n else 0) k.val := fun k => by
    rw [ht, hx]
    dsimp only
    split
    · rw [one_mul]
    · rw [zero_mul]
  rw [Finset.sum_congr rfl fun k _ => e k, Fin.sum_univ_eq_sum_range (fun n : ℕ => if n ≤ p.val then l n else 0) K, ← Finset.sum_filter]
  refine Finset.sum_congr (Finset.ext fun k => ?_) fun _ _ => rfl
  have := p.isLt
  simp only [Finset.mem_filter, Finset.mem_range]
  omega

/-- A sum folded from the left, over a window whose first places are padding. -/
theorem fold_window {N : ℕ} (g : Fin (N + 1) → EReal) (l : ℕ → EReal) (j : ℕ) (hj : j ≤ N) (hg : ∀ n : Fin (N + 1), g n = if N ≤ j + n.val then l (j + n.val - N) else 0) :
    (List.finRange (N + 1)).foldl (fun r n => r + g n) 0 = pre l (j + 1) := by
  have e1 : ∀ (L : List (Fin (N + 1))) (a : EReal), L.foldl (fun r n => r + g n) a = a + (L.map g).sum := by
    intro L
    induction L with
    | nil => intro a; simp
    | cons b L ih => intro a; rw [List.foldl_cons, ih, List.map_cons, List.sum_cons, add_assoc]
  rw [e1, zero_add, ← List.ofFn_eq_map, List.sum_ofFn]
  rw [Finset.sum_congr rfl fun n _ => hg n, Fin.sum_univ_eq_sum_range (fun n : ℕ => if N ≤ j + n then l (j + n - N) else 0) (N + 1)]
  have e2 : N + 1 = (N - j) + (j + 1) := by omega
  rw [e2, Finset.sum_range_add, Finset.sum_eq_zero (fun n hn => if_neg (by have := Finset.mem_range.mp hn; omega)), zero_add]
  refine Finset.sum_congr rfl fun n hn => ?_
  rw [if_pos (by omega)]
  exact congrArg l (by omega)

theorem fold_window' {M N : ℕ} (hM : M = N + 1) (g : Fin M → EReal) (l : ℕ → EReal) (j : ℕ) (hj : j ≤ N) (hg : ∀ n : Fin M, g n = if N ≤ j + n.val then l (j + n.val - N) else 0) :
    (List.finRange M).foldl (fun r n => r + g n) 0 = pre l (j + 1) := by
  subst hM
  exact fold_window g l j hj hg

end Cert.Forget

end
-- ==== Proof.ForgetPay.lean ====
/- One chunk of the forget gate's running sum over the extended reals: the split triangle products are the running sum, and the
   packed parts are the sum in the first sixteen lanes and zero in the rest. -/
module

public import proofs.«01_k».proof.Proof.ForgetSpec
public import proofs.«01_k».proof.Proof.Gen.ForgetIdeal.Value
public import Idealize.ShloMosaic.Lib.Pipeline.Value

@[expose] public section

set_option maxRecDepth 16384

noncomputable section

namespace Cert.Forget

open Cert.ForgetIdeal Cert.ForgetIdeal.Gen Cert.Norm Cert.Router
open Idealize.ShloMosaic Idealize.ShloMosaic.ValueIdx
open Idealize.ShloMosaic.TcCoe

/-- The log-sigmoid of every element. -/
def lsV {s : Shape} (y : FVec Ideal s .f32) : FVec Ideal s .f32 :=
  subf (minimumf y (broadcast s (Scalar.ofBits .f32 0x00000000#32 : Ideal .f32)))
    (log (addf (broadcast s (Scalar.ofBits .f32 0x3F800000#32 : Ideal .f32)) (exp (subf (broadcast s (Scalar.ofBits .f32 0x00000000#32 : Ideal .f32)) (absf y)))))

theorem lsV_apply {s : Shape} (y : FVec Ideal s .f32) (i : s.Idx) : lsV y i = ls (y i) := by
  show min (y i) (Ideal.ofBits .f32 0x00000000#32) - Ideal.log (Ideal.ofBits .f32 0x3F800000#32 + Ideal.exp (Ideal.ofBits .f32 0x00000000#32 - max (y i) (-(y i)))) = _
  rw [Ideal.ofBits_one_f32, Ideal.ofBits_zero_f32]
  rfl

/-- What is left of a value past its first part. -/
def rest {s : Shape} (x : FVec Ideal s .f32) : FVec Ideal s .f32 := subf x (extf .f32 (truncf .bf16 x bitsLt_bf16_f32 : FVec Ideal s .bf16) bitsLt_bf16_f32)

theorem rest_apply {s : Shape} (x : FVec Ideal s .f32) (i : s.Idx) : rest x i = x i - x i := rfl

/-- The three products of a square with the parts of a value. -/
def tri3 {R : ℕ} (t : FVec Ideal ⟨2, ![R, R]⟩ .bf16) (L : FVec Ideal ⟨2, ![R, 128]⟩ .f32) : FVec Ideal ⟨2, ![R, 128]⟩ .f32 :=
  let mm (x : FVec Ideal ⟨2, ![R, 128]⟩ .f32) : FVec Ideal ⟨2, ![R, 128]⟩ .f32 :=
    FloatOps.matmul (DotDims.plain R R 128) none t (truncf .bf16 x bitsLt_bf16_f32 : FVec Ideal ⟨2, ![R, 128]⟩ .bf16) (constant ⟨2, ![R, 128]⟩ .f32 0x00000000#32 : FVec Ideal ⟨2, ![R, 128]⟩ .f32)
  addf (addf (mm L) (mm (rest L))) (mm (rest (rest L)))

theorem tri3_apply {R : ℕ} (t : FVec Ideal ⟨2, ![R, R]⟩ .bf16) (L : FVec Ideal ⟨2, ![R, 128]⟩ .f32) (l : ℕ → EReal) (p : Fin R) (q : Fin 128)
    (ht : ∀ k : Fin R, t (ix2 p k) = if k.val ≤ p.val then 1 else 0) (hl : ∀ k : Fin R, L (ix2 k q) = l k.val) (hf : ∀ k : ℕ, Fin' (l k)) :
    tri3 t L (ix2 p q) = ∑ k ∈ Finset.range (p.val + 1), l k := by
  have mm : ∀ x : FVec Ideal ⟨2, ![R, 128]⟩ .f32, FloatOps.matmul (DotDims.plain R R 128) none t (truncf .bf16 x bitsLt_bf16_f32 : FVec Ideal ⟨2, ![R, 128]⟩ .bf16) (constant ⟨2, ![R, 128]⟩ .f32 0x00000000#32 : FVec Ideal ⟨2, ![R, 128]⟩ .f32) (ix2 p q) = ∑ k : Fin R, t (ix2 p k) * x (ix2 k q) := fun x => by
    refine (Ideal.matmul_plain_apply none t _ _ p q).trans ?_
    rw [show (constant ⟨2, ![R, 128]⟩ .f32 0x00000000#32 : FVec Ideal ⟨2, ![R, 128]⟩ .f32) (ix2 p q) = 0 from Ideal.ofBits_zero_f32, zero_add]
    rfl
  have z1 : ∀ k : Fin R, rest L (ix2 k q) = 0 := fun k => by rw [rest_apply, hl, (hf _).sub_self]
  have z2 : ∀ k : Fin R, rest (rest L) (ix2 k q) = 0 := fun k => by rw [rest_apply, z1, sub_zero]
  refine (congrArg₂ (· + ·) (congrArg₂ (· + ·) (mm L) (mm (rest L))) (mm (rest (rest L)))).trans ?_
  have e1 : ∑ k : Fin R, t (ix2 p k) * rest L (ix2 k q) = 0 := Finset.sum_eq_zero fun k _ => by rw [z1, mul_zero]
  have e2 : ∑ k : Fin R, t (ix2 p k) * rest (rest L) (ix2 k q) = 0 := Finset.sum_eq_zero fun k _ => by rw [z2, mul_zero]
  rw [e1, e2, add_zero, add_zero]
  exact tri_sum (fun k => t (ix2 p k)) (fun k => L (ix2 k q)) l p ht hl

theorem lane_lt : ∀ q : Fin 128, IntOp.cmpi .slt (BitVec.ofNat 32 (0 * 128 + q.val)) 16#32 = if q.val < 16 then 1#1 else 0#1 := by decide +kernel

/-- A value's first sixteen lanes. -/
def lanes16 {R : ℕ} (hi : (⟨2, ![R, 128]⟩ : Shape).Iotas .tc 32 [1]) (x : FVec Ideal ⟨2, ![R, 128]⟩ .f32) : FVec Ideal ⟨2, ![R, 128]⟩ .f32 :=
  select (cmpi .slt (iota .tc ⟨2, ![R, 128]⟩ 32 [1] hi) (broadcast ⟨2, ![R, 128]⟩ 16#32)) x (broadcast ⟨2, ![R, 128]⟩ (Scalar.ofBits .f32 0x00000000#32 : Ideal .f32))

theorem lanes16_apply {R : ℕ} (hi : (⟨2, ![R, 128]⟩ : Shape).Iotas .tc 32 [1]) (x : FVec Ideal ⟨2, ![R, 128]⟩ .f32) (p : Fin R) (q : Fin 128) :
    lanes16 hi x (ix2 p q) = if q.val < 16 then x (ix2 p q) else 0 := by
  show Scalar.select (IntOp.cmpi .slt (BitVec.ofNat 32 (0 * 128 + q.val)) 16#32) (x (ix2 p q)) (Ideal.ofBits .f32 0x00000000#32) = _
  rw [lane_lt, Ideal.ofBits_zero_f32]
  by_cases h : q.val < 16
  · rw [if_pos h, if_pos h]; rfl
  · rw [if_neg h, if_neg h]; rfl

/-- The three parts of a value side by side, sixteen lanes each. -/
def packV {R : ℕ} (hi : (⟨2, ![R, 128]⟩ : Shape).Iotas .tc 32 [1]) (hr : (⟨2, ![R, 128]⟩ : Shape).Rotates 1 none) (f : FVec Ideal ⟨2, ![R, 128]⟩ .f32) : FVec Ideal ⟨2, ![R, 128]⟩ .f32 :=
  addf (addf (lanes16 hi f) (dynamicRotate 1 16#32 none (lanes16 hi (rest f)) hr)) (dynamicRotate 1 32#32 none (lanes16 hi (rest (rest f))) hr)

theorem packV_apply {R : ℕ} (hi : (⟨2, ![R, 128]⟩ : Shape).Iotas .tc 32 [1]) (hr : (⟨2, ![R, 128]⟩ : Shape).Rotates 1 none) (f : FVec Ideal ⟨2, ![R, 128]⟩ .f32)
    (hf : ∀ (p : Fin R) (q : Fin 128), q.val < 16 → Fin' (f (ix2 p q))) (p : Fin R) (q : Fin 128) :
    packV hi hr f (ix2 p q) = if q.val < 16 then f (ix2 p q) else 0 := by
  have z1 : lanes16 hi (rest f) = fun _ => (0 : EReal) := funext fun i => by
    rw [eq_ix2 i]
    refine (lanes16_apply hi _ (i 0) (i 1)).trans ?_
    split
    · next h => exact (rest_apply _ _).trans (hf _ _ h).sub_self
    · rfl
  have z2 : lanes16 hi (rest (rest f)) = fun _ => (0 : EReal) := funext fun i => by
    rw [eq_ix2 i]
    refine (lanes16_apply hi _ (i 0) (i 1)).trans ?_
    split
    · next h =>
      have e : rest f (ix2 (i 0) (i 1)) = 0 := (rest_apply _ _).trans (hf _ _ h).sub_self
      exact (rest_apply _ _).trans (by rw [e, sub_zero])
    · rfl
  unfold packV
  rw [z1, z2]
  show (lanes16 hi f (ix2 p q) + 0) + 0 = _
  rw [add_zero, add_zero, lanes16_apply]

/-- A chunk's sums: the triangle against its log-sigmoids, over what came before. -/
abbrev st (b c : FVec Ideal S1x128 .f32) (t : FVec Ideal S256x256 .bf16) (x : Vec Ideal S1x256x128 .f32) : FVec Ideal S256x128 .f32 := k0_pay65 b c t x

theorem st_eq (b c : FVec Ideal S1x128 .f32) (t : FVec Ideal S256x256 .bf16) (x : Vec Ideal S1x256x128 .f32) :
    st b c t x = addf (tri3 t (lsV (addf (shapeCast S256x128 x shapeCasts_S1x256x128_S256x128) (broadcastTo S256x128 b broadcasts_S1x128_S256x128)))) (broadcastTo S256x128 c broadcasts_S1x128_S256x128) := rfl

/-- A chunk packed. -/
abbrev pk (f : FVec Ideal S256x128 .f32) : FVec Ideal S1x256x128 .bf16 := k0_pay1 f (iota .tc S256x128 32 [1] iota_S256x128_d1_w32)

theorem pk_eq (f : FVec Ideal S256x128 .f32) : pk f = shapeCast S1x256x128 (packV iota_S256x128_d1_w32 rotates_S256x128_d1 f) shapeCasts_S256x128_S1x256x128 := rfl

/-- A chunk's last row. -/
abbrev lastRow (f : FVec Ideal S256x128 .f32) : FVec Ideal S1x128 .f32 := extractStridedSlice S1x128 ![255, 0] f slices_S256x128_o255_0_S1x128

theorem st_apply (b c : FVec Ideal S1x128 .f32) (t : FVec Ideal S256x256 .bf16) (x : Vec Ideal S1x256x128 .f32) (l : ℕ → EReal) (o : ℕ) (p : Fin 256) (q : Fin 128)
    (ht : ∀ p k : Fin 256, t (ix2 p k) = if k.val ≤ p.val then 1 else 0) (hx : ∀ k : Fin 256, ls (x (ix3 (0 : Fin 1) k q) + b (ix2 (0 : Fin 1) q)) = l (o + k.val)) (hf : ∀ k : ℕ, Fin' (l k))
    (hc : c (ix2 (0 : Fin 1) q) = pre l o) : st b c t x (ix2 p q) = pre l (o + p.val + 1) := by
  rw [st_eq]
  refine (congrArg₂ (· + ·) (tri3_apply t _ (fun k => l (o + k)) p q (ht p) (fun k => ?_) (fun k => hf _)) ((broadcastTo_1b_ab_apply c _ p q).trans hc)).trans ?_
  · rw [lsV_apply, ← hx]
    exact congrArg ls (congrArg₂ (· + ·) (shapeCast_1ab_ab_apply x _ k q) (broadcastTo_1b_ab_apply b _ k q))
  · rw [add_assoc o, pre_add, add_comm]

theorem lastRow_apply (f : FVec Ideal S256x128 .f32) (q : Fin 128) : lastRow f (ix2 (0 : Fin 1) q) = f (ix2 (255 : Fin 256) q) :=
  extractStridedSlice_apply ![255, 0] f slices_S256x128_o255_0_S1x128 (ix2 (0 : Fin 1) q) (ix2 (255 : Fin 256) q) (fun a => by
    fin_cases a
    · rfl
    · show q.val = 0 + q.val; omega)

theorem pk_apply (f : FVec Ideal S256x128 .f32) (hf : ∀ (p : Fin 256) (q : Fin 128), q.val < 16 → Fin' (f (ix2 p q))) (p : Fin 256) (q : Fin 128) :
    pk f (ix3 (0 : Fin 1) p q) = if q.val < 16 then f (ix2 p q) else 0 := by
  rw [pk_eq]
  exact (shapeCast_ab_1ab_apply _ _ 0 p q).trans (packV_apply _ _ f hf p q)

section
variable (x0 : Vec Ideal S1x2048x128 .f32) (x1 : Vec Ideal S16x128 .f32) (x2 : Vec Ideal S1x128 .f32) (x3 : Vec Ideal S256x256 .bf16) (x4 : Vec Ideal S16x16 .bf16)

abbrev bias : FVec Ideal S1x128 .f32 := k0_pay2 (View.ld x2 r0_0)
abbrev tri : FVec Ideal S256x256 .bf16 := k0_pay12 (View.ld x3 r0_3)
abbrev meta16 : FVec Ideal S16x128 .f32 := k0_pay3 (View.ld x2 r0_0) (View.ld x4 r0_1) (View.ld x1 r0_2)
def c0 : FVec Ideal S256x128 .f32 := st (bias x2) (k0_pay11 (meta16 x1 x2 x4)) (tri x3) (View.ld x0 r0_4)
def c1 : FVec Ideal S256x128 .f32 := st (bias x2) (lastRow (c0 x0 x1 x2 x3 x4)) (tri x3) (View.ld x0 r0_5)
def c2 : FVec Ideal S256x128 .f32 := st (bias x2) (lastRow (c1 x0 x1 x2 x3 x4)) (tri x3) (View.ld x0 r0_6)
def c3 : FVec Ideal S256x128 .f32 := st (bias x2) (lastRow (c2 x0 x1 x2 x3 x4)) (tri x3) (View.ld x0 r0_7)
def c4 : FVec Ideal S256x128 .f32 := st (bias x2) (lastRow (c3 x0 x1 x2 x3 x4)) (tri x3) (View.ld x0 r0_8)
def c5 : FVec Ideal S256x128 .f32 := st (bias x2) (lastRow (c4 x0 x1 x2 x3 x4)) (tri x3) (View.ld x0 r0_9)
def c6 : FVec Ideal S256x128 .f32 := st (bias x2) (lastRow (c5 x0 x1 x2 x3 x4)) (tri x3) (View.ld x0 r0_10)
def c7 : FVec Ideal S256x128 .f32 := st (bias x2) (lastRow (c6 x0 x1 x2 x3 x4)) (tri x3) (View.ld x0 r0_11)

theorem out5_eq : out0_5 x0 x1 x2 x3 x4 = View.canon [⟨r0_11, pk (c7 x0 x1 x2 x3 x4)⟩, ⟨r0_10, pk (c6 x0 x1 x2 x3 x4)⟩, ⟨r0_9, pk (c5 x0 x1 x2 x3 x4)⟩, ⟨r0_8, pk (c4 x0 x1 x2 x3 x4)⟩,
    ⟨r0_7, pk (c3 x0 x1 x2 x3 x4)⟩, ⟨r0_6, pk (c2 x0 x1 x2 x3 x4)⟩, ⟨r0_5, pk (c1 x0 x1 x2 x3 x4)⟩, ⟨r0_4, pk (c0 x0 x1 x2 x3 x4)⟩] := rfl

theorem out6_eq : out0_6 x0 x1 x2 x3 x4 = View.canon [⟨r0_2, packV iota_S16x128_d1_w32 rotates_S16x128_d1 (meta16 x1 x2 x4)⟩] := rfl

theorem meta_eq : meta16 x1 x2 x4 = tri3 (shapeCast S16x16 (View.ld x4 r0_1) shapeCasts_S16x16_S16x16) (lsV (addf (View.ld x1 r0_2) (broadcastTo S16x128 (bias x2) broadcasts_S1x128_S16x128))) := rfl

end

end Cert.Forget

end
-- ==== Proof.Forget.lean ====
/- The forget gate's running sums over the extended reals: each chunk carries on from the one before, and the two results are the
   sums past the sixteen meta rows and the meta rows' own. -/
module

public import proofs.«01_k».proof.Proof.ForgetPay
public import Idealize.ShloMosaic.Lib.Pipeline.ValueKit.Tiles
public import Idealize.ShloMosaic.Lib.Routing.OpsPair
public import Idealize.ShloMosaic.Lib.Routing.OpsSet

@[expose] public section

set_option maxRecDepth 16384

noncomputable section

namespace Cert.Forget

open Cert.ForgetIdeal Cert.ForgetIdeal.Gen Cert.Norm Cert.Router
open Idealize.ShloMosaic Idealize.ShloMosaic.ValueIdx
open Idealize.ShloMosaic.TcCoe

section
variable (x0 : Vec Ideal S1x2048x128 .f32) (x1 : Vec Ideal S16x128 .f32) (x2 : Vec Ideal S1x128 .f32) (x3 : Vec Ideal S256x256 .bf16) (x4 : Vec Ideal S16x16 .bf16)

theorem bias_apply (q : Fin 128) : bias x2 (ix2 (0 : Fin 1) q) = x2 (ix2 (0 : Fin 1) q) := by
  refine (congrFun (shapeCast_self (View.ld x2 r0_0 : FVec Ideal S1x128 .f32) shapeCasts_S1x128_S1x128) _).trans ?_
  exact View.ld_unit_apply_of x2 _ _ _ _ _ (fun a => by fin_cases a <;> exact (Nat.zero_add _).symm)

theorem tri_apply (p k : Fin 256) : tri x3 (ix2 p k) = x3 (ix2 p k) := by
  refine (congrFun (shapeCast_self (View.ld x3 r0_3 : FVec Ideal S256x256 .bf16) shapeCasts_S256x256_S256x256) _).trans ?_
  exact View.ld_unit_apply_of x3 _ _ _ _ _ (fun a => by fin_cases a <;> exact (Nat.zero_add _).symm)

theorem chunk_apply (o : ℕ) (ho : o + 256 ≤ 2048) (inb : ∀ a, (![0, o, 0] : Fin 3 → ℕ) a + S1x256x128.size a ≤ S1x2048x128.size a) (k : Fin 256) (q : Fin 128) :
    (View.ld x0 (Rect.unit (s := S1x2048x128) ![0, o, 0] S1x256x128.size inb) : Vec Ideal S1x256x128 .f32) (ix3 (0 : Fin 1) k q) = x0 (ix3 (0 : Fin 1) (⟨o + k.val, by have := k.isLt; omega⟩ : Fin 2048) q) :=
  View.ld_unit_apply_of x0 _ _ _ _ _ (fun a => by
    fin_cases a
    · rfl
    · rfl
    · exact (Nat.zero_add _).symm)

/-- What the blocks hold, a lane's sequence of log-sigmoids named. -/
structure Holds (l : Fin 128 → ℕ → EReal) : Prop where
  t3 : ∀ p k : Fin 256, x3 (ix2 p k) = if k.val ≤ p.val then 1 else 0
  t4 : ∀ p k : Fin 16, x4 (ix2 p k) = if k.val ≤ p.val then 1 else 0
  h1 : ∀ (k : Fin 16) (q : Fin 128), ls (x1 (ix2 k q) + x2 (ix2 (0 : Fin 1) q)) = l q k.val
  h0 : ∀ (k : Fin 2048) (q : Fin 128), ls (x0 (ix3 (0 : Fin 1) k q) + x2 (ix2 (0 : Fin 1) q)) = l q (16 + k.val)
  fin : ∀ (q : Fin 128), q.val < 16 → ∀ k : ℕ, Fin' (l q k)

variable {x0 x1 x2 x3 x4} {l : Fin 128 → ℕ → EReal} (H : Holds x0 x1 x2 x3 x4 l)
include H

theorem meta_apply (p : Fin 16) (q : Fin 128) (hq : q.val < 16) : meta16 x1 x2 x4 (ix2 p q) = pre (l q) (p.val + 1) := by
  rw [meta_eq]
  refine tri3_apply _ _ (l q) p q (fun k => ?_) (fun k => ?_) (H.fin q hq)
  · refine (congrFun (shapeCast_self (View.ld x4 r0_1 : FVec Ideal S16x16 .bf16) shapeCasts_S16x16_S16x16) _).trans ?_
    refine Eq.trans ?_ (H.t4 p k)
    exact View.ld_unit_apply_of x4 _ _ _ _ _ (fun a => by fin_cases a <;> exact (Nat.zero_add _).symm)
  · rw [lsV_apply, ← H.h1]
    refine congrArg ls (congrArg₂ (· + ·) ?_ ((broadcastTo_1b_ab_apply (bias x2) _ k q).trans (bias_apply x2 q)))
    exact View.ld_unit_apply_of x1 _ _ _ _ _ (fun a => by fin_cases a <;> exact (Nat.zero_add _).symm)

theorem step_apply (c : FVec Ideal S1x128 .f32) (o : ℕ) (ho : o + 256 ≤ 2048) (inb : ∀ a, (![0, o, 0] : Fin 3 → ℕ) a + S1x256x128.size a ≤ S1x2048x128.size a) (p : Fin 256) (q : Fin 128) (hq : q.val < 16)
    (hc : c (ix2 (0 : Fin 1) q) = pre (l q) (16 + o)) : st (bias x2) c (tri x3) (View.ld x0 (Rect.unit (s := S1x2048x128) ![0, o, 0] S1x256x128.size inb)) (ix2 p q) = pre (l q) (16 + o + p.val + 1) := by
  refine st_apply _ _ _ _ (l q) (16 + o) p q (fun p k => (tri_apply x3 p k).trans (H.t3 p k)) (fun k => ?_) (H.fin q hq) hc
  rw [bias_apply]
  refine (congrArg (fun z => ls (z + x2 (ix2 (0 : Fin 1) q))) (chunk_apply x0 o ho inb k q)).trans ?_
  refine (H.h0 _ q).trans (congrArg (l q) ?_)
  show 16 + (o + k.val) = 16 + o + k.val
  omega

theorem c0_apply (p : Fin 256) (q : Fin 128) (hq : q.val < 16) : c0 x0 x1 x2 x3 x4 (ix2 p q) = pre (l q) (16 + 0 + p.val + 1) := by
  refine step_apply H _ 0 (by omega) _ p q hq ?_
  refine Eq.trans ?_ (meta_apply H 15 q hq)
  unfold k0_pay11
  exact extractStridedSlice_apply ![15, 0] _ slices_S16x128_o15_0_S1x128 (ix2 (0 : Fin 1) q) (ix2 (15 : Fin 16) q) (fun a => by
    fin_cases a
    · rfl
    · show q.val = 0 + q.val; omega)

theorem c1_apply (p : Fin 256) (q : Fin 128) (hq : q.val < 16) : c1 x0 x1 x2 x3 x4 (ix2 p q) = pre (l q) (16 + 256 + p.val + 1) :=
  step_apply H _ 256 (by omega) _ p q hq ((lastRow_apply _ q).trans (c0_apply H 255 q hq))
theorem c2_apply (p : Fin 256) (q : Fin 128) (hq : q.val < 16) : c2 x0 x1 x2 x3 x4 (ix2 p q) = pre (l q) (16 + 512 + p.val + 1) :=
  step_apply H _ 512 (by omega) _ p q hq ((lastRow_apply _ q).trans (c1_apply H 255 q hq))
theorem c3_apply (p : Fin 256) (q : Fin 128) (hq : q.val < 16) : c3 x0 x1 x2 x3 x4 (ix2 p q) = pre (l q) (16 + 768 + p.val + 1) :=
  step_apply H _ 768 (by omega) _ p q hq ((lastRow_apply _ q).trans (c2_apply H 255 q hq))
theorem c4_apply (p : Fin 256) (q : Fin 128) (hq : q.val < 16) : c4 x0 x1 x2 x3 x4 (ix2 p q) = pre (l q) (16 + 1024 + p.val + 1) :=
  step_apply H _ 1024 (by omega) _ p q hq ((lastRow_apply _ q).trans (c3_apply H 255 q hq))
theorem c5_apply (p : Fin 256) (q : Fin 128) (hq : q.val < 16) : c5 x0 x1 x2 x3 x4 (ix2 p q) = pre (l q) (16 + 1280 + p.val + 1) :=
  step_apply H _ 1280 (by omega) _ p q hq ((lastRow_apply _ q).trans (c4_apply H 255 q hq))
theorem c6_apply (p : Fin 256) (q : Fin 128) (hq : q.val < 16) : c6 x0 x1 x2 x3 x4 (ix2 p q) = pre (l q) (16 + 1536 + p.val + 1) :=
  step_apply H _ 1536 (by omega) _ p q hq ((lastRow_apply _ q).trans (c5_apply H 255 q hq))
theorem c7_apply (p : Fin 256) (q : Fin 128) (hq : q.val < 16) : c7 x0 x1 x2 x3 x4 (ix2 p q) = pre (l q) (16 + 1792 + p.val + 1) :=
  step_apply H _ 1792 (by omega) _ p q hq ((lastRow_apply _ q).trans (c6_apply H 255 q hq))

omit H in
/-- A packed chunk, where it holds a place of the block. -/
theorem tile (f : FVec Ideal S256x128 .f32) (o : ℕ) (hfin : ∀ (q : Fin 128), q.val < 16 → ∀ k : ℕ, Fin' (l q k)) (hf : ∀ (p : Fin 256) (q : Fin 128), q.val < 16 → f (ix2 p q) = pre (l q) (16 + o + p.val + 1)) (P : Fin 2048) (q : Fin 128) :
    View.TileAt (Val := Elt Ideal) (S := S1x2048x128) (e := .bf16) (ix3 (0 : Fin 1) P q) ![0, o, 0] S1x256x128.size (pk f) (if q.val < 16 then pre (l q) (16 + P.val + 1) else 0 : EReal) := by
  intro x hx
  have e0 : (x 0) = (0 : Fin 1) := Subsingleton.elim (α := Fin 1) _ _
  have e1 : P.val = o + (x 1).val := hx 1
  have e2 : q = x 2 := Fin.ext ((hx 2).trans (Nat.zero_add _))
  have ex : x = ix3 (0 : Fin 1) (x 1 : Fin 256) (x 2 : Fin 128) := (eq_ix3 x).trans (by rw [e0]; rfl)
  rw [ex]
  refine (pk_apply f (fun p q h => by rw [hf p q h]; exact pre_fin _ (hfin q h) _) (x 1) (x 2)).trans ?_
  rw [e2]
  split
  · next h =>
    exact (hf (x 1) (x 2) h).trans (congrArg (pre (l (x 2))) (by rw [e1, ← Nat.add_assoc]))
  · rfl

theorem block5 (P : Fin 2048) (q : Fin 128) : out0_5 x0 x1 x2 x3 x4 (ix3 (0 : Fin 1) P q) = (if q.val < 16 then pre (l q) (16 + P.val + 1) else 0 : EReal) := by
  rw [out5_eq]
  refine View.canon_eq_of_allAt _ _ _ (cover0_5 _ _ _ _ _ _ _ _ _) ?_
  refine View.allAt_cons_unit _ _ _ _ _ (tile _ 1792 H.fin (c7_apply H) P q) ?_
  refine View.allAt_cons_unit _ _ _ _ _ (tile _ 1536 H.fin (c6_apply H) P q) ?_
  refine View.allAt_cons_unit _ _ _ _ _ (tile _ 1280 H.fin (c5_apply H) P q) ?_
  refine View.allAt_cons_unit _ _ _ _ _ (tile _ 1024 H.fin (c4_apply H) P q) ?_
  refine View.allAt_cons_unit _ _ _ _ _ (tile _ 768 H.fin (c3_apply H) P q) ?_
  refine View.allAt_cons_unit _ _ _ _ _ (tile _ 512 H.fin (c2_apply H) P q) ?_
  refine View.allAt_cons_unit _ _ _ _ _ (tile _ 256 H.fin (c1_apply H) P q) ?_
  exact View.allAt_cons_unit _ _ _ _ _ (tile _ 0 H.fin (c0_apply H) P q) (View.allAt_nil _ _)

theorem block6 (p : Fin 16) (q : Fin 128) : out0_6 x0 x1 x2 x3 x4 (ix2 p q) = (if q.val < 16 then pre (l q) (p.val + 1) else 0 : EReal) := by
  rw [out6_eq]
  refine View.canon_eq_of_allAt _ _ _ (cover0_6 _ _) ?_
  refine View.allAt_cons_unit _ _ _ _ _ (fun x hx => ?_) (View.allAt_nil _ _)
  have ex : x = ix2 p q := funext fun a => Fin.ext (by
    refine Eq.trans ?_ (hx a).symm
    fin_cases a <;> exact (Nat.zero_add _).symm)
  rw [ex]
  refine (packV_apply _ _ _ (fun p q h => by rw [meta_apply H p q h]; exact pre_fin _ (H.fin q h) _) p q).trans ?_
  split
  · next h => exact meta_apply H p q h
  · rfl

end

end Cert.Forget

end
-- ==== Proof.ForgetOut.lean ====
/- The forget gate's two results, over the extended reals, from the arguments: the padded bias, the triangles of ones, and the
   arrays the sixteen points leave. -/
module

public import proofs.«01_k».proof.Proof.Forget

@[expose] public section

set_option maxRecDepth 16384

noncomputable section

namespace Cert.ForgetIdeal.Value

open Cert.ForgetIdeal Cert.ForgetIdeal.Gen Cert.Norm Cert.Router Cert.Forget
open Idealize.ShloMosaic Idealize.ShloMosaic.ValueIdx
open Idealize.ShloMosaic.TcCoe
open Idealize.ShloMosaic.Pipeline (Dat Cfg Window)
open Idealize.SL Idealize.SL.RA Idealize.SL.Sem

/-- The bias at a lane, zero past the heads. -/
def bq (a2 : S16.Idx → EReal) (q : Fin 128) : EReal := if h : q.val < 16 then a2 (ix1 (⟨q.val, h⟩ : Fin 16)) else 0

/-- A sequence's log-sigmoids in one lane: the meta rows', then its own. -/
def seq (a0 : S32768x128.Idx → EReal) (a1 : S16x128.Idx → EReal) (a2 : S16.Idx → EReal) (w : Fin 16) (q : Fin 128) (n : ℕ) : EReal :=
  if h : n < 16 then ls (a1 (ix2 (⟨n, h⟩ : Fin 16) q) + bq a2 q)
  else if h : n < 2064 then ls (a0 (ix2 (⟨2048 * w.val + (n - 16), by have := w.isLt; omega⟩ : Fin 32768) q) + bq a2 q) else 0

/-- The logits are above -∞. -/
structure Above (a0 : S32768x128.Idx → EReal) (a1 : S16x128.Idx → EReal) (a2 : S16.Idx → EReal) : Prop where
  h0 : ∀ (r : Fin 32768) (q : Fin 16), a0 (ix2 r (⟨q.val, by have := q.isLt; omega⟩ : Fin 128)) + a2 (ix1 q) ≠ ⊥
  h1 : ∀ (r : Fin 16) (q : Fin 16), a1 (ix2 r (⟨q.val, by have := q.isLt; omega⟩ : Fin 128)) + a2 (ix1 q) ≠ ⊥

theorem seq_fin {a0 : S32768x128.Idx → EReal} {a1 : S16x128.Idx → EReal} {a2 : S16.Idx → EReal} (h : Above a0 a1 a2) (w : Fin 16) (q : Fin 128) (hq : q.val < 16) (n : ℕ) : Fin' (seq a0 a1 a2 w q n) := by
  unfold seq bq
  rw [dif_pos hq]
  split
  · exact ls_fin (h.h1 _ ⟨q.val, hq⟩)
  · split
    · exact ls_fin (h.h0 _ ⟨q.val, hq⟩)
    · exact fin_zero

def res0 (a0 : S32768x128.Idx → EReal) (a1 : S16x128.Idx → EReal) (a2 : S16.Idx → EReal) : S16x2048x128.Idx → EReal :=
  fun i => if (i 2).val < 16 then pre (seq a0 a1 a2 (i 0) (i 2)) (16 + (i 1).val + 1) else 0

def res1 (a0 : S32768x128.Idx → EReal) (a1 : S16x128.Idx → EReal) (a2 : S16.Idx → EReal) : S16x128.Idx → EReal :=
  fun i => if (i 1).val < 16 then pre (seq a0 a1 a2 0 (i 1)) ((i 0).val + 1) else 0

/-- The meta rows' sums are the same in every sequence. -/
theorem pre_meta (a0 : S32768x128.Idx → EReal) (a1 : S16x128.Idx → EReal) (a2 : S16.Idx → EReal) (w w' : Fin 16) (q : Fin 128) (p : Fin 16) :
    pre (seq a0 a1 a2 w q) (p.val + 1) = pre (seq a0 a1 a2 w' q) (p.val + 1) := by
  refine Finset.sum_congr rfl fun k hk => ?_
  have h1 := Finset.mem_range.mp hk
  have h2 := p.isLt
  have h : k < 16 := by omega
  unfold seq
  rw [dif_pos h, dif_pos h]

theorem sge_eq : ∀ p k : Fin 256, IntOp.cmpi .sge (BitVec.ofNat 32 p.val) (BitVec.ofNat 32 k.val) = if k.val ≤ p.val then 1#1 else 0#1 := by decide +kernel

theorem one_zero (b : Prop) [Decidable b] (x : BitVec 1) (h : x = if b then 1#1 else 0#1) : (FloatOps.uitofp .bf16 x : Ideal .bf16) = (if b then 1 else 0 : EReal) := by
  subst h
  by_cases hb : b
  · rw [if_pos hb, if_pos hb]; show (((1#1 : BitVec 1).toNat : ℝ) : EReal) = 1; simp
  · rw [if_neg hb, if_neg hb]; show (((0#1 : BitVec 1).toNat : ℝ) : EReal) = 0; simp

section
variable (m : (ℓ : Loc nD τ sig) → Buf (Elt Ideal) ℓ) (c : Dev nD)

abbrev aL : S32768x128.Idx → EReal := m ((c.tc : Thread nD τ).loc main_arg0)
abbrev aM : S16x128.Idx → EReal := m ((c.tc : Thread nD τ).loc main_arg1)
abbrev aB : S16.Idx → EReal := m ((c.tc : Thread nD τ).loc main_arg2)

theorem V_v5 : V m c main_v5 = (shapeCast S16x2048x128 (aL m c) shapeCasts_S32768x128_S16x2048x128 : S16x2048x128.Idx → EReal) := by
  unfold V hostOps0
  simp only [StableHlo.TRef.unary, StableHlo.TRef.binary, StableHlo.TRef.nullary, StableHlo.TRef.ternary, StableHlo.TRef.toBuf, StableHlo.TRef.ofBuf, cast_eq]
  after_results
  rfl

abbrev idx2 : IVec S2 32 := concatenate S2 0 [⟨S1, broadcastInDim S1 ![] bcast_S_S1 (constantI S_ 32 0#32)⟩, ⟨S1, broadcastInDim S1 ![] bcast_S_S1 (constantI S_ 32 0#32)⟩] concatenates_S1_S1_S2_d0

theorem idx2_eq : idx2 = fun _ => 0#32 := by
  funext i
  rw [eq_ix1 i]
  generalize i 0 = z
  fin_cases z
  · exact (concatenate_pair_apply_left (t := S2) (s₁ := S1) (s₂ := S1) 0 _ _ _ (ix1 (0 : Fin 2)) rfl (ix1 (0 : Fin 1)) (fun b => by fin_cases b; rfl)).trans rfl
  · exact (concatenate_pair_apply_right (t := S2) (s₁ := S1) (s₂ := S1) 0 _ _ _ (ix1 (1 : Fin 2)) rfl rfl (ix1 (0 : Fin 1)) (fun b hb => by fin_cases b; exact absurd rfl hb) rfl).trans rfl

theorem V_v4 : V m c main_v4 = (Host.scatter scatter_S1x128_S2_S16_0_0_01_0 (fun _ b => b) (broadcastInDim S1x128 ![] bcast_S_S1x128 (constant S_ .f32 0x00000000#32 : FVec Ideal S_ .f32)) idx2 (aB m c : FVec Ideal S16 .f32) : FVec Ideal S1x128 .f32) := by
  unfold V hostOps0
  simp only [StableHlo.TRef.unary, StableHlo.TRef.binary, StableHlo.TRef.nullary, StableHlo.TRef.ternary, StableHlo.TRef.toBuf, StableHlo.TRef.ofBuf, cast_eq]
  after_results

theorem scatter_lands (p : Fin 16) (r : Fin 1) (s : Fin 128) :
    scatter_S1x128_S2_S16_0_0_01_0.resultIdx? (ix1 p) (fun _ => 0#32 : IVec S2 32) = some (ix2 r s) ↔ p.val = s.val := by
  refine (Routing.resultIdx?_ix2 scatter_S1x128_S2_S16_0_0_01_0 (ix1 p) (fun _ => 0#32 : IVec S2 32) r s).trans ?_
  have w0 : scatter_S1x128_S2_S16_0_0_01_0.window (ix1 p) 0 = 0 := rfl
  have w1 : scatter_S1x128_S2_S16_0_0_01_0.window (ix1 p) 1 = p.val := rfl
  have s0 : scatter_S1x128_S2_S16_0_0_01_0.start (ix1 p) (fun _ => 0#32 : IVec S2 32) 0 = 0 := rfl
  have s1 : scatter_S1x128_S2_S16_0_0_01_0.start (ix1 p) (fun _ => 0#32 : IVec S2 32) 1 = 0 := rfl
  rw [w0, w1, s0, s1]
  have := r.isLt
  omega

theorem bias_row (q : Fin 128) : V m c main_v4 (ix2 (0 : Fin 1) q) = bq (aB m c) q := by
  rw [V_v4, idx2_eq]
  unfold bq
  by_cases h : q.val < 16
  · rw [dif_pos h]
    refine Routing.scatter_set_hit scatter_S1x128_S2_S16_0_0_01_0 _ _ _ (ix2 (0 : Fin 1) q) _ (fun j hj => ?_) (ix1 (⟨q.val, h⟩ : Fin 16)) ((scatter_lands _ _ _).mpr rfl)
    obtain ⟨p, rfl⟩ : ∃ p : Fin 16, j = ix1 p := ⟨_, eq_ix1 j⟩
    exact congrArg (fun z => aB m c (ix1 z)) (Fin.ext ((scatter_lands _ _ _).mp hj) : p = ⟨q.val, h⟩)
  · rw [dif_neg h]
    refine (Routing.scatter_set_miss scatter_S1x128_S2_S16_0_0_01_0 _ _ _ (ix2 (0 : Fin 1) q) (fun j hj => ?_)).trans ?_
    · obtain ⟨p, rfl⟩ : ∃ p : Fin 16, j = ix1 p := ⟨_, eq_ix1 j⟩
      have e := (scatter_lands _ _ _).mp hj
      have := p.isLt
      omega
    · exact (broadcastInDim_apply _ bcast_S_S1x128 _ (ix2 (0 : Fin 1) q) (fun a => a.elim0) (fun a => a.elim0)).trans Ideal.ofBits_zero_f32

theorem V_v13 (p k : Fin 256) : V m c main_v13 (ix2 p k) = (if k.val ≤ p.val then 1 else 0 : EReal) := by
  have e : V m c main_v13 = (uitofp .bf16 (cmpi .sge (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0)))) : FVec Ideal S256x256 .bf16) := by
    unfold V hostOps0
    simp only [StableHlo.TRef.unary, StableHlo.TRef.binary, StableHlo.TRef.nullary, StableHlo.TRef.ternary, StableHlo.TRef.toBuf, StableHlo.TRef.ofBuf, cast_eq]
    after_results
  rw [e]
  exact one_zero _ _ (sge_eq p k)

theorem V_v21 (p k : Fin 16) : V m c main_v21 (ix2 p k) = (if k.val ≤ p.val then 1 else 0 : EReal) := by
  have e : V m c main_v21 = (uitofp .bf16 (cmpi .sge (broadcastInDim S16x16 ![0, 1] bcast_S16x1_S16x16_0_1 (broadcastInDim S16x1 ![0] bcast_S16_S16x1_0 (iotaInDim S16 32 0))) (broadcastInDim S16x16 ![0, 1] bcast_S1x16_S16x16_0_1 (broadcastInDim S1x16 ![1] bcast_S16_S1x16_1 (iotaInDim S16 32 0)))) : FVec Ideal S16x16 .bf16) := by
    unfold V hostOps0
    simp only [StableHlo.TRef.unary, StableHlo.TRef.binary, StableHlo.TRef.nullary, StableHlo.TRef.ternary, StableHlo.TRef.toBuf, StableHlo.TRef.ofBuf, cast_eq]
    after_results
  rw [e]
  exact one_zero _ _ (sge_eq ⟨p.val, by have := p.isLt; omega⟩ ⟨k.val, by have := k.isLt; omega⟩)

theorem index_0 : ∀ t : Fin cfg0.N, (cfg0.win 0).index t = ![t.val, 0, 0] := by decide +kernel
theorem index_1 : ∀ t : Fin cfg0.N, (cfg0.win 1).index t = ![0, 0] := by decide +kernel
theorem index_2 : ∀ t : Fin cfg0.N, (cfg0.win 2).index t = ![0, 0] := by decide +kernel
theorem index_3 : ∀ t : Fin cfg0.N, (cfg0.win 3).index t = ![0, 0] := by decide +kernel
theorem index_4 : ∀ t : Fin cfg0.N, (cfg0.win 4).index t = ![0, 0] := by decide +kernel
theorem index_5 : ∀ t : Fin cfg0.N, (cfg0.win 5).index t = ![t.val, 0, 0] := by decide +kernel
theorem index_6 : ∀ t : Fin cfg0.N, (cfg0.win 6).index t = ![0, 0] := by decide +kernel

/-- A point's sequence. -/
abbrev sq (t : Fin cfg0.N) : Fin 16 := ⟨t.val, lt_of_lt_of_eq t.isLt N_0⟩

theorem iblk_0 (t : Fin cfg0.N) (k : Fin 2048) (q : Fin 128) : iblk m c 0 t (ix3 (0 : Fin 1) k q) = aL m c (ix2 (⟨2048 * t.val + k.val, by have h := (sq t).isLt; have h' : t.val < 16 := h; have := k.isLt; omega⟩ : Fin 32768) q) := by
  refine (congrFun (V_v5 m c) _).trans ?_
  have e : (((cfg0.win 0).rect t).emb (ix3 (0 : Fin 1) k q) : S16x2048x128.Idx) = ix3 (sq t) k q := funext fun z => Fin.ext (by
    refine (Window.rect_emb_val (cfg0.win 0) t (ix3 (0 : Fin 1) k q) z).trans ?_
    rw [index_0]
    fin_cases z
    · show t.val * 1 + 0 = t.val; omega
    · show 0 * 2048 + k.val = k.val; omega
    · show 0 * 128 + q.val = q.val; omega)
  refine (congrArg (shapeCast S16x2048x128 (aL m c) shapeCasts_S32768x128_S16x2048x128) e).trans ?_
  refine shapeCast_apply (aL m c) shapeCasts_S32768x128_S16x2048x128 _ _ ?_
  rw [Shape.rowMajor_val_three, Shape.rowMajor_val_two]
  show (2048 * t.val + k.val) * 128 + q.val = (t.val * 2048 + k.val) * 128 + q.val
  ring

theorem iblk_1 (t : Fin cfg0.N) (k : Fin 16) (q : Fin 128) : iblk m c 1 t (ix2 k q) = aM m c (ix2 k q) := by
  refine (congrFun (V_main_arg1 m c) _).trans (congrArg (aM m c) (funext fun z => Fin.ext ?_))
  refine (Window.rect_emb_val (cfg0.win 1) t (ix2 k q) z).trans ?_
  rw [index_1]
  fin_cases z
  · show 0 * 16 + k.val = k.val; omega
  · show 0 * 128 + q.val = q.val; omega

theorem iblk_2 (t : Fin cfg0.N) (q : Fin 128) : iblk m c 2 t (ix2 (0 : Fin 1) q) = bq (aB m c) q := by
  refine Eq.trans (congrArg (V m c main_v4) (funext fun z => Fin.ext ?_)) (bias_row m c q)
  refine (Window.rect_emb_val (cfg0.win 2) t (ix2 (0 : Fin 1) q) z).trans ?_
  rw [index_2]
  fin_cases z
  · rfl
  · show 0 * 128 + q.val = q.val; omega

theorem iblk_3 (t : Fin cfg0.N) (p k : Fin 256) : iblk m c 3 t (ix2 p k) = (if k.val ≤ p.val then 1 else 0 : EReal) := by
  refine Eq.trans (congrArg (V m c main_v13) (funext fun z => Fin.ext ?_)) (V_v13 m c p k)
  refine (Window.rect_emb_val (cfg0.win 3) t (ix2 p k) z).trans ?_
  rw [index_3]
  fin_cases z
  · show 0 * 256 + p.val = p.val; omega
  · show 0 * 256 + k.val = k.val; omega

theorem iblk_4 (t : Fin cfg0.N) (p k : Fin 16) : iblk m c 4 t (ix2 p k) = (if k.val ≤ p.val then 1 else 0 : EReal) := by
  refine Eq.trans (congrArg (V m c main_v21) (funext fun z => Fin.ext ?_)) (V_v21 m c p k)
  refine (Window.rect_emb_val (cfg0.win 4) t (ix2 p k) z).trans ?_
  rw [index_4]
  fin_cases z
  · show 0 * 16 + p.val = p.val; omega
  · show 0 * 16 + k.val = k.val; omega

variable (h : Above (aL m c) (aM m c) (aB m c))
include h

theorem holds (t : Fin cfg0.N) : Holds (iblk m c 0 t) (iblk m c 1 t) (iblk m c 2 t) (iblk m c 3 t) (iblk m c 4 t) (seq (aL m c) (aM m c) (aB m c) (sq t)) where
  t3 := iblk_3 m c t
  t4 := iblk_4 m c t
  h1 k q := by
    refine (congrArg₂ (fun x y : EReal => ls (x + y)) (iblk_1 m c t k q) (iblk_2 m c t q)).trans ?_
    unfold seq
    rw [dif_pos k.isLt]
  h0 k q := by
    refine (congrArg₂ (fun x y : EReal => ls (x + y)) (iblk_0 m c t k q) (iblk_2 m c t q)).trans ?_
    unfold seq
    have h1 : ¬ 16 + k.val < 16 := by omega
    have h2 : 16 + k.val < 2064 := by have := k.isLt; omega
    rw [dif_neg h1, dif_pos h2]
    refine congrArg (fun z => ls (aL m c (ix2 z q) + bq (aB m c) q)) (Fin.ext ?_)
    show 2048 * t.val + k.val = 2048 * t.val + (16 + k.val - 16)
    omega
  fin q hq n := seq_fin h _ q hq n

theorem out_5 : (dats m 0 c).arrAt 5 cfg0.N = (res0 (aL m c) (aM m c) (aB m c) : S16x2048x128.Idx → EReal) := by
  refine Dat.arrAt_eq_of_cover (dats m 0 c) (5 : Fin 7) _ (fun t _ => ?_) (fun i => ?_)
  · funext y
    obtain ⟨z, P, q, rfl⟩ : ∃ (z : Fin 1) (P : Fin 2048) (q : Fin 128), y = ix3 z P q := ⟨_, _, _, eq_ix3 y⟩
    obtain rfl : z = 0 := Subsingleton.elim _ _
    refine (congrFun (after0_5 m c t) _).trans ((block5 (holds m c h t) P q).trans ?_)
    refine Eq.trans (b := res0 (aL m c) (aM m c) (aB m c) (ix3 (sq t) P q)) rfl (congrArg (res0 (aL m c) (aM m c) (aB m c)) (funext fun z => Fin.ext ?_))
    refine Eq.trans ?_ (Window.rect_emb_val (cfg0.win 5) t (ix3 (0 : Fin 1) P q) z).symm
    rw [index_5]
    fin_cases z
    · show t.val = t.val * 1 + 0; omega
    · show P.val = 0 * 2048 + P.val; omega
    · show q.val = 0 * 128 + q.val; omega
  · have hi : (i 0).val < 16 := (i 0).isLt
    let t : Fin cfg0.N := ⟨(i 0).val, lt_of_lt_of_eq hi N_0.symm⟩
    refine ⟨t, flush0_5 _, ?_⟩
    have e : i = ((cfg0.win 5).rect t).emb (ix3 (0 : Fin 1) (i 1 : Fin 2048) (i 2 : Fin 128)) := by
      funext q
      refine Fin.ext (Eq.trans ?_ (Window.rect_emb_val (cfg0.win 5) t _ q).symm)
      rw [index_5]
      fin_cases q
      · show (i 0).val = (i 0).val * 1 + 0; omega
      · show (i 1).val = 0 * 2048 + (i 1).val; omega
      · show (i 2).val = 0 * 128 + (i 2).val; omega
    rw [e]
    exact View.emb_mem_set _ _

theorem out_6 : (dats m 0 c).arrAt 6 cfg0.N = (res1 (aL m c) (aM m c) (aB m c) : S16x128.Idx → EReal) := by
  refine Dat.arrAt_eq_of_cover (dats m 0 c) (6 : Fin 7) _ (fun t _ => ?_) (fun i => ?_)
  · funext y
    obtain ⟨p, q, rfl⟩ : ∃ (p : Fin 16) (q : Fin 128), y = ix2 p q := ⟨_, _, eq_ix2 y⟩
    refine (congrFun (after0_6 m c t) _).trans ((block6 (holds m c h t) p q).trans ?_)
    rw [pre_meta _ _ _ (sq t) 0 q p]
    refine Eq.trans (b := res1 (aL m c) (aM m c) (aB m c) (ix2 p q)) rfl (congrArg (res1 (aL m c) (aM m c) (aB m c)) (funext fun z => Fin.ext ?_))
    refine Eq.trans ?_ (Window.rect_emb_val (cfg0.win 6) t (ix2 p q) z).symm
    rw [index_6]
    fin_cases z
    · show p.val = 0 * 16 + p.val; omega
    · show q.val = 0 * 128 + q.val; omega
  · let t : Fin cfg0.N := ⟨15, lt_of_lt_of_eq (by omega : 15 < 16) N_0.symm⟩
    refine ⟨t, (flush0_6 t).mpr rfl, ?_⟩
    have e : i = ((cfg0.win 6).rect t).emb (ix2 (i 0 : Fin 16) (i 1 : Fin 128)) := by
      funext q
      refine Fin.ext (Eq.trans ?_ (Window.rect_emb_val (cfg0.win 6) t _ q).symm)
      rw [index_6]
      fin_cases q
      · show (i 0).val = 0 * 16 + (i 0).val; omega
      · show (i 1).val = 0 * 128 + (i 1).val; omega
    rw [e]
    exact View.emb_mem_set _ _

end

end Cert.ForgetIdeal.Value

end
-- ==== Proof.ForgetRef.lean ====
/- The forget gate's reference: its log-sigmoids are the kernel's, its windowed sum is a running sum, and its two results are
   the kernel's. -/
module

public import proofs.«01_k».proof.Proof.ForgetOut
public import proofs.«01_k».proof.Proof.Gen.ForgetReferenceIdeal.Read
public import Idealize.ShloMosaic.Lib.KernelVsHost

@[expose] public section

set_option maxRecDepth 16384

noncomputable section

namespace Cert.ForgetReferenceIdeal.Spec

open Cert.ForgetReferenceIdeal Cert.ForgetReferenceIdeal.Gen Cert.ForgetReferenceIdeal.Read Cert.Router Cert.Forget
open Cert.ForgetIdeal.Value (seq bq res0 res1)
open Idealize.ShloMosaic Idealize.ShloMosaic.ValueIdx
open Idealize.ShloMosaic.TcCoe

section
variable (a0 : S32768x128.Idx → EReal) (a1 : S16x128.Idx → EReal) (a2 : S16.Idx → EReal)

/-- A head's lane. -/
abbrev lane (q : Fin 16) : Fin 128 := ⟨q.val, by have := q.isLt; omega⟩

theorem logit_apply (w : Fin 16) (n : Fin 2064) (q : Fin 16) :
    val_main_v3 (F := Ideal) a0 a1 (ix3 w n q) = if h : n.val < 16 then a1 (ix2 (⟨n.val, h⟩ : Fin 16) (lane q)) else a0 (ix2 (⟨2048 * w.val + (n.val - 16), by have := w.isLt; have := n.isLt; omega⟩ : Fin 32768) (lane q)) := by
  rw [val_main_v3_apply]
  have e : idx_main_v3 (ix3 w n q) = ix3 w n (lane q) := funext fun a => by fin_cases a <;> rfl
  rw [e]
  unfold val_main_v2
  by_cases h : n.val < 16
  · rw [dif_pos h]
    refine (concatenate_pair_apply_left (t := S16x2064x128) (s₁ := S16x16x128) (s₂ := S16x2048x128) 1 _ _ _ (ix3 w n (lane q)) rfl (ix3 w (⟨n.val, h⟩ : Fin 16) (lane q)) (fun b => by fin_cases b <;> rfl)).trans ?_
    rw [val_main_v0_apply]
    exact congrArg a1 (funext fun a => by fin_cases a <;> rfl)
  · rw [dif_neg h]
    have hn := n.isLt
    refine (concatenate_pair_apply_right (t := S16x2064x128) (s₁ := S16x16x128) (s₂ := S16x2048x128) 1 _ _ _ (ix3 w n (lane q)) rfl rfl (ix3 w (⟨n.val - 16, by omega⟩ : Fin 2048) (lane q)) (fun b hb => by
      fin_cases b
      · rfl
      · exact absurd rfl hb
      · rfl) (by show n.val - 16 + 16 = n.val; omega)).trans ?_
    unfold val_main_v1
    refine shapeCast_apply a0 shapeCasts_S32768x128_S16x2048x128 _ _ ?_
    rw [Shape.rowMajor_val_three, Shape.rowMajor_val_two]
    show (2048 * w.val + (n.val - 16)) * 128 + q.val = (w.val * 2048 + (n.val - 16)) * 128 + q.val
    ring

theorem une_self (x : Ideal .f32) : (FloatOps.cmpf .une x x : BitVec 1) = 0#1 := by
  show BitVec.ofBool (decide ((x : EReal) ≠ x)) = 0#1
  simp

theorem seq_apply (w : Fin 16) (n : Fin 2064) (q : Fin 16) : val_main_v7 (F := Ideal) a0 a1 a2 (ix3 w n q) = seq a0 a1 a2 w (lane q) n.val := by
  have hz : ∀ i, val_main_call0_call0_v0 (F := Ideal) i = 0 := fun i => (val_main_call0_call0_v0_apply i).trans Ideal.ofBits_zero_f32
  have hz2 : ∀ i, val_main_call0_call0_v2 (F := Ideal) i = 0 := fun i => (val_main_call0_call0_v2_apply i).trans Ideal.ofBits_zero_f32
  have hb : val_main_v5 (F := Ideal) a2 (ix3 w n q) = bq a2 (lane q) := by
    rw [val_main_v5_apply, val_main_v4_apply]
    unfold bq
    rw [dif_pos (show (lane q).val < 16 from q.isLt)]
    exact congrArg a2 (funext fun a => by fin_cases a; rfl)
  have hy : val_main_v6 (F := Ideal) a0 a1 a2 (ix3 w n q) = val_main_v3 (F := Ideal) a0 a1 (ix3 w n q) + bq a2 (lane q) := by
    rw [val_main_v6_apply, hb]
    rfl
  have e : val_main_v7 (F := Ideal) a0 a1 a2 (ix3 w n q) = ls (val_main_v6 (F := Ideal) a0 a1 a2 (ix3 w n q)) := by
    rw [val_main_v7_apply, val_main_call0_v1_apply, val_main_call0_call0_v4_apply, une_self]
    rw [val_main_call0_call0_v11_apply, val_main_call0_call0_v1_apply, val_main_call0_call0_v10_apply, val_main_call0_call0_v9_apply, val_main_call0_call0_v8_apply, val_main_call0_call0_v7_apply, val_main_call0_call0_v3_apply, hz, hz2, val_main_call0_v0_apply]
    exact ls_ref _
  rw [e, hy, logit_apply]
  unfold seq
  by_cases h : n.val < 16
  · rw [dif_pos h, dif_pos h]
  · rw [dif_neg h, dif_neg h, dif_pos n.isLt]

theorem cum_apply (N : ℕ) (x : (⟨3, ![16, N + 1, 16]⟩ : Shape).Idx → EReal) (l : ℕ → EReal) (w : Fin 16) (q : Fin 16) (hx : ∀ n : Fin (N + 1), x (ix3 w n q) = l n.val)
    (h : (⟨3, ![16, N + 1, 16]⟩ : Shape).ReduceWindows (![1, N + 1, 1] : Fin 3 → ℕ) ![1, 1, 1] ![0, N, 0] ![0, 0, 0] ⟨3, ![16, N + 1, 16]⟩) {u : Shape} (init : u.Idx → EReal) (hu : 0 < u.numel) (hi : ∀ i, init i = 0) (j : Fin (N + 1)) :
    Host.reduceWindow (· + ·) (![1, N + 1, 1] : Fin 3 → ℕ) ![1, 1, 1] ![0, N, 0] ![0, 0, 0] x init h hu (ix3 w j q) = pre l (j.val + 1) := by
  have hM : (⟨3, ![1, N + 1, 1]⟩ : Shape).numel = N + 1 := by
    unfold Shape.numel
    rw [Fin.prod_univ_three]
    show 1 * (N + 1) * 1 = N + 1
    omega
  have hj := j.isLt
  have hq := q.isLt
  have hw := w.isLt
  have hs : ∀ n : Fin (⟨3, ![1, N + 1, 1]⟩ : Shape).numel, (((⟨3, ![1, N + 1, 1]⟩ : Shape).rowMajor.symm n) 0).val = 0 ∧ (((⟨3, ![1, N + 1, 1]⟩ : Shape).rowMajor.symm n) 1).val = n.val ∧ (((⟨3, ![1, N + 1, 1]⟩ : Shape).rowMajor.symm n) 2).val = 0 := fun n => by
    have e := congrArg Fin.val ((⟨3, ![1, N + 1, 1]⟩ : Shape).rowMajor.apply_symm_apply n)
    generalize (⟨3, ![1, N + 1, 1]⟩ : Shape).rowMajor.symm n = z at e ⊢
    rw [Shape.rowMajor_val_three] at e
    have h0 : (z 0).val < 1 := (z 0).isLt
    have h2 : (z 2).val < 1 := (z 2).isLt
    have e0 : (z 0).val = 0 := by omega
    change ((z 0).val * (N + 1) + (z 1).val) * 1 + (z 2).val = n.val at e
    rw [e0, Nat.zero_mul] at e
    omega
  unfold Host.reduceWindow
  dsimp only
  rw [hi]
  refine fold_window' hM _ l j.val (by omega) (fun n => ?_)
  obtain ⟨s0, s1, s2⟩ := hs n
  have hn : n.val < N + 1 := lt_of_lt_of_eq n.isLt hM
  split
  · next hin =>
    have h1 := hin 1
    change N ≤ j.val * 1 + (((⟨3, ![1, N + 1, 1]⟩ : Shape).rowMajor.symm n) 1).val ∧ j.val * 1 + (((⟨3, ![1, N + 1, 1]⟩ : Shape).rowMajor.symm n) 1).val - N < N + 1 at h1
    rw [s1] at h1
    rw [if_pos (by omega)]
    refine (congrArg x (funext fun a => Fin.ext ?_)).trans (hx ⟨j.val + n.val - N, by omega⟩)
    fin_cases a
    · show w.val * 1 + (((⟨3, ![1, N + 1, 1]⟩ : Shape).rowMajor.symm n) 0).val - 0 = w.val
      rw [s0]; omega
    · show j.val * 1 + (((⟨3, ![1, N + 1, 1]⟩ : Shape).rowMajor.symm n) 1).val - N = j.val + n.val - N
      rw [s1]; omega
    · show q.val * 1 + (((⟨3, ![1, N + 1, 1]⟩ : Shape).rowMajor.symm n) 2).val - 0 = q.val
      rw [s2]; omega
  · next hin =>
    rw [if_neg fun hle => hin fun a => ?_]
    fin_cases a
    · show 0 ≤ w.val * 1 + (((⟨3, ![1, N + 1, 1]⟩ : Shape).rowMajor.symm n) 0).val ∧ w.val * 1 + (((⟨3, ![1, N + 1, 1]⟩ : Shape).rowMajor.symm n) 0).val - 0 < 16
      rw [s0]; omega
    · show N ≤ j.val * 1 + (((⟨3, ![1, N + 1, 1]⟩ : Shape).rowMajor.symm n) 1).val ∧ j.val * 1 + (((⟨3, ![1, N + 1, 1]⟩ : Shape).rowMajor.symm n) 1).val - N < N + 1
      rw [s1]; omega
    · show 0 ≤ q.val * 1 + (((⟨3, ![1, N + 1, 1]⟩ : Shape).rowMajor.symm n) 2).val ∧ q.val * 1 + (((⟨3, ![1, N + 1, 1]⟩ : Shape).rowMajor.symm n) 2).val - 0 < 16
      rw [s2]; omega

theorem cum_apply' (M N : ℕ) (hM : M = N + 1) (x : (⟨3, ![16, M, 16]⟩ : Shape).Idx → EReal) (l : ℕ → EReal) (w : Fin 16) (q : Fin 16) (hx : ∀ n : Fin M, x (ix3 w n q) = l n.val)
    (h : (⟨3, ![16, M, 16]⟩ : Shape).ReduceWindows (![1, M, 1] : Fin 3 → ℕ) ![1, 1, 1] ![0, N, 0] ![0, 0, 0] ⟨3, ![16, M, 16]⟩) {u : Shape} (init : u.Idx → EReal) (hu : 0 < u.numel) (hi : ∀ i, init i = 0) (j : Fin M) :
    (Host.reduceWindowAdd (![1, M, 1] : Fin 3 → ℕ) ![1, 1, 1] ![0, N, 0] ![0, 0, 0] (x : FVec Ideal ⟨3, ![16, M, 16]⟩ .f32) init h hu : FVec Ideal ⟨3, ![16, M, 16]⟩ .f32) (ix3 w j q) = pre l (j.val + 1) := by
  subst hM
  exact cum_apply N x l w q hx h (fun _ : (⟨0, ![]⟩ : Shape).Idx => init (Shape.Idx.first hu)) (by decide) (fun _ => hi _) j

theorem sum_apply (w : Fin 16) (n : Fin 2064) (q : Fin 16) : val_main_v8 (F := Ideal) a0 a1 a2 (ix3 w n q) = pre (seq a0 a1 a2 w (lane q)) (n.val + 1) := by
  have hi : ∀ i, val_main_call1_v0 (F := Ideal) i = 0 := fun i => by
    rw [val_main_call1_v0_apply, val_main_call1_cst_apply]
    exact Ideal.ofBits_zero_f32
  have hx := fun n : Fin 2064 => seq_apply a0 a1 a2 w n q
  unfold val_main_v8
  generalize val_main_v7 (F := Ideal) a0 a1 a2 = x at hx ⊢
  generalize val_main_call1_v0 (F := Ideal) = i0 at hi ⊢
  exact cum_apply' 2064 2063 rfl x _ w q hx _ i0 _ hi n

theorem pad_lane (w : Fin 16) (n : Fin 2064) (q : Fin 128) : val_main_v10 (F := Ideal) a0 a1 a2 (ix3 w n q) = if q.val < 16 then pre (seq a0 a1 a2 w q) (n.val + 1) else 0 := by
  rw [val_main_v10_apply]
  show val_main_v9 (F := Ideal) a0 a1 a2 (ix3 w n q) = _
  unfold val_main_v9
  by_cases h : q.val < 16
  · rw [if_pos h]
    refine (pad_apply_of_inside _ _ _ _ _ pads_S16x2064x16_S16x2064x128_000_000_01120 h_S_ (ix3 w n q) (ix3 w n (⟨q.val, h⟩ : Fin 16)) (fun a => ?_)).trans (sum_apply a0 a1 a2 w n ⟨q.val, h⟩)
    fin_cases a
    · show w.val = 0 + w.val * (0 + 1); omega
    · show n.val = 0 + n.val * (0 + 1); omega
    · show q.val = 0 + q.val * (0 + 1); omega
  · rw [if_neg h]
    refine (pad_apply_of_not_inside _ _ _ _ _ pads_S16x2064x16_S16x2064x128_000_000_01120 h_S_ (ix3 w n q) 2 (fun hh => ?_)).trans ?_
    · have h3 := hh.2.2
      change (q.val - 0) / (0 + 1) < 16 at h3
      omega
    · rw [val_main_call2_v0_apply]
      show (((0#32 : BitVec 32).toInt : ℝ) : EReal) = 0
      simp

theorem ref_0 : val_main_v11 (F := Ideal) a0 a1 a2 = res0 a0 a1 a2 := by
  funext i
  rw [val_main_v11_apply]
  obtain ⟨w, n, q, rfl⟩ : ∃ (w : Fin 16) (n : Fin 2048) (q : Fin 128), i = ix3 w n q := ⟨_, _, _, eq_ix3 i⟩
  have e : idx_main_v11 (ix3 w n q) = ix3 w (⟨16 + n.val, by have := n.isLt; omega⟩ : Fin 2064) q := funext fun a => by fin_cases a <;> rfl
  rw [e]
  exact pad_lane a0 a1 a2 w _ q

theorem ref_1 : val_main_v13 (F := Ideal) a0 a1 a2 = res1 a0 a1 a2 := by
  funext i
  rw [val_main_v13_apply, val_main_v12_apply]
  obtain ⟨n, q, rfl⟩ : ∃ (n : Fin 16) (q : Fin 128), i = ix2 n q := ⟨_, _, eq_ix2 i⟩
  have e : idx_main_v12 (idx_main_v13 (ix2 n q)) = ix3 (0 : Fin 16) (⟨n.val, by have := n.isLt; omega⟩ : Fin 2064) q := funext fun a => Fin.ext (by
    have hn := n.isLt
    have hq := q.isLt
    fin_cases a
    · rfl
    · show (n.val * 128 + q.val) / 128 % 16 = n.val; omega
    · show (n.val * 128 + q.val) % 128 = q.val; omega)
  rw [e]
  exact pad_lane a0 a1 a2 0 _ q

end

end Cert.ForgetReferenceIdeal.Spec

end
-- ==== Proof.ForgetMore.lean ====
/- The gates' running sum: its precondition decoded, and its two results over the extended reals the reference's. -/
module

public import proofs.«01_k».proof.Defs
public import proofs.«01_k».proof.Proof.Gen.ForgetIdeal
public import proofs.«01_k».proof.Proof.Gen.ForgetReferenceIdeal
public import proofs.«01_k».proof.Proof.Gen.ForgetReferenceIdeal.Run
public import proofs.«01_k».proof.Proof.Gen.Pre_logits_bounded
public import proofs.«01_k».proof.Proof.RouterSpec
public import proofs.«01_k».proof.Proof.ForgetRef
public import Idealize.ShloMosaic.Lib.ReduceAll
public import Idealize.ShloMosaic.Lib.Affine
public import Idealize.ShloMosaic.Lib.Quiescent

@[expose] public section

set_option maxRecDepth 16384

noncomputable section

namespace Cert.Proof

open Idealize.ShloMosaic Idealize.ShloMosaic.ValueIdx Idealize.ShloMosaic.TcCoe Idealize.SL Idealize.SL.Sem
open Cert.ForgetIdeal.Value (Above res0 res1 aL aM aB)

/-- A value found above minus infinity is not minus infinity. -/
theorem ne_bot_of_gt {x : EReal} (h : BitVec.ofBool (decide (⊥ < x)) = 1#1) : x ≠ ⊥ := by
  rintro rfl
  rw [decide_eq_false (lt_irrefl _)] at h
  exact absurd h (by decide)

/-- The precondition: every logit with its bias is above minus infinity. -/
theorem logits_above (a0 : FVec Ideal Cert.Pre_logits_bounded.S32768x128 .f32) (a1 : FVec Ideal Cert.Pre_logits_bounded.S16x128 .f32) (a2 : FVec Ideal Cert.Pre_logits_bounded.S16 .f32)
    (h : Cert.Pre_logits_bounded.fn (F := Ideal) a0 a1 a2 = fun _ => 1#1) : Above a0 a1 a2 := by
  have h0 := congrFun h (fun a => a.elim0)
  obtain ⟨h1, h2⟩ := IntOp.andi_eq_one.1 h0
  constructor
  · intro r q
    have e := Host.reduce_andi_all _ _ _ _ _ h1 (ix2 r q)
    refine ne_bot_of_gt ?_
    rw [← Cert.Router.ninf_eq]
    refine Eq.trans (congrArg (fun y : EReal => BitVec.ofBool (decide (Ideal.ofBits .f32 0xFF800000#32 < y))) ?_) e
    refine congrArg₂ (fun x y : EReal => x + y) ?_ ?_
    · exact (extractStridedSlice_apply _ _ _ (ix2 r q) (ix2 r (⟨q.val, by have := q.isLt; omega⟩ : Fin 128)) (fun a => by match a with | ⟨0, _⟩ => exact (Nat.zero_add _).symm | ⟨1, _⟩ => exact (Nat.zero_add _).symm)).symm
    · exact ((broadcastInDim_apply _ _ _ (ix2 r q) (ix2 (0 : Fin 1) q) (fun a => by match a with | ⟨0, _⟩ => rfl | ⟨1, _⟩ => rfl)).trans (broadcastInDim_apply _ _ _ (ix2 (0 : Fin 1) q) (ix1 q) (fun a => by match a with | ⟨0, _⟩ => rfl))).symm
  · intro r q
    have e := Host.reduce_andi_all _ _ _ _ _ h2 (ix2 r q)
    refine ne_bot_of_gt ?_
    rw [← Cert.Router.ninf_eq]
    refine Eq.trans (congrArg (fun y : EReal => BitVec.ofBool (decide (Ideal.ofBits .f32 0xFF800000#32 < y))) ?_) e
    refine congrArg₂ (fun x y : EReal => x + y) ?_ ?_
    · exact (extractStridedSlice_apply _ _ _ (ix2 r q) (ix2 r (⟨q.val, by have := q.isLt; omega⟩ : Fin 128)) (fun a => by match a with | ⟨0, _⟩ => exact (Nat.zero_add _).symm | ⟨1, _⟩ => exact (Nat.zero_add _).symm)).symm
    · exact ((broadcastInDim_apply _ _ _ (ix2 r q) (ix2 (0 : Fin 1) q) (fun a => by match a with | ⟨0, _⟩ => rfl | ⟨1, _⟩ => rfl)).trans (broadcastInDim_apply _ _ _ (ix2 (0 : Fin 1) q) (ix1 q) (fun a => by match a with | ⟨0, _⟩ => rfl))).symm

theorem frame_ForgetReference : quiescent_ForgetReferenceIdeal := fun m ρ _ =>
  (θ_run Cert.ForgetReferenceIdeal.defs _ _).mono (fun r hr => ⟨fun c => (hr c).2.2, sem_eq_zero_of_no_sems (by decide) r.2⟩)
    (Cert.ForgetReferenceIdeal.Value.run (F := Ideal) m ρ)

theorem frame_ForgetReference_pre : quiescent_ForgetReferenceIdeal_pre_logits_bounded := fun m ρ _ =>
  (θ_run Cert.ForgetReferenceIdeal.defs _ _).mono (fun r hr => ⟨fun c => (hr c).2.2, sem_eq_zero_of_no_sems (by decide) r.2⟩)
    (Cert.ForgetReferenceIdeal.Value.run (F := Ideal) m ρ)

theorem agree_Forget : algebraic_ForgetIdeal_ForgetReferenceIdeal_pre_logits_bounded := by
  intro m g m' g' hpre hargs
  have ha : ∀ c, Above (aL m c) (aM m c) (aB m c) := fun c => logits_above _ _ _ (hpre c)
  refine ⟨fun c => res0 (aL m c) (aM m c) (aB m c), fun c => res1 (aL m c) (aM m c) (aB m c), ?_, ?_⟩
  · refine (θ_run Cert.ForgetIdeal.defs _ _).mono (fun r hr => ?_) (Cert.ForgetIdeal.Gen.run_main (F := Ideal) m g)
    intro c
    exact ⟨((hr c).1 5).trans (Cert.ForgetIdeal.Value.out_5 m c (ha c)), ((hr c).1 6).trans (Cert.ForgetIdeal.Value.out_6 m c (ha c)),
      ((hr c).2 Cert.ForgetIdeal.main_arg0 (Pipeline.mem_restRefs_of Cert.ForgetIdeal.main_arg0 (by decide) (by decide))).trans (Cert.ForgetIdeal.Gen.V_main_arg0 m c),
      ((hr c).1 1).trans (((Cert.ForgetIdeal.Gen.dats m 0 c).arrAt_in 1 rfl _).trans ((Cert.ForgetIdeal.Gen.A_eq m c 1).trans (Cert.ForgetIdeal.Gen.V_main_arg1 m c))),
      ((hr c).2 Cert.ForgetIdeal.main_arg2 (Pipeline.mem_restRefs_of Cert.ForgetIdeal.main_arg2 (by decide) (by decide))).trans (Cert.ForgetIdeal.Gen.V_main_arg2 m c)⟩
  · refine (θ_run Cert.ForgetReferenceIdeal.defs _ _).mono (fun r hr => ?_) (Cert.ForgetReferenceIdeal.Value.run (F := Ideal) m' g')
    intro c
    obtain ⟨h0, h1, h2⟩ := hargs c
    exact ⟨(hr c).1.trans ((Cert.ForgetReferenceIdeal.Read.val_main_v11_eq (F := Ideal) (m' ((c.tc : Thread Cert.ForgetReferenceIdeal.nD Cert.ForgetReferenceIdeal.τ).loc Cert.ForgetReferenceIdeal.main_arg0)) (m' ((c.tc : Thread Cert.ForgetReferenceIdeal.nD Cert.ForgetReferenceIdeal.τ).loc Cert.ForgetReferenceIdeal.main_arg1)) (m' ((c.tc : Thread Cert.ForgetReferenceIdeal.nD Cert.ForgetReferenceIdeal.τ).loc Cert.ForgetReferenceIdeal.main_arg2))).trans ((congr (congr (congrArg (Cert.ForgetReferenceIdeal.Read.val_main_v11 (F := Ideal)) h0) h1) h2).trans (Cert.ForgetReferenceIdeal.Spec.ref_0 _ _ _))),
      (hr c).2.1.trans ((Cert.ForgetReferenceIdeal.Read.val_main_v13_eq (F := Ideal) (m' ((c.tc : Thread Cert.ForgetReferenceIdeal.nD Cert.ForgetReferenceIdeal.τ).loc Cert.ForgetReferenceIdeal.main_arg0)) (m' ((c.tc : Thread Cert.ForgetReferenceIdeal.nD Cert.ForgetReferenceIdeal.τ).loc Cert.ForgetReferenceIdeal.main_arg1)) (m' ((c.tc : Thread Cert.ForgetReferenceIdeal.nD Cert.ForgetReferenceIdeal.τ).loc Cert.ForgetReferenceIdeal.main_arg2))).trans ((congr (congr (congrArg (Cert.ForgetReferenceIdeal.Read.val_main_v13 (F := Ideal)) h0) h1) h2).trans (Cert.ForgetReferenceIdeal.Spec.ref_1 _ _ _))), (hr c).2.2⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_experts_exist
public import proofs.«01_k».proof.Proof.Gen.Dense
public import proofs.«01_k».proof.Proof.Gen.DenseIdeal
public import proofs.«01_k».proof.Proof.Gen.DenseReferenceIdeal
public import proofs.«01_k».proof.Proof.Gen.OutProj
public import proofs.«01_k».proof.Proof.Gen.OutProjIdeal
public import proofs.«01_k».proof.Proof.Gen.OutProjReferenceIdeal
public import proofs.«01_k».proof.Proof.Gen.Qkv
public import proofs.«01_k».proof.Proof.Gen.QkvIdeal
public import proofs.«01_k».proof.Proof.Gen.QkvReferenceIdeal
public import proofs.«01_k».proof.Proof.Gen.Dense.Frame
public import proofs.«01_k».proof.Proof.Gen.OutProj.Frame
public import proofs.«01_k».proof.Proof.Gen.Qkv.Frame
public import proofs.«01_k».proof.Proof.Gen.Combine
public import proofs.«01_k».proof.Proof.Gen.CombineIdeal
public import proofs.«01_k».proof.Proof.Gen.CombineReferenceIdeal
public import proofs.«01_k».proof.Proof.Gen.Combine.Frame
public import proofs.«01_k».proof.Proof.Gen.Kvq
public import proofs.«01_k».proof.Proof.Gen.KvqIdeal
public import proofs.«01_k».proof.Proof.Gen.KvqReferenceIdeal
public import proofs.«01_k».proof.Proof.Gen.Kvq.Frame
public import proofs.«01_k».proof.Proof.Gen.Router
public import proofs.«01_k».proof.Proof.Gen.Forget
public import proofs.«01_k».proof.Proof.Gen.ForgetIdeal
public import proofs.«01_k».proof.Proof.Gen.ForgetReferenceIdeal
public import proofs.«01_k».proof.Proof.Gen.ForgetReferenceIdeal.Read
public import proofs.«01_k».proof.Proof.Gen.ForgetReferenceIdeal.Run
public import proofs.«01_k».proof.Proof.Gen.Pre_logits_bounded
public import proofs.«01_k».proof.Proof.Gen.Forget.Frame
public import proofs.«01_k».proof.Proof.Gen.ForgetIdeal.Frame
public import proofs.«01_k».proof.Proof.Gen.ForgetIdeal.Value
public import proofs.«01_k».proof.Proof.Gen.RouterIdeal
public import proofs.«01_k».proof.Proof.Gen.RouterReferenceIdeal
public import proofs.«01_k».proof.Proof.Gen.RouterReferenceIdeal.Read
public import proofs.«01_k».proof.Proof.Gen.Pre_router_finite
public import proofs.«01_k».proof.Proof.Gen.Router.Frame
public import proofs.«01_k».proof.Proof.Gen.RouterIdeal.Frame
public import proofs.«01_k».proof.Proof.Gen.RouterIdeal.Value
public import proofs.«01_k».proof.Proof.Gen.RouterReferenceIdeal.Run
public import proofs.«01_k».proof.Proof.Gen.KvqIdeal.Frame
public import proofs.«01_k».proof.Proof.Kvq
public import proofs.«01_k».proof.Proof.Ok
public import proofs.«01_k».proof.Proof.Value
public import proofs.«01_k».proof.Proof.Ref
public import proofs.«01_k».proof.Proof.More
public import proofs.«01_k».proof.Proof.RouterMore
public import proofs.«01_k».proof.Proof.ForgetMore
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.ValueIdx Idealize.SL.Sem

/-- The reference leaves its arguments, and has no semaphore. -/
theorem frame_reference : quiescent_ReferenceIdeal := fun m ρ _ =>
  (θ_run Cert.ReferenceIdeal.defs _ _).mono (fun r hr => ⟨fun c => (hr c).2, sem_eq_zero_of_no_sems (by decide) r.2⟩)
    (Cert.ReferenceIdeal.Value.run (F := Ideal) m ρ)

/-- The layer of a memory's arguments, as an array. -/
def layerOf (m : (ℓ : Loc Cert.KernelIdeal.nD Cert.KernelIdeal.τ Cert.KernelIdeal.sig) → Buf (Elt Ideal) ℓ) (c : Dev Cert.KernelIdeal.nD) : Cert.KernelIdeal.S69632x1024.Idx → EReal := fun i =>
  Cert.Ffn.moe (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (Cert.Ffn.tileOf (i 0)) (i 0) (i 1)

/-- The kernel's output array is the layer of its arguments. -/
theorem kernel_out (m : (ℓ : Loc Cert.KernelIdeal.nD Cert.KernelIdeal.τ Cert.KernelIdeal.sig) → Buf (Elt Ideal) ℓ) (h : Cert.KernelIdeal.Moe.ExpertsExist m) (c : Dev Cert.KernelIdeal.nD) :
    (Cert.KernelIdeal.Moe.dats (Cert.KernelIdeal.Moe.adm m h) m 0 c).arrAt (5 : Fin 6) (Cert.KernelIdeal.Moe.cfgA (Cert.KernelIdeal.Moe.adm m h)).N = layerOf m c := by
  refine (Cert.KernelIdeal.Moe.out_eq (Cert.KernelIdeal.Moe.adm m h) m c (Cert.KernelIdeal.Moe.tabs_lt m h)).trans ?_
  have e : c = (0 : Dev Cert.KernelIdeal.nD) := Subsingleton.elim _ _
  subst e
  rfl

/-- The reference's result is the layer of its arguments. -/
theorem reference_out (T0 : Cert.ReferenceIdeal.S136.Idx → BitVec 32) (T1 : Cert.ReferenceIdeal.S1.Idx → BitVec 32) (xs : Cert.ReferenceIdeal.S69632x1024.Idx → EReal)
    (g u : Cert.ReferenceIdeal.S8x1024x2816.Idx → EReal) (da db : Cert.ReferenceIdeal.S8x2816x512.Idx → EReal) (hT : ∀ j, (T0 j).toNat < 8) :
    Cert.ReferenceIdeal.Read.val_main_v134 (F := Ideal) T0 T1 xs g u da db
      = fun i : Cert.ReferenceIdeal.S69632x1024.Idx => Cert.Ffn.moe T0 T1 xs g u da db (Cert.Ffn.tileOf (i 0)) (i 0) (i 1) := by
  funext i
  obtain ⟨R, C, rfl⟩ : ∃ (R : Fin 69632) (C : Fin 1024), i = ix2 R C := ⟨_, _, eq_ix2 i⟩
  exact Cert.ReferenceIdeal.Moe.result_eq T0 T1 xs g u da db hT R C

/-- The kernel's result is the reference's, over the extended reals. -/
theorem agree : algebraic_KernelIdeal_ReferenceIdeal := by
  intro m g m' g' hpre hargs
  refine ⟨fun c => layerOf m c, ?_, ?_⟩
  · refine (θ_run Cert.KernelIdeal.defs _ _).mono (fun r hr => ?_)
      (Cert.KernelIdeal.Moe.run_main (F := Ideal) (Cert.KernelIdeal.Moe.adm m hpre) m g (Cert.KernelIdeal.Moe.pinned m hpre))
    intro c
    refine ⟨?_, Cert.KernelIdeal.Moe.kept _ m (Cert.KernelIdeal.Moe.pinned m hpre) hr.1 c⟩
    exact ((hr.1 c).1 (5 : Fin 6)).trans (kernel_out m hpre c)
  · refine (θ_run Cert.ReferenceIdeal.defs _ _).mono (fun r hr => ?_) (Cert.ReferenceIdeal.Value.run (F := Ideal) m' g')
    intro c
    obtain ⟨h0, h1, h2, h3, h4, h5, h6⟩ := hargs c
    have hT : ∀ j, (m ((c.tc : Thread Cert.KernelIdeal.nD Cert.KernelIdeal.τ).loc Cert.KernelIdeal.main_arg0) j : BitVec 32).toNat < 8 :=
      fun j => Cert.KernelIdeal.Moe.expert_lt _ _ _ _ _ _ _ (hpre c) j
    have hv := (hr c).1.trans (Cert.ReferenceIdeal.Read.val_main_v134_eq (F := Ideal) (StableHlo.launchContents m' c))
    refine ⟨hv.trans ?_, (hr c).2⟩
    refine (congr (congr (congr (congr (congr (congr (congrArg (Cert.ReferenceIdeal.Read.val_main_v134 (F := Ideal)) h0) h1) h2) h3) h4) h5) h6).trans ?_
    exact reference_out _ _ _ _ _ _ _ hT

theorem claim : Cert.Claim :=
  ⟨Cert.Kernel.Gen.facts, Cert.KernelIdeal.Gen.facts, Cert.ReferenceIdeal.Gen.facts, Cert.Dense.Gen.facts, Cert.DenseIdeal.Gen.facts, Cert.DenseReferenceIdeal.Gen.facts, Cert.OutProj.Gen.facts, Cert.OutProjIdeal.Gen.facts, Cert.OutProjReferenceIdeal.Gen.facts, Cert.Qkv.Gen.facts, Cert.QkvIdeal.Gen.facts, Cert.QkvReferenceIdeal.Gen.facts, Cert.Kvq.Gen.facts, Cert.KvqIdeal.Gen.facts, Cert.KvqReferenceIdeal.Gen.facts, Cert.Combine.Gen.facts, Cert.CombineIdeal.Gen.facts, Cert.CombineReferenceIdeal.Gen.facts, Cert.Router.Gen.facts, Cert.RouterIdeal.Gen.facts, Cert.RouterReferenceIdeal.Gen.facts, Cert.Forget.Gen.facts, Cert.ForgetIdeal.Gen.facts, Cert.ForgetReferenceIdeal.Gen.facts,
    Cert.Pre_experts_exist.Gen.facts, Cert.Pre_router_finite.Gen.facts, Cert.Pre_logits_bounded.Gen.facts,
    Cert.frame_kernel, Cert.frame_ideal, frame_reference,
    (fun m ρ _ => Cert.Dense.Gen.frame m ρ), (fun m ρ _ => Cert.DenseIdeal.Gen.frame m ρ), frame_DenseReference,
    (fun m ρ _ => Cert.OutProj.Gen.frame m ρ), (fun m ρ _ => Cert.OutProjIdeal.Gen.frame m ρ), frame_OutProjReference,
    (fun m ρ _ => Cert.Qkv.Gen.frame m ρ), (fun m ρ _ => Cert.QkvIdeal.Gen.frame m ρ), frame_QkvReference,
    (fun m ρ _ => Cert.Kvq.Gen.frame m ρ), (fun m ρ _ => Cert.KvqIdeal.Gen.frame m ρ), frame_KvqReference,
    (fun m ρ _ => Cert.Combine.Gen.frame m ρ), (fun m ρ _ => Cert.CombineIdeal.Gen.frame m ρ), frame_CombineReference,
    (fun m ρ _ => Cert.Router.Gen.frame m ρ), (fun m ρ _ => Cert.RouterIdeal.Gen.frame m ρ), (fun m ρ _ => Cert.RouterIdeal.Gen.frame m ρ), frame_RouterReference, frame_RouterReference_pre,
    (fun m ρ _ => Cert.Forget.Gen.frame m ρ), (fun m ρ _ => Cert.ForgetIdeal.Gen.frame m ρ), (fun m ρ _ => Cert.ForgetIdeal.Gen.frame m ρ), frame_ForgetReference, frame_ForgetReference_pre,
    trivial, agree, trivial, agree_Dense, trivial, agree_OutProj, trivial, agree_Qkv, trivial, agree_Kvq, trivial, agree_Combine, trivial, agree_Router, trivial, agree_Forget⟩

end Cert.Proof

end
